-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 [hPre_tables2 : Cert.Pre_tables2.Facts] (m : (ℓ : Loc Cert.Kernel2.nD Cert.Kernel2.τ Cert.Kernel2.sig) → Buf (Elt Bits) ℓ) : Prop :=
  ∀ c : Dev Cert.Kernel2.nD,
    (Cert.Pre_tables2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).1 = (fun _ => 1#1)
    ∧ (Cert.Pre_tables2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).2 = (fun _ => 1#1)

def Pre_Kernel2Ideal [hPre_tables2 : Cert.Pre_tables2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_tables2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 = (fun _ => 1#1)

def Pre_Reference2Ideal [hPre_tables2 : Cert.Pre_tables2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_tables2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_positions : Cert.Pre_positions.Facts] (m : (ℓ : Loc Cert.Kernel5.nD Cert.Kernel5.τ Cert.Kernel5.sig) → Buf (Elt Bits) ℓ) : Prop :=
  ∀ c : Dev Cert.Kernel5.nD,
    (Cert.Pre_positions.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_positions : Cert.Pre_positions.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_positions.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal [hPre_positions : Cert.Pre_positions.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_positions.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables2 : Cert.Pre_tables2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_tables2 : Cert.Pre_tables2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] [hPre_tables2 : Cert.Pre_tables2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_positions : Cert.Pre_positions.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_positions : Cert.Pre_positions.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] [hPre_positions : Cert.Pre_positions.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  True

def algebraic_KernelIdeal_ReferenceIdeal_on_used [hKernelIdeal : Cert.KernelIdeal.Facts] [hReferenceIdeal : Cert.ReferenceIdeal.Facts] [hPre_tables : Cert.Pre_tables.Facts] [hOn_used : Cert.On_used.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![25088, 512]⟩ : Shape).Idx, (Cert.On_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![25088, 512]⟩ : Shape).Idx, (Cert.On_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v32) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_used2 [hKernel2Ideal : Cert.Kernel2Ideal.Facts] [hReference2Ideal : Cert.Reference2Ideal.Facts] [hPre_tables2 : Cert.Pre_tables2.Facts] [hOn_used2 : Cert.On_used2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![25088, 4096]⟩ : Shape).Idx, (Cert.On_used2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![25088, 4096]⟩ : Shape).Idx, (Cert.On_used2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) i = 1#1 → r.2.mem ((c.tc : Thread Cert.Reference2Ideal.nD Cert.Reference2Ideal.τ).loc Cert.Reference2Ideal.main_v12) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_positions : Cert.Pre_positions.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v58) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v35_0)) (v1 : (c : Dev Cert.Kernel10Ideal.nD) → Buf (Elt Ideal) ((c.tc : Thread Cert.Kernel10Ideal.nD Cert.Kernel10Ideal.τ).loc Cert.Kernel10Ideal.main_v35_1)) (v2 : (c : Dev Cert.Kernel10Ideal.nD) → Buf (Elt Ideal) ((c.tc : Thread Cert.Kernel10Ideal.nD Cert.Kernel10Ideal.τ).loc Cert.Kernel10Ideal.main_v35_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v35_0) = v0 c
          ∧ r.2.mem ((c.tc : Thread Cert.Kernel10Ideal.nD Cert.Kernel10Ideal.τ).loc Cert.Kernel10Ideal.main_v35_1) = v1 c
          ∧ r.2.mem ((c.tc : Thread Cert.Kernel10Ideal.nD Cert.Kernel10Ideal.τ).loc Cert.Kernel10Ideal.main_v35_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v89) = v0 c
          ∧ r.2.mem ((c.tc : Thread Cert.Reference10Ideal.nD Cert.Reference10Ideal.τ).loc Cert.Reference10Ideal.main_v91) = v1 c
          ∧ r.2.mem ((c.tc : Thread Cert.Reference10Ideal.nD Cert.Reference10Ideal.τ).loc Cert.Reference10Ideal.main_v93) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v12_0)) (v1 : (c : Dev Cert.Kernel11Ideal.nD) → Buf (Elt Ideal) ((c.tc : Thread Cert.Kernel11Ideal.nD Cert.Kernel11Ideal.τ).loc Cert.Kernel11Ideal.main_v12_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v104) = v0 c
          ∧ r.2.mem ((c.tc : Thread Cert.Reference11Ideal.nD Cert.Reference11Ideal.τ).loc Cert.Reference11Ideal.main_v202) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_tables : Cert.Pre_tables.Facts) (hPre_tables2 : Cert.Pre_tables2.Facts) (hPre_positions : Cert.Pre_positions.Facts) (hOn_used : Cert.On_used.Facts) (hOn_used2 : Cert.On_used2.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ quiescent_Kernel2 (hKernel2 := hKernel2) (hPre_tables2 := hPre_tables2)
    ∧ quiescent_Kernel2Ideal (hKernel2Ideal := hKernel2Ideal) (hPre_tables2 := hPre_tables2)
    ∧ quiescent_Reference2Ideal (hReference2Ideal := hReference2Ideal) (hPre_tables2 := hPre_tables2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_positions := hPre_positions)
    ∧ quiescent_Kernel5Ideal (hKernel5Ideal := hKernel5Ideal) (hPre_positions := hPre_positions)
    ∧ quiescent_Reference5Ideal (hReference5Ideal := hReference5Ideal) (hPre_positions := hPre_positions)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_on_used (hKernelIdeal := hKernelIdeal) (hReferenceIdeal := hReferenceIdeal) (hPre_tables := hPre_tables) (hOn_used := hOn_used)
    ∧ preserves_Kernel2_Kernel2Ideal
    ∧ algebraic_Kernel2Ideal_Reference2Ideal_on_used2 (hKernel2Ideal := hKernel2Ideal) (hReference2Ideal := hReference2Ideal) (hPre_tables2 := hPre_tables2) (hOn_used2 := hOn_used2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_positions := hPre_positions)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== On_used.lean ====
abbrev S98 : Shape := ⟨1, ![98]⟩
abbrev S1 : Shape := ⟨1, ![1]⟩
abbrev S401408x128 : Shape := ⟨2, ![401408, 128]⟩
abbrev S2x32x4096x512 : Shape := ⟨4, ![2, 32, 4096, 512]⟩
abbrev S25088x512 : Shape := ⟨2, ![25088, 512]⟩
abbrev S_ : Shape := ⟨0, ![]⟩

class Facts : Prop where
  shapeCasts_S1_S_ : S1.ShapeCasts S_
  bcast_S_S25088x512 : S_.BroadcastsInDim S25088x512 (![] : Fin 0 → Fin S25088x512.rank)

variable [Facts]

def fn {F : FTy → Type} [FloatOps F] (main_arg0 : IVec S98 32) (main_arg1 : IVec S1 32) (main_arg2 : IVec S401408x128 32) (main_arg3 : FVec F S2x32x4096x512 .f32) (main_arg4 : FVec F S2x32x4096x512 .f32) : IVec S25088x512 1 :=
  let main_v0 : IVec S25088x512 32 := iotaInDim S25088x512 32 0
  let main_v1 : IVec S_ 32 := shapeCast S_ main_arg1 shapeCasts_S1_S_
  let main_c : IVec S_ 32 := constantI S_ 32 256#32
  let main_v2 : IVec S_ 32 := muli main_v1 main_c
  let main_v3 : IVec S25088x512 32 := broadcastInDim S25088x512 ![] bcast_S_S25088x512 main_v2
  let main_v4 : IVec S25088x512 1 := cmpi .slt main_v0 main_v3
  main_v4
-- ==== On_used2.lean ====
abbrev S98 : Shape := ⟨1, ![98]⟩
abbrev S1 : Shape := ⟨1, ![1]⟩
abbrev S25088x512 : Shape := ⟨2, ![25088, 512]⟩
abbrev S2x32x512x4096 : Shape := ⟨4, ![2, 32, 512, 4096]⟩
abbrev S25088x4096 : Shape := ⟨2, ![25088, 4096]⟩
abbrev S_ : Shape := ⟨0, ![]⟩

class Facts : Prop where
  shapeCasts_S1_S_ : S1.ShapeCasts S_
  bcast_S_S25088x4096 : S_.BroadcastsInDim S25088x4096 (![] : Fin 0 → Fin S25088x4096.rank)

variable [Facts]

def fn {F : FTy → Type} [FloatOps F] (main_arg0 : IVec S98 32) (main_arg1 : IVec S1 32) (main_arg2 : FVec F S25088x512 .bf16) (main_arg3 : FVec F S2x32x512x4096 .f32) : IVec S25088x4096 1 :=
  let main_v0 : IVec S25088x4096 32 := iotaInDim S25088x4096 32 0
  let main_v1 : IVec S_ 32 := shapeCast S_ main_arg1 shapeCasts_S1_S_
  let main_c : IVec S_ 32 := constantI S_ 32 256#32
  let main_v2 : IVec S_ 32 := muli main_v1 main_c
  let main_v3 : IVec S25088x4096 32 := broadcastInDim S25088x4096 ![] bcast_S_S25088x4096 main_v2
  let main_v4 : IVec S25088x4096 1 := cmpi .slt main_v0 main_v3
  main_v4
-- ==== Pre_positions.lean ====
abbrev S16384 : Shape := ⟨1, ![16384]⟩
abbrev S24576x4096 : Shape := ⟨2, ![24576, 4096]⟩
abbrev S8192x128 : Shape := ⟨2, ![8192, 128]⟩
abbrev S8192x4096 : Shape := ⟨2, ![8192, 4096]⟩
abbrev S2x1x4096 : Shape := ⟨3, ![2, 1, 4096]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S24576x4096 .f32) (main_arg2 : FVec F S8192x128 .f32) (main_arg3 : FVec F S8192x4096 .f32) (main_arg4 : FVec F S2x1x4096 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 24576#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Pre_tables.lean ====
abbrev S98 : Shape := ⟨1, ![98]⟩
abbrev S1 : Shape := ⟨1, ![1]⟩
abbrev S401408x128 : Shape := ⟨2, ![401408, 128]⟩
abbrev S2x32x4096x512 : Shape := ⟨4, ![2, 32, 4096, 512]⟩
abbrev S_ : Shape := ⟨0, ![]⟩

class Facts : Prop where
  bcast_S_S98 : S_.BroadcastsInDim S98 (![] : Fin 0 → Fin S98.rank)
  bcast_S_S1 : S_.BroadcastsInDim S1 (![] : Fin 0 → Fin S1.rank)

variable [Facts]

def fn {F : FTy → Type} [FloatOps F] (main_arg0 : IVec S98 32) (main_arg1 : IVec S1 32) (main_arg2 : IVec S401408x128 32) (main_arg3 : FVec F S2x32x4096x512 .f32) (main_arg4 : FVec F S2x32x4096x512 .f32) : IVec S98 1 × IVec S1 1 :=
  let main_c : IVec S_ 32 := constantI S_ 32 0#32
  let main_v0 : IVec S98 32 := broadcastInDim S98 ![] bcast_S_S98 main_c
  let main_v1 : IVec S98 1 := cmpi .sge main_arg0 main_v0
  let main_c_0 : IVec S_ 32 := constantI S_ 32 32#32
  let main_v2 : IVec S98 32 := broadcastInDim S98 ![] bcast_S_S98 main_c_0
  let main_v3 : IVec S98 1 := cmpi .slt main_arg0 main_v2
  let main_v4 : IVec S98 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 98#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_tables2.lean ====
abbrev S98 : Shape := ⟨1, ![98]⟩
abbrev S1 : Shape := ⟨1, ![1]⟩
abbrev S25088x512 : Shape := ⟨2, ![25088, 512]⟩
abbrev S2x32x512x4096 : Shape := ⟨4, ![2, 32, 512, 4096]⟩
abbrev S_ : Shape := ⟨0, ![]⟩

class Facts : Prop where
  bcast_S_S98 : S_.BroadcastsInDim S98 (![] : Fin 0 → Fin S98.rank)
  bcast_S_S1 : S_.BroadcastsInDim S1 (![] : Fin 0 → Fin S1.rank)

variable [Facts]

def fn {F : FTy → Type} [FloatOps F] (main_arg0 : IVec S98 32) (main_arg1 : IVec S1 32) (main_arg2 : FVec F S25088x512 .bf16) (main_arg3 : FVec F S2x32x512x4096 .f32) : IVec S98 1 × IVec S1 1 :=
  let main_c : IVec S_ 32 := constantI S_ 32 0#32
  let main_v0 : IVec S98 32 := broadcastInDim S98 ![] bcast_S_S98 main_c
  let main_v1 : IVec S98 1 := cmpi .sge main_arg0 main_v0
  let main_c_0 : IVec S_ 32 := constantI S_ 32 32#32
  let main_v2 : IVec S98 32 := broadcastInDim S98 ![] bcast_S_S98 main_c_0
  let main_v3 : IVec S98 1 := cmpi .slt main_arg0 main_v2
  let main_v4 : IVec S98 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 98#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S98 : Shape := ⟨1, ![98]⟩
abbrev S1 : Shape := ⟨1, ![1]⟩
abbrev S401408x128 : Shape := ⟨2, ![401408, 128]⟩
abbrev S2x32x4096x512 : Shape := ⟨4, ![2, 32, 4096, 512]⟩
abbrev S25088x512 : Shape := ⟨2, ![25088, 512]⟩
abbrev S4096x128 : Shape := ⟨2, ![4096, 128]⟩
abbrev S1x1x4096x512 : Shape := ⟨4, ![1, 1, 4096, 512]⟩
abbrev S256x512 : Shape := ⟨2, ![256, 512]⟩
abbrev S4096x512 : Shape := ⟨2, ![4096, 512]⟩
abbrev S256x128 : Shape := ⟨2, ![256, 128]⟩
abbrev S256x2048 : Shape := ⟨2, ![256, 2048]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S401408x128, .i32⟩
  | .hbm, ⟨1, _⟩ => ⟨S2x32x4096x512, .f32⟩
  | .hbm, ⟨2, _⟩ => ⟨S2x32x4096x512, .f32⟩
  | .hbm, ⟨3, _⟩ => ⟨S25088x512, .bf16⟩
  | .local _ .vmem, ⟨0, _⟩ => ⟨S4096x128, .i32⟩
  | .local _ .vmem, ⟨1, _⟩ => ⟨S4096x128, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S98, .i32⟩
  | .local _ .smem, ⟨1, _⟩ => ⟨S1, .i32⟩
  | _, _ => ⟨S401408x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v4 : Index := Scalar.indexCast v2
  ![v4.toNat]

def k0_off3 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let c1_i32_0 : BitVec 32 := 1#32
  let v6 : BitVec 32 := Scalar.subi v2 c1_i32_0
  let c0_i32_1 : BitVec 32 := 0#32
  let v7 : BitVec 32 := Scalar.maxsi v6 c0_i32_1
  let v8 : Index := Scalar.indexCast v7
  ![v8.toNat]

def k0_chk1 (i : grid0.Coords) (v0 : BitVec 32) : Prop :=
  (∀ a, (k0_off2 i v0) a + S1.size a ≤ S98.size a) ∧
  (∀ a, (k0_off3 i v0) a + S1.size a ≤ S98.size a)
theorem k0_off2_inb : ∀ (i : grid0.Coords) (v0 : BitVec 32) (k0_hw1 : k0_chk1 i v0), ∀ a, (k0_off2 i v0) a + S1.size a ≤ S98.size a := fun i v0 k0_hw1 => k0_hw1.1
theorem k0_off3_inb : ∀ (i : grid0.Coords) (v0 : BitVec 32) (k0_hw1 : k0_chk1 i v0), ∀ a, (k0_off3 i v0) a + S1.size a ≤ S98.size a := fun i v0 k0_hw1 => k0_hw1.2

def k0_cond1 (i : grid0.Coords) (v12 : BitVec 32) : BitVec 1 :=
  let arg0 : BitVec 32 := BitVec.ofNat 32 (i 0).val
  let v13 : BitVec 1 := Scalar.cmpi .slt arg0 v12
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S98 : Shape := ⟨1, ![98]⟩
abbrev S1 : Shape := ⟨1, ![1]⟩
abbrev S401408x128 : Shape := ⟨2, ![401408, 128]⟩
abbrev S2x32x4096x512 : Shape := ⟨4, ![2, 32, 4096, 512]⟩
abbrev S25088x2048 : Shape := ⟨2, ![25088, 2048]⟩
abbrev S25088x2048x2 : Shape := ⟨3, ![25088, 2048, 2]⟩
abbrev S25088x2048x1 : Shape := ⟨3, ![25088, 2048, 1]⟩
abbrev S25088x4096 : Shape := ⟨2, ![25088, 4096]⟩
abbrev S98x256 : Shape := ⟨2, ![98, 256]⟩
abbrev S25088 : Shape := ⟨1, ![25088]⟩
abbrev S1x32x4096x512 : Shape := ⟨4, ![1, 32, 4096, 512]⟩
abbrev S32x4096x512 : Shape := ⟨3, ![32, 4096, 512]⟩
abbrev S_ : Shape := ⟨0, ![]⟩
abbrev S25088x1 : Shape := ⟨2, ![25088, 1]⟩
abbrev S25088x4096x512 : Shape := ⟨3, ![25088, 4096, 512]⟩
abbrev S25088x512 : Shape := ⟨2, ![25088, 512]⟩

abbrev nBuf : Space → Nat
  | .hbm => 50
  | .vmem => 0
  | .smem => 0
  | _ => 0

abbrev bufTy : (tb : Table) → Fin (tcTables nBuf tb) → BufTy
  | .hbm, ⟨0, _⟩ => ⟨S98, .i32⟩
  | .hbm, ⟨1, _⟩ => ⟨S1, .i32⟩
  | .hbm, ⟨2, _⟩ => ⟨S401408x128, .i32⟩
  | .hbm, ⟨3, _⟩ => ⟨S2x32x4096x512, .f32⟩
  | .hbm, ⟨4, _⟩ => ⟨S2x32x4096x512, .f32⟩
  | .hbm, ⟨5, _⟩ => ⟨S25088x2048, .i32⟩
  | .hbm, ⟨6, _⟩ => ⟨S25088x2048x2, .bf16⟩
  | .hbm, ⟨7, _⟩ => ⟨S25088x2048x2, .f32⟩
  | .hbm, ⟨8, _⟩ => ⟨S25088x2048x1, .f32⟩
  | .hbm, ⟨9, _⟩ => ⟨S25088x2048, .f32⟩
  | .hbm, ⟨10, _⟩ => ⟨S25088x2048x1, .f32⟩
  | .hbm, ⟨11, _⟩ => ⟨S25088x2048, .f32⟩
  | .hbm, ⟨12, _⟩ => ⟨S25088x4096, .f32⟩
  | .hbm, ⟨13, _⟩ => ⟨S98x256, .i32⟩
  | .hbm, ⟨14, _⟩ => ⟨S25088, .i32⟩
  | .hbm, ⟨15, _⟩ => ⟨S1x32x4096x512, .f32⟩
  | .hbm, ⟨16, _⟩ => ⟨S32x4096x512, .f32⟩
  | .hbm, ⟨17, _⟩ => ⟨S_, .i32⟩
  | .hbm, ⟨18, _⟩ => ⟨S25088, .i32⟩
  | .hbm, ⟨19, _⟩ => ⟨S25088, .i1⟩
  | .hbm, ⟨20, _⟩ => ⟨S_, .i32⟩
  | .hbm, ⟨21, _⟩ => ⟨S25088, .i32⟩
  | .hbm, ⟨22, _⟩ => ⟨S25088, .i32⟩
  | .hbm, ⟨23, _⟩ => ⟨S25088, .i32⟩
  | .hbm, ⟨24, _⟩ => ⟨S25088x1, .i32⟩
  | .hbm, ⟨25, _⟩ => ⟨S25088x4096x512, .f32⟩
  | .hbm, ⟨26, _⟩ => ⟨S25088x512, .f32⟩
  | .hbm, ⟨27, _⟩ => ⟨S1x32x4096x512, .f32⟩
  | .hbm, ⟨28, _⟩ => ⟨S32x4096x512, .f32⟩
  | .hbm, ⟨29, _⟩ => ⟨S_, .i32⟩
  | .hbm, ⟨30, _⟩ => ⟨S25088, .i32⟩
  | .hbm, ⟨31, _⟩ => ⟨S25088, .i1⟩
  | .hbm, ⟨32, _⟩ => ⟨S_, .i32⟩
  | .hbm, ⟨33, _⟩ => ⟨S25088, .i32⟩
  | .hbm, ⟨34, _⟩ => ⟨S25088, .i32⟩
  | .hbm, ⟨35, _⟩ => ⟨S25088, .i32⟩
  | .hbm, ⟨36, _⟩ => ⟨S25088x1, .i32⟩
  | .hbm, ⟨37, _⟩ => ⟨S25088x4096x512, .f32⟩
  | .hbm, ⟨38, _⟩ => ⟨S25088x512, .f32⟩
  | .hbm, ⟨39, _⟩ => ⟨S25088x512, .f32⟩
  | .hbm, ⟨40, _⟩ => ⟨S25088x512, .f32⟩
  | .hbm, ⟨41, _⟩ => ⟨S_, .f32⟩
  | .hbm, ⟨42, _⟩ => ⟨S25088x512, .f32⟩
  | .hbm, ⟨43, _⟩ => ⟨S25088x512, .f32⟩
  | .hbm, ⟨44, _⟩ => ⟨S_, .f32⟩
  | .hbm, ⟨45, _⟩ => ⟨S25088x512, .f32⟩
  | .hbm, ⟨46, _⟩ => ⟨S25088x512, .f32⟩
  | .hbm, ⟨47, _⟩ => ⟨S25088x512, .f32⟩
  | .hbm, ⟨48, _⟩ => ⟨S25088x512, .f32⟩
  | .hbm, ⟨49, _⟩ => ⟨S25088x512, .bf16⟩
  | _, _ => ⟨S98, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel2.lean ====
abbrev S98 : Shape := ⟨1, ![98]⟩
abbrev S1 : Shape := ⟨1, ![1]⟩
abbrev S25088x512 : Shape := ⟨2, ![25088, 512]⟩
abbrev S2x32x512x4096 : Shape := ⟨4, ![2, 32, 512, 4096]⟩
abbrev S25088x4096 : Shape := ⟨2, ![25088, 4096]⟩
abbrev S256x512 : Shape := ⟨2, ![256, 512]⟩
abbrev S1x1x512x4096 : Shape := ⟨4, ![1, 1, 512, 4096]⟩
abbrev S256x4096 : Shape := ⟨2, ![256, 4096]⟩
abbrev S512x4096 : Shape := ⟨2, ![512, 4096]⟩

abbrev nBuf : Space → Nat
  | .hbm => 3
  | .vmem => 7
  | .smem => 2
  | _ => 0

abbrev bufTy : (tb : Table) → Fin (tcTables nBuf tb) → BufTy
  | .hbm, ⟨0, _⟩ => ⟨S25088x512, .bf16⟩
  | .hbm, ⟨1, _⟩ => ⟨S2x32x512x4096, .f32⟩
  | .hbm, ⟨2, _⟩ => ⟨S25088x4096, .f32⟩
  | .local _ .vmem, ⟨0, _⟩ => ⟨S256x512, .bf16⟩
  | .local _ .vmem, ⟨1, _⟩ => ⟨S256x512, .bf16⟩
  | .local _ .vmem, ⟨2, _⟩ => ⟨S1x1x512x4096, .f32⟩
  | .local _ .vmem, ⟨3, _⟩ => ⟨S1x1x512x4096, .f32⟩
  | .local _ .vmem, ⟨4, _⟩ => ⟨S256x4096, .f32⟩
  | .local _ .vmem, ⟨5, _⟩ => ⟨S256x4096, .f32⟩
  | .local _ .vmem, ⟨6, _⟩ => ⟨S512x4096, .bf16⟩
  | .local _ .smem, ⟨0, _⟩ => ⟨S98, .i32⟩
  | .local _ .smem, ⟨1, _⟩ => ⟨S1, .i32⟩
  | _, _ => ⟨S25088x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v4 : Index := Scalar.indexCast v2
  ![v4.toNat]

def k0_off3 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let c1_i32_0 : BitVec 32 := 1#32
  let v6 : BitVec 32 := Scalar.subi v2 c1_i32_0
  let c0_i32_1 : BitVec 32 := 0#32
  let v7 : BitVec 32 := Scalar.maxsi v6 c0_i32_1
  let v8 : Index := Scalar.indexCast v7
  ![v8.toNat]

def k0_chk1 (i : grid0.Coords) (v0 : BitVec 32) : Prop :=
  (∀ a, (k0_off2 i v0) a + S1.size a ≤ S98.size a) ∧
  (∀ a, (k0_off3 i v0) a + S1.size a ≤ S98.size a)
theorem k0_off2_inb : ∀ (i : grid0.Coords) (v0 : BitVec 32) (k0_hw1 : k0_chk1 i v0), ∀ a, (k0_off2 i v0) a + S1.size a ≤ S98.size a := fun i v0 k0_hw1 => k0_hw1.1
theorem k0_off3_inb : ∀ (i : grid0.Coords) (v0 : BitVec 32) (k0_hw1 : k0_chk1 i v0), ∀ a, (k0_off3 i v0) a + S1.size a ≤ S98.size a := fun i v0 k0_hw1 => k0_hw1.2

def k0_cond1 (i : grid0.Coords) (v12 : BitVec 32) : BitVec 1 :=
  let arg0 : BitVec 32 := BitVec.ofNat 32 (i 0).val
  let v13 : BitVec 1 := Scalar.cmpi .slt arg0 v12
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S98 : Shape := ⟨1, ![98]⟩
abbrev S1 : Shape := ⟨1, ![1]⟩
abbrev S25088x512 : Shape := ⟨2, ![25088, 512]⟩
abbrev S2x32x512x4096 : Shape := ⟨4, ![2, 32, 512, 4096]⟩
abbrev S98x256 : Shape := ⟨2, ![98, 256]⟩
abbrev S25088 : Shape := ⟨1, ![25088]⟩
abbrev S1x32x512x4096 : Shape := ⟨4, ![1, 32, 512, 4096]⟩
abbrev S32x512x4096 : Shape := ⟨3, ![32, 512, 4096]⟩
abbrev S_ : Shape := ⟨0, ![]⟩
abbrev S25088x1 : Shape := ⟨2, ![25088, 1]⟩
abbrev S25088x512x4096 : Shape := ⟨3, ![25088, 512, 4096]⟩
abbrev S25088x4096 : Shape := ⟨2, ![25088, 4096]⟩

abbrev nBuf : Space → Nat
  | .hbm => 19
  | .vmem => 0
  | .smem => 0
  | _ => 0

abbrev bufTy : (tb : Table) → Fin (tcTables nBuf tb) → BufTy
  | .hbm, ⟨0, _⟩ => ⟨S98, .i32⟩
  | .hbm, ⟨1, _⟩ => ⟨S1, .i32⟩
  | .hbm, ⟨2, _⟩ => ⟨S25088x512, .bf16⟩
  | .hbm, ⟨3, _⟩ => ⟨S2x32x512x4096, .f32⟩
  | .hbm, ⟨4, _⟩ => ⟨S98x256, .i32⟩
  | .hbm, ⟨5, _⟩ => ⟨S25088, .i32⟩
  | .hbm, ⟨6, _⟩ => ⟨S25088x512, .f32⟩
  | .hbm, ⟨7, _⟩ => ⟨S1x32x512x4096, .f32⟩
  | .hbm, ⟨8, _⟩ => ⟨S32x512x4096, .f32⟩
  | .hbm, ⟨9, _⟩ => ⟨S_, .i32⟩
  | .hbm, ⟨10, _⟩ => ⟨S25088, .i32⟩
  | .hbm, ⟨11, _⟩ => ⟨S25088, .i1⟩
  | .hbm, ⟨12, _⟩ => ⟨S_, .i32⟩
  | .hbm, ⟨13, _⟩ => ⟨S25088, .i32⟩
  | .hbm, ⟨14, _⟩ => ⟨S25088, .i32⟩
  | .hbm, ⟨15, _⟩ => ⟨S25088, .i32⟩
  | .hbm, ⟨16, _⟩ => ⟨S25088x1, .i32⟩
  | .hbm, ⟨17, _⟩ => ⟨S25088x512x4096, .f32⟩
  | .hbm, ⟨18, _⟩ => ⟨S25088x4096, .f32⟩
  | _, _ => ⟨S98, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel3.lean ====
abbrev S8448x4096 : Shape := ⟨2, ![8448, 4096]⟩
abbrev S4096x7168 : Shape := ⟨2, ![4096, 7168]⟩
abbrev S8448x7168 : Shape := ⟨2, ![8448, 7168]⟩
abbrev S768x4096 : Shape := ⟨2, ![768, 4096]⟩
abbrev S4096x512 : Shape := ⟨2, ![4096, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x7168, .f32⟩
  | .hbm, ⟨2, _⟩ => ⟨S8448x7168, .f32⟩
  | .local _ .vmem, ⟨0, _⟩ => ⟨S768x4096, .bf16⟩
  | .local _ .vmem, ⟨1, _⟩ => ⟨S768x4096, .bf16⟩
  | .local _ .vmem, ⟨2, _⟩ => ⟨S4096x512, .f32⟩
  | .local _ .vmem, ⟨3, _⟩ => ⟨S4096x512, .f32⟩
  | .local _ .vmem, ⟨4, _⟩ => ⟨S768x512, .f32⟩
  | .local _ .vmem, ⟨5, _⟩ => ⟨S768x512, .f32⟩
  | .local _ .vmem, ⟨6, _⟩ => ⟨S4096x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8448x4096 : Shape := ⟨2, ![8448, 4096]⟩
abbrev S4096x7168 : Shape := ⟨2, ![4096, 7168]⟩
abbrev S8448x7168 : Shape := ⟨2, ![8448, 7168]⟩

abbrev nBuf : Space → Nat
  | .hbm => 4
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x7168, .f32⟩
  | .hbm, ⟨2, _⟩ => ⟨S8448x4096, .f32⟩
  | .hbm, ⟨3, _⟩ => ⟨S8448x7168, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x1024 : Shape := ⟨2, ![8192, 1024]⟩
abbrev S8192x3072 : Shape := ⟨2, ![8192, 3072]⟩
abbrev S4096x4096 : Shape := ⟨2, ![4096, 4096]⟩
abbrev S8448x4096 : Shape := ⟨2, ![8448, 4096]⟩
abbrev S2x1x4096 : Shape := ⟨3, ![2, 1, 4096]⟩
abbrev S8192x4096 : Shape := ⟨2, ![8192, 4096]⟩
abbrev S256x1024 : Shape := ⟨2, ![256, 1024]⟩
abbrev S256x3072 : Shape := ⟨2, ![256, 3072]⟩
abbrev S4096x1024 : Shape := ⟨2, ![4096, 1024]⟩
abbrev S1x1x1024 : Shape := ⟨3, ![1, 1, 1024]⟩
abbrev S1024x1024 : Shape := ⟨2, ![1024, 1024]⟩
abbrev S3072x1024 : Shape := ⟨2, ![3072, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4096x4096, .f32⟩
  | .hbm, ⟨3, _⟩ => ⟨S8448x4096, .f32⟩
  | .hbm, ⟨4, _⟩ => ⟨S2x1x4096, .f32⟩
  | .hbm, ⟨5, _⟩ => ⟨S8192x4096, .f32⟩
  | .local _ .vmem, ⟨0, _⟩ => ⟨S256x1024, .bf16⟩
  | .local _ .vmem, ⟨1, _⟩ => ⟨S256x1024, .bf16⟩
  | .local _ .vmem, ⟨2, _⟩ => ⟨S256x3072, .bf16⟩
  | .local _ .vmem, ⟨3, _⟩ => ⟨S256x3072, .bf16⟩
  | .local _ .vmem, ⟨4, _⟩ => ⟨S4096x1024, .f32⟩
  | .local _ .vmem, ⟨5, _⟩ => ⟨S4096x1024, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S4096x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S8192x3072 : Shape := ⟨2, ![8192, 3072]⟩
abbrev S4096x4096 : Shape := ⟨2, ![4096, 4096]⟩
abbrev S8448x4096 : Shape := ⟨2, ![8448, 4096]⟩
abbrev S2x1x4096 : Shape := ⟨3, ![2, 1, 4096]⟩
abbrev S8192x4096 : Shape := ⟨2, ![8192, 4096]⟩
abbrev S1x1x4096 : Shape := ⟨3, ![1, 1, 4096]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4096x4096, .f32⟩
  | .hbm, ⟨3, _⟩ => ⟨S8448x4096, .f32⟩
  | .hbm, ⟨4, _⟩ => ⟨S2x1x4096, .f32⟩
  | .hbm, ⟨5, _⟩ => ⟨S8192x4096, .f32⟩
  | .hbm, ⟨6, _⟩ => ⟨S1x1x4096, .f32⟩
  | .hbm, ⟨7, _⟩ => ⟨S1x4096, .f32⟩
  | .hbm, ⟨8, _⟩ => ⟨S8192x4096, .bf16⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16384 : Shape := ⟨1, ![16384]⟩
abbrev S24576x4096 : Shape := ⟨2, ![24576, 4096]⟩
abbrev S8192x128 : Shape := ⟨2, ![8192, 128]⟩
abbrev S8192x4096 : Shape := ⟨2, ![8192, 4096]⟩
abbrev S2x1x4096 : Shape := ⟨3, ![2, 1, 4096]⟩
abbrev S256x128 : Shape := ⟨2, ![256, 128]⟩
abbrev S256x4096 : Shape := ⟨2, ![256, 4096]⟩
abbrev S1x1x4096 : Shape := ⟨3, ![1, 1, 4096]⟩
abbrev S2x256x4096 : Shape := ⟨3, ![2, 256, 4096]⟩
abbrev S_ : Shape := ⟨0, ![]⟩
abbrev S1 : Shape := ⟨1, ![1]⟩
abbrev S1x4096 : Shape := ⟨2, ![1, 4096]⟩
abbrev S256x1 : Shape := ⟨2, ![256, 1]⟩
abbrev S1x256x4096 : Shape := ⟨3, ![1, 256, 4096]⟩

abbrev nBuf : Space → Nat
  | .hbm => 5
  | .vmem => 9
  | .smem => 1
  | _ => 0

abbrev bufTy : (tb : Table) → Fin (tcTables nBuf tb) → BufTy
  | .hbm, ⟨0, _⟩ => ⟨S24576x4096, .f32⟩
  | .hbm, ⟨1, _⟩ => ⟨S8192x128, .f32⟩
  | .hbm, ⟨2, _⟩ => ⟨S8192x4096, .f32⟩
  | .hbm, ⟨3, _⟩ => ⟨S2x1x4096, .f32⟩
  | .hbm, ⟨4, _⟩ => ⟨S8192x4096, .f32⟩
  | .local _ .vmem, ⟨0, _⟩ => ⟨S256x128, .f32⟩
  | .local _ .vmem, ⟨1, _⟩ => ⟨S256x128, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .f32⟩
  | .local _ .vmem, ⟨7, _⟩ => ⟨S256x4096, .f32⟩
  | .local _ .vmem, ⟨8, _⟩ => ⟨S2x256x4096, .f32⟩
  | .local _ .smem, ⟨0, _⟩ => ⟨S16384, .i32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let c2_i32 : BitVec 32 := 2#32
  let arg0 : BitVec 32 := BitVec.ofNat 32 (i 0).val
  let c256_i32_18 : BitVec 32 := 256#32
  let v20 : BitVec 32 := Scalar.muli arg0 c256_i32_18
  let c0_i32 : BitVec 32 := 0#32
  let c1_i32 : BitVec 32 := 1#32
  let arg9 : BitVec 32 := Scf.iv c0_i32 c1_i32 k0_t1
  let v21 : BitVec 32 := Scalar.addi v20 arg9
  let v22 : BitVec 32 := Scalar.muli c2_i32 v21
  let c0_i32_19 : BitVec 32 := 0#32
  let v23 : BitVec 32 := Scalar.addi v22 c0_i32_19
  let v24 : Index := Scalar.indexCast v23
  ![v24.toNat]
def k0_off2 (k0_t1 : Fin k0_t1_loop.trips) : Fin 3 → Nat :=
  let c0_i32_20 : BitVec 32 := 0#32
  let c0_i32 : BitVec 32 := 0#32
  let c1_i32 : BitVec 32 := 1#32
  let arg9 : BitVec 32 := Scf.iv c0_i32 c1_i32 k0_t1
  let c0_i32_21 : BitVec 32 := 0#32
  ![0, arg9.toNat, 0]
def k0_off3 (v25 : BitVec 32) : Fin 2 → Nat :=
  let c0_i32_22 : BitVec 32 := 0#32
  ![v25.toNat, 0]

def k0_chk1 (v25 : BitVec 32) : Prop :=
  (∀ a, (k0_off3 v25) a + S1x4096.size a ≤ S24576x4096.size a)
theorem k0_off3_inb : ∀ (v25 : BitVec 32) (k0_hw1 : k0_chk1 v25), ∀ a, (k0_off3 v25) a + S1x4096.size a ≤ S24576x4096.size a := fun v25 k0_hw1 => k0_hw1

def k0_off4 (i : grid0.Coords) (k0_t1 : Fin k0_t1_loop.trips) : Fin 1 → Nat :=
  let c2_i32_24 : BitVec 32 := 2#32
  let arg0 : BitVec 32 := BitVec.ofNat 32 (i 0).val
  let c256_i32_23 : BitVec 32 := 256#32
  let v29 : BitVec 32 := Scalar.muli arg0 c256_i32_23
  let c0_i32 : BitVec 32 := 0#32
  let c1_i32 : BitVec 32 := 1#32
  let arg9 : BitVec 32 := Scf.iv c0_i32 c1_i32 k0_t1
  let v30 : BitVec 32 := Scalar.addi v29 arg9
  let v31 : BitVec 32 := Scalar.muli c2_i32_24 v30
  let c1_i32_25 : BitVec 32 := 1#32
  let v32 : BitVec 32 := Scalar.addi v31 c1_i32_25
  let v33 : Index := Scalar.indexCast v32
  ![v33.toNat]
def k0_off5 (k0_t1 : Fin k0_t1_loop.trips) : Fin 3 → Nat :=
  let c1_i32_26 : BitVec 32 := 1#32
  let c0_i32 : BitVec 32 := 0#32
  let c1_i32 : BitVec 32 := 1#32
  let arg9 : BitVec 32 := Scf.iv c0_i32 c1_i32 k0_t1
  let c0_i32_27 : BitVec 32 := 0#32
  ![1, arg9.toNat, 0]
def k0_off6 (v34 : BitVec 32) : Fin 2 → Nat :=
  let c0_i32_28 : BitVec 32 := 0#32
  ![v34.toNat, 0]

def k0_chk2 (v34 : BitVec 32) : Prop :=
  (∀ a, (k0_off6 v34) a + S1x4096.size a ≤ S24576x4096.size a)
theorem k0_off6_inb : ∀ (v34 : BitVec 32) (k0_hw2 : k0_chk2 v34), ∀ a, (k0_off6 v34) a + S1x4096.size a ≤ S24576x4096.size a := fun v34 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 3 → Nat :=
  let c0_i32_18 : BitVec 32 := 0#32
  let c0_i32_1 : BitVec 32 := 0#32
  let c1_i32_3 : BitVec 32 := 1#32
  let arg9 : BitVec 32 := Scf.iv c0_i32_1 c1_i32_3 k0_t2
  let c0_i32_19 : BitVec 32 := 0#32
  ![0, arg9.toNat, 0]
def k0_off8 (k0_t2 : Fin k0_t2_loop.trips) : Fin 3 → Nat :=
  let c1_i32_22 : BitVec 32 := 1#32
  let c0_i32_1 : BitVec 32 := 0#32
  let c1_i32_3 : BitVec 32 := 1#32
  let arg9 : BitVec 32 := Scf.iv c0_i32_1 c1_i32_3 k0_t2
  let c0_i32_23 : BitVec 32 := 0#32
  ![1, arg9.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 1 := Scalar.cmpi .sge v0 c0_i32_0
  let c1_i32 : BitVec 32 := 1#32
  let c0_i32_1 : BitVec 32 := 0#32
  let v2 : BitVec 32 := Scalar.select v1 c1_i32 c0_i32_1
  let c0_i32_2 : BitVec 32 := 0#32
  let c0_i32_3 : BitVec 32 := 0#32
  let c0_i32_4 : BitVec 32 := 0#32
  ![v2.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384 : Shape := ⟨1, ![16384]⟩
abbrev S24576x4096 : Shape := ⟨2, ![24576, 4096]⟩
abbrev S8192x128 : Shape := ⟨2, ![8192, 128]⟩
abbrev S8192x4096 : Shape := ⟨2, ![8192, 4096]⟩
abbrev S2x1x4096 : Shape := ⟨3, ![2, 1, 4096]⟩
abbrev S8192x2 : Shape := ⟨2, ![8192, 2]⟩
abbrev S8192x1 : Shape := ⟨2, ![8192, 1]⟩
abbrev S8192 : Shape := ⟨1, ![8192]⟩
abbrev S_ : Shape := ⟨0, ![]⟩
abbrev S1x1x4096 : Shape := ⟨3, ![1, 1, 4096]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384, .i32⟩
  | .hbm, ⟨1, _⟩ => ⟨S24576x4096, .f32⟩
  | .hbm, ⟨2, _⟩ => ⟨S8192x128, .f32⟩
  | .hbm, ⟨3, _⟩ => ⟨S8192x4096, .f32⟩
  | .hbm, ⟨4, _⟩ => ⟨S2x1x4096, .f32⟩
  | .hbm, ⟨5, _⟩ => ⟨S8192x2, .i32⟩
  | .hbm, ⟨6, _⟩ => ⟨S8192x1, .f32⟩
  | .hbm, ⟨7, _⟩ => ⟨S8192x1, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x1, .f32⟩
  | .hbm, ⟨21, _⟩ => ⟨S8192x1, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S1x1x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel6.lean ====
abbrev S8448x1024 : Shape := ⟨2, ![8448, 1024]⟩
abbrev S8448x7168 : Shape := ⟨2, ![8448, 7168]⟩
abbrev S1x1024 : Shape := ⟨2, ![1, 1024]⟩
abbrev S1024x1024 : Shape := ⟨2, ![1024, 1024]⟩
abbrev S8192x1024 : Shape := ⟨2, ![8192, 1024]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x7168, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S1024x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8448x1024 : Shape := ⟨2, ![8448, 1024]⟩
abbrev S8448x7168 : Shape := ⟨2, ![8448, 7168]⟩
abbrev S1x1024 : Shape := ⟨2, ![1, 1024]⟩
abbrev S1024x1024 : Shape := ⟨2, ![1024, 1024]⟩
abbrev S8192x1024 : Shape := ⟨2, ![8192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x7168, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel7.lean ====
abbrev S8448x4096 : Shape := ⟨2, ![8448, 4096]⟩
abbrev S1x4096 : Shape := ⟨2, ![1, 4096]⟩
abbrev S2x1x4096 : Shape := ⟨3, ![2, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8448x4096 : Shape := ⟨2, ![8448, 4096]⟩
abbrev S1x4096 : Shape := ⟨2, ![1, 4096]⟩
abbrev S2x1x4096 : Shape := ⟨3, ![2, 1, 4096]⟩
abbrev S256x4096 : Shape := ⟨2, ![256, 4096]⟩
abbrev S1x1x4096 : Shape := ⟨3, ![1, 1, 4096]⟩
abbrev S_ : Shape := ⟨0, ![]⟩
abbrev S256 : Shape := ⟨1, ![256]⟩
abbrev S256x1 : Shape := ⟨2, ![256, 1]⟩
abbrev S8192x4096 : Shape := ⟨2, ![8192, 4096]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S256x4096, .f32⟩
  | .hbm, ⟨5, _⟩ => ⟨S1x1x4096, .f32⟩
  | .hbm, ⟨6, _⟩ => ⟨S1x4096, .f32⟩
  | .hbm, ⟨7, _⟩ => ⟨S1x1x4096, .f32⟩
  | .hbm, ⟨8, _⟩ => ⟨S1x4096, .f32⟩
  | .hbm, ⟨9, _⟩ => ⟨S256x4096, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x4096, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S256x4096, .f32⟩
  | .hbm, ⟨31, _⟩ => ⟨S8192x4096, .f32⟩
  | .hbm, ⟨32, _⟩ => ⟨S1x1x4096, .f32⟩
  | .hbm, ⟨33, _⟩ => ⟨S1x4096, .f32⟩
  | .hbm, ⟨34, _⟩ => ⟨S1x1x4096, .f32⟩
  | .hbm, ⟨35, _⟩ => ⟨S1x4096, .f32⟩
  | .hbm, ⟨36, _⟩ => ⟨S8192x4096, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S1x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S8448x4096, .f32⟩
  | .hbm, ⟨59, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel8.lean ====
abbrev S8x4096 : Shape := ⟨2, ![8, 4096]⟩
abbrev S2x4096x24576 : Shape := ⟨3, ![2, 4096, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x1x24576, .f32⟩
  | .hbm, ⟨3, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x4096 : Shape := ⟨2, ![8, 4096]⟩
abbrev S2x4096x24576 : Shape := ⟨3, ![2, 4096, 24576]⟩
abbrev S2x1x24576 : Shape := ⟨3, ![2, 1, 24576]⟩
abbrev S_ : Shape := ⟨0, ![]⟩
abbrev S2x24576x8 : Shape := ⟨3, ![2, 24576, 8]⟩
abbrev S2x8x24576 : Shape := ⟨3, ![2, 8, 24576]⟩

abbrev nBuf : Space → Nat
  | .hbm => 16
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S2x24576x8, .f32⟩
  | .hbm, ⟨13, _⟩ => ⟨S2x8x24576, .f32⟩
  | .hbm, ⟨14, _⟩ => ⟨S2x8x24576, .f32⟩
  | .hbm, ⟨15, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S8448x7168 : Shape := ⟨2, ![8448, 7168]⟩
abbrev S1x3072 : Shape := ⟨2, ![1, 3072]⟩
abbrev S8x128x128 : Shape := ⟨3, ![8, 128, 128]⟩
abbrev S8x128 : Shape := ⟨2, ![8, 128]⟩
abbrev S128x8 : Shape := ⟨2, ![128, 8]⟩
abbrev S8192x3072 : Shape := ⟨2, ![8192, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x384 : Shape := ⟨2, ![128, 384]⟩
abbrev S128x1 : Shape := ⟨2, ![128, 1]⟩

abbrev nBuf : Space → Nat
  | .hbm => 7
  | .vmem => 18
  | .smem => 0
  | _ => 0

abbrev bufTy : (tb : Table) → Fin (tcTables nBuf tb) → BufTy
  | .hbm, ⟨0, _⟩ => ⟨S8448x7168, .f32⟩
  | .hbm, ⟨1, _⟩ => ⟨S1x3072, .f32⟩
  | .hbm, ⟨2, _⟩ => ⟨S1x3072, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S8192x3072, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x3072, .f32⟩
  | .local _ .vmem, ⟨13, _⟩ => ⟨S1x3072, .f32⟩
  | .local _ .vmem, ⟨14, _⟩ => ⟨S8x128x128, .f32⟩
  | .local _ .vmem, ⟨15, _⟩ => ⟨S128x8, .f32⟩
  | .local _ .vmem, ⟨16, _⟩ => ⟨S256x3072, .bf16⟩
  | .local _ .vmem, ⟨17, _⟩ => ⟨S256x3072, .bf16⟩
  | _, _ => ⟨S8448x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c6_i32 : BitVec 32 := 6#32
  let c0_i32 : BitVec 32 := 0#32
  ![v0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S8448x7168 : Shape := ⟨2, ![8448, 7168]⟩
abbrev S1x3072 : Shape := ⟨2, ![1, 3072]⟩
abbrev S8x128x128 : Shape := ⟨3, ![8, 128, 128]⟩
abbrev S8x128 : Shape := ⟨2, ![8, 128]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S64x128x8x384 : Shape := ⟨4, ![64, 128, 8, 384]⟩
abbrev S8x64x384x128 : Shape := ⟨4, ![8, 64, 384, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S8448x7168, .f32⟩
  | .hbm, ⟨1, _⟩ => ⟨S1x3072, .f32⟩
  | .hbm, ⟨2, _⟩ => ⟨S1x3072, .f32⟩
  | .hbm, ⟨3, _⟩ => ⟨S8x128x128, .f32⟩
  | .hbm, ⟨4, _⟩ => ⟨S8x128, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | .hbm, ⟨37, _⟩ => ⟨S_, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x3072, .f32⟩
  | .hbm, ⟨48, _⟩ => ⟨S8192x3072, .f32⟩
  | .hbm, ⟨49, _⟩ => ⟨S8192x3072, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x3072, .f32⟩
  | .hbm, ⟨61, _⟩ => ⟨S8192x3072, .f32⟩
  | .hbm, ⟨62, _⟩ => ⟨S8192x3072, .f32⟩
  | .hbm, ⟨63, _⟩ => ⟨S8192x3072, .f32⟩
  | .hbm, ⟨64, _⟩ => ⟨S8192x3072, .f32⟩
  | .hbm, ⟨65, _⟩ => ⟨S8192x3072, .f32⟩
  | .hbm, ⟨66, _⟩ => ⟨S64x128x8x384, .f32⟩
  | .hbm, ⟨67, _⟩ => ⟨S8x64x384x128, .f32⟩
  | .hbm, ⟨68, _⟩ => ⟨S64x128x8x384, .f32⟩
  | .hbm, ⟨69, _⟩ => ⟨S128x8, .f32⟩
  | .hbm, ⟨70, _⟩ => ⟨S128x8x1, .f32⟩
  | .hbm, ⟨71, _⟩ => ⟨S1x128x8x1, .f32⟩
  | .hbm, ⟨72, _⟩ => ⟨S64x128x8x384, .f32⟩
  | .hbm, ⟨73, _⟩ => ⟨S64x128x8x384, .f32⟩
  | .hbm, ⟨74, _⟩ => ⟨S8192x3072, .f32⟩
  | .hbm, ⟨75, _⟩ => ⟨S8192x3072, .f32⟩
  | .hbm, ⟨76, _⟩ => ⟨S8192x3072, .bf16⟩
  | _, _ => ⟨S8448x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel10.lean ====
abbrev S8448x5120 : Shape := ⟨2, ![8448, 5120]⟩
abbrev S128 : Shape := ⟨1, ![128]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S1x128 : Shape := ⟨2, ![1, 128]⟩
abbrev S8448x2048 : Shape := ⟨2, ![8448, 2048]⟩
abbrev S8448x512 : Shape := ⟨2, ![8448, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 112
  | .vmem => 20
  | .smem => 0
  | _ => 0

abbrev bufTy : (tb : Table) → Fin (tcTables nBuf tb) → BufTy
  | .hbm, ⟨0, _⟩ => ⟨S8448x5120, .f32⟩
  | .hbm, ⟨1, _⟩ => ⟨S128, .f32⟩
  | .hbm, ⟨2, _⟩ => ⟨S128, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S_, .i1⟩
  | .hbm, ⟨39, _⟩ => ⟨S8192, .i1⟩
  | .hbm, ⟨40, _⟩ => ⟨S8192, .i1⟩
  | .hbm, ⟨41, _⟩ => ⟨S8192, .i1⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x1, .f32⟩
  | .hbm, ⟨60, _⟩ => ⟨S1x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x128, .f32⟩
  | .hbm, ⟨65, _⟩ => ⟨S_, .f32⟩
  | .hbm, ⟨66, _⟩ => ⟨S256x128, .f32⟩
  | .hbm, ⟨67, _⟩ => ⟨S8448x128, .f32⟩
  | .hbm, ⟨68, _⟩ => ⟨S8448x128, .f32⟩
  | .hbm, ⟨69, _⟩ => ⟨S8448x128, .f32⟩
  | .hbm, ⟨70, _⟩ => ⟨S128, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S_, .i32⟩
  | .hbm, ⟨80, _⟩ => ⟨S128, .i32⟩
  | .hbm, ⟨81, _⟩ => ⟨S128, .i1⟩
  | .hbm, ⟨82, _⟩ => ⟨S_, .i32⟩
  | .hbm, ⟨83, _⟩ => ⟨S128, .i32⟩
  | .hbm, ⟨84, _⟩ => ⟨S128, .i1⟩
  | .hbm, ⟨85, _⟩ => ⟨S_, .i32⟩
  | .hbm, ⟨86, _⟩ => ⟨S_, .i1⟩
  | .hbm, ⟨87, _⟩ => ⟨S128, .i1⟩
  | .hbm, ⟨88, _⟩ => ⟨S128, .i1⟩
  | .hbm, ⟨89, _⟩ => ⟨S128, .i1⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S_, .i32⟩
  | .hbm, ⟨94, _⟩ => ⟨S128, .i32⟩
  | .hbm, ⟨95, _⟩ => ⟨S128, .i1⟩
  | .hbm, ⟨96, _⟩ => ⟨S8448x128, .f32⟩
  | .hbm, ⟨97, _⟩ => ⟨S_, .f32⟩
  | .hbm, ⟨98, _⟩ => ⟨S_, .f32⟩
  | .hbm, ⟨99, _⟩ => ⟨S8448x128, .i1⟩
  | .hbm, ⟨100, _⟩ => ⟨S8448x128, .f32⟩
  | .hbm, ⟨101, _⟩ => ⟨S8448x128, .f32⟩
  | .hbm, ⟨102, _⟩ => ⟨S_, .f32⟩
  | .hbm, ⟨103, _⟩ => ⟨S_, .f32⟩
  | .hbm, ⟨104, _⟩ => ⟨S8448x128, .i1⟩
  | .hbm, ⟨105, _⟩ => ⟨S8448x128, .f32⟩
  | .hbm, ⟨106, _⟩ => ⟨S8448x128, .f32⟩
  | .hbm, ⟨107, _⟩ => ⟨S1x128, .f32⟩
  | .hbm, ⟨108, _⟩ => ⟨S1x128, .f32⟩
  | .hbm, ⟨109, _⟩ => ⟨S8448x2048, .bf16⟩
  | .hbm, ⟨110, _⟩ => ⟨S8448x512, .bf16⟩
  | .hbm, ⟨111, _⟩ => ⟨S8448x512, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S256x2048, .bf16⟩
  | .local _ .vmem, ⟨15, _⟩ => ⟨S256x2048, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_3 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_v5 : Ref sig .tc := ⟨.hbm, 80, rfl⟩
abbrev main_call2_v6 : Ref sig .tc := ⟨.hbm, 81, rfl⟩
abbrev main_call2_c_2 : Ref sig .tc := ⟨.hbm, 82, rfl⟩
abbrev main_call2_v7 : Ref sig .tc := ⟨.hbm, 83, rfl⟩
abbrev main_call2_v8 : Ref sig .tc := ⟨.hbm, 84, rfl⟩
abbrev main_call2_c_3 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_v27 : Ref sig .tc := ⟨.hbm, 92, rfl⟩
abbrev main_c_4 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_cst_5 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v31 : Ref sig .tc := ⟨.hbm, 101, rfl⟩
abbrev main_cst_6 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35_0 : Ref sig .tc := ⟨.hbm, 109, rfl⟩
abbrev main_v35_1 : Ref sig .tc := ⟨.hbm, 110, rfl⟩
abbrev main_v35_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8448x5120 : Shape := ⟨2, ![8448, 5120]⟩
abbrev S128 : Shape := ⟨1, ![128]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8448x2048 : Shape := ⟨2, ![8448, 2048]⟩
abbrev S8448x16x128 : Shape := ⟨3, ![8448, 16, 128]⟩
abbrev S8448x16 : Shape := ⟨2, ![8448, 16]⟩
abbrev S8448x16x1 : Shape := ⟨3, ![8448, 16, 1]⟩
abbrev S1x1x128 : Shape := ⟨3, ![1, 1, 128]⟩
abbrev S256x16x128 : Shape := ⟨3, ![256, 16, 128]⟩
abbrev S8192x16x128 : Shape := ⟨3, ![8192, 16, 128]⟩
abbrev S8192x16x2x2x32 : Shape := ⟨5, ![8192, 16, 2, 2, 32]⟩
abbrev S8192x16x2x1x32 : Shape := ⟨5, ![8192, 16, 2, 1, 32]⟩
abbrev S8192x1x128 : Shape := ⟨3, ![8192, 1, 128]⟩
abbrev S8448x512 : Shape := ⟨2, ![8448, 512]⟩
abbrev S8448x4x128 : Shape := ⟨3, ![8448, 4, 128]⟩
abbrev S8448x4 : Shape := ⟨2, ![8448, 4]⟩
abbrev S8448x4x1 : Shape := ⟨3, ![8448, 4, 1]⟩
abbrev S256x4x128 : Shape := ⟨3, ![256, 4, 128]⟩
abbrev S8192x4x128 : Shape := ⟨3, ![8192, 4, 128]⟩
abbrev S8192x4x2x2x32 : Shape := ⟨5, ![8192, 4, 2, 2, 32]⟩
abbrev S8192x4x2x1x32 : Shape := ⟨5, ![8192, 4, 2, 1, 32]⟩

abbrev nBuf : Space → Nat
  | .hbm => 144
  | .vmem => 0
  | .smem => 0
  | _ => 0

abbrev hbmTy0_0 (i : Nat) : BufTy := match i % 128 with
  | 0 => ⟨S8448x5120, .f32⟩
  | 1 => ⟨S128, .f32⟩
  | 2 => ⟨S128, .f32⟩
  | 3 => ⟨S8192, .i32⟩
  | 4 => ⟨S_, .i32⟩
  | 5 => ⟨S_, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S8192, .i32⟩
  | 13 => ⟨S8192, .i32⟩
  | 14 => ⟨S_, .i32⟩
  | 15 => ⟨S8192, .i32⟩
  | 16 => ⟨S8192, .i1⟩
  | 17 => ⟨S8192, .i1⟩
  | 18 => ⟨S_, .i32⟩
  | 19 => ⟨S8192, .i32⟩
  | 20 => ⟨S8192, .i32⟩
  | 21 => ⟨S8192, .i32⟩
  | 22 => ⟨S8192, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i1⟩
  | 37 => ⟨S_, .i32⟩
  | 38 => ⟨S_, .i1⟩
  | 39 => ⟨S8192, .i1⟩
  | 40 => ⟨S8192, .i1⟩
  | 41 => ⟨S8192, .i1⟩
  | 42 => ⟨S8192, .i32⟩
  | 43 => ⟨S8192, .i32⟩
  | 44 => ⟨S8192, .i32⟩
  | 45 => ⟨S8192, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S8192x1, .f32⟩
  | 55 => ⟨S1x32, .f32⟩
  | 56 => ⟨S8192x32, .f32⟩
  | 57 => ⟨S8192x32, .f32⟩
  | 58 => ⟨S8192x32, .f32⟩
  | 59 => ⟨S8192x1, .f32⟩
  | 60 => ⟨S1x32, .f32⟩
  | 61 => ⟨S8192x32, .f32⟩
  | 62 => ⟨S8192x32, .f32⟩
  | 63 => ⟨S8192x32, .f32⟩
  | 64 => ⟨S8192x128, .f32⟩
  | 65 => ⟨S8192x128, .f32⟩
  | 66 => ⟨S8192x128, .f32⟩
  | 67 => ⟨S8448x2048, .f32⟩
  | 68 => ⟨S8448x16x128, .f32⟩
  | 69 => ⟨S8448x16x128, .f32⟩
  | 70 => ⟨S_, .f32⟩
  | 71 => ⟨S8448x16, .f32⟩
  | 72 => ⟨S8448x16x1, .f32⟩
  | 73 => ⟨S_, .f32⟩
  | 74 => ⟨S8448x16x1, .f32⟩
  | 75 => ⟨S8448x16x1, .f32⟩
  | 76 => ⟨S_, .f32⟩
  | 77 => ⟨S8448x16x1, .f32⟩
  | 78 => ⟨S8448x16x1, .f32⟩
  | 79 => ⟨S8448x16x1, .f32⟩
  | 80 => ⟨S8448x16x128, .f32⟩
  | 81 => ⟨S8448x16x128, .f32⟩
  | 82 => ⟨S1x1x128, .f32⟩
  | 83 => ⟨S8448x16x128, .f32⟩
  | 84 => ⟨S8448x16x128, .f32⟩
  | 85 => ⟨S256x16x128, .f32⟩
  | 86 => ⟨S8192x16x128, .f32⟩
  | 87 => ⟨S8192x16x2x2x32, .f32⟩
  | 88 => ⟨S8192x16x2x1x32, .f32⟩
  | 89 => ⟨S8192x16x2x1x32, .f32⟩
  | 90 => ⟨S8192x16x2x1x32, .f32⟩
  | 91 => ⟨S8192x16x2x2x32, .f32⟩
  | 92 => ⟨S8192x16x128, .f32⟩
  | 93 => ⟨S8192x1x128, .f32⟩
  | 94 => ⟨S8192x16x128, .f32⟩
  | 95 => ⟨S8192x16x128, .f32⟩
  | 96 => ⟨S8192x1x128, .f32⟩
  | 97 => ⟨S8192x16x128, .f32⟩
  | 98 => ⟨S8192x16x128, .f32⟩
  | 99 => ⟨S8192x16x128, .f32⟩
  | 100 => ⟨S8448x16x128, .f32⟩
  | 101 => ⟨S_, .f32⟩
  | 102 => ⟨S8448x16x128, .f32⟩
  | 103 => ⟨S8448x16x128, .f32⟩
  | 104 => ⟨S8448x512, .f32⟩
  | 105 => ⟨S8448x4x128, .f32⟩
  | 106 => ⟨S8448x4x128, .f32⟩
  | 107 => ⟨S_, .f32⟩
  | 108 => ⟨S8448x4, .f32⟩
  | 109 => ⟨S8448x4x1, .f32⟩
  | 110 => ⟨S_, .f32⟩
  | 111 => ⟨S8448x4x1, .f32⟩
  | 112 => ⟨S8448x4x1, .f32⟩
  | 113 => ⟨S_, .f32⟩
  | 114 => ⟨S8448x4x1, .f32⟩
  | 115 => ⟨S8448x4x1, .f32⟩
  | 116 => ⟨S8448x4x1, .f32⟩
  | 117 => ⟨S8448x4x128, .f32⟩
  | 118 => ⟨S8448x4x128, .f32⟩
  | 119 => ⟨S1x1x128, .f32⟩
  | 120 => ⟨S8448x4x128, .f32⟩
  | 121 => ⟨S8448x4x128, .f32⟩
  | 122 => ⟨S256x4x128, .f32⟩
  | 123 => ⟨S8192x4x128, .f32⟩
  | 124 => ⟨S8192x4x2x2x32, .f32⟩
  | 125 => ⟨S8192x4x2x1x32, .f32⟩
  | 126 => ⟨S8192x4x2x1x32, .f32⟩
  | 127 => ⟨S8192x4x2x1x32, .f32⟩
  | _ => ⟨S8448x5120, .f32⟩

abbrev hbmTy0_1 (i : Nat) : BufTy := match i % 128 with
  | 0 => ⟨S8192x4x2x2x32, .f32⟩
  | 1 => ⟨S8192x4x128, .f32⟩
  | 2 => ⟨S8192x1x128, .f32⟩
  | 3 => ⟨S8192x4x128, .f32⟩
  | 4 => ⟨S8192x4x128, .f32⟩
  | 5 => ⟨S8192x1x128, .f32⟩
  | 6 => ⟨S8192x4x128, .f32⟩
  | 7 => ⟨S8192x4x128, .f32⟩
  | 8 => ⟨S8192x4x128, .f32⟩
  | 9 => ⟨S8448x4x128, .f32⟩
  | 10 => ⟨S8448x2048, .f32⟩
  | 11 => ⟨S8448x2048, .bf16⟩
  | 12 => ⟨S8448x512, .f32⟩
  | 13 => ⟨S8448x512, .bf16⟩
  | 14 => ⟨S8448x512, .f32⟩
  | 15 => ⟨S8448x512, .bf16⟩
  | _ => ⟨S8448x5120, .f32⟩

abbrev hbmTy (i : Nat) : BufTy := match i / 128 with
  | 0 => hbmTy0_0 i
  | 1 => hbmTy0_1 i
  | _ => ⟨S8448x5120, .f32⟩

abbrev bufTy : (tb : Table) → Fin (tcTables nBuf tb) → BufTy
  | .hbm, ⟨i, _⟩ => hbmTy i
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_2 : Ref sig .tc := ⟨.hbm, 70, rfl⟩
abbrev main_v27 : Ref sig .tc := ⟨.hbm, 71, rfl⟩
abbrev main_v28 : Ref sig .tc := ⟨.hbm, 72, rfl⟩
abbrev main_cst_3 : Ref sig .tc := ⟨.hbm, 73, rfl⟩
abbrev main_v29 : Ref sig .tc := ⟨.hbm, 74, rfl⟩
abbrev main_v30 : Ref sig .tc := ⟨.hbm, 75, rfl⟩
abbrev main_cst_4 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_5 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_6 : Ref sig .tc := ⟨.hbm, 107, rfl⟩
abbrev main_v60 : Ref sig .tc := ⟨.hbm, 108, rfl⟩
abbrev main_v61 : Ref sig .tc := ⟨.hbm, 109, rfl⟩
abbrev main_cst_7 : Ref sig .tc := ⟨.hbm, 110, rfl⟩
abbrev main_v62 : Ref sig .tc := ⟨.hbm, 111, rfl⟩
abbrev main_v63 : Ref sig .tc := ⟨.hbm, 112, rfl⟩
abbrev main_cst_8 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩

abbrev nD : Nat := 1
abbrev τ : Topo := Topo.v7x

variable {F : FTy → Type} [FloatOps F]
-- ==== Kernel11.lean ====
abbrev S8448x1024 : Shape := ⟨2, ![8448, 1024]⟩
abbrev S2x64x64 : Shape := ⟨3, ![2, 64, 64]⟩
abbrev S2x64 : Shape := ⟨2, ![2, 64]⟩
abbrev S2x64x64x16 : Shape := ⟨4, ![2, 64, 64, 16]⟩
abbrev S264x32x64x16 : Shape := ⟨4, ![264, 32, 64, 16]⟩
abbrev S64x264x32x16 : Shape := ⟨4, ![64, 264, 32, 16]⟩
abbrev S64x264x512 : Shape := ⟨3, ![64, 264, 512]⟩
abbrev S64x2x64 : Shape := ⟨3, ![64, 2, 64]⟩
abbrev S64x2x1x64 : Shape := ⟨4, ![64, 2, 1, 64]⟩
abbrev S64x2 : Shape := ⟨2, ![64, 2]⟩
abbrev S64x2x1x1 : Shape := ⟨4, ![64, 2, 1, 1]⟩
abbrev S64x2x16x64 : Shape := ⟨4, ![64, 2, 16, 64]⟩
abbrev S264x8192 : Shape := ⟨2, ![264, 8192]⟩
abbrev S1x264x512 : Shape := ⟨3, ![1, 264, 512]⟩
abbrev S1x2x1x64 : Shape := ⟨4, ![1, 2, 1, 64]⟩
abbrev S1x2x16x64 : Shape := ⟨4, ![1, 2, 16, 64]⟩
abbrev S264x128 : Shape := ⟨2, ![264, 128]⟩
abbrev S264x512 : Shape := ⟨2, ![264, 512]⟩
abbrev S32x1 : Shape := ⟨2, ![32, 1]⟩
abbrev S1x1x1x64 : Shape := ⟨4, ![1, 1, 1, 64]⟩
abbrev S1x64 : Shape := ⟨2, ![1, 64]⟩
abbrev S1x1x16x64 : Shape := ⟨4, ![1, 1, 16, 64]⟩
abbrev S16x64 : Shape := ⟨2, ![16, 64]⟩
abbrev S32x64 : Shape := ⟨2, ![32, 64]⟩
abbrev S32x1x64 : Shape := ⟨3, ![32, 1, 64]⟩
abbrev S32x16x64 : Shape := ⟨3, ![32, 16, 64]⟩
abbrev S512x64 : Shape := ⟨2, ![512, 64]⟩
abbrev S1x16x64 : Shape := ⟨3, ![1, 16, 64]⟩
abbrev S512x128 : Shape := ⟨2, ![512, 128]⟩

abbrev nBuf : Space → Nat
  | .hbm => 20
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S2x64x64, .f32⟩
  | .hbm, ⟨2, _⟩ => ⟨S2x64x64, .f32⟩
  | .hbm, ⟨3, _⟩ => ⟨S2x64, .f32⟩
  | .hbm, ⟨4, _⟩ => ⟨S2x64x64x16, .f32⟩
  | .hbm, ⟨5, _⟩ => ⟨S2x64x64x16, .f32⟩
  | .hbm, ⟨6, _⟩ => ⟨S264x32x64x16, .f32⟩
  | .hbm, ⟨7, _⟩ => ⟨S64x264x32x16, .f32⟩
  | .hbm, ⟨8, _⟩ => ⟨S64x264x512, .f32⟩
  | .hbm, ⟨9, _⟩ => ⟨S64x2x64, .f32⟩
  | .hbm, ⟨10, _⟩ => ⟨S64x2x1x64, .f32⟩
  | .hbm, ⟨11, _⟩ => ⟨S64x2x64, .f32⟩
  | .hbm, ⟨12, _⟩ => ⟨S64x2x1x64, .f32⟩
  | .hbm, ⟨13, _⟩ => ⟨S64x2, .f32⟩
  | .hbm, ⟨14, _⟩ => ⟨S64x2x1x1, .f32⟩
  | .hbm, ⟨15, _⟩ => ⟨S64x2x1x64, .f32⟩
  | .hbm, ⟨16, _⟩ => ⟨S64x2x16x64, .f32⟩
  | .hbm, ⟨17, _⟩ => ⟨S64x2x16x64, .f32⟩
  | .hbm, ⟨18, _⟩ => ⟨S264x8192, .f32⟩
  | .hbm, ⟨19, _⟩ => ⟨S264x8192, .f32⟩
  | .local _ .vmem, ⟨0, _⟩ => ⟨S1x264x512, .f32⟩
  | .local _ .vmem, ⟨1, _⟩ => ⟨S1x264x512, .f32⟩
  | .local _ .vmem, ⟨2, _⟩ => ⟨S1x2x1x64, .f32⟩
  | .local _ .vmem, ⟨3, _⟩ => ⟨S1x2x1x64, .f32⟩
  | .local _ .vmem, ⟨4, _⟩ => ⟨S1x2x1x64, .f32⟩
  | .local _ .vmem, ⟨5, _⟩ => ⟨S1x2x1x64, .f32⟩
  | .local _ .vmem, ⟨6, _⟩ => ⟨S1x2x1x64, .f32⟩
  | .local _ .vmem, ⟨7, _⟩ => ⟨S1x2x1x64, .f32⟩
  | .local _ .vmem, ⟨8, _⟩ => ⟨S1x2x16x64, .f32⟩
  | .local _ .vmem, ⟨9, _⟩ => ⟨S1x2x16x64, .f32⟩
  | .local _ .vmem, ⟨10, _⟩ => ⟨S1x2x16x64, .f32⟩
  | .local _ .vmem, ⟨11, _⟩ => ⟨S1x2x16x64, .f32⟩
  | .local _ .vmem, ⟨12, _⟩ => ⟨S264x128, .f32⟩
  | .local _ .vmem, ⟨13, _⟩ => ⟨S264x128, .f32⟩
  | .local _ .vmem, ⟨14, _⟩ => ⟨S264x128, .f32⟩
  | .local _ .vmem, ⟨15, _⟩ => ⟨S264x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x264x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S264x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S264x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8448x1024 : Shape := ⟨2, ![8448, 1024]⟩
abbrev S2x64x64 : Shape := ⟨3, ![2, 64, 64]⟩
abbrev S2x64 : Shape := ⟨2, ![2, 64]⟩
abbrev S2x64x64x16 : Shape := ⟨4, ![2, 64, 64, 16]⟩
abbrev S264x32x64x16 : Shape := ⟨4, ![264, 32, 64, 16]⟩
abbrev S64x264x32x16 : Shape := ⟨4, ![64, 264, 32, 16]⟩
abbrev S64x264x512 : Shape := ⟨3, ![64, 264, 512]⟩
abbrev S32 : Shape := ⟨1, ![32]⟩
abbrev S_ : Shape := ⟨0, ![]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x64x64x16 : Shape := ⟨4, ![1, 64, 64, 16]⟩
abbrev S64x64x16 : Shape := ⟨3, ![64, 64, 16]⟩
abbrev S64x1 : Shape := ⟨2, ![64, 1]⟩
abbrev S64x64x1 : Shape := ⟨3, ![64, 64, 1]⟩
abbrev S32x1x1 : Shape := ⟨3, ![32, 1, 1]⟩
abbrev S32x64x64 : Shape := ⟨3, ![32, 64, 64]⟩
abbrev S32x64x64x1 : Shape := ⟨4, ![32, 64, 64, 1]⟩
abbrev S32x64x64x16 : Shape := ⟨4, ![32, 64, 64, 16]⟩
abbrev S64x32x16x64 : Shape := ⟨4, ![64, 32, 16, 64]⟩
abbrev S64x512x64 : Shape := ⟨3, ![64, 512, 64]⟩
abbrev S64x264x64 : Shape := ⟨3, ![64, 264, 64]⟩
abbrev S64x264x128 : Shape := ⟨3, ![64, 264, 128]⟩
abbrev S264x64x128 : Shape := ⟨3, ![264, 64, 128]⟩
abbrev S264x8192 : Shape := ⟨2, ![264, 8192]⟩

abbrev nBuf : Space → Nat
  | .hbm => 212
  | .vmem => 0
  | .smem => 0
  | _ => 0

abbrev hbmTy0_0 (i : Nat) : BufTy := match i % 128 with
  | 0 => ⟨S8448x1024, .f32⟩
  | 1 => ⟨S2x64x64, .f32⟩
  | 2 => ⟨S2x64x64, .f32⟩
  | 3 => ⟨S2x64, .f32⟩
  | 4 => ⟨S2x64x64x16, .f32⟩
  | 5 => ⟨S2x64x64x16, .f32⟩
  | 6 => ⟨S264x32x64x16, .f32⟩
  | 7 => ⟨S64x264x32x16, .f32⟩
  | 8 => ⟨S64x264x512, .f32⟩
  | 9 => ⟨S32, .i32⟩
  | 10 => ⟨S32, .f32⟩
  | 11 => ⟨S_, .f32⟩
  | 12 => ⟨S32, .f32⟩
  | 13 => ⟨S32, .f32⟩
  | 14 => ⟨S1x64x64, .f32⟩
  | 15 => ⟨S64x64, .f32⟩
  | 16 => ⟨S1x64x64, .f32⟩
  | 17 => ⟨S64x64, .f32⟩
  | 18 => ⟨S1x64, .f32⟩
  | 19 => ⟨S64, .f32⟩
  | 20 => ⟨S1x64x64x16, .f32⟩
  | 21 => ⟨S64x64x16, .f32⟩
  | 22 => ⟨S1x64x64x16, .f32⟩
  | 23 => ⟨S64x64x16, .f32⟩
  | 24 => ⟨S64, .f32⟩
  | 25 => ⟨S64x1, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64x1, .f32⟩
  | 52 => ⟨S64x64x16, .f32⟩
  | 53 => ⟨S64x64x16, .f32⟩
  | 54 => ⟨S64x64x1, .f32⟩
  | 55 => ⟨S64x64x16, .f32⟩
  | 56 => ⟨S64x64x16, .f32⟩
  | 57 => ⟨S64x64x16, .f32⟩
  | 58 => ⟨S64x64x1, .f32⟩
  | 59 => ⟨S64x64x16, .f32⟩
  | 60 => ⟨S64x64x16, .f32⟩
  | 61 => ⟨S64x64x1, .f32⟩
  | 62 => ⟨S64x64x16, .f32⟩
  | 63 => ⟨S64x64x16, .f32⟩
  | 64 => ⟨S64x64x16, .f32⟩
  | 65 => ⟨S32x1x1, .f32⟩
  | 66 => ⟨S64x64, .f32⟩
  | 67 => ⟨S64x64, .f32⟩
  | 68 => ⟨S1x64x64, .f32⟩
  | 69 => ⟨S32x64x64, .f32⟩
  | 70 => ⟨S32x64x64, .f32⟩
  | 71 => ⟨S32x64x64, .f32⟩
  | 72 => ⟨S32x64x64, .f32⟩
  | 73 => ⟨S32x1x1, .f32⟩
  | 74 => ⟨S64x64, .f32⟩
  | 75 => ⟨S64x64, .f32⟩
  | 76 => ⟨S1x64x64, .f32⟩
  | 77 => ⟨S32x64x64, .f32⟩
  | 78 => ⟨S32x64x64, .f32⟩
  | 79 => ⟨S32x64x64, .f32⟩
  | 80 => ⟨S32x64x64, .f32⟩
  | 81 => ⟨S32x64x64, .f32⟩
  | 82 => ⟨S32x64x64x1, .f32⟩
  | 83 => ⟨S32x64x64, .f32⟩
  | 84 => ⟨S32x64x64, .f32⟩
  | 85 => ⟨S32x64x64x1, .f32⟩
  | 86 => ⟨S1x64x64x16, .f32⟩
  | 87 => ⟨S32x64x64x16, .f32⟩
  | 88 => ⟨S32x64x64x16, .f32⟩
  | 89 => ⟨S32x64x64x16, .f32⟩
  | 90 => ⟨S1x64x64x16, .f32⟩
  | 91 => ⟨S32x64x64x16, .f32⟩
  | 92 => ⟨S32x64x64x16, .f32⟩
  | 93 => ⟨S32x64x64x16, .f32⟩
  | 94 => ⟨S32x64x64x16, .f32⟩
  | 95 => ⟨S64x32x16x64, .f32⟩
  | 96 => ⟨S64x512x64, .f32⟩
  | 97 => ⟨S1x64x64x16, .f32⟩
  | 98 => ⟨S32x64x64x16, .f32⟩
  | 99 => ⟨S32x64x64x16, .f32⟩
  | 100 => ⟨S32x64x64x16, .f32⟩
  | 101 => ⟨S1x64x64x16, .f32⟩
  | 102 => ⟨S32x64x64x16, .f32⟩
  | 103 => ⟨S32x64x64x16, .f32⟩
  | 104 => ⟨S32x64x64x16, .f32⟩
  | 105 => ⟨S32x64x64x16, .f32⟩
  | 106 => ⟨S64x32x16x64, .f32⟩
  | 107 => ⟨S64x512x64, .f32⟩
  | 108 => ⟨S64x264x64, .f32⟩
  | 109 => ⟨S64x264x64, .f32⟩
  | 110 => ⟨S64x264x128, .f32⟩
  | 111 => ⟨S264x64x128, .f32⟩
  | 112 => ⟨S264x8192, .f32⟩
  | 113 => ⟨S1x64x64, .f32⟩
  | 114 => ⟨S64x64, .f32⟩
  | 115 => ⟨S1x64x64, .f32⟩
  | 116 => ⟨S64x64, .f32⟩
  | 117 => ⟨S1x64, .f32⟩
  | 118 => ⟨S64, .f32⟩
  | 119 => ⟨S1x64x64x16, .f32⟩
  | 120 => ⟨S64x64x16, .f32⟩
  | 121 => ⟨S1x64x64x16, .f32⟩
  | 122 => ⟨S64x64x16, .f32⟩
  | 123 => ⟨S64, .f32⟩
  | 124 => ⟨S64x1, .f32⟩
  | 125 => ⟨S64x64, .f32⟩
  | 126 => ⟨S64x64, .f32⟩
  | 127 => ⟨S64x64, .f32⟩
  | _ => ⟨S8448x1024, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S_, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64x1, .f32⟩
  | 23 => ⟨S64x64x16, .f32⟩
  | 24 => ⟨S64x64x16, .f32⟩
  | 25 => ⟨S64x64x1, .f32⟩
  | 26 => ⟨S64x64x16, .f32⟩
  | 27 => ⟨S64x64x16, .f32⟩
  | 28 => ⟨S64x64x16, .f32⟩
  | 29 => ⟨S64x64x1, .f32⟩
  | 30 => ⟨S64x64x16, .f32⟩
  | 31 => ⟨S64x64x16, .f32⟩
  | 32 => ⟨S64x64x1, .f32⟩
  | 33 => ⟨S64x64x16, .f32⟩
  | 34 => ⟨S64x64x16, .f32⟩
  | 35 => ⟨S64x64x16, .f32⟩
  | 36 => ⟨S32x1x1, .f32⟩
  | 37 => ⟨S64x64, .f32⟩
  | 38 => ⟨S64x64, .f32⟩
  | 39 => ⟨S1x64x64, .f32⟩
  | 40 => ⟨S32x64x64, .f32⟩
  | 41 => ⟨S32x64x64, .f32⟩
  | 42 => ⟨S32x64x64, .f32⟩
  | 43 => ⟨S32x64x64, .f32⟩
  | 44 => ⟨S32x1x1, .f32⟩
  | 45 => ⟨S64x64, .f32⟩
  | 46 => ⟨S64x64, .f32⟩
  | 47 => ⟨S1x64x64, .f32⟩
  | 48 => ⟨S32x64x64, .f32⟩
  | 49 => ⟨S32x64x64, .f32⟩
  | 50 => ⟨S32x64x64, .f32⟩
  | 51 => ⟨S32x64x64, .f32⟩
  | 52 => ⟨S32x64x64, .f32⟩
  | 53 => ⟨S32x64x64x1, .f32⟩
  | 54 => ⟨S32x64x64, .f32⟩
  | 55 => ⟨S32x64x64, .f32⟩
  | 56 => ⟨S32x64x64x1, .f32⟩
  | 57 => ⟨S1x64x64x16, .f32⟩
  | 58 => ⟨S32x64x64x16, .f32⟩
  | 59 => ⟨S32x64x64x16, .f32⟩
  | 60 => ⟨S32x64x64x16, .f32⟩
  | 61 => ⟨S1x64x64x16, .f32⟩
  | 62 => ⟨S32x64x64x16, .f32⟩
  | 63 => ⟨S32x64x64x16, .f32⟩
  | 64 => ⟨S32x64x64x16, .f32⟩
  | 65 => ⟨S32x64x64x16, .f32⟩
  | 66 => ⟨S64x32x16x64, .f32⟩
  | 67 => ⟨S64x512x64, .f32⟩
  | 68 => ⟨S1x64x64x16, .f32⟩
  | 69 => ⟨S32x64x64x16, .f32⟩
  | 70 => ⟨S32x64x64x16, .f32⟩
  | 71 => ⟨S32x64x64x16, .f32⟩
  | 72 => ⟨S1x64x64x16, .f32⟩
  | 73 => ⟨S32x64x64x16, .f32⟩
  | 74 => ⟨S32x64x64x16, .f32⟩
  | 75 => ⟨S32x64x64x16, .f32⟩
  | 76 => ⟨S32x64x64x16, .f32⟩
  | 77 => ⟨S64x32x16x64, .f32⟩
  | 78 => ⟨S64x512x64, .f32⟩
  | 79 => ⟨S64x264x64, .f32⟩
  | 80 => ⟨S64x264x64, .f32⟩
  | 81 => ⟨S64x264x128, .f32⟩
  | 82 => ⟨S264x64x128, .f32⟩
  | 83 => ⟨S264x8192, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_cst_1 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩

abbrev nD : Nat := 1
abbrev τ : Topo := Topo.v7x

variable {F : FTy → Type} [FloatOps F]
-- ==== Proof.Words.lean ====
/- The words the two expert kernels compute from the tables they are handed: the tile a grid point works on
   (`min (point, tiles used - 1)`), the tile before it, whether the point is in use, and whether the expert is new. -/
module

public import Mathlib.Data.BitVec
public import Idealize.ShloMosaic.PureOps.Float

@[expose] public section

namespace Cert.Words

open Idealize.ShloMosaic

/-- A point's number as a word, against a small word, in signed order. -/
theorem slt_iff (n : ℕ) (hn : n < 98) (v : BitVec 32) (hv : v.toNat ≤ 98) :
    (BitVec.ofNat 32 n).slt v = true ↔ n < v.toNat := by
  rw [BitVec.slt_iff_toInt_lt, BitVec.toInt_eq_toNat_of_lt (by simp; omega), BitVec.toInt_eq_toNat_of_lt (by omega)]
  simp; omega

/-- The tile a point works on: the point's number, held at the last tile used. -/
theorem toNat_tile (n : ℕ) (hn : n < 98) (v : BitVec 32) (h1 : 1 ≤ v.toNat) (h2 : v.toNat ≤ 98) :
    (Scalar.minsi (BitVec.ofNat 32 n) (Scalar.subi v 1#32)).toNat = min n (v.toNat - 1) := by
  have hs : (v - 1#32).toNat = v.toNat - 1 := by bv_omega
  have h := slt_iff n hn (v - 1#32) (by omega)
  unfold Scalar.minsi Scalar.subi IntOp.minsi IntOp.subi
  by_cases hc : n < (v - 1#32).toNat
  · rw [if_pos (h.2 hc)]; simp only [BitVec.toNat_ofNat]; omega
  · rw [if_neg (fun e => hc (h.1 e))]; omega

/-- The tile before it, held at the first. -/
theorem toNat_prev (n : ℕ) (hn : n < 98) (v : BitVec 32) (h1 : 1 ≤ v.toNat) (h2 : v.toNat ≤ 98) :
    (Scalar.maxsi (Scalar.subi (Scalar.minsi (BitVec.ofNat 32 n) (Scalar.subi v 1#32)) 1#32) 0#32).toNat
      = min n (v.toNat - 1) - 1 := by
  have ht := toNat_tile n hn v h1 h2
  generalize Scalar.minsi (BitVec.ofNat 32 n) (Scalar.subi v 1#32) = x at ht
  rw [← ht]
  have hx : x.toNat < 98 := by omega
  unfold Scalar.maxsi Scalar.subi IntOp.maxsi IntOp.subi
  by_cases h0 : x.toNat = 0
  · have : x = 0#32 := by bv_omega
    subst this; decide
  · have hs : (x - 1#32).toNat = x.toNat - 1 := by bv_omega
    split
    · exact hs
    · rename_i hc
      rw [BitVec.slt_iff_toInt_lt, BitVec.toInt_eq_toNat_of_lt (x := x - 1#32) (by omega), hs,
        show (0#32 : BitVec 32).toInt = 0 from rfl] at hc
      show 0 = _; omega

/-- Two different words are told apart by the comparison, and equal ones are not. -/
theorem cmpi_ne_iff {w : ℕ} (a b : BitVec w) : IntOp.cmpi .ne a b = 1#1 ↔ a ≠ b := by
  show BitVec.ofBool (a != b) = 1#1 ↔ a ≠ b
  by_cases h : a = b
  · subst h; simp
  · simp only [bne, beq_eq_false_iff_ne.2 h]; simpa using h

/-- A bit widened to a word is not zero exactly when the bit is set. -/
theorem widened_iff (b : BitVec 1) : Scalar.cmpi .ne (Scalar.extui b) 0#32 = 1#1 ↔ b = 1#1 := by
  refine (cmpi_ne_iff _ _).trans ?_
  show b.setWidth 32 ≠ 0#32 ↔ _
  revert b; decide

/-- The point is in use exactly when its number is below the number of tiles used. -/
theorem inUse_iff (n : ℕ) (hn : n < 98) (v : BitVec 32) (h2 : v.toNat ≤ 98) :
    Scalar.cmpi .ne (Scalar.extui (Scalar.cmpi .slt (BitVec.ofNat 32 n) v)) 0#32 = 1#1 ↔ n < v.toNat := by
  rw [← slt_iff n hn v h2, widened_iff]
  show BitVec.ofBool ((BitVec.ofNat 32 n).slt v) = 1#1 ↔ _
  cases (BitVec.ofNat 32 n).slt v <;> decide

/-- The expert is new at the first point and where the two tiles' words differ. -/
theorem isNew_iff (n : ℕ) (hn : n < 98) (a b : BitVec 32) :
    Scalar.cmpi .ne (Scalar.extui (Scalar.ori (Scalar.cmpi .eq (BitVec.ofNat 32 n) 0#32) (Scalar.cmpi .ne a b))) 0#32 = 1#1
      ↔ n = 0 ∨ a ≠ b := by
  have e : (BitVec.ofNat 32 n = 0#32) ↔ n = 0 := by
    constructor
    · intro h; have := congrArg BitVec.toNat h; simp at this; omega
    · rintro rfl; rfl
  have bit : ∀ x y : BitVec 1, Scalar.ori x y = 1#1 ↔ x = 1#1 ∨ y = 1#1 := by decide
  rw [widened_iff, bit]
  refine or_congr ?_ (cmpi_ne_iff a b)
  rw [← e]
  show BitVec.ofBool (BitVec.ofNat 32 n == 0#32) = 1#1 ↔ _
  by_cases h : BitVec.ofNat 32 n = 0#32
  · simp [h]
  · simp only [beq_eq_false_iff_ne.2 h]; simpa using h

end Cert.Words

end
-- ==== Proof.Up.Tables.lean ====
/- The up call's tables: the words its grid points read, the blocks its windows name, and the pipeline at
   the tables a precondition admits (every tile's expert one of 32, between 1 and 98 tiles used). -/
module

public import proofs.«01_k».proof.Proof.Words
public import proofs.«01_k».proof.Proof.Gen.KernelIdeal.Launch
public import proofs.«01_k».proof.Proof.Gen.KernelIdeal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Up

open Cert.KernelIdeal Cert.KernelIdeal.Gen
open Idealize.ShloMosaic Idealize.ShloMosaic.TcCoe

variable {F : FTy → Type} [FloatOps F]

/-- The table of the tiles' experts and the one word that counts the tiles used. -/
abbrev Exps : Type := S98.Idx → BitVec 32
abbrev Count : Type := S1.Idx → BitVec 32

/-- The index of the count's one word, and of tile `n` in the table of experts. -/
abbrev one1 : S1.Idx := Shape.Idx.first (numel1_S1.symm ▸ Nat.one_pos)
abbrev at98 (n : ℕ) (h : n < 98) : S98.Idx := fun a => ⟨n, by match a with | ⟨0, _⟩ => exact h⟩

/-- What the precondition admits of the two tables: every tile's expert is one of 32, and between 1 and 98 tiles are used. -/
structure Admits (T0 : Exps) (T1 : Count) : Prop where
  expert : ∀ x, (T0 x).toNat < 32
  pos : 1 ≤ (T1 one1).toNat
  le : (T1 one1).toNat ≤ 98

/-- The number of tiles used. -/
abbrev nu (T1 : Count) : ℕ := (T1 one1).toNat

/-- The memrefs of the tables and of the two scratches (gate and up weights), whole. -/
abbrev tbE : Memref sig .tc .smem S98 .i32 := Memref.whole main_arg0
abbrev tbN : Memref sig .tc .smem S1 .i32 := Memref.whole main_arg1
abbrev scG : Memref sig .tc .vmem S4096x512 .bf16 := Memref.whole cc0_scratch0
abbrev scU : Memref sig .tc .vmem S4096x512 .bf16 := Memref.whole cc0_scratch1

/-- The count as the body loads it. -/
abbrev wN (T1 : Count) : BitVec 32 :=
  View.readAt (Elt F) tbN.view (Rect.unit (s := S1) ![0] S1.size inb_S1_S1_0).toLoadRect T1 one1

/-- A tile's expert as the body loads it, from the offset `off`. -/
abbrev wE (T0 : Exps) (off : Fin 1 → ℕ) (h : ∀ a, off a + S1.size a ≤ S98.size a) : BitVec 32 :=
  View.readAt (Elt F) tbE.view (Rect.unit (s := S98) off S1.size h).toLoadRect T0 one1

theorem wN_eq (T1 : Count) : wN (F := F) T1 = T1 one1 := by
  show T1 _ = T1 _
  congr 1; funext a; match a with | ⟨0, _⟩ => exact Subsingleton.elim (α := Fin 1) _ _

theorem wE_eq (T0 : Exps) (off : Fin 1 → ℕ) (h : ∀ a, off a + S1.size a ≤ S98.size a) (n : ℕ) (hn : n < 98) (e : off 0 = n) :
    wE (F := F) T0 off h = T0 (at98 n hn) := by
  show T0 _ = T0 _
  congr 1; funext a; match a with | ⟨0, _⟩ => exact Fin.ext (by subst e; rfl)

variable {T0 : Exps} {T1 : Count}

/-- Whether point `i` is in use. -/
theorem cond1_iff (hA : Admits T0 T1) (i : grid0.Coords) : k0_cond1 i (wN (F := F) T1) = 1#1 ↔ (i 0).val < nu T1 := by
  rw [wN_eq]; exact Words.inUse_iff _ (i 0).isLt _ hA.le

/-- Where the body reads its tile's expert, and the expert of the tile before. -/
theorem off2_eq (hA : Admits T0 T1) (i : grid0.Coords) : k0_off2 i (wN (F := F) T1) 0 = min (i 0).val (nu T1 - 1) := by
  rw [wN_eq]; exact Words.toNat_tile _ (i 0).isLt _ hA.pos hA.le
theorem off3_eq (hA : Admits T0 T1) (i : grid0.Coords) : k0_off3 i (wN (F := F) T1) 0 = min (i 0).val (nu T1 - 1) - 1 := by
  rw [wN_eq]; exact Words.toNat_prev _ (i 0).isLt _ hA.pos hA.le

/-- Both reads are inside the table. -/
theorem chk1 (hA : Admits T0 T1) (i : grid0.Coords) : k0_chk1 i (wN (F := F) T1) := by
  have h2 := off2_eq (F := F) hA i
  have h3 := off3_eq (F := F) hA i
  have hi : (i 0).val < 98 := (i 0).isLt
  exact ⟨fun a => by match a with | ⟨0, _⟩ => show k0_off2 i _ 0 + 1 ≤ 98; rw [h2]; omega,
    fun a => by match a with | ⟨0, _⟩ => show k0_off3 i _ 0 + 1 ≤ 98; rw [h3]; omega⟩

/-- Whether the body takes the point's expert to be new: the condition it branches on. -/
abbrev isNew (T0 : Exps) (T1 : Count) (i : grid0.Coords) (h : k0_chk1 i (wN (F := F) T1)) : BitVec 1 :=
  Scalar.cmpi .ne (Scalar.extui (Scalar.ori (Scalar.cmpi .eq (BitVec.ofNat 32 (i 0).val) 0#32)
    (Scalar.cmpi .ne (wE (F := F) T0 (k0_off2 i (wN (F := F) T1)) (k0_off2_inb i _ h))
      (wE (F := F) T0 (k0_off3 i (wN (F := F) T1)) (k0_off3_inb i _ h))))) 0#32

/-- At a point in use that is not the first and whose expert is not new, the tile before has the same expert. -/
theorem same_of_not_new (hA : Admits T0 T1) (i : grid0.Coords) (h : k0_chk1 i (wN (F := F) T1))
    (hn : ¬ isNew (F := F) T0 T1 i h = 1#1) (hu : (i 0).val < nu T1) :
    (i 0).val ≠ 0 ∧ T0 (at98 (i 0).val (i 0).isLt) = T0 (at98 ((i 0).val - 1) (by have : (i 0).val < 98 := (i 0).isLt; omega)) := by
  have hi : (i 0).val < 98 := (i 0).isLt
  rw [isNew, Words.isNew_iff _ hi, not_or, not_not,
    wE_eq T0 _ _ (i 0).val hi ((off2_eq hA i).trans (by omega)),
    wE_eq T0 _ _ ((i 0).val - 1) (by omega) ((off3_eq hA i).trans (by omega))] at hn
  exact hn

theorem new_of_zero (i : grid0.Coords) (h : k0_chk1 i (wN (F := F) T1)) (h0 : (i 0).val = 0) :
    isNew (F := F) T0 T1 i h = 1#1 := (Words.isNew_iff _ (i 0).isLt _ _).2 (.inl h0)

/-! ## The windows' blocks -/

set_option backward.proofsInPublic true in
/-- The two tables as the contents the pipeline is handed. -/
def pf (T0 : Exps) (T1 : Count) : pre0.Contents (Elt F) := fun | ⟨0, _⟩ => T0 | ⟨1, _⟩ => T1 | ⟨_ + 2, h⟩ => absurd h (by simp)

/-- The words' block and the result's block at a point: the tile the point works on. -/
theorem tr0 (hA : Admits T0 T1) (i : grid0.Coords) :
    cc0_transform_0 inb_S1_S1_0 numel1_S1 (pf (F := F) T0 T1) i = ![min (i 0).val (nu T1 - 1), 0] := by
  have e : (pf (F := F) T0 T1).at 1 (Rect.unit (s := S1) ![0] S1.size inb_S1_S1_0) numel1_S1 = T1 one1 := wN_eq (F := F) T1
  have h := Words.toNat_tile (i 0).val (i 0).isLt (T1 one1) hA.pos hA.le
  rw [← h, ← e]; rfl
theorem tr3 (hA : Admits T0 T1) (i : grid0.Coords) :
    cc0_transform_3 inb_S1_S1_0 numel1_S1 (pf (F := F) T0 T1) i = ![min (i 0).val (nu T1 - 1), 0] := tr0 hA i

/-- The two weights' blocks at a point: its tile's expert. -/
theorem tr1 (i : grid0.Coords) :
    cc0_transform_1 k0_off1_inb numel1_S1 (pf (F := F) T0 T1) i = ![0, (T0 (at98 (i 0).val (i 0).isLt)).toNat, 0, 0] := by
  have e : (pf (F := F) T0 T1).at 0 (Rect.unit (s := S98) ![(Scalar.indexCast (BitVec.ofNat 32 (i 0).val)).toNat] S1.size (k0_off1_inb i)) numel1_S1
      = T0 (at98 (i 0).val (i 0).isLt) := wE_eq (F := F) T0 _ (k0_off1_inb i) _ _ (congrFun (k0_off1_eq i) 0)
  rw [← e]; rfl
theorem tr2 (i : grid0.Coords) :
    cc0_transform_2 k0_off1_inb numel1_S1 (pf (F := F) T0 T1) i = ![0, (T0 (at98 (i 0).val (i 0).isLt)).toNat, 0, 0] := tr1 i

/-- A block of one expert's weights is inside the array of all. -/
theorem weights_inb (hA : Admits T0 T1) (i : grid0.Coords) (a : Fin 4) :
    ((![0, (T0 (at98 (i 0).val (i 0).isLt)).toNat, 0, 0] : Fin 4 → ℕ) a + 1) * S1x1x4096x512.size a ≤ S2x32x4096x512.size a := by
  have := hA.expert (at98 (i 0).val (i 0).isLt)
  match a with
  | ⟨0, _⟩ => show (0 + 1) * 1 ≤ 2; omega
  | ⟨1, _⟩ => show ((T0 (at98 (i 0).val (i 0).isLt)).toNat + 1) * 1 ≤ 32; omega
  | ⟨2, _⟩ => show (0 + 1) * 4096 ≤ 4096; omega
  | ⟨3, _⟩ => show (0 + 1) * 512 ≤ 512; omega

/-- Every window's block is inside its array. -/
theorem ok_pf (hA : Admits T0 T1) : ok0 (F := F) (pf T0 T1) := by
  have hn : nu T1 ≤ 98 := hA.le
  have hp : 1 ≤ nu T1 := hA.pos
  refine ⟨fun i => ⟨?_, .inl rfl⟩, fun i => ⟨?_, .inl rfl⟩, fun i => ⟨?_, .inl rfl⟩,
    fun i => ⟨?_, .inr (Affine.block_words_dvd (s := S25088x512) (p := EltTy.packing .bf16) (by decide) (by decide))⟩⟩
  · rw [tr0 hA i]; intro a
    match a with
    | ⟨0, _⟩ => show (min (i 0).val (nu T1 - 1) + 1) * 4096 ≤ 401408; omega
    | ⟨1, _⟩ => show (0 + 1) * 128 ≤ 128; omega
  · rw [tr1 i]; exact weights_inb hA i
  · rw [tr2 i]; exact weights_inb hA i
  · rw [tr3 hA i]; intro a
    match a with
    | ⟨0, _⟩ => show (min (i 0).val (nu T1 - 1) + 1) * 256 ≤ 25088; omega
    | ⟨1, _⟩ => show (0 + 1) * 512 ≤ 512; omega

/-- The tables as admissible contents, and the pipeline at them. -/
def adm (hA : Admits T0 T1) : (pcfg0 (F := F)).Adm := ⟨pf T0 T1, ok_pf hA⟩
abbrev cfgA (hA : Admits T0 T1) : Pipeline.Cfg sig Λ₀ := cfg0 (F := F) (adm hA)

end Cert.Up

end
-- ==== Proof.Down.Tables.lean ====
/- The down call's tables: the words its grid points read, the blocks its windows name, and the pipeline at
   the tables a precondition admits (every tile's expert one of 32, between 1 and 98 tiles used). -/
module

public import proofs.«01_k».proof.Proof.Words
public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Down

open Cert.Kernel2Ideal Cert.Kernel2Ideal.Gen
open Idealize.ShloMosaic Idealize.ShloMosaic.TcCoe

variable {F : FTy → Type} [FloatOps F]

/-- The table of the tiles' experts and the one word that counts the tiles used. -/
abbrev Exps : Type := S98.Idx → BitVec 32
abbrev Count : Type := S1.Idx → BitVec 32

/-- The index of the count's one word, and of tile `n` in the table of experts. -/
abbrev one1 : S1.Idx := Shape.Idx.first (numel1_S1.symm ▸ Nat.one_pos)
abbrev at98 (n : ℕ) (h : n < 98) : S98.Idx := fun a => ⟨n, by match a with | ⟨0, _⟩ => exact h⟩

/-- What the precondition admits of the two tables: every tile's expert is one of 32, and between 1 and 98 tiles are used. -/
structure Admits (T0 : Exps) (T1 : Count) : Prop where
  expert : ∀ x, (T0 x).toNat < 32
  pos : 1 ≤ (T1 one1).toNat
  le : (T1 one1).toNat ≤ 98

/-- The number of tiles used. -/
abbrev nu (T1 : Count) : ℕ := (T1 one1).toNat

/-- The memrefs of the tables and of the scratch, whole. -/
abbrev tbE : Memref sig .tc .smem S98 .i32 := Memref.whole main_arg0
abbrev tbN : Memref sig .tc .smem S1 .i32 := Memref.whole main_arg1
abbrev scW : Memref sig .tc .vmem S512x4096 .bf16 := Memref.whole cc0_scratch0

/-- The count as the body loads it. -/
abbrev wN (T1 : Count) : BitVec 32 :=
  View.readAt (Elt F) tbN.view (Rect.unit (s := S1) ![0] S1.size inb_S1_S1_0).toLoadRect T1 one1

/-- A tile's expert as the body loads it, from the offset `off`. -/
abbrev wE (T0 : Exps) (off : Fin 1 → ℕ) (h : ∀ a, off a + S1.size a ≤ S98.size a) : BitVec 32 :=
  View.readAt (Elt F) tbE.view (Rect.unit (s := S98) off S1.size h).toLoadRect T0 one1

theorem wN_eq (T1 : Count) : wN (F := F) T1 = T1 one1 := by
  show T1 _ = T1 _
  congr 1; funext a; match a with | ⟨0, _⟩ => exact Subsingleton.elim (α := Fin 1) _ _

theorem wE_eq (T0 : Exps) (off : Fin 1 → ℕ) (h : ∀ a, off a + S1.size a ≤ S98.size a) (n : ℕ) (hn : n < 98) (e : off 0 = n) :
    wE (F := F) T0 off h = T0 (at98 n hn) := by
  show T0 _ = T0 _
  congr 1; funext a; match a with | ⟨0, _⟩ => exact Fin.ext (by subst e; rfl)

variable {T0 : Exps} {T1 : Count}

/-- Whether point `i` is in use. -/
theorem cond1_iff (hA : Admits T0 T1) (i : grid0.Coords) : k0_cond1 i (wN (F := F) T1) = 1#1 ↔ (i 0).val < nu T1 := by
  rw [wN_eq]; exact Words.inUse_iff _ (i 0).isLt _ hA.le

/-- Where the body reads its tile's expert, and the expert of the tile before. -/
theorem off2_eq (hA : Admits T0 T1) (i : grid0.Coords) : k0_off2 i (wN (F := F) T1) 0 = min (i 0).val (nu T1 - 1) := by
  rw [wN_eq]; exact Words.toNat_tile _ (i 0).isLt _ hA.pos hA.le
theorem off3_eq (hA : Admits T0 T1) (i : grid0.Coords) : k0_off3 i (wN (F := F) T1) 0 = min (i 0).val (nu T1 - 1) - 1 := by
  rw [wN_eq]; exact Words.toNat_prev _ (i 0).isLt _ hA.pos hA.le

/-- Both reads are inside the table. -/
theorem chk1 (hA : Admits T0 T1) (i : grid0.Coords) : k0_chk1 i (wN (F := F) T1) := by
  have h2 := off2_eq (F := F) hA i
  have h3 := off3_eq (F := F) hA i
  have hi : (i 0).val < 98 := (i 0).isLt
  exact ⟨fun a => by match a with | ⟨0, _⟩ => show k0_off2 i _ 0 + 1 ≤ 98; rw [h2]; omega,
    fun a => by match a with | ⟨0, _⟩ => show k0_off3 i _ 0 + 1 ≤ 98; rw [h3]; omega⟩

/-- Whether the body takes the point's expert to be new: the condition it branches on. -/
abbrev isNew (T0 : Exps) (T1 : Count) (i : grid0.Coords) (h : k0_chk1 i (wN (F := F) T1)) : BitVec 1 :=
  Scalar.cmpi .ne (Scalar.extui (Scalar.ori (Scalar.cmpi .eq (BitVec.ofNat 32 (i 0).val) 0#32)
    (Scalar.cmpi .ne (wE (F := F) T0 (k0_off2 i (wN (F := F) T1)) (k0_off2_inb i _ h))
      (wE (F := F) T0 (k0_off3 i (wN (F := F) T1)) (k0_off3_inb i _ h))))) 0#32

/-- At a point in use that is not the first and whose expert is not new, the tile before has the same expert. -/
theorem same_of_not_new (hA : Admits T0 T1) (i : grid0.Coords) (h : k0_chk1 i (wN (F := F) T1))
    (hn : ¬ isNew (F := F) T0 T1 i h = 1#1) (hu : (i 0).val < nu T1) :
    (i 0).val ≠ 0 ∧ T0 (at98 (i 0).val (i 0).isLt) = T0 (at98 ((i 0).val - 1) (by have : (i 0).val < 98 := (i 0).isLt; omega)) := by
  have hi : (i 0).val < 98 := (i 0).isLt
  rw [isNew, Words.isNew_iff _ hi, not_or, not_not,
    wE_eq T0 _ _ (i 0).val hi ((off2_eq hA i).trans (by omega)),
    wE_eq T0 _ _ ((i 0).val - 1) (by omega) ((off3_eq hA i).trans (by omega))] at hn
  exact hn

theorem new_of_zero (i : grid0.Coords) (h : k0_chk1 i (wN (F := F) T1)) (h0 : (i 0).val = 0) :
    isNew (F := F) T0 T1 i h = 1#1 := (Words.isNew_iff _ (i 0).isLt _ _).2 (.inl h0)

/-! ## The windows' blocks -/

set_option backward.proofsInPublic true in
/-- The two tables as the contents the pipeline is handed. -/
def pf (T0 : Exps) (T1 : Count) : pre0.Contents (Elt F) := fun | ⟨0, _⟩ => T0 | ⟨1, _⟩ => T1 | ⟨_ + 2, h⟩ => absurd h (by simp)

/-- The activations' block and the result's block at a point: the tile the point works on. -/
theorem tr0 (hA : Admits T0 T1) (i : grid0.Coords) :
    cc0_transform_0 inb_S1_S1_0 numel1_S1 (pf (F := F) T0 T1) i = ![min (i 0).val (nu T1 - 1), 0] := by
  have e : (pf (F := F) T0 T1).at 1 (Rect.unit (s := S1) ![0] S1.size inb_S1_S1_0) numel1_S1 = T1 one1 := wN_eq (F := F) T1
  have h := Words.toNat_tile (i 0).val (i 0).isLt (T1 one1) hA.pos hA.le
  rw [← h, ← e]; rfl
theorem tr2 (hA : Admits T0 T1) (i : grid0.Coords) :
    cc0_transform_2 inb_S1_S1_0 numel1_S1 (pf (F := F) T0 T1) i = ![min (i 0).val (nu T1 - 1), 0] := tr0 hA i

/-- The weights' block at a point: its tile's expert. -/
theorem tr1 (i : grid0.Coords) :
    cc0_transform_1 k0_off1_inb numel1_S1 (pf (F := F) T0 T1) i = ![0, (T0 (at98 (i 0).val (i 0).isLt)).toNat, 0, 0] := by
  have e : (pf (F := F) T0 T1).at 0 (Rect.unit (s := S98) ![(Scalar.indexCast (BitVec.ofNat 32 (i 0).val)).toNat] S1.size (k0_off1_inb i)) numel1_S1
      = T0 (at98 (i 0).val (i 0).isLt) := wE_eq (F := F) T0 _ (k0_off1_inb i) _ _ (congrFun (k0_off1_eq i) 0)
  rw [← e]; rfl

/-- Every window's block is inside its array. -/
theorem ok_pf (hA : Admits T0 T1) : ok0 (F := F) (pf T0 T1) := by
  have hn : nu T1 ≤ 98 := hA.le
  have hp : 1 ≤ nu T1 := hA.pos
  refine ⟨fun i => ⟨?_, .inr (Affine.block_words_dvd (s := S25088x512) (p := EltTy.packing .bf16) (by decide) (by decide))⟩,
    fun i => ⟨?_, .inl rfl⟩, fun i => ⟨?_, .inl rfl⟩⟩
  · rw [tr0 hA i]; intro a
    match a with
    | ⟨0, _⟩ => show (min (i 0).val (nu T1 - 1) + 1) * 256 ≤ 25088; omega
    | ⟨1, _⟩ => show (0 + 1) * 512 ≤ 512; omega
  · rw [tr1 i]; intro a
    have := hA.expert (at98 (i 0).val (i 0).isLt)
    match a with
    | ⟨0, _⟩ => show (0 + 1) * 1 ≤ 2; omega
    | ⟨1, _⟩ => show ((T0 (at98 (i 0).val (i 0).isLt)).toNat + 1) * 1 ≤ 32; omega
    | ⟨2, _⟩ => show (0 + 1) * 512 ≤ 512; omega
    | ⟨3, _⟩ => show (0 + 1) * 4096 ≤ 4096; omega
  · rw [tr2 hA i]; intro a
    match a with
    | ⟨0, _⟩ => show (min (i 0).val (nu T1 - 1) + 1) * 256 ≤ 25088; omega
    | ⟨1, _⟩ => show (0 + 1) * 4096 ≤ 4096; omega

/-- The tables as admissible contents, and the pipeline at them. -/
def adm (hA : Admits T0 T1) : (pcfg0 (F := F)).Adm := ⟨pf T0 T1, ok_pf hA⟩
abbrev cfgA (hA : Admits T0 T1) : Pipeline.Cfg sig Λ₀ := cfg0 (F := F) (adm hA)

end Cert.Down

end
-- ==== Proof.Combine.Rows.lean ====
/- The combine call's table and its rows: which row of the experts' outputs each of a point's 512 transfers copies,
   the place in the scratch it copies it to, and what the scratch holds once all have landed. -/
module

public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Batch
public import Idealize.ShloMosaic.Lib.Ring
public import Idealize.ShloMosaic.Lib.Pointwise
public import Idealize.ShloMosaic.Lib.Tactic
public import Idealize.ShloMosaic.Init

@[expose] public section

set_option maxRecDepth 16384

noncomputable section

namespace Cert.Combine

open Cert.Kernel5Ideal Cert.Kernel5Ideal.Gen
open Idealize.ShloMosaic Idealize.ShloMosaic.TcCoe Idealize.ShloMosaic.Tactic

variable {F : FTy → Type} [FloatOps F]

/-- The table of positions, the experts' outputs, and the two gathered slabs. -/
abbrev Posns : Type := S16384.Idx → BitVec 32
abbrev Outs (F : FTy → Type) : Type := S24576x4096.Idx → Elt F .f32
abbrev Slabs (F : FTy → Type) : Type := S2x256x4096.Idx → Elt F .f32

abbrev one1 : S1.Idx := Shape.Idx.first (numel1_S1.symm ▸ Nat.one_pos)
abbrev at16384 (n : ℕ) (h : n < 16384) : S16384.Idx := fun a => ⟨n, by match a with | ⟨0, _⟩ => exact h⟩

/-- What the precondition admits: every position is a row of the experts' outputs. -/
abbrev Admits (T : Posns) : Prop := ∀ x, (T x).toNat < 24576

/-- The memrefs of the table, the experts' outputs and the scratch, whole. -/
abbrev tbP : Memref sig .tc .smem S16384 .i32 := Memref.whole main_arg0
abbrev arY : Memref sig .tc .hbm S24576x4096 .f32 := Memref.whole main_arg1
abbrev scB : Memref sig .tc .vmem S2x256x4096 .f32 := Memref.whole cc0_scratch0

/-- A position as the body loads it, from the offset `off`. -/
abbrev wP (T : Posns) (off : Fin 1 → ℕ) (h : ∀ a, off a + S1.size a ≤ S16384.size a) : BitVec 32 :=
  View.readAt (Elt F) tbP.view (Rect.unit (s := S16384) off S1.size h).toLoadRect T one1

theorem wP_eq (T : Posns) (off : Fin 1 → ℕ) (h : ∀ a, off a + S1.size a ≤ S16384.size a) (n : ℕ) (hn : n < 16384) (e : off 0 = n) :
    wP (F := F) T off h = T (at16384 n hn) := by
  show T _ = T _
  congr 1; funext a; match a with | ⟨0, _⟩ => exact Fin.ext (by subst e; rfl)

variable {T : Posns} (hA : Admits T)

/-- The row transfer `t` of point `i` copies. -/
def posn (i : grid0.Coords) (t : Fin 512) : Fin 24576 :=
  ⟨(T (at16384 (512 * (i 0).val + t.val) (by have : (i 0).val < 32 := (i 0).isLt; omega))).toNat, hA _⟩

/-- A row of the experts' outputs, and the place in the scratch of transfer `t`: slab `t % 2`, row `t / 2`. -/
theorem row_inb (r : Fin 24576) : ∀ a, (![r.val, 0] : Fin 2 → ℕ) a + S1x4096.size a ≤ S24576x4096.size a := by
  intro a; match a with
  | ⟨0, _⟩ => show r.val + 1 ≤ 24576; omega
  | ⟨1, _⟩ => show 0 + 4096 ≤ 4096; omega
theorem place_inb (t : Fin 512) : ∀ a, (![t.val % 2, t.val / 2, 0] : Fin 3 → ℕ) a + S1x1x4096.size a ≤ S2x256x4096.size a := by
  intro a; match a with
  | ⟨0, _⟩ => show t.val % 2 + 1 ≤ 2; omega
  | ⟨1, _⟩ => show t.val / 2 + 1 ≤ 256; omega
  | ⟨2, _⟩ => show 0 + 4096 ≤ 4096; omega
def row (r : Fin 24576) : Memref sig .tc .hbm S1x4096 .f32 := arY.slice (Rect.unit (s := S24576x4096) ![r.val, 0] S1x4096.size (row_inb r)) (fun _ => rfl)
def place (t : Fin 512) : Memref sig .tc .vmem S1x4096 .f32 :=
  (scB.slice (Rect.unit (s := S2x256x4096) ![t.val % 2, t.val / 2, 0] S1x1x4096.size (place_inb t)) (fun _ => rfl)).squeeze S1x4096 squeezes_S1x1x4096_S1x4096

/-- The elements of a place. -/
abbrev elts (t : Fin 512) : Finset S2x256x4096.Idx := (Rect.unit (s := S2x256x4096) ![t.val % 2, t.val / 2, 0] S1x1x4096.size (place_inb t)).set

theorem place_set (t : Fin 512) : (place t).view.set = elts t := by
  unfold place; exact (View.set_reshape _ _).trans (View.set_slice_whole _ _)

theorem mem_elts (t : Fin 512) (y : S2x256x4096.Idx) : y ∈ elts t ↔ 2 * (y 1).val + (y 0).val = t.val := by
  rw [Rect.mem_set_unit]
  have h0 : (y 0).val < 2 := (y 0).isLt
  have h2 : (y 2).val < 4096 := (y 2).isLt
  constructor
  · intro H
    have a0 : t.val % 2 ≤ (y 0).val ∧ (y 0).val < t.val % 2 + 1 := H 0
    have a1 : t.val / 2 ≤ (y 1).val ∧ (y 1).val < t.val / 2 + 1 := H 1
    omega
  · intro H a
    match a with
    | ⟨0, _⟩ => show t.val % 2 ≤ (y 0).val ∧ (y 0).val < t.val % 2 + 1; omega
    | ⟨1, _⟩ => show t.val / 2 ≤ (y 1).val ∧ (y 1).val < t.val / 2 + 1; omega
    | ⟨2, _⟩ => show 0 ≤ (y 2).val ∧ (y 2).val < 0 + 4096; omega

theorem elts_disjoint : ∀ t t' : Fin 512, t ≠ t' → Disjoint (elts t) (elts t') := fun t t' hne => by
  rw [Finset.disjoint_left]; intro y hy hy'; rw [mem_elts] at hy hy'; exact hne (Fin.ext (by omega))
theorem elts_cover : Finset.univ.biUnion elts = Finset.univ := by
  ext y; simp only [Finset.mem_biUnion, Finset.mem_univ, true_and, iff_true]
  have h0 : (y 0).val < 2 := (y 0).isLt
  have h1 : (y 1).val < 256 := (y 1).isLt
  exact ⟨⟨2 * (y 1).val + (y 0).val, by omega⟩, (mem_elts _ _).mpr rfl⟩

/-- What the scratch holds once all rows have landed: the rows, each at its place. -/
def gathered (i : grid0.Coords) (Y : Outs F) : Slabs F := fun y =>
  Y (ix2 (posn hA i ⟨2 * (y 1).val + (y 0).val, by have h0 : (y 0).val < 2 := (y 0).isLt; have h1 : (y 1).val < 256 := (y 1).isLt; omega⟩) (y 2))

/-- A row landed at its place is the gathered slabs there. -/
theorem landed (i : grid0.Coords) (t : Fin 512) (Y : Outs F) (f : Slabs F) :
    ∀ x ∈ (place t).view.set, (place t).view.write (Elt F) f (ReadAs.same.apply ((row (posn hA i t)).view.read (Elt F) Y)) Finset.univ x = gathered hA i Y x := by
  intro x hx
  obtain ⟨z, -, rfl⟩ := Finset.mem_map.mp hx
  refine (View.write_emb_of_mem (v := (place t).view) f _ (Finset.mem_univ z)).trans ?_
  have z0 : (z 0).val < 1 := (z 0).isLt
  have e : Shape.reshapeEquiv (s := S1x1x4096) (s' := S1x4096) squeezes_S1x1x4096_S1x4096.numel_eq z = (ix3 (0 : Fin 1) (0 : Fin 1) (⟨(z 1).val, (z 1).isLt⟩ : Fin 4096)) :=
    Shape.reshapeEquiv_eq_of_rowMajor _ (by
      show ((⟨3, ![1, 1, 4096]⟩ : Shape).rowMajor _).val = ((⟨2, ![1, 4096]⟩ : Shape).rowMajor z).val
      rw [Shape.rowMajor_val_three, Shape.rowMajor_val_two]; show (0 * 1 + 0) * 4096 + (z 1).val = (z 0).val * 4096 + (z 1).val; omega)
  obtain ⟨y, hy, e0, e1, e2⟩ : ∃ y : S2x256x4096.Idx, y = (place t).view.emb z ∧ (y 0).val = t.val % 2 ∧ (y 1).val = t.val / 2 ∧ (y 2).val = (z 1).val := by
    refine ⟨(place t).view.emb z, rfl, ?_, ?_, ?_⟩
    · show t.val % 2 + 1 * ((Shape.reshapeEquiv (s := S1x1x4096) (s' := S1x4096) squeezes_S1x1x4096_S1x4096.numel_eq z) 0).val = _
      rw [e]; rfl
    · show t.val / 2 + 1 * ((Shape.reshapeEquiv (s := S1x1x4096) (s' := S1x4096) squeezes_S1x1x4096_S1x4096.numel_eq z) 1).val = _
      rw [e]; rfl
    · show 0 + 1 * ((Shape.reshapeEquiv (s := S1x1x4096) (s' := S1x4096) squeezes_S1x1x4096_S1x4096.numel_eq z) 2).val = _
      rw [e]; show 0 + 1 * (z 1).val = _; omega
  rw [← hy]
  have ht : ∀ h, (⟨2 * (y 1).val + (y 0).val, h⟩ : Fin 512) = t := fun _ => Fin.ext (by show 2 * (y 1).val + (y 0).val = t.val; omega)
  show Y ((row (posn hA i t)).view.emb z) = Y _
  refine congrArg Y (funext fun a => Fin.ext ?_)
  match a with
  | ⟨0, _⟩ =>
    show (posn hA i t).val + 1 * (z 0).val = (posn hA i ⟨2 * (y 1).val + (y 0).val, _⟩).val
    rw [ht]; omega
  | ⟨1, _⟩ => show 0 + 1 * (z 1).val = (y 2).val; omega

end Cert.Combine

end
-- ==== Proof.Admit.lean ====
/- What the statement's predicates say, decoded: the preconditions admit the tables the kernels' runs are proved
   at, and the two masks select the rows of the tiles in use. -/
module

public import proofs.«01_k».proof.Proof.Up.Tables
public import proofs.«01_k».proof.Proof.Down.Tables
public import proofs.«01_k».proof.Proof.Combine.Rows
public import proofs.«01_k».proof.Proof.Gen.Pre_tables
public import proofs.«01_k».proof.Proof.Gen.Pre_tables2
public import proofs.«01_k».proof.Proof.Gen.Pre_positions
public import proofs.«01_k».proof.Proof.Gen.On_used
public import proofs.«01_k».proof.Proof.Gen.On_used2
public import Idealize.ShloMosaic.Lib.StableHlo.Predicate

@[expose] public section

namespace Cert.Admit

open Idealize.ShloMosaic

variable {F : FTy → Type} [FloatOps F]

/-- Both bits of a conjunction are set. -/
theorem and_bits (a b : BitVec 1) (h : IntOp.andi a b = 1#1) : a = 1#1 ∧ b = 1#1 := by revert a b; decide

/-- A word at least zero and below a bound, signed, is below the bound. -/
theorem lt_of_bits (w b : BitVec 32) (hb : b.toNat < 2 ^ 31) (h : IntOp.andi (IntOp.cmpi .sge w 0#32) (IntOp.cmpi .slt w b) = 1#1) :
    w.toNat < b.toNat := by
  obtain ⟨h0, h1⟩ := and_bits _ _ h
  simp only [IntOp.cmpi, StableHlo.Predicate.ofBool_eq_one_iff, BitVec.sle_iff_toInt_le, BitVec.slt_iff_toInt_lt] at h0 h1
  rw [BitVec.toInt_eq_toNat_of_lt (x := b) (by omega)] at h1
  rw [show (0#32 : BitVec 32).toInt = 0 from rfl] at h0
  rw [BitVec.toInt_eq_toNat_cond] at h0 h1
  split at h0 <;> omega

/-- A word from 1 to 98, signed. -/
theorem between_of_bits (w : BitVec 32) (h : IntOp.andi (IntOp.cmpi .sge w 1#32) (IntOp.cmpi .sle w 98#32) = 1#1) : 1 ≤ w.toNat ∧ w.toNat ≤ 98 := by
  obtain ⟨h0, h1⟩ := and_bits _ _ h
  simp only [IntOp.cmpi, StableHlo.Predicate.ofBool_eq_one_iff, BitVec.sle_iff_toInt_le] at h0 h1
  rw [show (98#32 : BitVec 32).toInt = 98 from rfl] at h1
  rw [show (1#32 : BitVec 32).toInt = 1 from rfl] at h0
  rw [BitVec.toInt_eq_toNat_cond] at h0 h1
  split at h0 <;> omega

/-- The up call's precondition admits its tables. -/
theorem up (a0 : Up.Exps) (a1 : Up.Count) (a2 a3 a4)
    (h0 : (Cert.Pre_tables.fn (F := F) a0 a1 a2 a3 a4).1 = fun _ => 1#1) (h1 : (Cert.Pre_tables.fn (F := F) a0 a1 a2 a3 a4).2 = fun _ => 1#1) :
    Up.Admits a0 a1 :=
  ⟨fun x => lt_of_bits _ 32#32 (by decide) (congrFun h0 x), (between_of_bits _ (congrFun h1 Up.one1)).1, (between_of_bits _ (congrFun h1 Up.one1)).2⟩

/-- The down call's precondition admits its tables. -/
theorem down (a0 : Down.Exps) (a1 : Down.Count) (a2 a3)
    (h0 : (Cert.Pre_tables2.fn (F := F) a0 a1 a2 a3).1 = fun _ => 1#1) (h1 : (Cert.Pre_tables2.fn (F := F) a0 a1 a2 a3).2 = fun _ => 1#1) :
    Down.Admits a0 a1 :=
  ⟨fun x => lt_of_bits _ 32#32 (by decide) (congrFun h0 x), (between_of_bits _ (congrFun h1 Down.one1)).1, (between_of_bits _ (congrFun h1 Down.one1)).2⟩

/-- The combine call's precondition admits its table. -/
theorem combine (a0 : Combine.Posns) (a1 a2 a3 a4) (h : Cert.Pre_positions.fn (F := F) a0 a1 a2 a3 a4 = fun _ => 1#1) :
    Combine.Admits a0 :=
  fun x => lt_of_bits _ 24576#32 (by decide) (congrFun h x)

/-- A row's number below 256 times the number of tiles used, as words. -/
theorem row_bits (r : ℕ) (hr : r < 25088) (w : BitVec 32) (hw : w.toNat ≤ 98)
    (h : IntOp.cmpi .slt (BitVec.ofNat 32 r) (IntOp.muli w 256#32) = 1#1) : r / 256 < w.toNat := by
  have hm : (IntOp.muli w 256#32).toNat = w.toNat * 256 := by
    show (w * 256#32).toNat = _
    rw [BitVec.toNat_mul]; exact Nat.mod_eq_of_lt (by show w.toNat * 256 < _; omega)
  have hrn : (BitVec.ofNat 32 r).toNat = r := by rw [BitVec.toNat_ofNat]; omega
  rw [StableHlo.Predicate.slt_iff_toNat (by omega) (by omega), hm, hrn] at h
  omega

/-- The count's array has one index. -/
theorem one_eq (x : (⟨1, ![1]⟩ : Shape).Idx) : Up.one1 = x := by
  funext a; match a with | ⟨0, _⟩ => exact Subsingleton.elim (α := Fin 1) _ _

/-- The up call's mask selects rows of tiles in use only. -/
theorem on_up (a0 : Up.Exps) (a1 : Up.Count) (a2 a3 a4) (hA : Up.Admits a0 a1) (i : (⟨2, ![25088, 512]⟩ : Shape).Idx)
    (h : Cert.On_used.fn (F := F) a0 a1 a2 a3 a4 i = 1#1) : (i 0).val / 256 < Up.nu a1 := by
  refine row_bits (i 0).val (i 0).isLt (a1 Up.one1) hA.le ?_
  refine Eq.trans ?_ h
  refine congrArg (fun w => IntOp.cmpi .slt (BitVec.ofNat 32 (i 0).val) (IntOp.muli w 256#32)) (congrArg a1 (one_eq _))

/-- The down call's mask selects rows of tiles in use only. -/
theorem on_down (a0 : Down.Exps) (a1 : Down.Count) (a2 a3) (hA : Down.Admits a0 a1) (i : (⟨2, ![25088, 4096]⟩ : Shape).Idx)
    (h : Cert.On_used2.fn (F := F) a0 a1 a2 a3 i = 1#1) : (i 0).val / 256 < Down.nu a1 := by
  refine row_bits (i 0).val (i 0).isLt (a1 Down.one1) hA.le ?_
  refine Eq.trans ?_ h
  refine congrArg (fun w => IntOp.cmpi .slt (BitVec.ofNat 32 (i 0).val) (IntOp.muli w 256#32)) (congrArg a1 (one_eq _))

end Cert.Admit
-- ==== Proof.Up.Body.lean ====
/- The up call's body at one grid point, on its blocks in fast memory, in its three cases: a tile whose expert is
   new (both weights are rounded into the scratch buffers and used), a tile of the expert already held (the scratches
   are used as they stand), and a point past the tiles used (nothing happens). -/
module

public import proofs.«01_k».proof.Proof.Up.Tables
public import Idealize.ShloMosaic.Lib.VecWindow

@[expose] public section

set_option maxRecDepth 16384
set_option Elab.async false

noncomputable section

namespace Cert.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body holds besides its result and its scratches: the three input blocks, and its halves of the tables. -/
abbrev held (c : Dev nD) (a3 : Memref sig .tc .vmem S4096x128 .i32) (a4 a5 : Memref sig .tc .vmem S1x1x4096x512 .f32)
    (T0 : Exps) (T1 : Count) (x0 : S4096x128.Idx → Elt F .i32) (x1 x2 : S1x1x4096x512.Idx → Elt F .f32) (R : sProp 𝕄) : sProp 𝕄 :=
  iprop((a3.view.loc (c : Thread nD τ) ↦[a3.view.set]{fullShare} a3.view.rep x0)
    ∗ (a4.view.loc (c : Thread nD τ) ↦[a4.view.set]{fullShare} a4.view.rep x1)
    ∗ (a5.view.loc (c : Thread nD τ) ↦[a5.view.set]{fullShare} a5.view.rep x2)
    ∗ (tbE.view.loc (c : Thread nD τ) ↦{fullShare.right} T0)
    ∗ (tbN.view.loc (c : Thread nD τ) ↦{fullShare.right} T1) ∗ R)

/-- The rounded weights of a block. -/
abbrev rounded (x : S1x1x4096x512.Idx → Elt F .f32) : S4096x512.Idx → Elt F .bf16 := k0_pay2 x

/-- Line `k` of every row of a block of packed rows: a row is 16 lines of 128 words, and lines `k`, `k + 16`, … are read at once. -/
abbrev slabRect {k : ℕ} (h : ∀ a, S256x128.size a = 0 ∨ (![k, 0] : Fin 2 → ℕ) a + (![16, 1] : Fin 2 → ℕ) a * (S256x128.size a - 1) < S4096x128.size a) : LoadRect S4096x128 :=
  { off := ![k, 0], size := S256x128.size, stride := ![16, 1], inb := h }
def slab {k : ℕ} (h : ∀ a, S256x128.size a = 0 ∨ (![k, 0] : Fin 2 → ℕ) a + (![16, 1] : Fin 2 → ℕ) a * (S256x128.size a - 1) < S4096x128.size a)
    (x : S4096x128.Idx → Elt F .i32) : S256x128.Idx → Elt F .i32 := fun y => x ((slabRect h).idx y)

/-- The low halves of a block's words, and the high halves, as the body lays them out. -/
def lo (x : S4096x128.Idx → Elt F .i32) : S256x2048.Idx → Elt F .bf16 :=
  k0_pay20 (k0_pay4 (slab inb_S4096x128_S256x128_0_0_s_16_1 x)) (k0_pay6 (slab inb_S4096x128_S256x128_1_0_s_16_1 x)) (k0_pay8 (slab inb_S4096x128_S256x128_2_0_s_16_1 x)) (k0_pay10 (slab inb_S4096x128_S256x128_3_0_s_16_1 x)) (k0_pay12 (slab inb_S4096x128_S256x128_4_0_s_16_1 x)) (k0_pay14 (slab inb_S4096x128_S256x128_5_0_s_16_1 x)) (k0_pay16 (slab inb_S4096x128_S256x128_6_0_s_16_1 x)) (k0_pay18 (slab inb_S4096x128_S256x128_7_0_s_16_1 x))
    (slab inb_S4096x128_S256x128_8_0_s_16_1 x) (slab inb_S4096x128_S256x128_9_0_s_16_1 x) (slab inb_S4096x128_S256x128_10_0_s_16_1 x) (slab inb_S4096x128_S256x128_11_0_s_16_1 x) (slab inb_S4096x128_S256x128_12_0_s_16_1 x) (slab inb_S4096x128_S256x128_13_0_s_16_1 x) (slab inb_S4096x128_S256x128_14_0_s_16_1 x) (slab inb_S4096x128_S256x128_15_0_s_16_1 x)
def hi (x : S4096x128.Idx → Elt F .i32) : S256x2048.Idx → Elt F .bf16 :=
  k0_pay21 (k0_pay5 (slab inb_S4096x128_S256x128_0_0_s_16_1 x)) (k0_pay7 (slab inb_S4096x128_S256x128_1_0_s_16_1 x)) (k0_pay9 (slab inb_S4096x128_S256x128_2_0_s_16_1 x)) (k0_pay11 (slab inb_S4096x128_S256x128_3_0_s_16_1 x)) (k0_pay13 (slab inb_S4096x128_S256x128_4_0_s_16_1 x)) (k0_pay15 (slab inb_S4096x128_S256x128_5_0_s_16_1 x)) (k0_pay17 (slab inb_S4096x128_S256x128_6_0_s_16_1 x)) (k0_pay19 (slab inb_S4096x128_S256x128_7_0_s_16_1 x))
    (slab inb_S4096x128_S256x128_8_0_s_16_1 x) (slab inb_S4096x128_S256x128_9_0_s_16_1 x) (slab inb_S4096x128_S256x128_10_0_s_16_1 x) (slab inb_S4096x128_S256x128_11_0_s_16_1 x) (slab inb_S4096x128_S256x128_12_0_s_16_1 x) (slab inb_S4096x128_S256x128_13_0_s_16_1 x) (slab inb_S4096x128_S256x128_14_0_s_16_1 x) (slab inb_S4096x128_S256x128_15_0_s_16_1 x)

/-- The upper and the lower half of the rows of the weights held. -/
def top (w : S4096x512.Idx → Elt F .bf16) : S2048x512.Idx → Elt F .bf16 :=
  fun y => w ((Rect.unit (s := S4096x512) ![0, 0] S2048x512.size inb_S4096x512_S2048x512_0_0).toLoadRect.idx y)
def bot (w : S4096x512.Idx → Elt F .bf16) : S2048x512.Idx → Elt F .bf16 :=
  fun y => w ((Rect.unit (s := S4096x512) ![2048, 0] S2048x512.size inb_S4096x512_S2048x512_2048_0).toLoadRect.idx y)

/-- A tile's result from its packed rows and both rounded weights. -/
def out (x : S4096x128.Idx → Elt F .i32) (wg wu : S4096x512.Idx → Elt F .bf16) : S256x512.Idx → Elt F .bf16 :=
  k0_pay1 (lo x) (hi x) (top wg) (bot wg) (top wu) (bot wu)

section
variable (c : Dev nD) (i : grid0.Coords) (a3 : Memref sig .tc .vmem S4096x128 .i32) (h3 : a3.IsWhole)
  (a4 : Memref sig .tc .vmem S1x1x4096x512 .f32) (h4 : a4.IsWhole) (a5 : Memref sig .tc .vmem S1x1x4096x512 .f32) (h5 : a5.IsWhole)
  (a6 : Memref sig .tc .vmem S256x512 .bf16) (h6 : a6.IsWhole)
  (T0 : Exps) (T1 : Count) (x0 : S4096x128.Idx → Elt F .i32) (x1 x2 : S1x1x4096x512.Idx → Elt F .f32)

/-- The body on these memrefs. -/
abbrev body : Prog (TpuEff nD τ sig (Elt F) Λ₀ .tc) PUnit :=
  cc0_moe_expert_up i tbE (Memref.isWhole_whole _) tbN (Memref.isWhole_whole _) a3 h3 a4 h4 a5 h5 a6 h6 scG (Memref.isWhole_whole _) scU (Memref.isWhole_whole _)

/-- A load of a whole scratch buffer reads its contents. -/
theorem gate_read (xa : S4096x512.Idx → Elt F .bf16) : scG.view.read (Elt F) xa = xa := rfl
theorem up_read (xa : S4096x512.Idx → Elt F .bf16) : scU.view.read (Elt F) xa = xa := rfl

/-- A load of a scratch's rows. -/
theorem gate_readAt (r : LoadRect S4096x512) (xa : S4096x512.Idx → Elt F .bf16) : scG.view.readAt (Elt F) r xa = fun y => xa (r.idx y) := by
  funext y; rw [View.readAt_apply]; rfl
theorem up_readAt (r : LoadRect S4096x512) (xa : S4096x512.Idx → Elt F .bf16) : scU.view.readAt (Elt F) r xa = fun y => xa (r.idx y) := by
  funext y; rw [View.readAt_apply]; rfl

set_option backward.proofsInPublic true in
set_option maxHeartbeats 1000000 in
/-- A tile whose expert is new: the scratches take the rounded weights, and the result is made of them. -/
theorem run_new (hw : k0_chk1 i (wN (F := F) T1)) (h1 : k0_cond1 i (wN (F := F) T1) = 1#1) (h2 : isNew (F := F) T0 T1 i hw = 1#1)
    (xg xu : S4096x512.Idx → Elt F .bf16) (K : PUnit → sProp 𝕄) :
    held c a3 a4 a5 T0 T1 x0 x1 x2 iprop((∃ d, owns (c : Thread nD τ) a6 fullShare d) ∗ (scG.view.loc (c : Thread nD τ) ↦{fullShare} xg)
        ∗ (scU.view.loc (c : Thread nD τ) ↦{fullShare} xu)
        ∗ (held c a3 a4 a5 T0 T1 x0 x1 x2 iprop(owns (c : Thread nD τ) a6 fullShare (out x0 (rounded x1) (rounded x2))
            ∗ (scG.view.loc (c : Thread nD τ) ↦{fullShare} rounded x1) ∗ (scU.view.loc (c : Thread nD τ) ↦{fullShare} rounded x2)) -∗ K ⟨⟩))
      ⊢ wp frame (wpE (defs₀ (F := F)) Variants.none c none) Set.univ (body i a3 h3 a4 h4 a5 h5 a6 h6) K := by
  unfold owns
  unfold body
  rw [cc0_moe_expert_up_eq_skeleton]; unfold cc0_moe_expert_up_skel
  iintro ⟨H0, H1, H2, HT0, HT1, ⟨%d3, %f3, -, HO⟩, HG, HU, Hk⟩
  have hG : scG.IsWhole := Memref.isWhole_whole _
  have hU : scU.IsWhole := Memref.isWhole_whole _
  have hT0 : tbE.IsWhole := Memref.isWhole_whole _
  have hT1 : tbN.IsWhole := Memref.isWhole_whole _
  sl_exec! (disch := first | (guard_target = k0_chk1 _ _; exact hw) | (guard_target = k0_cond1 _ _ = _; exact h1) | (guard_target = Scalar.cmpi = _; exact h2))
  sl_step
  have eg : scG.view.writes (Elt F) scG.view.junk (run_new.sl.HG_1 a4 x1) = rounded x1 := by
    refine (gate_read _).symm.trans ?_
    delta run_new.sl.HG_1
    rw [View.read_writes_full, View.readAt_rep_full]
  have eu : scU.view.writes (Elt F) scU.view.junk (run_new.sl.HU_1 a5 x2) = rounded x2 := by
    refine (up_read _).symm.trans ?_
    delta run_new.sl.HU_1
    rw [View.read_writes_full, View.readAt_rep_full]
    rfl
  rw [eg, eu]
  iapply Hk
  isplitl [H0]; · iexact H0
  isplitl [H1]; · iexact H1
  isplitl [H2]; · iexact H2
  isplitl [HT0]; · iexact HT0
  isplitl [HT1]; · iexact HT1
  isplitl [HO]
  · iexists _; isplitr; swap
    · iexact HO
    · ipureintro
      delta run_new.sl.HO_1 run_new.sl.r_19 run_new.sl.r_20 run_new.sl.r_3 run_new.sl.r_4 run_new.sl.r_5 run_new.sl.r_6 run_new.sl.r_7 run_new.sl.r_8 run_new.sl.r_9 run_new.sl.r_10 run_new.sl.r_11 run_new.sl.r_12 run_new.sl.r_13 run_new.sl.r_14 run_new.sl.r_15 run_new.sl.r_16 run_new.sl.r_17 run_new.sl.r_18
      rw [View.read_writes_full]
      simp only [View.readAt_rep]
      have hv0 : run_new.sl.v100 a4 x1 = top (rounded x1) :=
        (congrArg (scG.view.readAt (Elt F) (Rect.unit (s := S4096x512) ![0, 0] S2048x512.size inb_S4096x512_S2048x512_0_0).toLoadRect) eg).trans (gate_readAt _ _)
      have hv1 : run_new.sl.v102 a4 x1 = bot (rounded x1) :=
        (congrArg (scG.view.readAt (Elt F) (Rect.unit (s := S4096x512) ![2048, 0] S2048x512.size inb_S4096x512_S2048x512_2048_0).toLoadRect) eg).trans (gate_readAt _ _)
      have hv2 : run_new.sl.v105 a5 x2 = top (rounded x2) :=
        (congrArg (scU.view.readAt (Elt F) (Rect.unit (s := S4096x512) ![0, 0] S2048x512.size inb_S4096x512_S2048x512_0_0).toLoadRect) eu).trans (up_readAt _ _)
      have hv3 : run_new.sl.v107 a5 x2 = bot (rounded x2) :=
        (congrArg (scU.view.readAt (Elt F) (Rect.unit (s := S4096x512) ![2048, 0] S2048x512.size inb_S4096x512_S2048x512_2048_0).toLoadRect) eu).trans (up_readAt _ _)
      rw [hv0, hv1, hv2, hv3]
      exact congr (congr (congr (congr (congr (congrArg k0_pay1 rfl) rfl) rfl) rfl) rfl) rfl
  isplitl [HG]; · iexact HG
  iexact HU

set_option backward.proofsInPublic true in
set_option maxHeartbeats 1000000 in
/-- A tile whose expert's weights the scratches already hold. -/
theorem run_held (hw : k0_chk1 i (wN (F := F) T1)) (h1 : k0_cond1 i (wN (F := F) T1) = 1#1) (h2 : ¬isNew (F := F) T0 T1 i hw = 1#1)
    (xg xu : S4096x512.Idx → Elt F .bf16) (K : PUnit → sProp 𝕄) :
    held c a3 a4 a5 T0 T1 x0 x1 x2 iprop((∃ d, owns (c : Thread nD τ) a6 fullShare d) ∗ (scG.view.loc (c : Thread nD τ) ↦{fullShare} xg)
        ∗ (scU.view.loc (c : Thread nD τ) ↦{fullShare} xu)
        ∗ (held c a3 a4 a5 T0 T1 x0 x1 x2 iprop(owns (c : Thread nD τ) a6 fullShare (out x0 xg xu)
            ∗ (scG.view.loc (c : Thread nD τ) ↦{fullShare} xg) ∗ (scU.view.loc (c : Thread nD τ) ↦{fullShare} xu)) -∗ K ⟨⟩))
      ⊢ wp frame (wpE (defs₀ (F := F)) Variants.none c none) Set.univ (body i a3 h3 a4 h4 a5 h5 a6 h6) K := by
  unfold owns
  unfold body
  rw [cc0_moe_expert_up_eq_skeleton]; unfold cc0_moe_expert_up_skel
  iintro ⟨H0, H1, H2, HT0, HT1, ⟨%d3, %f3, -, HO⟩, HG, HU, Hk⟩
  have hG : scG.IsWhole := Memref.isWhole_whole _
  have hU : scU.IsWhole := Memref.isWhole_whole _
  have hT0 : tbE.IsWhole := Memref.isWhole_whole _
  have hT1 : tbN.IsWhole := Memref.isWhole_whole _
  sl_exec! (disch := first | (guard_target = k0_chk1 _ _; exact hw) | (guard_target = k0_cond1 _ _ = _; exact h1) | (guard_target = ¬(Scalar.cmpi = _); exact h2))
  sl_step
  iapply Hk
  isplitl [H0]; · iexact H0
  isplitl [H1]; · iexact H1
  isplitl [H2]; · iexact H2
  isplitl [HT0]; · iexact HT0
  isplitl [HT1]; · iexact HT1
  isplitl [HO]
  · iexists _; isplitr; swap
    · iexact HO
    · ipureintro
      delta run_held.sl.HO_1 run_held.sl.r_19 run_held.sl.r_20 run_held.sl.r_3 run_held.sl.r_4 run_held.sl.r_5 run_held.sl.r_6 run_held.sl.r_7 run_held.sl.r_8 run_held.sl.r_9 run_held.sl.r_10 run_held.sl.r_11 run_held.sl.r_12 run_held.sl.r_13 run_held.sl.r_14 run_held.sl.r_15 run_held.sl.r_16 run_held.sl.r_17 run_held.sl.r_18
      rw [View.read_writes_full]
      simp only [View.readAt_rep]
      exact congr (congr (congr (congr (congr (congrArg k0_pay1 rfl) rfl) (gate_readAt _ _)) (gate_readAt _ _)) (up_readAt _ _)) (up_readAt _ _)
  isplitl [HG]; · iexact HG
  iexact HU

set_option backward.proofsInPublic true in
set_option maxHeartbeats 1000000 in
/-- A point past the tiles used: the result's block keeps what it had. -/
theorem run_idle (hw : k0_chk1 i (wN (F := F) T1)) (h1 : ¬k0_cond1 i (wN (F := F) T1) = 1#1) (d : S256x512.Idx → Elt F .bf16)
    (xg xu : S4096x512.Idx → Elt F .bf16) (K : PUnit → sProp 𝕄) :
    held c a3 a4 a5 T0 T1 x0 x1 x2 iprop(owns (c : Thread nD τ) a6 fullShare d ∗ (scG.view.loc (c : Thread nD τ) ↦{fullShare} xg)
        ∗ (scU.view.loc (c : Thread nD τ) ↦{fullShare} xu)
        ∗ (held c a3 a4 a5 T0 T1 x0 x1 x2 iprop(owns (c : Thread nD τ) a6 fullShare d
            ∗ (scG.view.loc (c : Thread nD τ) ↦{fullShare} xg) ∗ (scU.view.loc (c : Thread nD τ) ↦{fullShare} xu)) -∗ K ⟨⟩))
      ⊢ wp frame (wpE (defs₀ (F := F)) Variants.none c none) Set.univ (body i a3 h3 a4 h4 a5 h5 a6 h6) K := by
  unfold owns
  unfold body
  rw [cc0_moe_expert_up_eq_skeleton]; unfold cc0_moe_expert_up_skel
  iintro ⟨H0, H1, H2, HT0, HT1, ⟨%f3, %hf3, HO⟩, HG, HU, Hk⟩
  have hG : scG.IsWhole := Memref.isWhole_whole _
  have hU : scU.IsWhole := Memref.isWhole_whole _
  have hT1 : tbN.IsWhole := Memref.isWhole_whole _
  sl_exec! (disch := first | (guard_target = k0_chk1 _ _; exact hw) | (guard_target = ¬(k0_cond1 _ _ = _); exact h1))
  sl_step
  iapply Hk
  isplitl [H0]; · iexact H0
  isplitl [H1]; · iexact H1
  isplitl [H2]; · iexact H2
  isplitl [HT0]; · iexact HT0
  isplitl [HT1]; · iexact HT1
  isplitl [HO]
  · iexists _; isplitr; swap
    · iexact HO
    · ipureintro
      exact hf3
  isplitl [HG]; · iexact HG
  iexact HU

end
end Cert.Up

end
-- ==== Proof.Up.Schedule.lean ====
/- The up call's schedule at admissible tables: the block each window takes at a point, when the result's block is
   written back, when its buffer holds nothing yet, and the blocks' elements in the arrays. -/
module

public import proofs.«01_k».proof.Proof.Up.Body
public import Idealize.ShloMosaic.Lib.Pipeline.Value
public import Idealize.ShloMosaic.Lib.Pipeline.ValueKit

@[expose] public section

set_option maxRecDepth 16384

noncomputable section

namespace Cert.Up

open Cert.KernelIdeal Cert.KernelIdeal.Gen
open Idealize.ShloMosaic Idealize.ShloMosaic.TcCoe Idealize.ShloMosaic.Tactic

variable {F : FTy → Type} [FloatOps F]
variable {T0 : Exps} {T1 : Count} (hA : Admits T0 T1)

theorem N_eq : (cfgA (F := F) hA).N = 98 := N_0

/-- A point's one coordinate is its position. -/
abbrev crd (t : Fin (cfgA (F := F) hA).N) : grid0.Coords := (cfgA (F := F) hA).grid.coords t
theorem crd_val (t : Fin (cfgA (F := F) hA).N) : (crd hA t 0).val = t.val := by
  have h : t.val < 98 := t.isLt.trans_eq (N_eq (F := F) hA)
  exact (Pipeline.Grid.coords_val (G := grid0) t 0 (S := 1) (B := 98) (by decide) rfl).trans (by omega)

/-- The point whose tile and weights a point `n` works with: itself while tiles are in use, the last such after. -/
def pt (n : ℕ) : Fin (cfgA (F := F) hA).N := ⟨min n (nu T1 - 1), by have := hA.le; have := hA.pos; rw [N_eq]; show min n (T1 one1).toNat.pred < 98; simp only [Nat.pred_eq_sub_one]; omega⟩
theorem pt_val (n : ℕ) : (pt (F := F) hA n).val = min n (nu T1 - 1) := rfl
theorem pt_of_lt (t : Fin (cfgA (F := F) hA).N) (h : t.val < nu T1) : pt hA t.val = t := Fin.ext (by rw [pt_val]; omega)
theorem pt_of_le (n n' : ℕ) (h : nu T1 ≤ n + 1) (h' : nu T1 ≤ n' + 1) : pt (F := F) hA n = pt hA n' := Fin.ext (by rw [pt_val, pt_val]; omega)

theorem index0 (t : Fin (cfgA (F := F) hA).N) : ((cfgA hA).win (0 : Fin 4)).index t = ![min t.val (nu T1 - 1), 0] :=
  (tr0 hA (crd hA t)).trans (by rw [crd_val])
theorem index1 (t : Fin (cfgA (F := F) hA).N) :
    ((cfgA hA).win (1 : Fin 4)).index t = ![0, (T0 (at98 t.val (t.isLt.trans_eq (N_eq (F := F) hA)))).toNat, 0, 0] :=
  (tr1 (crd hA t)).trans (by
    have e : at98 (crd hA t 0).val (crd hA t 0).isLt = at98 t.val (t.isLt.trans_eq (N_eq (F := F) hA)) :=
      funext fun a => Fin.ext (crd_val hA t)
    rw [e])
theorem index2 (t : Fin (cfgA (F := F) hA).N) :
    ((cfgA hA).win (2 : Fin 4)).index t = ![0, (T0 (at98 t.val (t.isLt.trans_eq (N_eq (F := F) hA)))).toNat, 0, 0] :=
  (tr2 (crd hA t)).trans (by
    have e : at98 (crd hA t 0).val (crd hA t 0).isLt = at98 t.val (t.isLt.trans_eq (N_eq (F := F) hA)) :=
      funext fun a => Fin.ext (crd_val hA t)
    rw [e])
theorem index3 (t : Fin (cfgA (F := F) hA).N) : ((cfgA hA).win (3 : Fin 4)).index t = ![min t.val (nu T1 - 1), 0] :=
  (tr3 hA (crd hA t)).trans (by rw [crd_val])

/-- The result's block is written back after each tile in use, the last one's at the end. -/
theorem flush3 (t : Fin (cfgA (F := F) hA).N) :
    ((cfgA hA).win (3 : Fin 4)).flush t = decide (t.val + 1 = 98 ∨ t.val + 1 < nu T1) := by
  have hn : nu T1 ≤ 98 := hA.le
  have hN := N_eq (F := F) hA
  rw [Pipeline.Window.flush_eq_flushF, Bool.eq_iff_iff]
  unfold Pipeline.Window.flushF
  have ho : ((cfgA (F := F) hA).win (3 : Fin 4)).isOut = true := rfl
  rw [ho, Bool.true_and]
  simp only [Bool.or_eq_true, decide_eq_true_eq]
  have hg : (cfgA (F := F) hA).grid.N = 98 := hN
  constructor
  · rintro (h | ⟨h, a, ha⟩)
    · left; exact h.trans hg
    · right
      rw [index3, index3] at ha
      match a with
      | ⟨0, _⟩ =>
        have ha : min (t.val + 1) (nu T1 - 1) ≠ min t.val (nu T1 - 1) := ha
        omega
      | ⟨1, _⟩ => exact absurd rfl ha
  · rintro (h | h)
    · left; exact h.trans hg.symm
    · right
      refine ⟨lt_of_lt_of_eq (show t.val + 1 < 98 by omega) hg.symm, (0 : Fin 2), ?_⟩
      rw [index3, index3]
      show min (t.val + 1) (nu T1 - 1) ≠ min t.val (nu T1 - 1)
      omega

/-- The points past the tiles in use store nothing. -/
theorem idle3 (t : Fin (cfgA (F := F) hA).N) :
    (cfgA hA).idle (3 : Fin 4) ((cfgA hA).grid.coords t) = decide (nu T1 ≤ t.val) := by
  have h := cond1_iff (F := F) hA (crd hA t)
  rw [crd_val] at h
  have e : (cfgA (F := F) hA).idle (3 : Fin 4) ((cfgA hA).grid.coords t) = !(k0_cond1 (crd hA t) (wN (F := F) T1) == 1#1) := rfl
  rw [e, Bool.eq_iff_iff]
  simp only [Bool.not_eq_true', beq_eq_false_iff_ne, ne_eq, h, decide_eq_true_eq, not_lt]

/-- The result's buffer holds nothing yet at the tiles in use. -/
theorem fresh3 (n : ℕ) (h : n ≤ (cfgA (F := F) hA).N) : (cfgA (F := F) hA).fresh (3 : Fin 4) n = decide (n < nu T1 ∨ n = 98) := by
  have hn : nu T1 ≤ 98 := hA.le
  have hp : 1 ≤ nu T1 := hA.pos
  refine Pipeline.Cfg.fresh_tab (cfgA (F := F) hA) (3 : Fin 4) (fun n => decide (n < nu T1 ∨ n = 98)) (decide_eq_true (.inl hp)) (fun t => ?_) n h
  have ht : t.val < 98 := t.isLt.trans_eq (N_eq (F := F) hA)
  rw [flush3, idle3, Bool.eq_iff_iff]
  simp only [Bool.or_eq_true, Bool.and_eq_true, decide_eq_true_eq]
  omega

end Cert.Up

end
-- ==== Proof.Up.Frame.lean ====
/- The up call's run at admissible tables, over any float values: what its pipeline holds at each point, the
   body's obligation there, the launch, and what the run ends with. -/
module

public import proofs.«01_k».proof.Proof.Up.Schedule

@[expose] public section

set_option maxRecDepth 16384
set_option Elab.async false

noncomputable section

namespace Cert.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The embedding of the staging cells' resources. -/
abbrev EP : Emb (UR sig nD τ) (MT nD τ sig Unit (Elt F) ℕ (UR sig nD τ) ℕ) := emb₁

variable {T0 : Exps} {T1 : Count} (hA : Admits T0 T1)
variable (m : (ℓ : Loc nD τ sig) → Buf (Elt F) ℓ) (ρ : Dev nD → PrngReg)

/-- The state the run starts from. -/
abbrev s₀ : MemSt nD τ sig (Elt F) := ⟨m, fun _ => 0, ρ⟩

/-- The tables of the memory are the tables at hand. -/
abbrev Tables (T0 : Exps) (T1 : Count) : Prop :=
  (∀ c : Dev nD, m ((c.tc : Thread nD τ).loc main_arg0) = T0) ∧ ∀ c : Dev nD, m ((c.tc : Thread nD τ).loc main_arg1) = T1

abbrev ms0 (t : Fin (cfgA (F := F) hA).N) : Memref sig .tc .vmem S4096x128 .i32 := spec0_0.stage ((cfgA (F := F) hA).slots t (0 : Fin 4))
abbrev hs0 (t : Fin (cfgA (F := F) hA).N) : (ms0 hA t).IsWhole := hstage0_0 (((cfgA hA).slots t (0 : Fin 4)).cast nbuf0_0)
abbrev ms1 (t : Fin (cfgA (F := F) hA).N) : Memref sig .tc .vmem S1x1x4096x512 .f32 := spec0_1.stage ((cfgA (F := F) hA).slots t (1 : Fin 4))
abbrev hs1 (t : Fin (cfgA (F := F) hA).N) : (ms1 hA t).IsWhole := hstage0_1 (((cfgA hA).slots t (1 : Fin 4)).cast nbuf0_1)
abbrev ms2 (t : Fin (cfgA (F := F) hA).N) : Memref sig .tc .vmem S1x1x4096x512 .f32 := spec0_2.stage ((cfgA (F := F) hA).slots t (2 : Fin 4))
abbrev hs2 (t : Fin (cfgA (F := F) hA).N) : (ms2 hA t).IsWhole := hstage0_2 (((cfgA hA).slots t (2 : Fin 4)).cast nbuf0_2)
abbrev ms3 (t : Fin (cfgA (F := F) hA).N) : Memref sig .tc .vmem S256x512 .bf16 := spec0_3.stage ((cfgA (F := F) hA).slots t (3 : Fin 4))
abbrev hs3 (t : Fin (cfgA (F := F) hA).N) : (ms3 hA t).IsWhole := hstage0_3 (((cfgA hA).slots t (3 : Fin 4)).cast nbuf0_3)

/-- A window's block at a point, read from the memory the run starts from. -/
def iblk (c : Dev nD) (w : Fin (cfgA (F := F) hA).W) (t : Fin (cfgA (F := F) hA).N) :
    (((cfgA hA).win w).xblock (crd hA t)).Idx → Elt F ((cfgA (F := F) hA).win w).elt :=
  (((cfgA hA).win w).blk t).view.read (Elt F) (m (((cfgA hA).win w).arr.view.loc (c : Thread nD τ)))

/-- The index, in the array of all experts' weights, of an element of expert `e`'s block. -/
def wIx (e : BitVec 32) (he : e.toNat < 32) (y : S1x1x4096x512.Idx) : S2x32x4096x512.Idx := fun a =>
  ⟨(![0, e.toNat, (y 2).val, (y 3).val] : Fin 4 → ℕ) a, by
    match a with
    | ⟨0, _⟩ => show 0 < 2; omega
    | ⟨1, _⟩ => exact he
    | ⟨2, _⟩ => exact (y 2).isLt
    | ⟨3, _⟩ => exact (y 3).isLt⟩

/-- The gate weights' block at a point is its expert's. -/
theorem iblk1_apply (c : Dev nD) (t : Fin (cfgA (F := F) hA).N) (y : S1x1x4096x512.Idx) :
    iblk hA m c (1 : Fin 4) t y = m ((c : Thread nD τ).loc main_arg3)
      (wIx (T0 (at98 t.val (t.isLt.trans_eq (N_eq (F := F) hA)))) (hA.expert _) y) := by
  have e := index1 hA t
  have y0 : (y 0).val < 1 := (y 0).isLt
  have y1 : (y 1).val < 1 := (y 1).isLt
  refine congrArg (m ((c : Thread nD τ).loc main_arg3)) (funext fun a => Fin.ext ?_)
  refine (Pipeline.Window.rect_emb_val ((cfgA (F := F) hA).win (1 : Fin 4)) t y a rfl).trans ?_
  rw [e]
  match a with
  | ⟨0, _⟩ => show 0 * 1 + (y 0).val = 0; omega
  | ⟨1, _⟩ => show (T0 _).toNat * 1 + (y 1).val = (T0 _).toNat; omega
  | ⟨2, _⟩ => show 0 * 4096 + (y 2).val = (y 2).val; omega
  | ⟨3, _⟩ => show 0 * 512 + (y 3).val = (y 3).val; omega

/-- With the same expert two points take the same block of gate weights. -/
theorem iblk1_congr (c : Dev nD) (t t' : Fin (cfgA (F := F) hA).N)
    (h : T0 (at98 t.val (t.isLt.trans_eq (N_eq (F := F) hA))) = T0 (at98 t'.val (t'.isLt.trans_eq (N_eq (F := F) hA)))) :
    (iblk hA m c (1 : Fin 4) t : S1x1x4096x512.Idx → Elt F .f32) = iblk hA m c (1 : Fin 4) t' := by
  funext y
  refine (iblk1_apply hA m c t y).trans (Eq.trans ?_ (iblk1_apply hA m c t' y).symm)
  refine congrArg (m ((c : Thread nD τ).loc main_arg3)) (funext fun a => Fin.ext ?_)
  show (![0, _, _, _] : Fin 4 → ℕ) a = (![0, _, _, _] : Fin 4 → ℕ) a
  rw [h]

/-- The up weights' block at a point is its expert's. -/
theorem iblk2_apply (c : Dev nD) (t : Fin (cfgA (F := F) hA).N) (y : S1x1x4096x512.Idx) :
    iblk hA m c (2 : Fin 4) t y = m ((c : Thread nD τ).loc main_arg4)
      (wIx (T0 (at98 t.val (t.isLt.trans_eq (N_eq (F := F) hA)))) (hA.expert _) y) := by
  have e := index2 hA t
  have y0 : (y 0).val < 1 := (y 0).isLt
  have y1 : (y 1).val < 1 := (y 1).isLt
  refine congrArg (m ((c : Thread nD τ).loc main_arg4)) (funext fun a => Fin.ext ?_)
  refine (Pipeline.Window.rect_emb_val ((cfgA (F := F) hA).win (2 : Fin 4)) t y a rfl).trans ?_
  rw [e]
  match a with
  | ⟨0, _⟩ => show 0 * 1 + (y 0).val = 0; omega
  | ⟨1, _⟩ => show (T0 _).toNat * 1 + (y 1).val = (T0 _).toNat; omega
  | ⟨2, _⟩ => show 0 * 4096 + (y 2).val = (y 2).val; omega
  | ⟨3, _⟩ => show 0 * 512 + (y 3).val = (y 3).val; omega

/-- With the same expert two points take the same block of up weights. -/
theorem iblk2_congr (c : Dev nD) (t t' : Fin (cfgA (F := F) hA).N)
    (h : T0 (at98 t.val (t.isLt.trans_eq (N_eq (F := F) hA))) = T0 (at98 t'.val (t'.isLt.trans_eq (N_eq (F := F) hA)))) :
    (iblk hA m c (2 : Fin 4) t : S1x1x4096x512.Idx → Elt F .f32) = iblk hA m c (2 : Fin 4) t' := by
  funext y
  refine (iblk2_apply hA m c t y).trans (Eq.trans ?_ (iblk2_apply hA m c t' y).symm)
  refine congrArg (m ((c : Thread nD τ).loc main_arg4)) (funext fun a => Fin.ext ?_)
  show (![0, _, _, _] : Fin 4 → ℕ) a = (![0, _, _, _] : Fin 4 → ℕ) a
  rw [h]

/-- A point's tile's result. -/
def res (c : Dev nD) (t : Fin (cfgA (F := F) hA).N) : S256x512.Idx → Elt F .bf16 :=
  out (iblk hA m c (0 : Fin 4) t) (rounded (iblk hA m c (1 : Fin 4) t)) (rounded (iblk hA m c (2 : Fin 4) t))

/-- Before point `t` the scratches hold the rounded weights of the tile worked on last, and the body its halves of the tables. -/
def Phi (c : Dev nD) (t : Fin ((cfgA (F := F) hA).N + 1)) : sProp 𝕄 :=
  iprop((∃ a, ⌜t.val ≠ 0 → a = rounded (iblk hA m c (1 : Fin 4) (pt hA (t.val - 1)))⌝ ∗ (scG.view.loc (c : Thread nD τ) ↦{fullShare} a))
    ∗ (∃ a, ⌜t.val ≠ 0 → a = rounded (iblk hA m c (2 : Fin 4) (pt hA (t.val - 1)))⌝ ∗ (scU.view.loc (c : Thread nD τ) ↦{fullShare} a))
    ∗ (tbE.view.loc (c : Thread nD τ) ↦{fullShare.right} T0) ∗ (tbN.view.loc (c : Thread nD τ) ↦{fullShare.right} T1))

/-- What the pipeline's buffers hold after each point. -/
def dats (_ : Fin 1) (c : Dev nD) : Dat τ (Elt F) Unit ℕ (UR sig nD τ) ℕ (cfgA (F := F) hA) c where
  A w := (s₀ m ρ).mem (((cfgA hA).win w).arr.view.loc (c : Thread nD τ))
  after w t := match w with
    | ⟨0, _⟩ => iblk hA m c (0 : Fin 4) t
    | ⟨1, _⟩ => iblk hA m c (1 : Fin 4) t
    | ⟨2, _⟩ => iblk hA m c (2 : Fin 4) t
    | ⟨3, _⟩ => res hA m c (pt hA t.val)
  Φ t := Phi hA m c t
  q _ := fullShare
  owed _ := 0

theorem after0 (c : Dev nD) (t : Fin (cfgA (F := F) hA).N) : (dats hA m ρ 0 c).after (0 : Fin 4) t = iblk hA m c (0 : Fin 4) t := rfl
theorem after1 (c : Dev nD) (t : Fin (cfgA (F := F) hA).N) : (dats hA m ρ 0 c).after (1 : Fin 4) t = iblk hA m c (1 : Fin 4) t := rfl
theorem after2 (c : Dev nD) (t : Fin (cfgA (F := F) hA).N) : (dats hA m ρ 0 c).after (2 : Fin 4) t = iblk hA m c (2 : Fin 4) t := rfl
theorem after3 (c : Dev nD) (t : Fin (cfgA (F := F) hA).N) : (dats hA m ρ 0 c).after (3 : Fin 4) t = res hA m c (pt hA t.val) := rfl

theorem before0 (c : Dev nD) (t : Fin (cfgA (F := F) hA).N) (d) : (dats hA m ρ 0 c).before (0 : Fin 4) t d = iblk hA m c (0 : Fin 4) t :=
  ((dats hA m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA (F := F) hA).N) (d) : (dats hA m ρ 0 c).before (1 : Fin 4) t d = iblk hA m c (1 : Fin 4) t :=
  ((dats hA m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA (F := F) hA).N) (d) : (dats hA m ρ 0 c).before (2 : Fin 4) t d = iblk hA m c (2 : Fin 4) t :=
  ((dats hA m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- Past the tiles in use the result's buffer keeps the last tile's result. -/
theorem before3 (c : Dev nD) (t : Fin (cfgA (F := F) hA).N) (h : nu T1 ≤ t.val) (d) :
    (dats hA m ρ 0 c).before (3 : Fin 4) t d = res hA m c (pt hA t.val) := by
  have hp : 1 ≤ nu T1 := hA.pos
  have ht : t.val < 98 := t.isLt.trans_eq (N_eq (F := F) hA)
  have hcarry : ∀ (t : Fin (cfgA (F := F) hA).N) (ht : t.val ≠ 0), (cfgA hA).idle (3 : Fin 4) ((cfgA hA).grid.coords t) = true →
      (cfgA (F := F) hA).fresh (3 : Fin 4) t.val = false →
      (dats hA m ρ 0 c).after (3 : Fin 4) t = (dats hA m ρ 0 c).after (3 : Fin 4) ⟨t.val - 1, by omega⟩ := by
    intro t ht hi _
    rw [idle3, decide_eq_true_eq] at hi
    rw [after3, after3, pt_of_le hA t.val (t.val - 1) (by omega) (by omega)]
  rw [(dats hA m ρ 0 c).before_out_traj (3 : Fin 4) rfl (fun _ _ => rfl) hcarry t.val t rfl d, fresh3 hA t.val t.isLt.le,
    if_neg (by rw [decide_eq_true_eq]; omega), after3, pt_of_le hA t.val (t.val - 1) (by omega) (by omega)]

/-- The body at point `t` on its staging memrefs. -/
abbrev bodyAt (t : Fin (cfgA (F := F) hA).N) : Prog (TpuEff nD τ sig (Elt F) Λ₀ .tc) PUnit :=
  body (crd hA t) (ms0 hA t) (hs0 hA t) (ms1 hA t) (hs1 hA t) (ms2 hA t) (hs2 hA t) (ms3 hA t) (hs3 hA t)

set_option maxHeartbeats 4000000 in
/-- The body's obligation at point `t`, by the three cases. -/
theorem sound_body (hp : Tables (F := F) m T0 T1) (c : Dev nD) (t : Fin (cfgA (F := F) hA).N) :
    iprop((dats hA m ρ 0 c).Φ t.castSucc ∗ (dats hA m ρ 0 c).owesAt () t.castSucc
        ∗ (∃ d, owns (c : Thread nD τ) (ms0 hA t) fullShare ((dats hA m ρ 0 c).before (0 : Fin 4) t d))
        ∗ (∃ d, owns (c : Thread nD τ) (ms1 hA t) fullShare ((dats hA m ρ 0 c).before (1 : Fin 4) t d))
        ∗ (∃ d, owns (c : Thread nD τ) (ms2 hA t) fullShare ((dats hA m ρ 0 c).before (2 : Fin 4) t d))
        ∗ (∃ d, owns (c : Thread nD τ) (ms3 hA t) fullShare ((dats hA m ρ 0 c).before (3 : Fin 4) t d)))
      ⊢ wp frame (wpE (defs₀ (F := F)) Variants.none c none) Set.univ (bodyAt hA t) fun _ =>
          iprop((dats hA m ρ 0 c).Φ t.succ ∗ (dats hA m ρ 0 c).owesAt () t.succ
            ∗ bigSep Finset.univ fun w : Fin (cfgA (F := F) hA).W =>
                match (cfgA hA).idle w ((cfgA (F := F) hA).grid.coords t) with
                | true =>
                  match ((cfgA hA).win w).flush t with
                  | false => iprop(∃ d, owns (c : Thread nD τ) (((cfgA hA).win w).stage ((cfgA hA).slots t w)) fullShare ((dats hA m ρ 0 c).before w t d))
                  | true => owns (c : Thread nD τ) (((cfgA hA).win w).stage ((cfgA hA).slots t w)) fullShare ((dats hA m ρ 0 c).after w t)
                | false => owns (c : Thread nD τ) (((cfgA hA).win w).stage ((cfgA hA).slots t w)) fullShare ((dats hA m ρ 0 c).after w t)) := by
  rw [bigSep_W0]
  have hn : nu T1 ≤ 98 := hA.le
  have hu : 1 ≤ nu T1 := hA.pos
  have hw := chk1 (F := F) hA (crd hA t)
  have hc := cond1_iff (F := F) hA (crd hA t)
  rw [crd_val] at hc
  have i3 := idle3 (F := F) hA t
  rewrite [show (dats hA m ρ 0 c).Φ t.succ = Phi hA m c t.succ from rfl, show (dats hA m ρ 0 c).Φ t.castSucc = Phi hA m c t.castSucc from rfl,
    show (dats hA m ρ 0 c).owesAt () t.succ = (dats hA m ρ 0 c).owesAt () t.castSucc from rfl]
  by_cases hlt : t.val < nu T1
  · rw [decide_eq_false (show ¬nu T1 ≤ t.val by omega)] at i3
    have hpt := pt_of_lt hA t hlt
    rewrite [i3]
    simp only [before0, before1, before2, after0, after1, after2, after3]
    rw [hpt]
    unfold Phi
    simp only [Fin.val_castSucc, Fin.val_succ, Nat.add_one_sub_one]
    rw [hpt]
    iintro ⟨⟨⟨%a, %ha, HG⟩, ⟨%b, %hb, HU⟩, HT0, HT1⟩, Ho, ⟨%d0, H0⟩, ⟨%d1, H1⟩, ⟨%d2, H2⟩, ⟨%d3, H3⟩⟩
    by_cases hnew : isNew (F := F) T0 T1 (crd hA t) hw = 1#1
    · iapply (run_new c (crd hA t) (ms0 hA t) (hs0 hA t) (ms1 hA t) (hs1 hA t) (ms2 hA t) (hs2 hA t) (ms3 hA t) (hs3 hA t) T0 T1 (iblk hA m c (0 : Fin 4) t) (iblk hA m c (1 : Fin 4) t) (iblk hA m c (2 : Fin 4) t) hw (hc.2 hlt) hnew a b _)
      unfold held
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HG]; · iexact HG
      isplitl [HU]; · iexact HU
      iintro ⟨H0, H1, H2, HT0, HT1, H3, HG, HU⟩
      isplitl [HG HU HT0 HT1]
      · isplitl [HG]
        · iexists _; isplitr; swap
          · iexact HG
          · ipureintro; intro _; rfl
        isplitl [HU]
        · iexists _; isplitr; swap
          · iexact HU
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      iexact H3
    · obtain ⟨h0, hsame⟩ := same_of_not_new (F := F) hA (crd hA t) hw hnew (by rw [crd_val]; exact hlt)
      rw [crd_val] at h0
      have hs : T0 (at98 (pt (F := F) hA (t.val - 1)).val ((pt (F := F) hA (t.val - 1)).isLt.trans_eq (N_eq (F := F) hA)))
          = T0 (at98 t.val (t.isLt.trans_eq (N_eq (F := F) hA))) := by
        refine (congrArg T0 (funext fun b => Fin.ext ?_)).trans (hsame.symm.trans (congrArg T0 (funext fun b => Fin.ext (crd_val hA t))))
        show min (t.val - 1) (nu T1 - 1) = (crd hA t 0).val - 1
        rw [crd_val]; omega
      have hG : rounded (iblk hA m c (1 : Fin 4) (pt hA (t.val - 1))) = rounded (iblk hA m c (1 : Fin 4) t) :=
        congrArg (fun x => rounded x) (iblk1_congr hA m c _ _ hs)
      have hU : rounded (iblk hA m c (2 : Fin 4) (pt hA (t.val - 1))) = rounded (iblk hA m c (2 : Fin 4) t) :=
        congrArg (fun x => rounded x) (iblk2_congr hA m c _ _ hs)
      have hr : out (iblk hA m c (0 : Fin 4) t) a b = res hA m c t := by rw [ha h0, hb h0, hG, hU]; rfl
      iapply (run_held c (crd hA t) (ms0 hA t) (hs0 hA t) (ms1 hA t) (hs1 hA t) (ms2 hA t) (hs2 hA t) (ms3 hA t) (hs3 hA t) T0 T1 (iblk hA m c (0 : Fin 4) t) (iblk hA m c (1 : Fin 4) t) (iblk hA m c (2 : Fin 4) t) hw (hc.2 hlt) hnew a b _)
      unfold held
      rw [hr]
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HG]; · iexact HG
      isplitl [HU]; · iexact HU
      iintro ⟨H0, H1, H2, HT0, HT1, H3, HG, HU⟩
      isplitl [HG HU HT0 HT1]
      · isplitl [HG]
        · iexists _; isplitr; swap
          · iexact HG
          · ipureintro; intro _; rw [ha h0, hG]
        isplitl [HU]
        · iexists _; isplitr; swap
          · iexact HU
          · ipureintro; intro _; rw [hb h0, hU]
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      iexact H3
  · rw [decide_eq_true (show nu T1 ≤ t.val by omega)] at i3
    have hlt' : nu T1 ≤ t.val := by omega
    have hbef := fun d => before3 hA m ρ c t hlt' d
    have h0 : t.val ≠ 0 := by omega
    have hpt : pt (F := F) hA (t.val - 1) = pt hA t.val := pt_of_le hA _ _ (by omega) (by omega)
    rewrite [i3]
    simp only [before0, before1, before2, after0, after1, after2, after3, hbef]
    unfold Phi
    simp only [Fin.val_castSucc, Fin.val_succ, Nat.add_one_sub_one]
    rw [hpt]
    iintro ⟨⟨⟨%a, %ha, HG⟩, ⟨%b, %hb, HU⟩, HT0, HT1⟩, Ho, ⟨%d0, H0⟩, ⟨%d1, H1⟩, ⟨%d2, H2⟩, ⟨%d3, H3⟩⟩
    iapply (run_idle c (crd hA t) (ms0 hA t) (hs0 hA t) (ms1 hA t) (hs1 hA t) (ms2 hA t) (hs2 hA t) (ms3 hA t) (hs3 hA t) T0 T1 (iblk hA m c (0 : Fin 4) t) (iblk hA m c (1 : Fin 4) t) (iblk hA m c (2 : Fin 4) t) hw (fun h => hlt (hc.1 h)) _ a b _)
    unfold held
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexact H3
    isplitl [HG]; · iexact HG
    isplitl [HU]; · iexact HU
    iintro ⟨H0, H1, H2, HT0, HT1, H3, HG, HU⟩
    isplitl [HG HU HT0 HT1]
    · isplitl [HG]
      · iexists _; isplitr; swap
        · iexact HG
        · ipureintro; intro _; exact ha h0
      isplitl [HU]
      · iexists _; isplitr; swap
        · iexact HU
        · ipureintro; intro _; exact hb h0
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    cases ((cfgA (F := F) hA).win (3 : Fin 4)).flush t
    · iexists d3; iexact H3
    · iexact H3

/-- The body's obligation, at every point. -/
theorem body_obligation (hp : Tables (F := F) m T0 T1) (c : Dev nD) :
    BodyObligation (dats hA m ρ 0 c) (defs₀ (F := F)) Variants.none () Set.univ := fun t => by
  rw [bigSep_W0]
  exact sound_body hA m ρ hp c t

/-! ## The launch -/

/-- The pipelines at these tables, and the element the launch starts from. -/
abbrev pcs : Fin 1 → Cfg sig Λ₀ := Pipeline.pin (pcfgs (F := F)) fun _ => adm hA
def u₀ : UR sig nD τ :=
  initOf (Pipeline.cells (pcs (F := F) hA) ((launch0 (F := F)).cellOf_inj fun _ => adm hA))
    (Pipeline.launchToks (pcs (F := F) hA) ((launch0 (F := F)).cellOf_inj fun _ => adm hA))

theorem share_eq (c : Dev nD) (w : Fin (cfgA (F := F) hA).W) : (dats hA m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratches. -/
theorem phi_intro (c : Dev nD) :
    iprop(BI.emp ∗ Pipeline.prefHeld pre0 c (fun _ => fullShare.right) (adm (F := F) hA).1 ∗ Pipeline.scopedRest spec0 c) ⊢ (dats hA m ρ 0 c).Φ 0 := by
  rw [prefHeld_eq, scopedRest0_eq, show (dats hA m ρ 0 c).Φ 0 = Phi hA m c 0 from rfl]
  unfold Phi
  iintro ⟨-, ⟨HT0, HT1⟩, ⟨%a, HG⟩, ⟨%b, HU⟩⟩
  isplitl [HG]
  · iexists a; isplitr; swap
    · iexact HG
    · ipureintro; intro h; exact absurd rfl h
  isplitl [HU]
  · iexists b; isplitr; swap
    · iexact HU
    · ipureintro; intro h; exact absurd rfl h
  isplitl [HT0]
  · iexact HT0
  iexact HT1

/-- After the last point it gives the scratches back. -/
theorem phi_exit (c : Dev nD) : (dats hA m ρ 0 c).Φ (Fin.last (cfgA (F := F) hA).N) ⊢ iprop(BI.emp ∗ Pipeline.scopedRest spec0 c) := by
  rw [scopedRest0_eq, show (dats hA m ρ 0 c).Φ (Fin.last (cfgA hA).N) = Phi hA m c (Fin.last _) from rfl]
  unfold Phi
  iintro ⟨⟨%a, -, HG⟩, ⟨%b, -, HU⟩, -, -⟩
  isplitr; · iempintro
  isplitl [HG]
  · iexists a; iexact HG
  iexists b; iexact HU

/-- What the run ends with: every window's array as the pipeline leaves it, the tables as they were. -/
def Post : PUnit × MemSt nD τ sig (Elt F) → Prop := fun r =>
  ∀ c : Dev nD, (∀ w : Fin (cfgA (F := F) hA).W, r.2.mem (((cfgA (F := F) hA).win w).arr.view.loc (c : Thread nD τ)) = (dats hA m ρ 0 c).arrAt w (cfgA (F := F) hA).N)
    ∧ ∀ j, r.2.mem ((c : Thread nD τ).loc (pre0.ref j)) = (adm (F := F) hA).1 j

theorem V_pre (hp : Tables (F := F) m T0 T1) (c : Dev nD) (j : Fin 2) : m ((c : Thread nD τ).loc (pre0.ref j)) = (adm (F := F) hA).1 j := by
  fin_cases j
  · exact hp.1 c
  · exact hp.2 c

set_option backward.isDefEq.respectTransparency.types false in
set_option maxHeartbeats 4000000 in
/-- From any memory with these tables the run terminates without a fault, in such a state with every counter at zero. -/
theorem run_quiescent (hp : Tables (F := F) m T0 T1) :
    θ_run (defs (F := F)) (onTc (τ := τ) (main (F := F))) (s₀ m ρ) (fun r => Post hA m ρ r ∧ r.2.sem = fun _ => 0) :=
  Pipeline.θ_run_region_noSem_pf_quiescent pcfgs (fun _ => adm hA) (dats hA m ρ) () ((launch0 (F := F)).cellOf_inj fun _ => adm hA) (0 : Fin 1)
    (launch0 (F := F)).win.to₀ (launch0 (F := F)).pre EP defs₀ Variants.none m ρ main
    (hbody := fun c => (body_obligation hA m ρ hp c).loose) (hne := (launch0 (F := F)).block_pos)
    (harr := (launch0 (F := F)).arr_whole) (hstage := (launch0 (F := F)).stage_whole) (howed := fun _ _ => rfl)
    (u₀ := u₀ (F := F) hA) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hA) (dats hA m ρ) 0 (launch0 (F := F)).win.arr_inj c (launch0 (F := F)).arr_whole
      (share_eq hA m ρ c) _ _ fun _ => rfl)
    (hpf := V_pre hA m hp)
    (X := fun _ => iprop(emp)) (Y := fun _ => iprop(emp)) (Z := fun _ => iprop(emp))
    (hX := fun c => by rw [unscopedRestP0_eq]; iintro -; isplitr <;> iempintro)
    (hin := phi_intro hA m ρ)
    (hout := phi_exit hA m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run, with the arguments as they were, the result's array as the pipeline leaves it, and every counter at zero. -/
theorem run (hp : Tables (F := F) m T0 T1) :
    θ_run (defs (F := F)) (onTc (τ := τ) (main (F := F))) ⟨m, fun _ => 0, ρ⟩ (fun r => (∀ c : Dev nD,
      r.2.mem ((c.tc : Thread nD τ).loc main_v0) = (dats hA m ρ 0 c).arrAt (3 : Fin 4) (cfgA (F := F) hA).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2 0).trans (hp.1 c).symm, ((h.1 c).2 1).trans (hp.2 c).symm,
      ((h.1 c).1 (0 : Fin 4)).trans ((dats hA m ρ 0 c).arrAt_in (0 : Fin 4) rfl _),
      ((h.1 c).1 (1 : Fin 4)).trans ((dats hA m ρ 0 c).arrAt_in (1 : Fin 4) rfl _),
      ((h.1 c).1 (2 : Fin 4)).trans ((dats hA m ρ 0 c).arrAt_in (2 : Fin 4) rfl _)⟩, h.2⟩) (run_quiescent hA m ρ hp)

end Cert.Up

end
-- ==== Proof.Down.Body.lean ====
/- The down call's body at one grid point, on its blocks in fast memory, in its three cases: a tile whose expert is
   new (the weights are rounded into the scratch buffer and used), a tile of the expert already held (the scratch
   is used as it stands), and a point past the tiles used (nothing happens). -/
module

public import proofs.«01_k».proof.Proof.Down.Tables
public import Idealize.ShloMosaic.Lib.VecWindow

@[expose] public section

set_option maxRecDepth 16384
set_option Elab.async false

noncomputable section

namespace Cert.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body holds besides its result and its scratch: the two input blocks, and its halves of the tables. -/
abbrev held (c : Dev nD) (a3 : Memref sig .tc .vmem S256x512 .bf16) (a4 : Memref sig .tc .vmem S1x1x512x4096 .f32)
    (T0 : Exps) (T1 : Count) (x0 : S256x512.Idx → Elt F .bf16) (x1 : S1x1x512x4096.Idx → Elt F .f32) (R : sProp 𝕄) : sProp 𝕄 :=
  iprop((a3.view.loc (c : Thread nD τ) ↦[a3.view.set]{fullShare} a3.view.rep x0)
    ∗ (a4.view.loc (c : Thread nD τ) ↦[a4.view.set]{fullShare} a4.view.rep x1)
    ∗ (tbE.view.loc (c : Thread nD τ) ↦{fullShare.right} T0)
    ∗ (tbN.view.loc (c : Thread nD τ) ↦{fullShare.right} T1) ∗ R)

/-- A tile's result from its activations and its rounded weights; the rounded weights of a block. -/
abbrev out (x0 : S256x512.Idx → Elt F .bf16) (w : S512x4096.Idx → Elt F .bf16) : S256x4096.Idx → Elt F .f32 := k0_pay2 x0 w
abbrev rounded (x1 : S1x1x512x4096.Idx → Elt F .f32) : S512x4096.Idx → Elt F .bf16 := k0_pay1 x1

section
variable (c : Dev nD) (i : grid0.Coords) (a3 : Memref sig .tc .vmem S256x512 .bf16) (h3 : a3.IsWhole)
  (a4 : Memref sig .tc .vmem S1x1x512x4096 .f32) (h4 : a4.IsWhole) (a5 : Memref sig .tc .vmem S256x4096 .f32) (h5 : a5.IsWhole)
  (T0 : Exps) (T1 : Count) (x0 : S256x512.Idx → Elt F .bf16) (x1 : S1x1x512x4096.Idx → Elt F .f32)

/-- The body on these memrefs. -/
abbrev body : Prog (TpuEff nD τ sig (Elt F) Λ₀ .tc) PUnit :=
  cc0_moe_expert_down i tbE (Memref.isWhole_whole _) tbN (Memref.isWhole_whole _) a3 h3 a4 h4 a5 h5 scW (Memref.isWhole_whole _)

/-- A load of the whole scratch buffer reads its contents. -/
theorem scratch_read (xa : S512x4096.Idx → Elt F .bf16) : scW.view.read (Elt F) xa = xa := rfl

set_option backward.proofsInPublic true in
set_option maxHeartbeats 4000000 in
/-- A tile whose expert is new: the scratch takes the rounded weights, and the result is their product. -/
theorem run_new (hw : k0_chk1 i (wN (F := F) T1)) (h1 : k0_cond1 i (wN (F := F) T1) = 1#1) (h2 : isNew (F := F) T0 T1 i hw = 1#1)
    (xa : S512x4096.Idx → Elt F .bf16) (K : PUnit → sProp 𝕄) :
    held c a3 a4 T0 T1 x0 x1 iprop((∃ d, owns (c : Thread nD τ) a5 fullShare d) ∗ (scW.view.loc (c : Thread nD τ) ↦{fullShare} xa)
        ∗ (held c a3 a4 T0 T1 x0 x1 iprop(owns (c : Thread nD τ) a5 fullShare (out x0 (rounded x1))
            ∗ (scW.view.loc (c : Thread nD τ) ↦{fullShare} rounded x1)) -∗ K ⟨⟩))
      ⊢ wp frame (wpE (defs₀ (F := F)) Variants.none c none) Set.univ (body i a3 h3 a4 h4 a5 h5) K := by
  unfold owns
  unfold body
  rw [cc0_moe_expert_down_eq_skeleton]; unfold cc0_moe_expert_down_skel
  iintro ⟨H0, H1, HT0, HT1, ⟨%d2, %f2, -, HO2⟩, HS0, Hk⟩
  have hS0 : scW.IsWhole := Memref.isWhole_whole _
  have hT0 : tbE.IsWhole := Memref.isWhole_whole _
  have hT1 : tbN.IsWhole := Memref.isWhole_whole _
  sl_exec! (disch := first | (guard_target = k0_chk1 _ _; exact hw) | (guard_target = k0_cond1 _ _ = _; exact h1) | (guard_target = Scalar.cmpi = _; exact h2))
  sl_step
  have e : scW.view.writes (Elt F) scW.view.junk (run_new.sl.HS0_1 a4 x1) = rounded x1 := by
    refine (scratch_read _).symm.trans ?_
    delta run_new.sl.HS0_1
    rw [View.read_writes_full, View.readAt_rep_full]
  rw [e]
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      delta run_new.sl.HO2_1 run_new.sl.v19 run_new.sl.HS0_1
      rw [View.read_writes_full, View.readAt_rep_full, View.readCov_full, View.readAt_rep_full]
  iexact HS0

set_option backward.proofsInPublic true in
set_option maxHeartbeats 4000000 in
/-- A tile whose expert's weights the scratch already holds. -/
theorem run_held (hw : k0_chk1 i (wN (F := F) T1)) (h1 : k0_cond1 i (wN (F := F) T1) = 1#1) (h2 : ¬isNew (F := F) T0 T1 i hw = 1#1)
    (xa : S512x4096.Idx → Elt F .bf16) (K : PUnit → sProp 𝕄) :
    held c a3 a4 T0 T1 x0 x1 iprop((∃ d, owns (c : Thread nD τ) a5 fullShare d) ∗ (scW.view.loc (c : Thread nD τ) ↦{fullShare} xa)
        ∗ (held c a3 a4 T0 T1 x0 x1 iprop(owns (c : Thread nD τ) a5 fullShare (out x0 xa)
            ∗ (scW.view.loc (c : Thread nD τ) ↦{fullShare} xa)) -∗ K ⟨⟩))
      ⊢ wp frame (wpE (defs₀ (F := F)) Variants.none c none) Set.univ (body i a3 h3 a4 h4 a5 h5) K := by
  unfold owns
  unfold body
  rw [cc0_moe_expert_down_eq_skeleton]; unfold cc0_moe_expert_down_skel
  iintro ⟨H0, H1, HT0, HT1, ⟨%d2, %f2, -, HO2⟩, HS0, Hk⟩
  have hS0 : scW.IsWhole := Memref.isWhole_whole _
  have hT0 : tbE.IsWhole := Memref.isWhole_whole _
  have hT1 : tbN.IsWhole := Memref.isWhole_whole _
  sl_exec! (disch := first | (guard_target = k0_chk1 _ _; exact hw) | (guard_target = k0_cond1 _ _ = _; exact h1) | (guard_target = ¬(Scalar.cmpi = _); exact h2))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      delta run_held.sl.HO2_1
      rw [View.read_writes_full, View.readAt_rep_full, View.readAt_full, scratch_read]
  iexact HS0

set_option backward.proofsInPublic true in
set_option maxHeartbeats 4000000 in
/-- A point past the tiles used: the result's block keeps what it had. -/
theorem run_idle (hw : k0_chk1 i (wN (F := F) T1)) (h1 : ¬k0_cond1 i (wN (F := F) T1) = 1#1) (d : S256x4096.Idx → Elt F .f32)
    (xa : S512x4096.Idx → Elt F .bf16) (K : PUnit → sProp 𝕄) :
    held c a3 a4 T0 T1 x0 x1 iprop(owns (c : Thread nD τ) a5 fullShare d ∗ (scW.view.loc (c : Thread nD τ) ↦{fullShare} xa)
        ∗ (held c a3 a4 T0 T1 x0 x1 iprop(owns (c : Thread nD τ) a5 fullShare d
            ∗ (scW.view.loc (c : Thread nD τ) ↦{fullShare} xa)) -∗ K ⟨⟩))
      ⊢ wp frame (wpE (defs₀ (F := F)) Variants.none c none) Set.univ (body i a3 h3 a4 h4 a5 h5) K := by
  unfold owns
  unfold body
  rw [cc0_moe_expert_down_eq_skeleton]; unfold cc0_moe_expert_down_skel
  iintro ⟨H0, H1, HT0, HT1, ⟨%f2, %hf2, HO2⟩, HS0, Hk⟩
  have hS0 : scW.IsWhole := Memref.isWhole_whole _
  have hT1 : tbN.IsWhole := Memref.isWhole_whole _
  sl_exec! (disch := first | (guard_target = k0_chk1 _ _; exact hw) | (guard_target = ¬(k0_cond1 _ _ = _); exact h1))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro; exact hf2
  iexact HS0

end
end Cert.Down

end
-- ==== Proof.Down.Schedule.lean ====
/- The down call's schedule at admissible tables: the block each window takes at a point, when the result's block is
   written back, when its buffer holds nothing yet, and the blocks' elements in the arrays. -/
module

public import proofs.«01_k».proof.Proof.Down.Body
public import Idealize.ShloMosaic.Lib.Pipeline.Value
public import Idealize.ShloMosaic.Lib.Pipeline.ValueKit

@[expose] public section

set_option maxRecDepth 16384

noncomputable section

namespace Cert.Down

open Cert.Kernel2Ideal Cert.Kernel2Ideal.Gen
open Idealize.ShloMosaic Idealize.ShloMosaic.TcCoe Idealize.ShloMosaic.Tactic

variable {F : FTy → Type} [FloatOps F]
variable {T0 : Exps} {T1 : Count} (hA : Admits T0 T1)

theorem N_eq : (cfgA (F := F) hA).N = 98 := N_0

/-- A point's one coordinate is its position. -/
abbrev crd (t : Fin (cfgA (F := F) hA).N) : grid0.Coords := (cfgA (F := F) hA).grid.coords t
theorem crd_val (t : Fin (cfgA (F := F) hA).N) : (crd hA t 0).val = t.val := by
  have h : t.val < 98 := t.isLt.trans_eq (N_eq (F := F) hA)
  exact (Pipeline.Grid.coords_val (G := grid0) t 0 (S := 1) (B := 98) (by decide) rfl).trans (by omega)

/-- The point whose tile and weights a point `n` works with: itself while tiles are in use, the last such after. -/
def pt (n : ℕ) : Fin (cfgA (F := F) hA).N := ⟨min n (nu T1 - 1), by have := hA.le; have := hA.pos; rw [N_eq]; show min n (T1 one1).toNat.pred < 98; simp only [Nat.pred_eq_sub_one]; omega⟩
theorem pt_val (n : ℕ) : (pt (F := F) hA n).val = min n (nu T1 - 1) := rfl
theorem pt_of_lt (t : Fin (cfgA (F := F) hA).N) (h : t.val < nu T1) : pt hA t.val = t := Fin.ext (by rw [pt_val]; omega)
theorem pt_of_le (n n' : ℕ) (h : nu T1 ≤ n + 1) (h' : nu T1 ≤ n' + 1) : pt (F := F) hA n = pt hA n' := Fin.ext (by rw [pt_val, pt_val]; omega)

theorem index0 (t : Fin (cfgA (F := F) hA).N) : ((cfgA hA).win (0 : Fin 3)).index t = ![min t.val (nu T1 - 1), 0] :=
  (tr0 hA (crd hA t)).trans (by rw [crd_val])
theorem index1 (t : Fin (cfgA (F := F) hA).N) :
    ((cfgA hA).win (1 : Fin 3)).index t = ![0, (T0 (at98 t.val (t.isLt.trans_eq (N_eq (F := F) hA)))).toNat, 0, 0] :=
  (tr1 (crd hA t)).trans (by
    have e : at98 (crd hA t 0).val (crd hA t 0).isLt = at98 t.val (t.isLt.trans_eq (N_eq (F := F) hA)) :=
      funext fun a => Fin.ext (crd_val hA t)
    rw [e])
theorem index2 (t : Fin (cfgA (F := F) hA).N) : ((cfgA hA).win (2 : Fin 3)).index t = ![min t.val (nu T1 - 1), 0] :=
  (tr2 hA (crd hA t)).trans (by rw [crd_val])

/-- The result's block is written back after each tile in use, the last one's at the end. -/
theorem flush2 (t : Fin (cfgA (F := F) hA).N) :
    ((cfgA hA).win (2 : Fin 3)).flush t = decide (t.val + 1 = 98 ∨ t.val + 1 < nu T1) := by
  have hn : nu T1 ≤ 98 := hA.le
  have hN := N_eq (F := F) hA
  rw [Pipeline.Window.flush_eq_flushF, Bool.eq_iff_iff]
  unfold Pipeline.Window.flushF
  have ho : ((cfgA (F := F) hA).win (2 : Fin 3)).isOut = true := rfl
  rw [ho, Bool.true_and]
  simp only [Bool.or_eq_true, decide_eq_true_eq]
  have hg : (cfgA (F := F) hA).grid.N = 98 := hN
  constructor
  · rintro (h | ⟨h, a, ha⟩)
    · left; exact h.trans hg
    · right
      rw [index2, index2] at ha
      match a with
      | ⟨0, _⟩ =>
        have ha : min (t.val + 1) (nu T1 - 1) ≠ min t.val (nu T1 - 1) := ha
        omega
      | ⟨1, _⟩ => exact absurd rfl ha
  · rintro (h | h)
    · left; exact h.trans hg.symm
    · right
      refine ⟨lt_of_lt_of_eq (show t.val + 1 < 98 by omega) hg.symm, (0 : Fin 2), ?_⟩
      rw [index2, index2]
      show min (t.val + 1) (nu T1 - 1) ≠ min t.val (nu T1 - 1)
      omega

/-- The points past the tiles in use store nothing. -/
theorem idle2 (t : Fin (cfgA (F := F) hA).N) :
    (cfgA hA).idle (2 : Fin 3) ((cfgA hA).grid.coords t) = decide (nu T1 ≤ t.val) := by
  have h := cond1_iff (F := F) hA (crd hA t)
  rw [crd_val] at h
  have e : (cfgA (F := F) hA).idle (2 : Fin 3) ((cfgA hA).grid.coords t) = !(k0_cond1 (crd hA t) (wN (F := F) T1) == 1#1) := rfl
  rw [e, Bool.eq_iff_iff]
  simp only [Bool.not_eq_true', beq_eq_false_iff_ne, ne_eq, h, decide_eq_true_eq, not_lt]

/-- The result's buffer holds nothing yet at the tiles in use. -/
theorem fresh2 (n : ℕ) (h : n ≤ (cfgA (F := F) hA).N) : (cfgA (F := F) hA).fresh (2 : Fin 3) n = decide (n < nu T1 ∨ n = 98) := by
  have hn : nu T1 ≤ 98 := hA.le
  have hp : 1 ≤ nu T1 := hA.pos
  refine Pipeline.Cfg.fresh_tab (cfgA (F := F) hA) (2 : Fin 3) (fun n => decide (n < nu T1 ∨ n = 98)) (decide_eq_true (.inl hp)) (fun t => ?_) n h
  have ht : t.val < 98 := t.isLt.trans_eq (N_eq (F := F) hA)
  rw [flush2, idle2, Bool.eq_iff_iff]
  simp only [Bool.or_eq_true, Bool.and_eq_true, decide_eq_true_eq]
  omega

end Cert.Down

end
-- ==== Proof.Down.Frame.lean ====
/- The down call's run at admissible tables, over any float values: what its pipeline holds at each point, the
   body's obligation there, the launch, and what the run ends with. -/
module

public import proofs.«01_k».proof.Proof.Down.Schedule

@[expose] public section

set_option maxRecDepth 16384
set_option Elab.async false

noncomputable section

namespace Cert.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The embedding of the staging cells' resources. -/
abbrev EP : Emb (UR sig nD τ) (MT nD τ sig Unit (Elt F) ℕ (UR sig nD τ) ℕ) := emb₁

variable {T0 : Exps} {T1 : Count} (hA : Admits T0 T1)
variable (m : (ℓ : Loc nD τ sig) → Buf (Elt F) ℓ) (ρ : Dev nD → PrngReg)

/-- The state the run starts from. -/
abbrev s₀ : MemSt nD τ sig (Elt F) := ⟨m, fun _ => 0, ρ⟩

/-- The tables of the memory are the tables at hand. -/
abbrev Tables (T0 : Exps) (T1 : Count) : Prop :=
  (∀ c : Dev nD, m ((c.tc : Thread nD τ).loc main_arg0) = T0) ∧ ∀ c : Dev nD, m ((c.tc : Thread nD τ).loc main_arg1) = T1

abbrev ms0 (t : Fin (cfgA (F := F) hA).N) : Memref sig .tc .vmem S256x512 .bf16 := spec0_0.stage ((cfgA (F := F) hA).slots t (0 : Fin 3))
abbrev hs0 (t : Fin (cfgA (F := F) hA).N) : (ms0 hA t).IsWhole := hstage0_0 (((cfgA hA).slots t (0 : Fin 3)).cast nbuf0_0)
abbrev ms1 (t : Fin (cfgA (F := F) hA).N) : Memref sig .tc .vmem S1x1x512x4096 .f32 := spec0_1.stage ((cfgA (F := F) hA).slots t (1 : Fin 3))
abbrev hs1 (t : Fin (cfgA (F := F) hA).N) : (ms1 hA t).IsWhole := hstage0_1 (((cfgA hA).slots t (1 : Fin 3)).cast nbuf0_1)
abbrev ms2 (t : Fin (cfgA (F := F) hA).N) : Memref sig .tc .vmem S256x4096 .f32 := spec0_2.stage ((cfgA (F := F) hA).slots t (2 : Fin 3))
abbrev hs2 (t : Fin (cfgA (F := F) hA).N) : (ms2 hA t).IsWhole := hstage0_2 (((cfgA hA).slots t (2 : Fin 3)).cast nbuf0_2)

/-- A window's block at a point, read from the memory the run starts from. -/
def iblk (c : Dev nD) (w : Fin (cfgA (F := F) hA).W) (t : Fin (cfgA (F := F) hA).N) :
    (((cfgA hA).win w).xblock (crd hA t)).Idx → Elt F ((cfgA (F := F) hA).win w).elt :=
  (((cfgA hA).win w).blk t).view.read (Elt F) (m (((cfgA hA).win w).arr.view.loc (c : Thread nD τ)))

/-- The index, in the array of all experts' weights, of an element of expert `e`'s block. -/
def wIx (e : BitVec 32) (he : e.toNat < 32) (y : S1x1x512x4096.Idx) : S2x32x512x4096.Idx := fun a =>
  ⟨(![0, e.toNat, (y 2).val, (y 3).val] : Fin 4 → ℕ) a, by
    match a with
    | ⟨0, _⟩ => show 0 < 2; omega
    | ⟨1, _⟩ => exact he
    | ⟨2, _⟩ => exact (y 2).isLt
    | ⟨3, _⟩ => exact (y 3).isLt⟩

/-- The weights' block at a point is its expert's. -/
theorem iblk1_apply (c : Dev nD) (t : Fin (cfgA (F := F) hA).N) (y : S1x1x512x4096.Idx) :
    iblk hA m c (1 : Fin 3) t y = m ((c : Thread nD τ).loc main_arg3)
      (wIx (T0 (at98 t.val (t.isLt.trans_eq (N_eq (F := F) hA)))) (hA.expert _) y) := by
  have e := index1 hA t
  have y0 : (y 0).val < 1 := (y 0).isLt
  have y1 : (y 1).val < 1 := (y 1).isLt
  refine congrArg (m ((c : Thread nD τ).loc main_arg3)) (funext fun a => Fin.ext ?_)
  refine (Pipeline.Window.rect_emb_val ((cfgA (F := F) hA).win (1 : Fin 3)) t y a rfl).trans ?_
  rw [e]
  match a with
  | ⟨0, _⟩ => show 0 * 1 + (y 0).val = 0; omega
  | ⟨1, _⟩ => show (T0 _).toNat * 1 + (y 1).val = (T0 _).toNat; omega
  | ⟨2, _⟩ => show 0 * 512 + (y 2).val = (y 2).val; omega
  | ⟨3, _⟩ => show 0 * 4096 + (y 3).val = (y 3).val; omega

/-- With the same expert two points take the same block of weights. -/
theorem iblk1_congr (c : Dev nD) (t t' : Fin (cfgA (F := F) hA).N)
    (h : T0 (at98 t.val (t.isLt.trans_eq (N_eq (F := F) hA))) = T0 (at98 t'.val (t'.isLt.trans_eq (N_eq (F := F) hA)))) :
    (iblk hA m c (1 : Fin 3) t : S1x1x512x4096.Idx → Elt F .f32) = iblk hA m c (1 : Fin 3) t' := by
  funext y
  refine (iblk1_apply hA m c t y).trans (Eq.trans ?_ (iblk1_apply hA m c t' y).symm)
  refine congrArg (m ((c : Thread nD τ).loc main_arg3)) (funext fun a => Fin.ext ?_)
  show (![0, _, _, _] : Fin 4 → ℕ) a = (![0, _, _, _] : Fin 4 → ℕ) a
  rw [h]

/-- A point's tile's result. -/
def res (c : Dev nD) (t : Fin (cfgA (F := F) hA).N) : S256x4096.Idx → Elt F .f32 :=
  out (iblk hA m c (0 : Fin 3) t) (rounded (iblk hA m c (1 : Fin 3) t))

/-- Before point `t` the scratch holds the rounded weights of the tile worked on last, and the body its halves of the tables. -/
def Phi (c : Dev nD) (t : Fin ((cfgA (F := F) hA).N + 1)) : sProp 𝕄 :=
  iprop((∃ a, ⌜t.val ≠ 0 → a = rounded (iblk hA m c (1 : Fin 3) (pt hA (t.val - 1)))⌝ ∗ (scW.view.loc (c : Thread nD τ) ↦{fullShare} a))
    ∗ (tbE.view.loc (c : Thread nD τ) ↦{fullShare.right} T0) ∗ (tbN.view.loc (c : Thread nD τ) ↦{fullShare.right} T1))

/-- What the pipeline's buffers hold after each point. -/
def dats (_ : Fin 1) (c : Dev nD) : Dat τ (Elt F) Unit ℕ (UR sig nD τ) ℕ (cfgA (F := F) hA) c where
  A w := (s₀ m ρ).mem (((cfgA hA).win w).arr.view.loc (c : Thread nD τ))
  after w t := match w with
    | ⟨0, _⟩ => iblk hA m c (0 : Fin 3) t
    | ⟨1, _⟩ => iblk hA m c (1 : Fin 3) t
    | ⟨2, _⟩ => res hA m c (pt hA t.val)
  Φ t := Phi hA m c t
  q _ := fullShare
  owed _ := 0

theorem after0 (c : Dev nD) (t : Fin (cfgA (F := F) hA).N) : (dats hA m ρ 0 c).after (0 : Fin 3) t = iblk hA m c (0 : Fin 3) t := rfl
theorem after1 (c : Dev nD) (t : Fin (cfgA (F := F) hA).N) : (dats hA m ρ 0 c).after (1 : Fin 3) t = iblk hA m c (1 : Fin 3) t := rfl
theorem after2 (c : Dev nD) (t : Fin (cfgA (F := F) hA).N) : (dats hA m ρ 0 c).after (2 : Fin 3) t = res hA m c (pt hA t.val) := rfl

theorem before0 (c : Dev nD) (t : Fin (cfgA (F := F) hA).N) (d) : (dats hA m ρ 0 c).before (0 : Fin 3) t d = iblk hA m c (0 : Fin 3) t :=
  ((dats hA m ρ 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA (F := F) hA).N) (d) : (dats hA m ρ 0 c).before (1 : Fin 3) t d = iblk hA m c (1 : Fin 3) t :=
  ((dats hA m ρ 0 c).before_in_eq_fetched (1 : Fin 3) rfl (fun _ => rfl) (fun _ _ _ => rfl) (fun t => by rw [after1]; unfold Dat.blockOf iblk; rfl) t d).trans
    (by unfold Dat.fetched Dat.blockOf iblk; rfl)

/-- Past the tiles in use the result's buffer keeps the last tile's result. -/
theorem before2 (c : Dev nD) (t : Fin (cfgA (F := F) hA).N) (h : nu T1 ≤ t.val) (d) :
    (dats hA m ρ 0 c).before (2 : Fin 3) t d = res hA m c (pt hA t.val) := by
  have hp : 1 ≤ nu T1 := hA.pos
  have ht : t.val < 98 := t.isLt.trans_eq (N_eq (F := F) hA)
  have hcarry : ∀ (t : Fin (cfgA (F := F) hA).N) (ht : t.val ≠ 0), (cfgA hA).idle (2 : Fin 3) ((cfgA hA).grid.coords t) = true →
      (cfgA (F := F) hA).fresh (2 : Fin 3) t.val = false →
      (dats hA m ρ 0 c).after (2 : Fin 3) t = (dats hA m ρ 0 c).after (2 : Fin 3) ⟨t.val - 1, by omega⟩ := by
    intro t ht hi _
    rw [idle2, decide_eq_true_eq] at hi
    rw [after2, after2, pt_of_le hA t.val (t.val - 1) (by omega) (by omega)]
  rw [(dats hA m ρ 0 c).before_out_traj (2 : Fin 3) rfl (fun _ _ => rfl) hcarry t.val t rfl d, fresh2 hA t.val t.isLt.le,
    if_neg (by rw [decide_eq_true_eq]; omega), after2, pt_of_le hA t.val (t.val - 1) (by omega) (by omega)]

/-- The body at point `t` on its staging memrefs. -/
abbrev bodyAt (t : Fin (cfgA (F := F) hA).N) : Prog (TpuEff nD τ sig (Elt F) Λ₀ .tc) PUnit :=
  body (crd hA t) (ms0 hA t) (hs0 hA t) (ms1 hA t) (hs1 hA t) (ms2 hA t) (hs2 hA t)

set_option maxHeartbeats 4000000 in
/-- The body's obligation at point `t`, by the three cases. -/
theorem sound_body (hp : Tables (F := F) m T0 T1) (c : Dev nD) (t : Fin (cfgA (F := F) hA).N) :
    iprop((dats hA m ρ 0 c).Φ t.castSucc ∗ (dats hA m ρ 0 c).owesAt () t.castSucc
        ∗ (∃ d, owns (c : Thread nD τ) (ms0 hA t) fullShare ((dats hA m ρ 0 c).before (0 : Fin 3) t d))
        ∗ (∃ d, owns (c : Thread nD τ) (ms1 hA t) fullShare ((dats hA m ρ 0 c).before (1 : Fin 3) t d))
        ∗ (∃ d, owns (c : Thread nD τ) (ms2 hA t) fullShare ((dats hA m ρ 0 c).before (2 : Fin 3) t d)))
      ⊢ wp frame (wpE (defs₀ (F := F)) Variants.none c none) Set.univ (bodyAt hA t) fun _ =>
          iprop((dats hA m ρ 0 c).Φ t.succ ∗ (dats hA m ρ 0 c).owesAt () t.succ
            ∗ bigSep Finset.univ fun w : Fin (cfgA (F := F) hA).W =>
                match (cfgA hA).idle w ((cfgA (F := F) hA).grid.coords t) with
                | true =>
                  match ((cfgA hA).win w).flush t with
                  | false => iprop(∃ d, owns (c : Thread nD τ) (((cfgA hA).win w).stage ((cfgA hA).slots t w)) fullShare ((dats hA m ρ 0 c).before w t d))
                  | true => owns (c : Thread nD τ) (((cfgA hA).win w).stage ((cfgA hA).slots t w)) fullShare ((dats hA m ρ 0 c).after w t)
                | false => owns (c : Thread nD τ) (((cfgA hA).win w).stage ((cfgA hA).slots t w)) fullShare ((dats hA m ρ 0 c).after w t)) := by
  rw [bigSep_W0]
  have hn : nu T1 ≤ 98 := hA.le
  have hu : 1 ≤ nu T1 := hA.pos
  have hw := chk1 (F := F) hA (crd hA t)
  have hc := cond1_iff (F := F) hA (crd hA t)
  rw [crd_val] at hc
  have i2 := idle2 (F := F) hA t
  rewrite [show (dats hA m ρ 0 c).Φ t.succ = Phi hA m c t.succ from rfl, show (dats hA m ρ 0 c).Φ t.castSucc = Phi hA m c t.castSucc from rfl,
    show (dats hA m ρ 0 c).owesAt () t.succ = (dats hA m ρ 0 c).owesAt () t.castSucc from rfl]
  by_cases hlt : t.val < nu T1
  · rw [decide_eq_false (show ¬nu T1 ≤ t.val by omega)] at i2
    have hpt := pt_of_lt hA t hlt
    rewrite [i2]
    simp only [before0, before1, after0, after1, after2]
    rw [hpt]
    unfold Phi
    simp only [Fin.val_castSucc, Fin.val_succ, Nat.add_one_sub_one]
    rw [hpt]
    iintro ⟨⟨⟨%a, %ha, HS⟩, HT0, HT1⟩, Ho, ⟨%d0, H0⟩, ⟨%d1, H1⟩, ⟨%d2, H2⟩⟩
    by_cases hnew : isNew (F := F) T0 T1 (crd hA t) hw = 1#1
    · iapply (run_new c (crd hA t) (ms0 hA t) (hs0 hA t) (ms1 hA t) (hs1 hA t) (ms2 hA t) (hs2 hA t) T0 T1 (iblk hA m c (0 : Fin 3) t) (iblk hA m c (1 : Fin 3) t) hw (hc.2 hlt) hnew a _)
      unfold held
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS]; · iexact HS
      iintro ⟨H0, H1, HT0, HT1, H2, HS⟩
      isplitl [HS HT0 HT1]
      · isplitl [HS]
        · iexists _; isplitr; swap
          · iexact HS
          · ipureintro; intro _; rfl
        isplitl [HT0]
        · iexact HT0
        iexact HT1
      isplitl [Ho]; · iexact Ho
      isplitl [H0]
      · iapply owns_of_rep; iexact H0
      isplitl [H1]
      · iapply owns_of_rep; iexact H1
      iexact H2
    · obtain ⟨h0, hsame⟩ := same_of_not_new (F := F) hA (crd hA t) hw hnew (by rw [crd_val]; exact hlt)
      rw [crd_val] at h0
      have hb : rounded (iblk hA m c (1 : Fin 3) (pt hA (t.val - 1))) = rounded (iblk hA m c (1 : Fin 3) t) := by
        refine congrArg (fun x => rounded x) (iblk1_congr hA m c _ _ ?_)
        refine (congrArg T0 (funext fun b => Fin.ext ?_)).trans (hsame.symm.trans (congrArg T0 (funext fun b => Fin.ext (crd_val hA t))))
        show min (t.val - 1) (nu T1 - 1) = (crd hA t 0).val - 1
        rw [crd_val]; omega
      have hr : out (iblk hA m c (0 : Fin 3) t) a = res hA m c t := by rw [ha h0, hb]; rfl
      iapply (run_held c (crd hA t) (ms0 hA t) (hs0 hA t) (ms1 hA t) (hs1 hA t) (ms2 hA t) (hs2 hA t) T0 T1 (iblk hA m c (0 : Fin 3) t) (iblk hA m c (1 : Fin 3) t) hw (hc.2 hlt) hnew a _)
      unfold held
      rw [hr]
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS]; · iexact HS
      iintro ⟨H0, H1, HT0, HT1, H2, HS⟩
      isplitl [HS HT0 HT1]
      · isplitl [HS]
        · iexists _; isplitr; swap
          · iexact HS
          · ipureintro; intro _; rw [ha h0, hb]
        isplitl [HT0]
        · iexact HT0
        iexact HT1
      isplitl [Ho]; · iexact Ho
      isplitl [H0]
      · iapply owns_of_rep; iexact H0
      isplitl [H1]
      · iapply owns_of_rep; iexact H1
      iexact H2
  · rw [decide_eq_true (show nu T1 ≤ t.val by omega)] at i2
    have hlt' : nu T1 ≤ t.val := by omega
    have hbef := fun d => before2 hA m ρ c t hlt' d
    have h0 : t.val ≠ 0 := by omega
    have hpt : pt (F := F) hA (t.val - 1) = pt hA t.val := pt_of_le hA _ _ (by omega) (by omega)
    rewrite [i2]
    simp only [before0, before1, after0, after1, after2, hbef]
    unfold Phi
    simp only [Fin.val_castSucc, Fin.val_succ, Nat.add_one_sub_one]
    rw [hpt]
    iintro ⟨⟨⟨%a, %ha, HS⟩, HT0, HT1⟩, Ho, ⟨%d0, H0⟩, ⟨%d1, H1⟩, ⟨%d2, H2⟩⟩
    iapply (run_idle c (crd hA t) (ms0 hA t) (hs0 hA t) (ms1 hA t) (hs1 hA t) (ms2 hA t) (hs2 hA t) T0 T1 (iblk hA m c (0 : Fin 3) t) (iblk hA m c (1 : Fin 3) t) hw (fun h => hlt (hc.1 h)) _ a _)
    unfold held
    isplitl [H0]; · iapply rep_of_owns; iexact H0
    isplitl [H1]; · iapply rep_of_owns; iexact H1
    isplitl [HT0]; · iexact HT0
    isplitl [HT1]; · iexact HT1
    isplitl [H2]; · iexact H2
    isplitl [HS]; · iexact HS
    iintro ⟨H0, H1, HT0, HT1, H2, HS⟩
    isplitl [HS HT0 HT1]
    · isplitl [HS]
      · iexists _; isplitr; swap
        · iexact HS
        · ipureintro; intro _; exact ha h0
      isplitl [HT0]
      · iexact HT0
      iexact HT1
    isplitl [Ho]; · iexact Ho
    isplitl [H0]
    · iapply owns_of_rep; iexact H0
    isplitl [H1]
    · iapply owns_of_rep; iexact H1
    cases ((cfgA (F := F) hA).win (2 : Fin 3)).flush t
    · iexists d2; iexact H2
    · iexact H2

/-- The body's obligation, at every point. -/
theorem body_obligation (hp : Tables (F := F) m T0 T1) (c : Dev nD) :
    BodyObligation (dats hA m ρ 0 c) (defs₀ (F := F)) Variants.none () Set.univ := fun t => by
  rw [bigSep_W0]
  exact sound_body hA m ρ hp c t

/-! ## The launch -/

/-- The pipelines at these tables, and the element the launch starts from. -/
abbrev pcs : Fin 1 → Cfg sig Λ₀ := Pipeline.pin (pcfgs (F := F)) fun _ => adm hA
def u₀ : UR sig nD τ :=
  initOf (Pipeline.cells (pcs (F := F) hA) ((launch0 (F := F)).cellOf_inj fun _ => adm hA))
    (Pipeline.launchToks (pcs (F := F) hA) ((launch0 (F := F)).cellOf_inj fun _ => adm hA))

theorem share_eq (c : Dev nD) (w : Fin (cfgA (F := F) hA).W) : (dats hA m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch. -/
theorem phi_intro (c : Dev nD) :
    iprop(BI.emp ∗ Pipeline.prefHeld pre0 c (fun _ => fullShare.right) (adm (F := F) hA).1 ∗ Pipeline.scopedRest spec0 c) ⊢ (dats hA m ρ 0 c).Φ 0 := by
  rw [prefHeld_eq, scopedRest0_eq, show (dats hA m ρ 0 c).Φ 0 = Phi hA m c 0 from rfl]
  unfold Phi
  iintro ⟨-, ⟨HT0, HT1⟩, ⟨%a, HS⟩⟩
  isplitl [HS]
  · iexists a; isplitr; swap
    · iexact HS
    · ipureintro; intro h; exact absurd rfl h
  isplitl [HT0]
  · iexact HT0
  iexact HT1

/-- After the last point it gives the scratch back. -/
theorem phi_exit (c : Dev nD) : (dats hA m ρ 0 c).Φ (Fin.last (cfgA (F := F) hA).N) ⊢ iprop(BI.emp ∗ Pipeline.scopedRest spec0 c) := by
  rw [scopedRest0_eq, show (dats hA m ρ 0 c).Φ (Fin.last (cfgA hA).N) = Phi hA m c (Fin.last _) from rfl]
  unfold Phi
  iintro ⟨⟨%a, -, HS⟩, -, -⟩
  isplitr; · iempintro
  iexists a; iexact HS

/-- What the run ends with: every window's array as the pipeline leaves it, the tables as they were. -/
def Post : PUnit × MemSt nD τ sig (Elt F) → Prop := fun r =>
  ∀ c : Dev nD, (∀ w : Fin (cfgA (F := F) hA).W, r.2.mem (((cfgA (F := F) hA).win w).arr.view.loc (c : Thread nD τ)) = (dats hA m ρ 0 c).arrAt w (cfgA (F := F) hA).N)
    ∧ ∀ j, r.2.mem ((c : Thread nD τ).loc (pre0.ref j)) = (adm (F := F) hA).1 j

theorem V_pre (hp : Tables (F := F) m T0 T1) (c : Dev nD) (j : Fin 2) : m ((c : Thread nD τ).loc (pre0.ref j)) = (adm (F := F) hA).1 j := by
  fin_cases j
  · exact hp.1 c
  · exact hp.2 c

set_option backward.isDefEq.respectTransparency.types false in
set_option maxHeartbeats 4000000 in
/-- From any memory with these tables the run terminates without a fault, in such a state with every counter at zero. -/
theorem run_quiescent (hp : Tables (F := F) m T0 T1) :
    θ_run (defs (F := F)) (onTc (τ := τ) (main (F := F))) (s₀ m ρ) (fun r => Post hA m ρ r ∧ r.2.sem = fun _ => 0) :=
  Pipeline.θ_run_region_noSem_pf_quiescent pcfgs (fun _ => adm hA) (dats hA m ρ) () ((launch0 (F := F)).cellOf_inj fun _ => adm hA) (0 : Fin 1)
    (launch0 (F := F)).win.to₀ (launch0 (F := F)).pre EP defs₀ Variants.none m ρ main
    (hbody := fun c => (body_obligation hA m ρ hp c).loose) (hne := (launch0 (F := F)).block_pos)
    (harr := (launch0 (F := F)).arr_whole) (hstage := (launch0 (F := F)).stage_whole) (howed := fun _ _ => rfl)
    (u₀ := u₀ (F := F) hA) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hA) (dats hA m ρ) 0 (launch0 (F := F)).win.arr_inj c (launch0 (F := F)).arr_whole
      (share_eq hA m ρ c) _ _ fun _ => rfl)
    (hpf := V_pre hA m hp)
    (X := fun _ => iprop(emp)) (Y := fun _ => iprop(emp)) (Z := fun _ => iprop(emp))
    (hX := fun c => by rw [unscopedRestP0_eq]; iintro -; isplitr <;> iempintro)
    (hin := phi_intro hA m ρ)
    (hout := phi_exit hA m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run, with the arguments as they were, the result's array as the pipeline leaves it, and every counter at zero. -/
theorem run (hp : Tables (F := F) m T0 T1) :
    θ_run (defs (F := F)) (onTc (τ := τ) (main (F := F))) ⟨m, fun _ => 0, ρ⟩ (fun r => (∀ c : Dev nD,
      r.2.mem ((c.tc : Thread nD τ).loc main_v0) = (dats hA m ρ 0 c).arrAt (2 : Fin 3) (cfgA (F := F) hA).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 (2 : Fin 3), ((h.1 c).2 0).trans (hp.1 c).symm, ((h.1 c).2 1).trans (hp.2 c).symm,
      ((h.1 c).1 (0 : Fin 3)).trans ((dats hA m ρ 0 c).arrAt_in (0 : Fin 3) rfl _),
      ((h.1 c).1 (1 : Fin 3)).trans ((dats hA m ρ 0 c).arrAt_in (1 : Fin 3) rfl _)⟩, h.2⟩) (run_quiescent hA m ρ hp)

end Cert.Down

end
-- ==== Proof.Frames.lean ====
/- The six frames: each program runs to the end, leaves its arguments as they were and every counter at zero. The two
   kernels' frames are one run read at two instances. -/
module

public import proofs.«01_k».proof.Defs
public import proofs.«01_k».proof.Proof.Gen.Kernel
public import proofs.«01_k».proof.Proof.Gen.Kernel2
public import proofs.«01_k».proof.Proof.Gen.ReferenceIdeal.Run
public import proofs.«01_k».proof.Proof.Gen.Reference2Ideal.Run
public import proofs.«01_k».proof.Proof.Admit
public import proofs.«01_k».proof.Proof.Up.Frame
public import proofs.«01_k».proof.Proof.Down.Frame
public import Idealize.ShloMosaic.Lib.Quiescent
public import Idealize.ShloMosaic.Adequacy
public import Idealize.ShloMosaic.Init

@[expose] public section

noncomputable section

namespace Cert.Frames

open Idealize.ShloMosaic Idealize.SL.Sem

/-- The prefetched tables are the same on every device: there is one. -/
theorem tables_up {F : FTy → Type} [FloatOps F]
    (m : (ℓ : Loc Cert.KernelIdeal.nD Cert.KernelIdeal.τ Cert.KernelIdeal.sig) → Buf (Elt F) ℓ) :
    Up.Tables (F := F) m (m (((0 : Dev Cert.KernelIdeal.nD).tc : Thread _ Cert.KernelIdeal.τ).loc Cert.KernelIdeal.main_arg0))
      (m (((0 : Dev Cert.KernelIdeal.nD).tc : Thread _ Cert.KernelIdeal.τ).loc Cert.KernelIdeal.main_arg1)) :=
  ⟨fun c => by obtain rfl : c = 0 := Subsingleton.elim (α := Fin 1) _ _; rfl, fun c => by obtain rfl : c = 0 := Subsingleton.elim (α := Fin 1) _ _; rfl⟩

/-- The same of the down call. -/
theorem tables_down {F : FTy → Type} [FloatOps F]
    (m : (ℓ : Loc Cert.Kernel2Ideal.nD Cert.Kernel2Ideal.τ Cert.Kernel2Ideal.sig) → Buf (Elt F) ℓ) :
    Down.Tables (F := F) m (m (((0 : Dev Cert.Kernel2Ideal.nD).tc : Thread _ Cert.Kernel2Ideal.τ).loc Cert.Kernel2Ideal.main_arg0))
      (m (((0 : Dev Cert.Kernel2Ideal.nD).tc : Thread _ Cert.Kernel2Ideal.τ).loc Cert.Kernel2Ideal.main_arg1)) :=
  ⟨fun c => by obtain rfl : c = 0 := Subsingleton.elim (α := Fin 1) _ _; rfl, fun c => by obtain rfl : c = 0 := Subsingleton.elim (α := Fin 1) _ _; rfl⟩

/-- The up call's frame at the ideal instance. -/
theorem up_ideal : Cert.quiescent_KernelIdeal := fun m ρ h =>
  (θ_run Cert.KernelIdeal.defs _ _).mono (fun _ h => ⟨fun c => (h.1 c).2, h.2⟩)
    (Up.run (F := Ideal) (Admit.up _ _ _ _ _ (h 0).1 (h 0).2) m ρ (tables_up m))

/-- The kernels' bodies of the two printings of the up call are one program, label by label. -/
theorem up_bodies {F : FTy → Type} [FloatOps F] : @Cert.Kernel.defs₀ F _ _ = @Cert.KernelIdeal.defs₀ F _ _ := by
  refine congrArg (Defs.onTc (nD := Cert.Kernel.nD) (τ := Cert.Kernel.τ) (sig := Cert.Kernel.sig) (Val := Elt F) (Λ := Cert.Kernel.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem up_defs {F : FTy → Type} [FloatOps F] : @Cert.Kernel.defs F _ _ = @Cert.KernelIdeal.defs F _ _ :=
  congrArg (Pipeline.defs Cert.Kernel.pcfgs) up_bodies

/-- The up call's frame at the bit-exact instance: the same run, the two programs being one text. -/
theorem up_bits : Cert.quiescent_Kernel := by
  intro m ρ h
  rw [up_defs]
  exact (θ_run Cert.KernelIdeal.defs _ _).mono (fun _ h => ⟨fun c => (h.1 c).2, h.2⟩)
    (Up.run (F := Bits) (Admit.up _ _ _ _ _ (h 0).1 (h 0).2) m ρ (tables_up m))

/-- The down call's frame at the ideal instance. -/
theorem down_ideal : Cert.quiescent_Kernel2Ideal := fun m ρ h =>
  (θ_run Cert.Kernel2Ideal.defs _ _).mono (fun _ h => ⟨fun c => (h.1 c).2, h.2⟩)
    (Down.run (F := Ideal) (Admit.down _ _ _ _ (h 0).1 (h 0).2) m ρ (tables_down m))

/-- The kernels' bodies of the two printings of the down call are one program, label by label. -/
theorem down_bodies {F : FTy → Type} [FloatOps F] : @Cert.Kernel2.defs₀ F _ _ = @Cert.Kernel2Ideal.defs₀ F _ _ := by
  refine congrArg (Defs.onTc (nD := Cert.Kernel2.nD) (τ := Cert.Kernel2.τ) (sig := Cert.Kernel2.sig) (Val := Elt F) (Λ := Cert.Kernel2.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem down_defs {F : FTy → Type} [FloatOps F] : @Cert.Kernel2.defs F _ _ = @Cert.Kernel2Ideal.defs F _ _ :=
  congrArg (Pipeline.defs Cert.Kernel2.pcfgs) down_bodies

/-- The down call's frame at the bit-exact instance, likewise. -/
theorem down_bits : Cert.quiescent_Kernel2 := by
  intro m ρ h
  rw [down_defs]
  exact (θ_run Cert.Kernel2Ideal.defs _ _).mono (fun _ h => ⟨fun c => (h.1 c).2, h.2⟩)
    (Down.run (F := Bits) (Admit.down _ _ _ _ (h 0).1 (h 0).2) m ρ (tables_down m))

/-- The up reference's frame: it has no counters. -/
theorem reference_up : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The down reference's frame. -/
theorem reference_down : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Frames

end
-- ==== Proof.Up.Tile.lean ====
/- One tile of the up call at the ideal instance: the halves of its packed words, the two products summed over all the
   features, and the gated result. -/
module

public import proofs.«01_k».proof.Proof.Up.Body
public import Idealize.ShloMosaic.Lib.Pipeline.Value
public import Idealize.ShloMosaic.Lib.Pointwise

@[expose] public section

set_option maxRecDepth 16384

noncomputable section

namespace Cert.Up

open Cert.KernelIdeal Cert.KernelIdeal.Gen
open Idealize.ShloMosaic

/-- Half `i` of a packed word, as the extended real its bf16 bits stand for. -/
def half (i : ℕ) (v : BitVec 32) : EReal := FloatOps.ofBits (F := Ideal) .bf16 (v.extractLsb' (i * 16) 16)

/-- Line `k` of every row of a block of packed rows fits. -/
theorem line_fits (k : Fin 16) (a : Fin 2) :
    S256x128.size a = 0 ∨ (![k.val, 0] : Fin 2 → ℕ) a + (![16, 1] : Fin 2 → ℕ) a * (S256x128.size a - 1) < S4096x128.size a := by
  have := k.isLt
  match a with
  | ⟨0, _⟩ => right; show k.val + 16 * (256 - 1) < 4096; omega
  | ⟨1, _⟩ => right; show 0 + 1 * (128 - 1) < 128; omega

/-- Line `k` of the rows, each word's half `i`. -/
def line (i : ℕ) (x : S4096x128.Idx → Elt Ideal .i32) (k : Fin 16) : S256x128.Idx → Elt Ideal .bf16 :=
  fun y => half i (slab (F := Ideal) (line_fits k) x y)

/-- The low halves laid out: the lines' low halves, side by side. -/
theorem lo_eq (x : S4096x128.Idx → Elt Ideal .i32) :
    lo (F := Ideal) x = concatenate S256x2048 1 (List.ofFn fun k : Fin 16 => ⟨S256x128, line 0 x k⟩)
      concatenates_S256x128_S256x128_S256x128_S256x128_S256x128_S256x128_S256x128_S256x128_S256x128_S256x128_S256x128_S256x128_S256x128_S256x128_S256x128_S256x128_S256x2048_d1 := rfl

/-- The high halves likewise. -/
theorem hi_eq (x : S4096x128.Idx → Elt Ideal .i32) :
    hi (F := Ideal) x = concatenate S256x2048 1 (List.ofFn fun k : Fin 16 => ⟨S256x128, line 1 x k⟩)
      concatenates_S256x128_S256x128_S256x128_S256x128_S256x128_S256x128_S256x128_S256x128_S256x128_S256x128_S256x128_S256x128_S256x128_S256x128_S256x128_S256x128_S256x2048_d1 := rfl

/-- The place, in a block of packed rows, of word `j` of row `r`. -/
def word (r : Fin 256) (j : Fin 2048) : S4096x128.Idx :=
  ix2 ⟨r.val * 16 + j.val / 128, by omega⟩ ⟨j.val % 128, Nat.mod_lt _ (by omega)⟩

/-- A line's element is a word of the row. -/
theorem lines_apply (i : ℕ) (x : S4096x128.Idx → Elt Ideal .i32) (h) (r : Fin 256) (j : Fin 2048) :
    (concatenate S256x2048 1 (List.ofFn fun k : Fin 16 => ⟨S256x128, line i x k⟩) h : S256x2048.Idx → Elt Ideal .bf16) (ix2 r j)
      = half i (x (word r j)) := by
  refine (concatenate_ofFn_apply (t := S256x2048) (s₁ := S256x128) 1 (line i x) h rfl 128 rfl (ix2 r j) ⟨j.val / 128, by omega⟩ rfl
    (ix2 r ⟨j.val % 128, Nat.mod_lt _ (by omega)⟩) rfl ?_).trans ?_
  · intro b hb
    match b with
    | ⟨0, _⟩ => rfl
    | ⟨1, _⟩ => exact absurd rfl hb
  · refine congrArg (fun y => half i (x y)) (funext fun a => Fin.ext ?_)
    match a with
    | ⟨0, _⟩ => show j.val / 128 + 16 * r.val = r.val * 16 + j.val / 128; omega
    | ⟨1, _⟩ => show 0 + 1 * (j.val % 128) = j.val % 128; omega

/-- Element `j` of row `r` of the low halves. -/
theorem lo_apply (x : S4096x128.Idx → Elt Ideal .i32) (r : Fin 256) (j : Fin 2048) : lo (F := Ideal) x (ix2 r j) = half 0 (x (word r j)) :=
  (congrFun (lo_eq x) _).trans (lines_apply 0 x _ r j)
/-- Element `j` of row `r` of the high halves. -/
theorem hi_apply (x : S4096x128.Idx → Elt Ideal .i32) (r : Fin 256) (j : Fin 2048) : hi (F := Ideal) x (ix2 r j) = half 1 (x (word r j)) :=
  (congrFun (hi_eq x) _).trans (lines_apply 1 x _ r j)

/-- The gate's activation times the up value. -/
def gated (g u : EReal) : EReal :=
  g * Ideal.div 1 (1 + Ideal.exp (-g)) * u

/-- The four products and the gating at an element. -/
theorem pay_apply (a b : FVec Ideal S256x2048 .bf16) (tg bg tu bu : FVec Ideal S2048x512 .bf16) (r : Fin 256) (f : Fin 512) :
    k0_pay1 (F := Ideal) a b tg bg tu bu (ix2 r f)
      = gated (∑ k : Fin 2048, (a (ix2 r k) : EReal) * tg (ix2 k f) + ∑ k : Fin 2048, (b (ix2 r k) : EReal) * bg (ix2 k f))
          (∑ k : Fin 2048, (a (ix2 r k) : EReal) * tu (ix2 k f) + ∑ k : Fin 2048, (b (ix2 r k) : EReal) * bu (ix2 k f)) := by
  unfold k0_pay1 gated
  pointwise
  rw [zero_sub]

/-- The place in the weights held of the upper half's rows, and of the lower half's. -/
theorem top_apply (w : S4096x512.Idx → Elt Ideal .bf16) (k : Fin 2048) (f : Fin 512) :
    top (F := Ideal) w (ix2 k f) = w (ix2 ⟨k.val, by omega⟩ f) := by
  refine congrArg w (funext fun a => Fin.ext ?_)
  match a with
  | ⟨0, _⟩ => show 0 + 1 * k.val = k.val; omega
  | ⟨1, _⟩ => show 0 + 1 * f.val = f.val; omega
theorem bot_apply (w : S4096x512.Idx → Elt Ideal .bf16) (k : Fin 2048) (f : Fin 512) :
    bot (F := Ideal) w (ix2 k f) = w (ix2 ⟨2048 + k.val, by omega⟩ f) := by
  refine congrArg w (funext fun a => Fin.ext ?_)
  match a with
  | ⟨0, _⟩ => show 2048 + 1 * k.val = 2048 + k.val; omega
  | ⟨1, _⟩ => show 0 + 1 * f.val = f.val; omega

/-- Rounding the weights does nothing at the ideal instance; the block's two unit axes go. -/
theorem rounded_apply (w : S1x1x4096x512.Idx → Elt Ideal .f32) (k : Fin 4096) (f : Fin 512) :
    rounded (F := Ideal) w (ix2 k f) = w (ix4 0 0 k f) := by
  unfold rounded k0_pay2
  pointwise

/-- Feature `d` of a row packed two to a word: the low half of word `d` for the first 2048, the high half of word
    `d - 2048` after. -/
def feature (x : Fin 2048 → BitVec 32) (d : Fin 4096) : EReal :=
  if h : d.val < 2048 then half 0 (x ⟨d.val, h⟩) else half 1 (x ⟨d.val - 2048, by omega⟩)

/-- A sum over the features is the sum over the low halves and the sum over the high halves. -/
theorem sum_feature (x : Fin 2048 → BitVec 32) (w : Fin 4096 → EReal) :
    ∑ d : Fin 4096, feature x d * w d
      = ∑ k : Fin 2048, half 0 (x k) * w ⟨k.val, by omega⟩ + ∑ k : Fin 2048, half 1 (x k) * w ⟨2048 + k.val, by omega⟩ := by
  refine (Fin.sum_univ_add (a := 2048) (b := 2048) fun d : Fin (2048 + 2048) => feature x d * w d).trans ?_
  refine congr (congrArg _ (Finset.sum_congr rfl fun k _ => ?_)) (Finset.sum_congr rfl fun k _ => ?_)
  · have e : feature x (Fin.castAdd 2048 k) = half 0 (x k) := dif_pos k.isLt
    rw [e]; rfl
  · have e : feature x (Fin.natAdd 2048 k) = half 1 (x k) := by
      refine (dif_neg (show ¬ 2048 + k.val < 2048 by omega)).trans ?_
      exact congrArg (fun j => half 1 (x j)) (Fin.ext (show 2048 + k.val - 2048 = k.val by omega))
    rw [e]; rfl

/-- One tile's result at an element: the gated pair of the row's products with both weights, over all the features. -/
theorem out_apply (x : S4096x128.Idx → Elt Ideal .i32) (wg wu : S4096x512.Idx → Elt Ideal .bf16) (r : Fin 256) (f : Fin 512) :
    out (F := Ideal) x wg wu (ix2 r f)
      = gated (∑ d : Fin 4096, feature (fun j => x (word r j)) d * (wg (ix2 d f) : EReal))
          (∑ d : Fin 4096, feature (fun j => x (word r j)) d * (wu (ix2 d f) : EReal)) := by
  refine (pay_apply (lo x) (hi x) (top wg) (bot wg) (top wu) (bot wu) r f).trans ?_
  rw [sum_feature _ fun d => wg (ix2 d f), sum_feature _ fun d => wu (ix2 d f)]
  simp only [lo_apply, hi_apply, top_apply, bot_apply]

end Cert.Up

end
-- ==== Proof.Up.Value.lean ====
/- What the up call leaves: at the ideal instance, row `r` of a tile in use holds the gated pair of that row's products
   with the gate and up weights of its tile's expert. -/
module

public import proofs.«01_k».proof.Proof.Up.Frame
public import proofs.«01_k».proof.Proof.Up.Tile

@[expose] public section

set_option maxRecDepth 16384

noncomputable section

namespace Cert.Up

open Cert.KernelIdeal Cert.KernelIdeal.Gen
open Idealize.ShloMosaic Idealize.ShloMosaic.TcCoe Idealize.ShloMosaic.Tactic
open Idealize.ShloMosaic.Pipeline (Dat Cfg Window)

/-- Word `j` of row `r` of the packed rows: a row's 2048 words are 16 lines of 128. -/
def packed (x : S401408x128.Idx → BitVec 32) (r : Fin 25088) (j : Fin 2048) : BitVec 32 :=
  x (ix2 ⟨r.val * 16 + j.val / 128, by omega⟩ ⟨j.val % 128, Nat.mod_lt _ (by omega)⟩)

variable {T0 : Exps} {T1 : Count} (hA : Admits T0 T1)

/-- The expert of a row, from the table of the tiles' experts. -/
def expert (i : Fin 25088) : Fin 32 := ⟨(T0 (at98 (i.val / 256) (by have := i.isLt; omega))).toNat, hA.expert _⟩

section
variable {F : FTy → Type} [FloatOps F]
variable (m : (ℓ : Loc nD τ sig) → Buf (Elt F) ℓ) (ρ : Dev nD → PrngReg)

/-- A tile's block of packed rows holds the tile's rows, each in 16 lines of 128 words. -/
theorem iblk0_apply (c : Dev nD) (t : Fin (cfgA (F := F) hA).N) (h : t.val < nu T1) (r : Fin 256) (j : Fin 2048) :
    iblk hA m c (0 : Fin 4) t (word r j) = packed (m ((c : Thread nD τ).loc main_arg2))
      ⟨t.val * 256 + r.val, by have : nu T1 ≤ 98 := hA.le; omega⟩ j := by
  have e := index0 hA t
  refine congrArg (m ((c : Thread nD τ).loc main_arg2)) (funext fun a => Fin.ext ?_)
  refine (Pipeline.Window.rect_emb_val ((cfgA (F := F) hA).win (0 : Fin 4)) t (word r j) a rfl).trans ?_
  rw [e]
  match a with
  | ⟨0, _⟩ =>
    show min t.val (nu T1 - 1) * 4096 + (r.val * 16 + j.val / 128) = (t.val * 256 + r.val) * 16 + j.val / 128
    rw [Nat.min_eq_left (by omega)]; omega
  | ⟨1, _⟩ => show 0 * 128 + j.val % 128 = j.val % 128; omega

/-- The result's array, row by row: each row its tile's result. -/
def rows (c : Dev nD) (i : S25088x512.Idx) : Elt F .bf16 :=
  res hA m c (pt hA ((i 0).val / 256)) (ix2 ⟨(i 0).val % 256, Nat.mod_lt _ (by omega)⟩ (i 1))

/-- Where an element of the result's block lies in the array. -/
theorem blk3_emb (t : Fin (cfgA (F := F) hA).N) (y : S256x512.Idx) :
    ((((cfgA (F := F) hA).win (3 : Fin 4)).blk t).view.emb y 0).val = min t.val (nu T1 - 1) * 256 + (y 0).val
      ∧ ((((cfgA (F := F) hA).win (3 : Fin 4)).blk t).view.emb y 1).val = (y 1).val := by
  have e := index3 hA t
  constructor
  · refine (Pipeline.Window.rect_emb_val ((cfgA (F := F) hA).win (3 : Fin 4)) t y 0 rfl).trans ?_
    rw [e]; rfl
  · refine (Pipeline.Window.rect_emb_val ((cfgA (F := F) hA).win (3 : Fin 4)) t y 1 rfl).trans ?_
    rw [e]; show 0 * 512 + (y 1).val = _; omega

/-- What a point writes back is its block of those rows. -/
theorem flushed3 (c : Dev nD) (t : Fin (cfgA (F := F) hA).N) :
    (dats hA m ρ 0 c).flushed (3 : Fin 4) t = (((cfgA (F := F) hA).win (3 : Fin 4)).blk t).view.read (Elt F) (rows hA m c) := by
  have hp : 1 ≤ nu T1 := hA.pos
  funext y
  have hy : (y 0).val < 256 := (y 0).isLt
  obtain ⟨e0, e1⟩ := blk3_emb (F := F) hA t y
  show res hA m c (pt hA t.val) y = rows hA m c ((((cfgA (F := F) hA).win (3 : Fin 4)).blk t).view.emb y)
  unfold rows
  have ep : pt (F := F) hA (((((cfgA (F := F) hA).win (3 : Fin 4)).blk t).view.emb y 0).val / 256) = pt hA t.val :=
    Fin.ext (by rw [pt_val, pt_val, e0]; omega)
  rw [ep]
  refine congrArg (res hA m c (pt hA t.val)) (funext fun a => Fin.ext ?_)
  match a with
  | ⟨0, _⟩ => show (y 0).val = _ % 256; rw [e0]; omega
  | ⟨1, _⟩ => exact e1.symm

/-- Each row of a tile in use ends up holding its tile's result. -/
theorem arr_apply (c : Dev nD) (i : S25088x512.Idx) (hi : (i 0).val / 256 < nu T1) :
    (dats hA m ρ 0 c).arrAt (3 : Fin 4) (cfgA (F := F) hA).N i = rows hA m c i := by
  have hn : nu T1 ≤ 98 := hA.le
  have hN := N_eq (F := F) hA
  have hp : 1 ≤ nu T1 := hA.pos
  have hr : (i 0).val < 25088 := (i 0).isLt
  obtain ⟨n, hn98, hmin, hlast⟩ : ∃ n, n < 98 ∧ min n (nu T1 - 1) = (i 0).val / 256 ∧ (n + 1 = 98 ∨ n + 1 < nu T1) := by
    by_cases h : (i 0).val / 256 + 1 < nu T1
    · exact ⟨(i 0).val / 256, by omega, by omega, by omega⟩
    · exact ⟨97, by omega, by omega, by omega⟩
  refine (dats hA m ρ 0 c).arrAt_apply_of_mem (3 : Fin 4) (rows hA m c) (fun t _ => flushed3 hA m ρ c t) _
    ⟨n, hn98.trans_eq hN.symm⟩ i (hn98.trans_eq hN.symm) ?_ ?_
  · rw [flush3, decide_eq_true_eq]; exact hlast
  · have e : (((cfgA (F := F) hA).win (3 : Fin 4)).blk ⟨n, hn98.trans_eq hN.symm⟩).view.emb
        (ix2 ⟨(i 0).val % 256, Nat.mod_lt _ (by omega)⟩ (i 1) : S256x512.Idx) = i := by
      obtain ⟨e0, e1⟩ := blk3_emb (F := F) hA ⟨n, hn98.trans_eq hN.symm⟩ (ix2 ⟨(i 0).val % 256, Nat.mod_lt _ (by omega)⟩ (i 1))
      funext a
      refine Fin.ext ?_
      match a with
      | ⟨0, _⟩ =>
        refine e0.trans ?_
        show min n (nu T1 - 1) * 256 + (i 0).val % 256 = (i 0).val
        rw [hmin]; omega
      | ⟨1, _⟩ => exact e1
    exact e ▸ View.emb_mem_set _ _
end

/-- A row's product with a column of an expert's weights, over all its 4096 features. -/
def products (x : S401408x128.Idx → BitVec 32) (w : S2x32x4096x512.Idx → EReal) (e : Fin 32) (i : S25088x512.Idx) : EReal :=
  ∑ d : Fin 4096, feature (packed x (i 0)) d * w (ix4 0 e d (i 1))

/-- The rounded weights of a tile in use are its expert's. -/
theorem weights_eq (m : S2x32x4096x512.Idx → EReal) (i : S25088x512.Idx) (t : Fin (cfgA (F := Ideal) hA).N)
    (ht : t.val = (i 0).val / 256) (d : Fin 4096) :
    m (wIx (T0 (at98 t.val (t.isLt.trans_eq (N_eq (F := Ideal) hA)))) (hA.expert _) (ix4 0 0 d (i 1))) = m (ix4 0 (expert hA (i 0)) d (i 1)) := by
  refine congrArg m (funext fun a => Fin.ext ?_)
  match a with
  | ⟨0, _⟩ => rfl
  | ⟨1, _⟩ =>
    refine congrArg (fun x => (T0 x).toNat) (funext fun b => Fin.ext ?_)
    match b with
    | ⟨0, _⟩ => exact ht
  | ⟨2, _⟩ => rfl
  | ⟨3, _⟩ => rfl

/-- The result at a row in use, at the ideal instance: the gated pair of the row's products with its expert's weights. -/
theorem value (m : (ℓ : Loc nD τ sig) → Buf (Elt Ideal) ℓ) (ρ : Dev nD → PrngReg) (c : Dev nD) (i : S25088x512.Idx)
    (hi : (i 0).val / 256 < nu T1) :
    (dats hA m ρ 0 c).arrAt (3 : Fin 4) (cfgA (F := Ideal) hA).N i
      = gated (products (m ((c : Thread nD τ).loc main_arg2)) (m ((c : Thread nD τ).loc main_arg3)) (expert hA (i 0)) i)
          (products (m ((c : Thread nD τ).loc main_arg2)) (m ((c : Thread nD τ).loc main_arg4)) (expert hA (i 0)) i) := by
  rw [arr_apply hA m ρ c i hi]
  unfold rows res products
  refine (out_apply _ _ _ _ _).trans ?_
  have ep : (pt (F := Ideal) hA ((i 0).val / 256)).val = (i 0).val / 256 := by rw [pt_val]; omega
  have ex : (fun j => iblk hA m c (0 : Fin 4) (pt (F := Ideal) hA ((i 0).val / 256)) (word ⟨(i 0).val % 256, Nat.mod_lt _ (by omega)⟩ j))
      = packed (m ((c : Thread nD τ).loc main_arg2)) (i 0) := funext fun j => by
    refine (iblk0_apply hA m c _ (by omega) _ j).trans ?_
    refine congrArg (fun r => packed (m ((c : Thread nD τ).loc main_arg2)) r j) (Fin.ext ?_)
    show (pt (F := Ideal) hA ((i 0).val / 256)).val * 256 + (i 0).val % 256 = (i 0).val
    omega
  refine congr (congrArg gated ?_) ?_
  · refine Finset.sum_congr rfl fun d _ => congr (congrArg _ (congrArg (fun x => feature x d) ex)) ?_
    exact ((rounded_apply _ _ _).trans (iblk1_apply hA m c _ _)).trans (weights_eq hA _ i _ ep d)
  · refine Finset.sum_congr rfl fun d _ => congr (congrArg _ (congrArg (fun x => feature x d) ex)) ?_
    exact ((rounded_apply _ _ _).trans (iblk2_apply hA m c _ _)).trans (weights_eq hA _ i _ ep d)

end Cert.Up

end
-- ==== Proof.Gather.lean ====
/- Looking up a slab of a three-axis array by a word: what the references' gather reads at an index whose word is in
   range. -/
module

public import Idealize.ShloMosaic.Lib.Routing.Ops
public import Idealize.ShloMosaic.Lib.ValueIdx

@[expose] public section

namespace Cert.Gather

open Idealize.ShloMosaic Idealize.ShloMosaic.Routing Idealize.ShloMosaic.ValueIdx

/-- The dimension numbers of a lookup of slabs: one word for each row, the slab of that number. -/
def dims (nb A B n : ℕ) (wf : GatherDims.WF (shape3 nb A B) (shape2 n 1) (shape3 n A B) [1, 2] [0] [] [0] [] 1 ![1, A, B]) :
    GatherDims (shape3 nb A B) (shape2 n 1) (shape3 n A B) where
  offsetDims := [1, 2]
  collapsedSliceDims := [0]
  operandBatchingDims := []
  startIndicesBatchingDims := []
  startIndexMap := [0]
  indexVectorDim := 1
  sliceSizes := ![1, A, B]
  wf := wf

/-- The lookup reads the slab its word names. -/
theorem apply {α : Type} {nb A B n : ℕ} (wf) (x : (shape3 nb A B).Idx → α) (idx : IVec (shape2 n 1) 32)
    (c : Fin n) (y : Fin A) (z : Fin B) (b : Fin nb) (hb : (idx (ix2 c (0 : Fin 1))).toNat = b.val) (hnb : nb < 2 ^ 31) :
    Host.gather (dims nb A B n wf) x idx (ix3 c y z) = x (ix3 b y z) := by
  unfold Host.gather
  refine congrArg x (funext fun a => Fin.ext ?_)
  have hbl := b.isLt
  match a with
  | ⟨0, _⟩ =>
    show (dims nb A B n wf).start (ix3 c y z) idx 0 + (dims nb A B n wf).batchCoord (ix3 c y z) 0 + (dims nb A B n wf).offCoord (ix3 c y z) 0 = b.val
    rw [(dims nb A B n wf).batchCoord_eq_zero _ _ List.not_mem_nil, (dims nb A B n wf).offCoord_eq_zero _ _ (fun h => (((dims nb A B n wf).mem_sKept 0).1 h).1 (List.mem_singleton.2 rfl))]
    unfold GatherDims.start
    have h0 : (0 : Fin (shape3 nb A B).rank) ∈ (dims nb A B n wf).startIndexMap := List.mem_singleton.2 rfl
    rw [dif_pos h0]
    have hsi : (dims nb A B n wf).siIdx (ix3 c y z) ⟨(dims nb A B n wf).startIndexMap.idxOf 0, List.idxOf_lt_length_iff.2 (List.mem_singleton.2 rfl)⟩ = ix2 c (0 : Fin 1) := by
      funext b'
      apply Fin.ext
      match b' with
      | ⟨0, _⟩ => rfl
      | ⟨1, _⟩ => rfl
    rw [hsi, BitVec.toInt_eq_toNat_of_lt (by omega), hb]
    show min ((b.val : Int)).toNat (nb - 1) + 0 + 0 = b.val
    omega
  | ⟨1, _⟩ =>
    show (dims nb A B n wf).start (ix3 c y z) idx 1 + (dims nb A B n wf).batchCoord (ix3 c y z) 1 + (dims nb A B n wf).offCoord (ix3 c y z) 1 = y.val
    rw [(dims nb A B n wf).batchCoord_eq_zero _ _ List.not_mem_nil, Nat.add_zero]
    unfold GatherDims.start
    have hm : (1 : Fin (shape3 nb A B).rank) ∉ (dims nb A B n wf).startIndexMap := show (1 : Fin 3) ∉ ([0] : List (Fin 3)) by decide
    rw [dif_neg hm, Nat.zero_add]
    rfl
  | ⟨2, _⟩ =>
    show (dims nb A B n wf).start (ix3 c y z) idx 2 + (dims nb A B n wf).batchCoord (ix3 c y z) 2 + (dims nb A B n wf).offCoord (ix3 c y z) 2 = z.val
    rw [(dims nb A B n wf).batchCoord_eq_zero _ _ List.not_mem_nil, Nat.add_zero]
    unfold GatherDims.start
    have hm : (2 : Fin (shape3 nb A B).rank) ∉ (dims nb A B n wf).startIndexMap := show (2 : Fin 3) ∉ ([0] : List (Fin 3)) by decide
    rw [dif_neg hm, Nat.zero_add]
    rfl

end Cert.Gather
-- ==== Proof.Up.Reference.lean ====
/- What the up reference computes at the ideal instance: each row's products with its expert's gate and up weights, gated. -/
module

public import proofs.«01_k».proof.Proof.Up.Value
public import proofs.«01_k».proof.Proof.Gather
public import proofs.«01_k».proof.Proof.Gen.ReferenceIdeal.Run
public import Idealize.ShloMosaic.Lib.StableHlo.Predicate

@[expose] public section

set_option maxRecDepth 16384

noncomputable section

namespace Cert.Up.Reference

open Cert.ReferenceIdeal Cert.ReferenceIdeal.Gen
open Idealize.ShloMosaic Idealize.ShloMosaic.TcCoe Idealize.SL.Sem

/-- Each row's expert: its tile's, repeated over the tile's rows. -/
def experts (a0 : IVec S98 32) : IVec S25088 32 :=
  shapeCast _ (broadcastInDim S98x256 ![0] bcast_S98_S98x256_0 a0) shapeCasts_S98x256_S25088

/-- The same with a negative number counted from the end, as a column. -/
def column (e : IVec S25088 32) : IVec S25088x1 32 :=
  broadcastInDim S25088x1 ![0] bcast_S25088_S25088x1_0 (select (cmpi .slt e (broadcastInDim S25088 ![] bcast_S_S25088 (constantI S_ 32 0#32))) (addi e (broadcastInDim S25088 ![] bcast_S_S25088 (constantI S_ 32 32#32))) e)

/-- The weights of all the rows' experts, one matrix a row. -/
def weights (a0 : IVec S98 32) (w : S2x32x4096x512.Idx → Elt Ideal .f32) : FVec Ideal S25088x4096x512 .f32 :=
  Host.gather gather_S32x4096x512_S25088x1_S25088x4096x512_12_0_n_n_0_1_14096512
    (shapeCast _ (extractStridedSlice S1x32x4096x512 ![0, 0, 0, 0] w slices_S2x32x4096x512_S1x32x4096x512_0_0_0_0) shapeCasts_S1x32x4096x512_S32x4096x512)
    (column (experts a0))

/-- The halves of all the words, as f32. -/
def halves (a2 : IVec S401408x128 32) : FVec Ideal S25088x2048x2 .f32 :=
  extf .f32 (bitcastToFloat (F := Ideal) .bf16 (Host.bitcastConvertNarrow S25088x2048x2 16 (shapeCast _ a2 shapeCasts_S401408x128_S25088x2048) splits_S25088x2048_w32_S25088x2048x2_w16)) bitsLt_bf16_f32

/-- The low halves, and the high halves. -/
def lows (a2 : IVec S401408x128 32) : FVec Ideal S25088x2048 .f32 :=
  shapeCast _ (extractStridedSlice S25088x2048x1 ![0, 0, 0] (halves a2) slices_S25088x2048x2_S25088x2048x1_0_0_0) shapeCasts_S25088x2048x1_S25088x2048
def highs (a2 : IVec S401408x128 32) : FVec Ideal S25088x2048 .f32 :=
  shapeCast _ (extractStridedSlice S25088x2048x1 ![0, 0, 1] (halves a2) slices_S25088x2048x2_S25088x2048x1_0_0_1) shapeCasts_S25088x2048x1_S25088x2048

/-- The rows' features: the low halves, then the high halves. -/
def features (a2 : IVec S401408x128 32) : FVec Ideal S25088x4096 .f32 :=
  concatenate S25088x4096 1 [⟨S25088x2048, lows a2⟩, ⟨S25088x2048, highs a2⟩] concatenates_S25088x2048_S25088x2048_S25088x4096_d1

/-- The reference's products of the features with weights `w`. -/
def dots (a0 : IVec S98 32) (a2 : IVec S401408x128 32) (w : S2x32x4096x512.Idx → Elt Ideal .f32) : FVec Ideal S25088x512 .f32 :=
  Host.dotGeneral dot_S25088x4096_S25088x4096x512_S25088x512_1_1_n_2_0_0 none (features a2) (weights a0 w)

/-- The activation and the product with the up value. -/
def gate (g u : FVec Ideal S25088x512 .f32) : FVec Ideal S25088x512 .bf16 :=
  truncf .bf16 (mulf (mulf g (Host.divf (broadcastInDim S25088x512 ![] bcast_S_S25088x512 (constant S_ .f32 0x3F800000#32)) (addf (broadcastInDim S25088x512 ![] bcast_S_S25088x512 (constant S_ .f32 0x3F800000#32)) (Host.exp (Host.negf g))))) u) bitsLt_bf16_f32

/-- The reference's result is those in turn. -/
theorem result_eq (m : (ℓ : Loc nD τ sig) → Buf (Elt Ideal) ℓ) (c : Dev nD) :
    Cert.ReferenceIdeal.Value.res_main_v32 m c
      = gate (dots (m ((c.tc : Thread nD τ).loc main_arg0)) (m ((c.tc : Thread nD τ).loc main_arg2)) (m ((c.tc : Thread nD τ).loc main_arg3)))
          (dots (m ((c.tc : Thread nD τ).loc main_arg0)) (m ((c.tc : Thread nD τ).loc main_arg2)) (m ((c.tc : Thread nD τ).loc main_arg4))) := rfl

/-- A word of a row, the packed rows laid out row by row. -/
theorem packed_apply (a2 : IVec S401408x128 32) (r : Fin 25088) (j : Fin 2048) :
    (shapeCast _ a2 shapeCasts_S401408x128_S25088x2048 : IVec S25088x2048 32) (ix2 r j) = Cert.Up.packed a2 r j := by
  unfold Cert.Up.packed
  pointwise

/-- A half of a word. -/
theorem halves_apply (a2 : IVec S401408x128 32) (r : Fin 25088) (j : Fin 2048) (b : Fin 2) :
    halves a2 (ix3 r j b) = half b.val (Cert.Up.packed a2 r j) := by
  rw [← packed_apply]
  refine congrArg (fun y => half b.val ((shapeCast _ a2 shapeCasts_S401408x128_S25088x2048 : IVec S25088x2048 32) y)) (funext fun a => Fin.ext ?_)
  match a with
  | ⟨0, _⟩ => rfl
  | ⟨1, _⟩ => rfl

/-- The low half of a word. -/
theorem lows_apply (a2 : IVec S401408x128 32) (r : Fin 25088) (j : Fin 2048) :
    lows a2 (ix2 r j) = half 0 (Cert.Up.packed a2 r j) := by
  refine Eq.trans ?_ (halves_apply a2 r j 0)
  unfold lows
  pointwise

/-- The high half of a word. -/
theorem highs_apply (a2 : IVec S401408x128 32) (r : Fin 25088) (j : Fin 2048) :
    highs a2 (ix2 r j) = half 1 (Cert.Up.packed a2 r j) := by
  refine Eq.trans ?_ (halves_apply a2 r j 1)
  unfold highs
  pointwise

/-- A feature of a row. -/
theorem features_apply (a2 : IVec S401408x128 32) (r : Fin 25088) (d : Fin 4096) :
    features a2 (ix2 r d) = feature (Cert.Up.packed a2 r) d := by
  unfold features feature
  by_cases h : d.val < 2048
  · rw [dif_pos h]
    refine Eq.trans ?_ (lows_apply a2 r ⟨d.val, h⟩)
    pointwise
    exact dif_pos h
  · rw [dif_neg h]
    refine Eq.trans ?_ (highs_apply a2 r ⟨d.val - 2048, by omega⟩)
    pointwise
    exact dif_neg h

/-- Row `r`'s expert is that of tile `r / 256`. -/
theorem experts_apply (a0 : IVec S98 32) (r : Fin 25088) :
    experts a0 (ix1 r) = a0 (Cert.Up.at98 (r.val / 256) (by have := r.isLt; omega)) := by
  unfold experts
  pointwise
  exact congrArg a0 (funext fun a => Fin.ext (by match a with | ⟨0, _⟩ => rfl))

/-- A number in range is left as it is. -/
theorem column_apply (e : IVec S25088 32) (r : Fin 25088) (h : (e (ix1 r)).toNat < 32) :
    column e (ix2 r 0) = e (ix1 r) := by
  unfold column
  pointwise
  have hc : IntOp.cmpi .slt (e (ix1 r)) 0#32 = 0#1 := by
    have hn : ¬ (e (ix1 r)).slt 0#32 = true := by
      rw [BitVec.slt_iff_toInt_lt, BitVec.toInt_eq_toNat_of_lt (x := e (ix1 r)) (by omega), show (0#32 : BitVec 32).toInt = 0 from rfl]; omega
    show BitVec.ofBool _ = 0#1
    rw [Bool.not_eq_true] at hn
    rw [hn]; rfl
  rw [hc]; rfl

/-- The batched product at an element. -/
theorem dot_apply (x : FVec Ideal S25088x4096 .f32) (w : FVec Ideal S25088x4096x512 .f32) (r : Fin 25088) (f : Fin 512) :
    (Host.dotGeneral dot_S25088x4096_S25088x4096x512_S25088x512_1_1_n_2_0_0 none x w : FVec Ideal S25088x512 .f32) (ix2 r f)
      = (∑ d : Fin 4096, (x (ix2 r d) : EReal) * w (ix3 r d f) : EReal) := by
  pointwise

/-- The first layer's weights of an expert. -/
theorem slab_apply (w : S2x32x4096x512.Idx → Elt Ideal .f32) (e : Fin 32) (d : Fin 4096) (f : Fin 512) :
    (shapeCast _ (extractStridedSlice S1x32x4096x512 ![0, 0, 0, 0] w slices_S2x32x4096x512_S1x32x4096x512_0_0_0_0) shapeCasts_S1x32x4096x512_S32x4096x512 : S32x4096x512.Idx → Elt Ideal .f32) (ix3 e d f)
      = w (ix4 0 e d f) := by
  pointwise

/-- A row's matrix is its expert's. -/
theorem weights_apply (a0 : IVec S98 32) (w : S2x32x4096x512.Idx → Elt Ideal .f32) (r : Fin 25088) (e : Fin 32)
    (he : (experts a0 (ix1 r)).toNat = e.val) (d : Fin 4096) (f : Fin 512) :
    weights a0 w (ix3 r d f) = w (ix4 0 e d f) := by
  refine Eq.trans ?_ (slab_apply w e d f)
  have hc := column_apply (experts a0) r (he.trans_lt e.isLt)
  exact Cert.Gather.apply gather_S32x4096x512_S25088x1_S25088x4096x512_12_0_n_n_0_1_14096512.wf _ _ r d f e ((congrArg BitVec.toNat hc).trans he) (by omega)

/-- Row `r`'s expert as a number. -/
theorem expert_eq {T1 : Cert.Up.Count} {a0 : IVec S98 32} (hA : Cert.Up.Admits a0 T1) (r : Fin 25088) :
    (experts a0 (ix1 r)).toNat = (Cert.Up.expert hA r).val := by
  rw [experts_apply]; rfl

/-- The products at an element. -/
theorem dots_apply {T1 : Cert.Up.Count} (a0 : IVec S98 32) (hA : Cert.Up.Admits a0 T1) (a2 : IVec S401408x128 32)
    (w : S2x32x4096x512.Idx → Elt Ideal .f32) (i : S25088x512.Idx) :
    dots a0 a2 w (ix2 (i 0) (i 1)) = Cert.Up.products a2 w (Cert.Up.expert hA (i 0)) i := by
  refine (dot_apply _ _ (i 0) (i 1)).trans ?_
  unfold Cert.Up.products
  refine Finset.sum_congr rfl fun d _ => congr (congrArg _ (features_apply a2 (i 0) d)) ?_
  exact weights_apply a0 w (i 0) (Cert.Up.expert hA (i 0)) (expert_eq hA (i 0)) d (i 1)

/-- The gating at an element. -/
theorem gate_apply (g u : FVec Ideal S25088x512 .f32) (r : Fin 25088) (f : Fin 512) :
    gate g u (ix2 r f) = gated (g (ix2 r f)) (u (ix2 r f)) := by
  unfold gate gated
  pointwise

/-- The reference's result at an element. -/
theorem value {T1 : Cert.Up.Count} (a0 : IVec S98 32) (hA : Cert.Up.Admits a0 T1) (a2 : IVec S401408x128 32)
    (a3 a4 : S2x32x4096x512.Idx → Elt Ideal .f32) (i : S25088x512.Idx) :
    gate (dots a0 a2 a3) (dots a0 a2 a4) i
      = gated (Cert.Up.products a2 a3 (Cert.Up.expert hA (i 0)) i) (Cert.Up.products a2 a4 (Cert.Up.expert hA (i 0)) i) := by
  have ei : i = ix2 (i 0) (i 1) := funext fun a => by match a with | ⟨0, _⟩ => rfl | ⟨1, _⟩ => rfl
  refine (congrArg _ ei).trans ((gate_apply _ _ (i 0) (i 1)).trans ?_)
  exact congr (congrArg gated (dots_apply a0 hA a2 a3 i)) (dots_apply a0 hA a2 a4 i)

end Cert.Up.Reference

end
-- ==== Proof.Up.Algebraic.lean ====
/- The up call and its reference leave equal extended reals at the rows of the tiles in use. -/
module

public import proofs.«01_k».proof.Proof.Frames
public import proofs.«01_k».proof.Proof.Up.Reference

@[expose] public section

noncomputable section

namespace Cert.Up

open Idealize.ShloMosaic Idealize.SL.Sem

/-- `Cert.algebraic_KernelIdeal_ReferenceIdeal_on_used`: both hold, at a row of a tile in use, the gated pair of the row's
    products with its expert's gate and up weights. -/
theorem algebraic : Cert.algebraic_KernelIdeal_ReferenceIdeal_on_used := by
  intro m ρ m' ρ' hpre hagree
  have hA := Admit.up _ _ _ _ _ (hpre 0).1 (hpre 0).2
  refine ⟨fun c i => gated (products (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (expert hA (i 0)) i)
    (products (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (expert hA (i 0)) i), ?_, ?_⟩
  · refine (θ_run Cert.KernelIdeal.defs _ _).mono (fun r h c => ⟨fun i hi => ?_, (h.1 c).2⟩) (Up.run (F := Ideal) hA m ρ (Frames.tables_up m))
    obtain rfl : c = 0 := Subsingleton.elim (α := Fin 1) _ _
    exact (congrFun (h.1 0).1 i).trans (value hA m ρ 0 i (Admit.on_up _ _ _ _ _ hA i hi))
  · refine (θ_run Cert.ReferenceIdeal.defs _ _).mono (fun r h c => ⟨fun i _ => ?_, (h c).2⟩) (Cert.ReferenceIdeal.Value.run (F := Ideal) m' ρ')
    obtain rfl : c = 0 := Subsingleton.elim (α := Fin 1) _ _
    obtain ⟨e0, _, e2, e3, e4⟩ := hagree 0
    refine (congrFun (h 0).1 i).trans ?_
    rw [Reference.result_eq, e0, e2, e3, e4]
    exact Reference.value _ hA _ _ _ i

end Cert.Up

end
-- ==== Proof.Down.Value.lean ====
/- What the down call leaves: at the ideal instance, row `r` of a tile in use holds the products of that row of the
   middle activations with the down weights of its tile's expert. -/
module

public import proofs.«01_k».proof.Proof.Down.Frame
public import Idealize.ShloMosaic.Lib.Pointwise

@[expose] public section

set_option maxRecDepth 16384

noncomputable section

namespace Cert.Down

open Cert.Kernel2Ideal Cert.Kernel2Ideal.Gen
open Idealize.ShloMosaic Idealize.ShloMosaic.TcCoe Idealize.ShloMosaic.Tactic
open Idealize.ShloMosaic.Pipeline (Dat Cfg Window)

/-- Rounding the weights does nothing at the ideal instance; the block's two unit axes go. -/
theorem rounded_apply (w : S1x1x512x4096.Idx → Elt Ideal .f32) (k : Fin 512) (f : Fin 4096) :
    rounded (F := Ideal) w (ix2 k f) = w (ix4 0 0 k f) := by
  unfold rounded k0_pay1
  pointwise

/-- One tile's result at an element: the sum over the middle features. -/
theorem out_apply (x : S256x512.Idx → Elt Ideal .bf16) (w : S512x4096.Idx → Elt Ideal .bf16) (r : Fin 256) (f : Fin 4096) :
    out (F := Ideal) x w (ix2 r f) = (∑ k : Fin 512, x (ix2 r k) * w (ix2 k f) : EReal) := by
  unfold out k0_pay2
  pointwise

variable {T0 : Exps} {T1 : Count} (hA : Admits T0 T1)

/-- The expert of a row, from the table of the tiles' experts. -/
def expert (i : Fin 25088) : Fin 32 := ⟨(T0 (at98 (i.val / 256) (by have := i.isLt; omega))).toNat, hA.expert _⟩

section
variable {F : FTy → Type} [FloatOps F]
variable (m : (ℓ : Loc nD τ sig) → Buf (Elt F) ℓ) (ρ : Dev nD → PrngReg)

/-- A tile's block of the middle activations holds the tile's rows. -/
theorem iblk0_apply (c : Dev nD) (t : Fin (cfgA (F := F) hA).N) (h : t.val < nu T1) (r : Fin 256) (k : Fin 512) :
    iblk hA m c (0 : Fin 3) t (ix2 r k) = m ((c : Thread nD τ).loc main_arg2)
      (ix2 ⟨t.val * 256 + r.val, by have := hA.le; have : nu T1 ≤ 98 := hA.le; omega⟩ k) := by
  have e := index0 hA t
  refine congrArg (m ((c : Thread nD τ).loc main_arg2)) (funext fun a => Fin.ext ?_)
  refine (Pipeline.Window.rect_emb_val ((cfgA (F := F) hA).win (0 : Fin 3)) t (ix2 r k) a rfl).trans ?_
  rw [e]
  match a with
  | ⟨0, _⟩ => show min t.val (nu T1 - 1) * 256 + r.val = t.val * 256 + r.val; rw [Nat.min_eq_left (by omega)]
  | ⟨1, _⟩ => show 0 * 512 + k.val = k.val; omega

/-- The result's array, row by row: each row its tile's result. -/
def rows (c : Dev nD) (i : S25088x4096.Idx) : Elt F .f32 :=
  res hA m c (pt hA ((i 0).val / 256)) (ix2 ⟨(i 0).val % 256, Nat.mod_lt _ (by omega)⟩ (i 1))

/-- Where an element of the result's block lies in the array. -/
theorem blk2_emb (t : Fin (cfgA (F := F) hA).N) (y : S256x4096.Idx) :
    ((((cfgA (F := F) hA).win (2 : Fin 3)).blk t).view.emb y 0).val = min t.val (nu T1 - 1) * 256 + (y 0).val
      ∧ ((((cfgA (F := F) hA).win (2 : Fin 3)).blk t).view.emb y 1).val = (y 1).val := by
  have e := index2 hA t
  constructor
  · refine (Pipeline.Window.rect_emb_val ((cfgA (F := F) hA).win (2 : Fin 3)) t y 0 rfl).trans ?_
    rw [e]; rfl
  · refine (Pipeline.Window.rect_emb_val ((cfgA (F := F) hA).win (2 : Fin 3)) t y 1 rfl).trans ?_
    rw [e]; show 0 * 4096 + (y 1).val = _; omega

/-- What a point writes back is its block of those rows. -/
theorem flushed2 (c : Dev nD) (t : Fin (cfgA (F := F) hA).N) :
    (dats hA m ρ 0 c).flushed (2 : Fin 3) t = (((cfgA (F := F) hA).win (2 : Fin 3)).blk t).view.read (Elt F) (rows hA m c) := by
  have hp : 1 ≤ nu T1 := hA.pos
  funext y
  have hy : (y 0).val < 256 := (y 0).isLt
  obtain ⟨e0, e1⟩ := blk2_emb (F := F) hA t y
  show res hA m c (pt hA t.val) y = rows hA m c ((((cfgA (F := F) hA).win (2 : Fin 3)).blk t).view.emb y)
  unfold rows
  have ep : pt (F := F) hA (((((cfgA (F := F) hA).win (2 : Fin 3)).blk t).view.emb y 0).val / 256) = pt hA t.val :=
    Fin.ext (by rw [pt_val, pt_val, e0]; omega)
  rw [ep]
  refine congrArg (res hA m c (pt hA t.val)) (funext fun a => Fin.ext ?_)
  match a with
  | ⟨0, _⟩ => show (y 0).val = _ % 256; rw [e0]; omega
  | ⟨1, _⟩ => exact e1.symm

/-- Each row of a tile in use ends up holding its tile's result. -/
theorem arr_apply (c : Dev nD) (i : S25088x4096.Idx) (hi : (i 0).val / 256 < nu T1) :
    (dats hA m ρ 0 c).arrAt (2 : Fin 3) (cfgA (F := F) hA).N i = rows hA m c i := by
  have hn : nu T1 ≤ 98 := hA.le
  have hN := N_eq (F := F) hA
  have hp : 1 ≤ nu T1 := hA.pos
  have hr : (i 0).val < 25088 := (i 0).isLt
  obtain ⟨n, hn98, hmin, hlast⟩ : ∃ n, n < 98 ∧ min n (nu T1 - 1) = (i 0).val / 256 ∧ (n + 1 = 98 ∨ n + 1 < nu T1) := by
    by_cases h : (i 0).val / 256 + 1 < nu T1
    · exact ⟨(i 0).val / 256, by omega, by omega, by omega⟩
    · exact ⟨97, by omega, by omega, by omega⟩
  refine (dats hA m ρ 0 c).arrAt_apply_of_mem (2 : Fin 3) (rows hA m c) (fun t _ => flushed2 hA m ρ c t) _
    ⟨n, hn98.trans_eq hN.symm⟩ i (hn98.trans_eq hN.symm) ?_ ?_
  · rw [flush2, decide_eq_true_eq]; exact hlast
  · have e : (((cfgA (F := F) hA).win (2 : Fin 3)).blk ⟨n, hn98.trans_eq hN.symm⟩).view.emb
        (ix2 ⟨(i 0).val % 256, Nat.mod_lt _ (by omega)⟩ (i 1) : S256x4096.Idx) = i := by
      obtain ⟨e0, e1⟩ := blk2_emb (F := F) hA ⟨n, hn98.trans_eq hN.symm⟩ (ix2 ⟨(i 0).val % 256, Nat.mod_lt _ (by omega)⟩ (i 1))
      funext a
      refine Fin.ext ?_
      match a with
      | ⟨0, _⟩ =>
        refine e0.trans ?_
        show min n (nu T1 - 1) * 256 + (i 0).val % 256 = (i 0).val
        rw [hmin]; omega
      | ⟨1, _⟩ => exact e1
    exact e ▸ View.emb_mem_set _ _
end

/-- One element of the down products: a row of the middle activations by a column of an expert's weights. -/
def products (h : S25088x512.Idx → EReal) (w : S2x32x512x4096.Idx → EReal) (e : Fin 32) (i : S25088x4096.Idx) : EReal :=
  ∑ k : Fin 512, h (ix2 (i 0) k) * w (ix4 0 e k (i 1))

/-- The result at a row in use, at the ideal instance: the row's products with its expert's weights. -/
theorem value (m : (ℓ : Loc nD τ sig) → Buf (Elt Ideal) ℓ) (ρ : Dev nD → PrngReg) (c : Dev nD) (i : S25088x4096.Idx)
    (hi : (i 0).val / 256 < nu T1) :
    (dats hA m ρ 0 c).arrAt (2 : Fin 3) (cfgA (F := Ideal) hA).N i
      = products (m ((c : Thread nD τ).loc main_arg2)) (m ((c : Thread nD τ).loc main_arg3)) (expert hA (i 0)) i := by
  rw [arr_apply hA m ρ c i hi]
  unfold rows res products
  refine (out_apply _ _ _ _).trans ?_
  have ep : (pt (F := Ideal) hA ((i 0).val / 256)).val = (i 0).val / 256 := by rw [pt_val]; omega
  refine Finset.sum_congr rfl fun k _ => congr (congrArg _ ?_) ?_
  · refine (iblk0_apply hA m c _ (by omega) _ _).trans ?_
    refine congrArg (m ((c : Thread nD τ).loc main_arg2)) (funext fun a => Fin.ext ?_)
    match a with
    | ⟨0, _⟩ => show (pt (F := Ideal) hA ((i 0).val / 256)).val * 256 + (i 0).val % 256 = (i 0).val; omega
    | ⟨1, _⟩ => rfl
  · refine ((rounded_apply _ _ _).trans (iblk1_apply hA m c _ _)).trans ?_
    refine congrArg (m ((c : Thread nD τ).loc main_arg3)) (funext fun a => Fin.ext ?_)
    match a with
    | ⟨0, _⟩ => rfl
    | ⟨1, _⟩ =>
      refine congrArg (fun x => (T0 x).toNat) (funext fun b => Fin.ext ?_)
      match b with
      | ⟨0, _⟩ => exact ep
    | ⟨2, _⟩ => rfl
    | ⟨3, _⟩ => rfl

end Cert.Down

end
-- ==== Proof.Down.Reference.lean ====
/- What the down reference computes at the ideal instance: each row's products with its expert's weights. -/
module

public import proofs.«01_k».proof.Proof.Down.Value
public import proofs.«01_k».proof.Proof.Gather
public import proofs.«01_k».proof.Proof.Gen.Reference2Ideal.Run
public import Idealize.ShloMosaic.Lib.StableHlo.Predicate

@[expose] public section

set_option maxRecDepth 16384

noncomputable section

namespace Cert.Down.Reference

open Cert.Reference2Ideal Cert.Reference2Ideal.Gen
open Idealize.ShloMosaic Idealize.ShloMosaic.TcCoe Idealize.SL.Sem

/-- Each row's expert: its tile's, repeated over the tile's rows. -/
def experts (a0 : IVec S98 32) : IVec S25088 32 :=
  shapeCast _ (broadcastInDim S98x256 ![0] bcast_S98_S98x256_0 a0) shapeCasts_S98x256_S25088

/-- The same with a negative number counted from the end, as a column. -/
def column (e : IVec S25088 32) : IVec S25088x1 32 :=
  broadcastInDim S25088x1 ![0] bcast_S25088_S25088x1_0 (select (cmpi .slt e (broadcastInDim S25088 ![] bcast_S_S25088 (constantI S_ 32 0#32))) (addi e (broadcastInDim S25088 ![] bcast_S_S25088 (constantI S_ 32 32#32))) e)

/-- The weights of all the rows' experts, one matrix a row. -/
def weights (a0 : IVec S98 32) (a3 : S2x32x512x4096.Idx → Elt Ideal .f32) : FVec Ideal S25088x512x4096 .f32 :=
  Host.gather gather_S32x512x4096_S25088x1_S25088x512x4096_12_0_n_n_0_1_15124096
    (shapeCast _ (extractStridedSlice S1x32x512x4096 ![0, 0, 0, 0] a3 slices_S2x32x512x4096_S1x32x512x4096_0_0_0_0) shapeCasts_S1x32x512x4096_S32x512x4096)
    (column (experts a0))

/-- Row `r`'s expert is that of tile `r / 256`. -/
theorem experts_apply (a0 : IVec S98 32) (r : Fin 25088) :
    experts a0 (ix1 r) = a0 (Cert.Down.at98 (r.val / 256) (by have := r.isLt; omega)) := by
  unfold experts
  pointwise
  exact congrArg a0 (funext fun a => Fin.ext (by match a with | ⟨0, _⟩ => rfl))

/-- A number in range is left as it is. -/
theorem column_apply (e : IVec S25088 32) (r : Fin 25088) (h : (e (ix1 r)).toNat < 32) :
    column e (ix2 r 0) = e (ix1 r) := by
  unfold column
  pointwise
  have hc : IntOp.cmpi .slt (e (ix1 r)) 0#32 = 0#1 := by
    have hn : ¬ (e (ix1 r)).slt 0#32 = true := by
      rw [BitVec.slt_iff_toInt_lt, BitVec.toInt_eq_toNat_of_lt (x := e (ix1 r)) (by omega), show (0#32 : BitVec 32).toInt = 0 from rfl]; omega
    show BitVec.ofBool _ = 0#1
    rw [Bool.not_eq_true] at hn
    rw [hn]; rfl
  rw [hc]; rfl

/-- The batched product at an element. -/
theorem dot_apply (x : FVec Ideal S25088x512 .f32) (w : FVec Ideal S25088x512x4096 .f32) (r : Fin 25088) (f : Fin 4096) :
    (Host.dotGeneral dot_S25088x512_S25088x512x4096_S25088x4096_1_1_n_2_0_0 none x w : FVec Ideal S25088x4096 .f32) (ix2 r f)
      = (∑ k : Fin 512, (x (ix2 r k) : EReal) * w (ix3 r k f) : EReal) := by
  pointwise

/-- The first layer's weights of an expert. -/
theorem slab_apply (a3 : S2x32x512x4096.Idx → Elt Ideal .f32) (e : Fin 32) (k : Fin 512) (f : Fin 4096) :
    (shapeCast _ (extractStridedSlice S1x32x512x4096 ![0, 0, 0, 0] a3 slices_S2x32x512x4096_S1x32x512x4096_0_0_0_0) shapeCasts_S1x32x512x4096_S32x512x4096 : S32x512x4096.Idx → Elt Ideal .f32) (ix3 e k f)
      = a3 (ix4 0 e k f) := by
  pointwise

/-- A row's matrix is its expert's. -/
theorem weights_apply (a0 : IVec S98 32) (a3 : S2x32x512x4096.Idx → Elt Ideal .f32) (r : Fin 25088) (e : Fin 32)
    (he : (experts a0 (ix1 r)).toNat = e.val) (k : Fin 512) (f : Fin 4096) :
    weights a0 a3 (ix3 r k f) = a3 (ix4 0 e k f) := by
  refine Eq.trans ?_ (slab_apply a3 e k f)
  have hc := column_apply (experts a0) r (he.trans_lt e.isLt)
  exact Cert.Gather.apply gather_S32x512x4096_S25088x1_S25088x512x4096_12_0_n_n_0_1_15124096.wf _ _ r k f e ((congrArg BitVec.toNat hc).trans he) (by omega)

/-- Row `r`'s expert as a number. -/
theorem expert_eq {T1 : Cert.Down.Count} {a0 : IVec S98 32} (hA : Cert.Down.Admits a0 T1) (r : Fin 25088) :
    (experts a0 (ix1 r)).toNat = (Cert.Down.expert hA r).val := by
  rw [experts_apply]; rfl

/-- The reference's result at an element. -/
theorem value {T1 : Cert.Down.Count} (a0 : IVec S98 32) (hA : Cert.Down.Admits a0 T1) (a2 : FVec Ideal S25088x512 .bf16)
    (a3 : S2x32x512x4096.Idx → Elt Ideal .f32) (i : S25088x4096.Idx) :
    (Host.dotGeneral dot_S25088x512_S25088x512x4096_S25088x4096_1_1_n_2_0_0 none (extf .f32 a2 bitsLt_bf16_f32) (weights a0 a3) : FVec Ideal S25088x4096 .f32) i
      = Cert.Down.products a2 a3 (Cert.Down.expert hA (i 0)) i := by
  have ei : i = ix2 (i 0) (i 1) := funext fun a => by match a with | ⟨0, _⟩ => rfl | ⟨1, _⟩ => rfl
  refine (congrArg _ ei).trans ((dot_apply _ _ (i 0) (i 1)).trans ?_)
  unfold Cert.Down.products
  refine Finset.sum_congr rfl fun k _ => congr (congrArg _ rfl) ?_
  exact weights_apply a0 a3 (i 0) (Cert.Down.expert hA (i 0)) (expert_eq hA (i 0)) k (i 1)

end Cert.Down.Reference

end
-- ==== Proof.Down.Algebraic.lean ====
/- The down call and its reference leave equal extended reals at the rows of the tiles in use. -/
module

public import proofs.«01_k».proof.Proof.Frames
public import proofs.«01_k».proof.Proof.Down.Reference

@[expose] public section

noncomputable section

namespace Cert.Down

open Idealize.ShloMosaic Idealize.SL.Sem

/-- `Cert.algebraic_Kernel2Ideal_Reference2Ideal_on_used2`: both hold, at a row of a tile in use, the row's products with
    its expert's weights. -/
theorem algebraic : Cert.algebraic_Kernel2Ideal_Reference2Ideal_on_used2 := by
  intro m ρ m' ρ' hpre hagree
  have hA := Admit.down _ _ _ _ (hpre 0).1 (hpre 0).2
  refine ⟨fun c i => products (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)) (expert hA (i 0)) i, ?_, ?_⟩
  · refine (θ_run Cert.Kernel2Ideal.defs _ _).mono (fun r h c => ⟨fun i hi => ?_, (h.1 c).2⟩) (Down.run (F := Ideal) hA m ρ (Frames.tables_down m))
    obtain rfl : c = 0 := Subsingleton.elim (α := Fin 1) _ _
    exact (congrFun (h.1 0).1 i).trans (value hA m ρ 0 i (Admit.on_down _ _ _ _ hA i hi))
  · refine (θ_run Cert.Reference2Ideal.defs _ _).mono (fun r h c => ⟨fun i _ => ?_, (h c).2⟩) (Cert.Reference2Ideal.Value.run (F := Ideal) m' ρ')
    obtain rfl : c = 0 := Subsingleton.elim (α := Fin 1) _ _
    obtain ⟨e0, _, e2, e3⟩ := hagree 0
    refine (congrFun (h 0).1 i).trans ?_
    rw [e0, e2, e3]
    exact Reference.value _ hA _ _ i

end Cert.Down

end
-- ==== Proof.In.Value.lean ====
/- What the projection into a layer's parts leaves, at the ideal instance: each row's products with the weights. The
   weights are rounded once a column block, at its first row block, and held while the row blocks go by. -/
module

public import proofs.«01_k».proof.Proof.Gen.Kernel3Ideal.Value
public import Idealize.ShloMosaic.Lib.Pipeline.Value
public import Idealize.ShloMosaic.Lib.Pointwise
public import Idealize.ShloMosaic.Lib.Tactic

@[expose] public section

set_option maxRecDepth 16384

noncomputable section

namespace Cert.In

open Cert.Kernel3Ideal Cert.Kernel3Ideal.Gen Cert.Kernel3Ideal.Value
open Idealize.ShloMosaic Idealize.ShloMosaic.TcCoe Idealize.ShloMosaic.Tactic
open Idealize.ShloMosaic.Pipeline (Dat Cfg Window)

theorem origin : (![0, 0] : Fin 2 → Nat) = fun _ => 0 := funext fun a => by fin_cases a <;> rfl

section
variable {F : FTy → Type} [FloatOps F]
variable (m : (ℓ : Loc nD τ sig) → Buf (Elt F) ℓ)

/-- A first row block leaves the weights' block rounded, -/
theorem held_first (c : Dev nD) (i : grid0.Coords) (a2 : Memref sig .tc .vmem S768x4096 .bf16) (h2 : a2.IsWhole)
    (a3 : Memref sig .tc .vmem S4096x512 .f32) (h3 : a3.IsWhole) (a4 : Memref sig .tc .vmem S768x512 .f32) (h4 : a4.IsWhole)
    (a5 : Memref sig .tc .vmem S4096x512 .bf16) (h5 : a5.IsWhole) (hc : cond0_0 i)
    (x : Vec F S768x4096 .bf16) (w : Vec F S4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) origin]
  simp only [View.readAt_eq_ld, h3.read_unread, View.ld_unit_zero (S := S4096x512) origin]

/-- and in the result's block the rows' products with it. -/
theorem result_first (c : Dev nD) (i : grid0.Coords) (a2 : Memref sig .tc .vmem S768x4096 .bf16) (h2 : a2.IsWhole)
    (a3 : Memref sig .tc .vmem S4096x512 .f32) (h3 : a3.IsWhole) (a4 : Memref sig .tc .vmem S768x512 .f32) (h4 : a4.IsWhole)
    (a5 : Memref sig .tc .vmem S4096x512 .bf16) (h5 : a5.IsWhole) (hc : cond0_0 i)
    (x : Vec F S768x4096 .bf16) (w : Vec F S4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S768x512) origin, View.readCov_unit_zero (S := S4096x512) _ origin]
  simp only [View.readAt_eq_ld, h2.read_unread, h3.read_unread, View.ld_unit_zero (S := S4096x512) origin, View.ld_unit_zero (S := S768x4096) origin]

/-- A later row block leaves in the result's block the rows' products with the weights held. -/
theorem result_later (c : Dev nD) (i : grid0.Coords) (a2 : Memref sig .tc .vmem S768x4096 .bf16) (h2 : a2.IsWhole)
    (a3 : Memref sig .tc .vmem S4096x512 .f32) (h3 : a3.IsWhole) (a4 : Memref sig .tc .vmem S768x512 .f32) (h4 : a4.IsWhole)
    (a5 : Memref sig .tc .vmem S4096x512 .bf16) (h5 : a5.IsWhole) (hc : ¬cond0_0 i)
    (x : Vec F S768x4096 .bf16) (w : Vec F S4096x512 .f32) (s : Vec F S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero (S := S768x512) origin]
  simp only [View.readAt_eq_ld, h2.read_unread, h5.read_unread, View.ld_unit_zero (S := S4096x512) origin, View.ld_unit_zero (S := S768x4096) origin]

/-- The row blocks go round within each column block. -/
theorem index0 : ∀ t : Fin cfg0.N, win0_0.index t = ![t.val % 11, 0] :=
  (by decide +kernel : ∀ t : Fin grid0.N, win0_0.index t = ![t.val % 11, 0])
theorem index1 : ∀ t : Fin cfg0.N, win0_1.index t = ![0, t.val / 11] :=
  (by decide +kernel : ∀ t : Fin grid0.N, win0_1.index t = ![0, t.val / 11])

/-- A point's block of the rows, -/
theorem rows_apply (c : Dev nD) (t : Fin cfg0.N) (r : Fin 768) (k : Fin 4096) :
    iblk m c 0 t (ix2 r k) = m ((c : Thread nD τ).loc main_arg0) (ix2 ⟨t.val % 11 * 768 + r.val, by omega⟩ k) := by
  have e := index0 t
  refine congrArg (m ((c : Thread nD τ).loc main_arg0)) (funext fun a => Fin.ext ?_)
  refine (Pipeline.Window.rect_emb_val (cfg0.win 0) t (ix2 r k) a rfl).trans ?_
  rw [show (cfg0.win 0).index t = _ from e]
  match a with
  | ⟨0, _⟩ => rfl
  | ⟨1, _⟩ => show 0 * 4096 + k.val = k.val; omega

/-- and its block of the weights. -/
theorem cols_apply (c : Dev nD) (t : Fin cfg0.N) (k : Fin 4096) (f : Fin 512) :
    iblk m c 1 t (ix2 k f) = m ((c : Thread nD τ).loc main_arg1)
      (ix2 k ⟨t.val / 11 * 512 + f.val, by have := t.isLt.trans_eq (show cfg0.N = 154 from N_0); omega⟩) := by
  have e := index1 t
  refine congrArg (m ((c : Thread nD τ).loc main_arg1)) (funext fun a => Fin.ext ?_)
  refine (Pipeline.Window.rect_emb_val (cfg0.win 1) t (ix2 k f) a rfl).trans ?_
  rw [show (cfg0.win 1).index t = _ from e]
  match a with
  | ⟨0, _⟩ => show 0 * 4096 + k.val = k.val; omega
  | ⟨1, _⟩ => rfl

/-- Two points of one column block read the same block of the weights. -/
theorem cols_congr (c : Dev nD) (t t' : Fin cfg0.N) (h : t.val / 11 = t'.val / 11) :
    (iblk m c 1 t : Vec F S4096x512 .f32) = iblk m c 1 t' := by
  funext y
  have ey : y = ix2 (y 0) (y 1) := funext fun a => by match a with | ⟨0, _⟩ => rfl | ⟨1, _⟩ => rfl
  rw [ey]
  refine (cols_apply m c t (y 0) (y 1)).trans (Eq.trans ?_ (cols_apply m c t' (y 0) (y 1)).symm)
  refine congrArg (fun n => m ((c : Thread nD τ).loc main_arg1) (ix2 (y 0) n)) (Fin.ext ?_)
  show t.val / 11 * 512 + _ = t'.val / 11 * 512 + _
  rw [h]

/-- What every point leaves: its rows' products with its weights rounded, and these held. -/
theorem state (c : Dev nD) : ∀ (n : ℕ) (h : n < cfg0.N),
    outsAt0 m c n h = (k0_pay2 (iblk m c 0 ⟨n, h⟩) (k0_pay1 (iblk m c 1 ⟨n, h⟩)), k0_pay1 (iblk m c 1 ⟨n, h⟩))
  | 0, h => by
    rw [outsAt0_A m c ⟨0, h⟩ rfl, result_first, held_first]
  | n + 1, h => by
    by_cases h0 : (n + 1) % 11 = 0
    · rw [outsAt0_A m c ⟨n + 1, h⟩ h0, result_first, held_first]
    · rw [outsAt0_B m c ⟨n + 1, h⟩ h0, result_later]
      have e : (outsAt0 m c n (Nat.lt_of_succ_lt h)).2 = k0_pay1 (iblk m c 1 ⟨n + 1, h⟩) := by
        rw [state c n]
        exact congrArg k0_pay1 (cols_congr m c _ _ (show n / 11 = (n + 1) / 11 by omega))
      exact Prod.ext (congrArg (k0_pay2 _) e) e
end

/-- Rounding the weights does nothing at the ideal instance. -/
theorem rounded_apply (w : Vec Ideal S4096x512 .f32) (k : Fin 4096) (f : Fin 512) :
    k0_pay1 (F := Ideal) w (ix2 k f) = w (ix2 k f) := by
  unfold k0_pay1
  pointwise

/-- One block's result at an element: the sum over the features. -/
theorem block_apply (x : Vec Ideal S768x4096 .bf16) (w : Vec Ideal S4096x512 .bf16) (r : Fin 768) (f : Fin 512) :
    k0_pay2 (F := Ideal) x w (ix2 r f) = (∑ k : Fin 4096, x (ix2 r k) * w (ix2 k f) : EReal) := by
  unfold k0_pay2
  pointwise

/-- A row by a column of the weights. -/
def products (h : S8448x4096.Idx → EReal) (w : S4096x7168.Idx → EReal) (i : S8448x7168.Idx) : EReal :=
  ∑ k : Fin 4096, h (ix2 (i 0) k) * w (ix2 k (i 1))

/-- The result at the ideal instance. -/
theorem value (m : (ℓ : Loc nD τ sig) → Buf (Elt Ideal) ℓ) (c : Dev nD) (i : S8448x7168.Idx) :
    G2 m c i = products (m ((c : Thread nD τ).loc main_arg0)) (m ((c : Thread nD τ).loc main_arg1)) i := by
  have h0 : (i 0).val < 8448 := (i 0).isLt
  have h1 : (i 1).val < 7168 := (i 1).isLt
  have hp : pt2Of i < cfg0.N := by
    rw [show cfg0.N = 154 from N_0]
    show 1 * ((i 0).val / 768 - 0) + 11 * ((i 1).val / 512 - 0) < 154
    omega
  have ep : pt2Of i = (i 0).val / 768 + 11 * ((i 1).val / 512) := by
    show 1 * ((i 0).val / 768 - 0) + 11 * ((i 1).val / 512 - 0) = _
    omega
  refine (dif_pos hp).trans ?_
  rw [← outsAt0_sweep m c (pt2Of i) hp, state]
  have el : loc2Of i = ix2 ⟨(i 0).val % 768, Nat.mod_lt _ (by decide)⟩ ⟨(i 1).val % 512, Nat.mod_lt _ (by decide)⟩ :=
    funext fun a => by match a with | ⟨0, _⟩ => rfl | ⟨1, _⟩ => rfl
  rw [el]
  refine (block_apply _ _ _ _).trans (Finset.sum_congr rfl fun k _ => congr (congrArg _ ?_) ?_)
  · refine (rows_apply m c _ _ _).trans (congrArg (fun n => m ((c : Thread nD τ).loc main_arg0) (ix2 n k)) (Fin.ext ?_))
    show pt2Of i % 11 * 768 + (i 0).val % 768 = (i 0).val
    rw [ep]; omega
  · refine (rounded_apply _ _ _).trans ((cols_apply m c _ _ _).trans (congrArg (fun n => m ((c : Thread nD τ).loc main_arg1) (ix2 k n)) (Fin.ext ?_)))
    show pt2Of i / 11 * 512 + (i 1).val % 512 = (i 1).val
    rw [ep]; omega

end Cert.In

end
-- ==== Proof.In.Algebraic.lean ====
/- The projection in and its reference leave equal extended reals; the frames of both. -/
module

public import proofs.«01_k».proof.Defs
public import proofs.«01_k».proof.Proof.In.Value
public import proofs.«01_k».proof.Proof.Gen.Kernel3
public import proofs.«01_k».proof.Proof.Gen.Reference3Ideal.Run
public import Idealize.ShloMosaic.Lib.Quiescent
public import Idealize.ShloMosaic.Adequacy
public import Idealize.ShloMosaic.Init

@[expose] public section

set_option maxRecDepth 16384

noncomputable section

namespace Cert.In

open Idealize.ShloMosaic Idealize.SL.Sem

/-- The reference's product at an element. -/
theorem reference_value (x : FVec Ideal Cert.Reference3Ideal.S8448x4096 .bf16) (w : FVec Ideal Cert.Reference3Ideal.S4096x7168 .f32)
    (i : Cert.Reference3Ideal.S8448x7168.Idx) :
    (Host.dotGeneral Cert.Reference3Ideal.dot_S8448x4096_S4096x7168_S8448x7168_1_0_0_1_n_n none
      (extf .f32 x Cert.Reference3Ideal.Facts₀.bitsLt_bf16_f32) w : FVec Ideal Cert.Reference3Ideal.S8448x7168 .f32) i
      = products x w i := by
  have ei : i = ix2 (i 0) (i 1) := funext fun a => by match a with | ⟨0, _⟩ => rfl | ⟨1, _⟩ => rfl
  unfold products
  rw [ei]
  pointwise

/-- `Cert.algebraic_Kernel3Ideal_Reference3Ideal`: both hold each row's products with the weights. -/
theorem algebraic : Cert.algebraic_Kernel3Ideal_Reference3Ideal := by
  intro m ρ m' ρ' _ hagree
  refine ⟨fun c => products (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (funext (value m c)), (h c).2⟩)
      (Cert.Kernel3Ideal.Value.run (F := Ideal) m ρ)
  · refine (θ_run Cert.Reference3Ideal.defs _ _).mono (fun r h c => ⟨(h c).1.trans (funext fun i => ?_), (h c).2⟩)
      (Cert.Reference3Ideal.Value.run (F := Ideal) m' ρ')
    obtain ⟨e0, e1⟩ := hagree c
    rw [e0, e1]
    exact reference_value _ _ i

/-- The call's frame at the ideal instance. -/
theorem frame_ideal : Cert.quiescent_Kernel3Ideal := fun m ρ _ => Cert.Kernel3Ideal.Gen.frame (F := Ideal) m ρ

/-- The kernels' bodies of the two printings are one program, label by label. -/
theorem bodies {F : FTy → Type} [FloatOps F] : @Cert.Kernel3.defs₀ F _ _ = @Cert.Kernel3Ideal.defs₀ F _ _ := by
  refine congrArg (Defs.onTc (nD := Cert.Kernel3.nD) (τ := Cert.Kernel3.τ) (sig := Cert.Kernel3.sig) (Val := Elt F) (Λ := Cert.Kernel3.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel3.defs F _ _ = @Cert.Kernel3Ideal.defs F _ _ :=
  congrArg (Pipeline.defs Cert.Kernel3.pcfgs) bodies

/-- The call's frame at the bit-exact instance: the same run, the two programs being one text. -/
theorem frame_bits : Cert.quiescent_Kernel3 := by
  intro m ρ _
  rw [defs_eq]
  exact Cert.Kernel3Ideal.Gen.frame (F := Bits) m ρ

/-- The reference's frame: it has no counters. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.In

end
-- ==== Proof.Out.Value.lean ====
/- What the projection out of a layer's two parts leaves, at the ideal instance: the residual row, plus the gate times
   the sum of the first part's products with the weights' first rows and the second part's with the rest. The weights
   are rounded once a column block, at its first row block, and held while the row blocks go by. -/
module

public import proofs.«01_k».proof.Proof.Gen.Kernel4Ideal.Value
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.Out

open Cert.Kernel4Ideal Cert.Kernel4Ideal.Gen Cert.Kernel4Ideal.Value
open Idealize.ShloMosaic Idealize.ShloMosaic.TcCoe Idealize.ShloMosaic.Tactic
open Idealize.ShloMosaic.Pipeline (Dat Cfg Window)

theorem origin : (![0, 0] : Fin 2 → Nat) = fun _ => 0 := funext fun a => by fin_cases a <;> rfl
theorem origin3 : (![0, 0, 0] : Fin 3 → Nat) = fun _ => 0 := funext fun a => by fin_cases a <;> rfl

section
variable {F : FTy → Type} [FloatOps F]
variable (m : (ℓ : Loc nD τ sig) → Buf (Elt F) ℓ)

/-- The weights' first 1024 rows, and the rest. -/
def top (w : Vec F S4096x1024 .bf16) : Vec F S1024x1024 .bf16 :=
  View.ld w (Rect.unit (s := S4096x1024) ![0, 0] S1024x1024.size Facts₀.inb_S4096x1024_S1024x1024_0_0)
def bot (w : Vec F S4096x1024 .bf16) : Vec F S3072x1024 .bf16 :=
  View.ld w (Rect.unit (s := S4096x1024) ![1024, 0] S3072x1024.size Facts₀.inb_S4096x1024_S3072x1024_1024_0)

/-- A block's result, from its blocks and the weights held. -/
def block (x : Vec F S256x1024 .bf16) (y : Vec F S256x3072 .bf16) (s : Vec F S4096x1024 .bf16) (r : Vec F S256x1024 .f32)
    (g : Vec F S1x1x1024 .f32) : Vec F S256x1024 .f32 :=
  k0_pay2 x (top s) y (bot s) r g

section
variable (c : Dev nD) (i : grid0.Coords) (a2 : Memref sig .tc .vmem S256x1024 .bf16) (h2 : a2.IsWhole)
  (a3 : Memref sig .tc .vmem S256x3072 .bf16) (h3 : a3.IsWhole) (a4 : Memref sig .tc .vmem S4096x1024 .f32) (h4 : a4.IsWhole)
  (a5 : Memref sig .tc .vmem S256x1024 .f32) (h5 : a5.IsWhole) (a6 : Memref sig .tc .vmem S1x1x1024 .f32) (h6 : a6.IsWhole)
  (a7 : Memref sig .tc .vmem S256x1024 .f32) (h7 : a7.IsWhole) (a8 : Memref sig .tc .vmem S4096x1024 .bf16) (h8 : a8.IsWhole)
  (x : Vec F S256x1024 .bf16) (y : Vec F S256x3072 .bf16) (w : Vec F S4096x1024 .f32) (r : Vec F S256x1024 .f32)
  (g : Vec F S1x1x1024 .f32) (s : Vec F S4096x1024 .bf16)

/-- A first row block leaves the weights' block rounded, -/
theorem held_first (hc : cond0_0 i) :
    sout0_A_0 c i a2 h2 a3 h3 a4 h4 a5 h5 a6 h6 a7 h7 a8 h8 hc x y w r g = k0_pay1 w := by
  unfold sout0_A_0
  rw [View.read_writes_eq_canon _ _ _ (scover0_A_0 c i a2 h2 a3 h3 a4 h4 a5 h5 a6 h6 a7 h7 a8 h8 hc x y w r g)]
  unfold kernelRun0_A
  dsimp only
  sl_unfold_words
  rw [View.canon_unit_zero (S := S4096x1024) origin]
  simp only [View.readAt_eq_ld, h4.read_unread, View.ld_unit_zero (S := S4096x1024) origin]

/-- and in the result's block what these give. -/
theorem result_first (hc : cond0_0 i) :
    out0_A_5 c i a2 h2 a3 h3 a4 h4 a5 h5 a6 h6 a7 h7 a8 h8 hc x y w r g = block x y (k0_pay1 w) r g := by
  unfold out0_A_5 block top bot
  rw [View.read_writes_eq_canon _ _ _ (cover0_A_5 c i a2 h2 a3 h3 a4 h4 a5 h5 a6 h6 a7 h7 a8 h8 hc x y w r g)]
  unfold kernelRun0_A
  dsimp only
  sl_unfold_words
  rw [View.canon_unit_zero (S := S256x1024) origin]
  simp only [View.readCov_eq_canon', View.canon_unit_zero (S := S4096x1024) origin, View.readAt_eq_ld, h2.read_unread, h3.read_unread, h4.read_unread, h5.read_unread, h6.read_unread,
    View.ld_unit_zero (S := S4096x1024) origin, View.ld_unit_zero (S := S256x1024) origin, View.ld_unit_zero (S := S256x3072) origin,
    View.ld_unit_zero (S := S1x1x1024) origin3]

/-- A later row block leaves in the result's block what the weights held give. -/
theorem result_later (hc : ¬cond0_0 i) :
    out0_B_5 c i a2 h2 a3 h3 a4 h4 a5 h5 a6 h6 a7 h7 a8 h8 hc x y w r g s = block x y s r g := by
  unfold out0_B_5 block top bot
  rw [View.read_writes_eq_canon _ _ _ (cover0_B_5 c i a2 h2 a3 h3 a4 h4 a5 h5 a6 h6 a7 h7 a8 h8 hc x y w r g s)]
  unfold kernelRun0_B
  dsimp only
  rw [View.canon_unit_zero (S := S256x1024) origin]
  simp only [View.readAt_eq_ld, h2.read_unread, h3.read_unread, h5.read_unread, h6.read_unread, h8.read_unread,
    View.ld_unit_zero (S := S256x1024) origin, View.ld_unit_zero (S := S256x3072) origin,
    View.ld_unit_zero (S := S1x1x1024) origin3]
end

/-- The row blocks go round within each column block. -/
theorem index0 : ∀ t : Fin cfg0.N, win0_0.index t = ![t.val % 32, 0] :=
  (by decide +kernel : ∀ t : Fin grid0.N, win0_0.index t = ![t.val % 32, 0])
theorem index1 : ∀ t : Fin cfg0.N, win0_1.index t = ![t.val % 32, 0] :=
  (by decide +kernel : ∀ t : Fin grid0.N, win0_1.index t = ![t.val % 32, 0])
theorem index2 : ∀ t : Fin cfg0.N, win0_2.index t = ![0, t.val / 32] :=
  (by decide +kernel : ∀ t : Fin grid0.N, win0_2.index t = ![0, t.val / 32])
theorem index3 : ∀ t : Fin cfg0.N, win0_3.index t = ![t.val % 32 + 1, t.val / 32] :=
  (by decide +kernel : ∀ t : Fin grid0.N, win0_3.index t = ![t.val % 32 + 1, t.val / 32])
theorem index4 : ∀ t : Fin cfg0.N, win0_4.index t = ![1, 0, t.val / 32] :=
  (by decide +kernel : ∀ t : Fin grid0.N, win0_4.index t = ![1, 0, t.val / 32])

theorem points (t : Fin cfg0.N) : t.val < 128 := t.isLt.trans_eq (show cfg0.N = 128 from N_0)

/-- A point's rows of the first part, -/
theorem first_apply (c : Dev nD) (t : Fin cfg0.N) (r : Fin 256) (k : Fin 1024) :
    iblk m c 0 t (ix2 r k) = m ((c : Thread nD τ).loc main_arg0) (ix2 ⟨t.val % 32 * 256 + r.val, by omega⟩ k) := by
  have e := index0 t
  refine congrArg (m ((c : Thread nD τ).loc main_arg0)) (funext fun a => Fin.ext ?_)
  refine (Pipeline.Window.rect_emb_val (cfg0.win 0) t (ix2 r k) a rfl).trans ?_
  rw [show (cfg0.win 0).index t = _ from e]
  match a with
  | ⟨0, _⟩ => rfl
  | ⟨1, _⟩ => show 0 * 1024 + k.val = k.val; omega

/-- of the second, -/
theorem second_apply (c : Dev nD) (t : Fin cfg0.N) (r : Fin 256) (k : Fin 3072) :
    iblk m c 1 t (ix2 r k) = m ((c : Thread nD τ).loc main_arg1) (ix2 ⟨t.val % 32 * 256 + r.val, by omega⟩ k) := by
  have e := index1 t
  refine congrArg (m ((c : Thread nD τ).loc main_arg1)) (funext fun a => Fin.ext ?_)
  refine (Pipeline.Window.rect_emb_val (cfg0.win 1) t (ix2 r k) a rfl).trans ?_
  rw [show (cfg0.win 1).index t = _ from e]
  match a with
  | ⟨0, _⟩ => rfl
  | ⟨1, _⟩ => show 0 * 3072 + k.val = k.val; omega

/-- its block of the weights, -/
theorem cols_apply (c : Dev nD) (t : Fin cfg0.N) (k : Fin 4096) (f : Fin 1024) :
    iblk m c 2 t (ix2 k f) = m ((c : Thread nD τ).loc main_arg2)
      (ix2 k ⟨t.val / 32 * 1024 + f.val, by have := points t; omega⟩) := by
  have e := index2 t
  refine congrArg (m ((c : Thread nD τ).loc main_arg2)) (funext fun a => Fin.ext ?_)
  refine (Pipeline.Window.rect_emb_val (cfg0.win 2) t (ix2 k f) a rfl).trans ?_
  rw [show (cfg0.win 2).index t = _ from e]
  match a with
  | ⟨0, _⟩ => show 0 * 4096 + k.val = k.val; omega
  | ⟨1, _⟩ => rfl

/-- of the residual, a row block on, -/
theorem residual_apply (c : Dev nD) (t : Fin cfg0.N) (r : Fin 256) (f : Fin 1024) :
    iblk m c 3 t (ix2 r f) = m ((c : Thread nD τ).loc main_arg3)
      (ix2 ⟨t.val % 32 * 256 + r.val + 256, by omega⟩ ⟨t.val / 32 * 1024 + f.val, by have := points t; omega⟩) := by
  have e := index3 t
  refine congrArg (m ((c : Thread nD τ).loc main_arg3)) (funext fun a => Fin.ext ?_)
  refine (Pipeline.Window.rect_emb_val (cfg0.win 3) t (ix2 r f) a rfl).trans ?_
  rw [show (cfg0.win 3).index t = _ from e]
  match a with
  | ⟨0, _⟩ => show (t.val % 32 + 1) * 256 + r.val = t.val % 32 * 256 + r.val + 256; omega
  | ⟨1, _⟩ => rfl

/-- and of the second gate. -/
theorem gate_apply (c : Dev nD) (t : Fin cfg0.N) (f : Fin 1024) :
    iblk m c 4 t (ix3 0 0 f) = m ((c : Thread nD τ).loc main_arg4)
      (ix3 1 0 ⟨t.val / 32 * 1024 + f.val, by have := points t; omega⟩) := by
  have e := index4 t
  refine congrArg (m ((c : Thread nD τ).loc main_arg4)) (funext fun a => Fin.ext ?_)
  refine (Pipeline.Window.rect_emb_val (cfg0.win 4) t (ix3 0 0 f) a rfl).trans ?_
  rw [show (cfg0.win 4).index t = _ from e]
  match a with
  | ⟨0, _⟩ => rfl
  | ⟨1, _⟩ => rfl
  | ⟨2, _⟩ => rfl

/-- Two points of one column block read the same block of the weights. -/
theorem cols_congr (c : Dev nD) (t t' : Fin cfg0.N) (h : t.val / 32 = t'.val / 32) :
    (iblk m c 2 t : Vec F S4096x1024 .f32) = iblk m c 2 t' := by
  funext y
  have ey : y = ix2 (y 0) (y 1) := funext fun a => by match a with | ⟨0, _⟩ => rfl | ⟨1, _⟩ => rfl
  rw [ey]
  refine (cols_apply m c t (y 0) (y 1)).trans (Eq.trans ?_ (cols_apply m c t' (y 0) (y 1)).symm)
  refine congrArg (fun n => m ((c : Thread nD τ).loc main_arg2) (ix2 (y 0) n)) (Fin.ext ?_)
  show t.val / 32 * 1024 + _ = t'.val / 32 * 1024 + _
  rw [h]

/-- What every point leaves: its block's result with its weights rounded, and these held. -/
theorem state (c : Dev nD) : ∀ (n : ℕ) (h : n < cfg0.N),
    outsAt0 m c n h = (block (iblk m c 0 ⟨n, h⟩) (iblk m c 1 ⟨n, h⟩) (k0_pay1 (iblk m c 2 ⟨n, h⟩)) (iblk m c 3 ⟨n, h⟩) (iblk m c 4 ⟨n, h⟩),
      k0_pay1 (iblk m c 2 ⟨n, h⟩))
  | 0, h => by
    rw [outsAt0_A m c ⟨0, h⟩ rfl, result_first, held_first]
  | n + 1, h => by
    by_cases h0 : (n + 1) % 32 = 0
    · rw [outsAt0_A m c ⟨n + 1, h⟩ h0, result_first, held_first]
    · rw [outsAt0_B m c ⟨n + 1, h⟩ h0, result_later]
      have e : (outsAt0 m c n (Nat.lt_of_succ_lt h)).2 = k0_pay1 (iblk m c 2 ⟨n + 1, h⟩) := by
        rw [state c n]
        exact congrArg k0_pay1 (cols_congr m c _ _ (show n / 32 = (n + 1) / 32 by omega))
      exact Prod.ext (congrArg (fun s => block _ _ s _ _) e) e
end

/-- Rounding the weights does nothing at the ideal instance. -/
theorem rounded_apply (w : Vec Ideal S4096x1024 .f32) (k : Fin 4096) (f : Fin 1024) :
    k0_pay1 (F := Ideal) w (ix2 k f) = w (ix2 k f) := by
  unfold k0_pay1
  pointwise

/-- The places of the two parts' rows in the weights held. -/
theorem top_apply (w : Vec Ideal S4096x1024 .bf16) (k : Fin 1024) (f : Fin 1024) :
    top (F := Ideal) w (ix2 k f) = w (ix2 ⟨k.val, by omega⟩ f) := by
  refine congrArg w (funext fun a => Fin.ext ?_)
  match a with
  | ⟨0, _⟩ => show 0 + 1 * k.val = k.val; omega
  | ⟨1, _⟩ => show 0 + 1 * f.val = f.val; omega
theorem bot_apply (w : Vec Ideal S4096x1024 .bf16) (k : Fin 3072) (f : Fin 1024) :
    bot (F := Ideal) w (ix2 k f) = w (ix2 ⟨1024 + k.val, by omega⟩ f) := by
  refine congrArg w (funext fun a => Fin.ext ?_)
  match a with
  | ⟨0, _⟩ => show 1024 + 1 * k.val = 1024 + k.val; omega
  | ⟨1, _⟩ => show 0 + 1 * f.val = f.val; omega

/-- The payload at an element. -/
theorem pay_apply (x : FVec Ideal S256x1024 .bf16) (a : FVec Ideal S1024x1024 .bf16) (y : FVec Ideal S256x3072 .bf16)
    (b : FVec Ideal S3072x1024 .bf16) (r : FVec Ideal S256x1024 .f32) (g : FVec Ideal S1x1x1024 .f32) (i : Fin 256) (f : Fin 1024) :
    k0_pay2 (F := Ideal) x a y b r g (ix2 i f)
      = (r (ix2 i f) + g (ix3 0 0 f) * (∑ k : Fin 1024, x (ix2 i k) * a (ix2 k f) + ∑ k : Fin 3072, y (ix2 i k) * b (ix2 k f)) : EReal) := by
  unfold k0_pay2
  pointwise

/-- An element of the projection: the residual, and the gate times both parts' products. -/
def projected (x : S8192x1024.Idx → EReal) (y : S8192x3072.Idx → EReal) (w : S4096x4096.Idx → EReal) (r : S8448x4096.Idx → EReal)
    (g : S2x1x4096.Idx → EReal) (i : S8192x4096.Idx) : EReal :=
  r (ix2 ⟨(i 0).val + 256, by have : (i 0).val < 8192 := (i 0).isLt; omega⟩ (i 1))
    + g (ix3 1 0 (i 1)) * (∑ k : Fin 1024, x (ix2 (i 0) k) * w (ix2 ⟨k.val, by omega⟩ (i 1))
      + ∑ k : Fin 3072, y (ix2 (i 0) k) * w (ix2 ⟨1024 + k.val, by omega⟩ (i 1)))

/-- The result at the ideal instance. -/
theorem value (m : (ℓ : Loc nD τ sig) → Buf (Elt Ideal) ℓ) (c : Dev nD) (i : S8192x4096.Idx) :
    G5 m c i = projected (m ((c : Thread nD τ).loc main_arg0)) (m ((c : Thread nD τ).loc main_arg1)) (m ((c : Thread nD τ).loc main_arg2))
      (m ((c : Thread nD τ).loc main_arg3)) (m ((c : Thread nD τ).loc main_arg4)) i := by
  have h0 : (i 0).val < 8192 := (i 0).isLt
  have h1 : (i 1).val < 4096 := (i 1).isLt
  have ep : pt5Of i = (i 0).val / 256 + 32 * ((i 1).val / 1024) := by
    show 1 * ((i 0).val / 256 - 0) + 32 * ((i 1).val / 1024 - 0) = _
    omega
  have hp : pt5Of i < cfg0.N := by
    rw [show cfg0.N = 128 from N_0, ep]
    omega
  have er : pt5Of i % 32 * 256 + (i 0).val % 256 = (i 0).val := by rw [ep]; omega
  have ec : pt5Of i / 32 * 1024 + (i 1).val % 1024 = (i 1).val := by rw [ep]; omega
  refine (dif_pos hp).trans ?_
  rw [← outsAt0_sweep m c (pt5Of i) hp, state]
  have el : loc5Of i = ix2 ⟨(i 0).val % 256, Nat.mod_lt _ (by decide)⟩ ⟨(i 1).val % 1024, Nat.mod_lt _ (by decide)⟩ :=
    funext fun a => by match a with | ⟨0, _⟩ => rfl | ⟨1, _⟩ => rfl
  rw [el]
  unfold projected
  refine (pay_apply _ _ _ _ _ _ _ _).trans ?_
  refine congr (congrArg _ ?_) (congr (congrArg _ ?_) (congr (congrArg _ (Finset.sum_congr rfl fun k _ => congr (congrArg _ ?_) ?_))
    (Finset.sum_congr rfl fun k _ => congr (congrArg _ ?_) ?_)))
  · exact (residual_apply m c _ _ _).trans (congrArg (m ((c : Thread nD τ).loc main_arg3)) (congr (congrArg ix2 (Fin.ext (congrArg (· + 256) er))) (Fin.ext ec)))
  · exact (gate_apply m c _ _).trans (congrArg (fun n => m ((c : Thread nD τ).loc main_arg4) (ix3 1 0 n)) (Fin.ext ec))
  · exact (first_apply m c _ _ _).trans (congrArg (fun n => m ((c : Thread nD τ).loc main_arg0) (ix2 n k)) (Fin.ext er))
  · exact (top_apply _ _ _).trans ((rounded_apply _ _ _).trans ((cols_apply m c _ _ _).trans (congrArg (fun n => m ((c : Thread nD τ).loc main_arg2) (ix2 _ n)) (Fin.ext ec))))
  · exact (second_apply m c _ _ _).trans (congrArg (fun n => m ((c : Thread nD τ).loc main_arg1) (ix2 n k)) (Fin.ext er))
  · exact (bot_apply _ _ _).trans ((rounded_apply _ _ _).trans ((cols_apply m c _ _ _).trans (congrArg (fun n => m ((c : Thread nD τ).loc main_arg2) (ix2 _ n)) (Fin.ext ec))))

end Cert.Out

end
-- ==== Proof.Out.Algebraic.lean ====
/- The projection out and its reference leave equal extended reals; the frames of both. -/
module

public import proofs.«01_k».proof.Defs
public import proofs.«01_k».proof.Proof.Out.Value
public import proofs.«01_k».proof.Proof.Gen.Kernel4
public import proofs.«01_k».proof.Proof.Gen.Reference4Ideal.Run
public import Idealize.ShloMosaic.Lib.Quiescent
public import Idealize.ShloMosaic.Adequacy
public import Idealize.ShloMosaic.Init

@[expose] public section

set_option maxRecDepth 16384

noncomputable section

namespace Cert.Out

open Idealize.ShloMosaic Idealize.SL.Sem

namespace Reference

open Cert.Reference4Ideal Cert.Reference4Ideal.Gen

/-- The two parts side by side. -/
def parts (x : S8192x1024.Idx → Elt Ideal .bf16) (y : S8192x3072.Idx → Elt Ideal .bf16) : FVec Ideal S8192x4096 .bf16 :=
  concatenate S8192x4096 1 [⟨S8192x1024, x⟩, ⟨S8192x3072, y⟩] concatenates_S8192x1024_S8192x3072_S8192x4096_d1

theorem parts_first (x : S8192x1024.Idx → Elt Ideal .bf16) (y : S8192x3072.Idx → Elt Ideal .bf16) (r : Fin 8192) (k : Fin 1024) :
    parts x y (ix2 r (⟨k.val, by omega⟩ : Fin 4096)) = x (ix2 r k) := by
  unfold parts
  pointwise

theorem parts_second (x : S8192x1024.Idx → Elt Ideal .bf16) (y : S8192x3072.Idx → Elt Ideal .bf16) (r : Fin 8192) (k : Fin 3072) :
    parts x y (ix2 r (⟨1024 + k.val, by omega⟩ : Fin 4096)) = y (ix2 r k) := by
  unfold parts
  pointwise

/-- The reference's result at an element, its product over the parts side by side. -/
theorem result_apply (p : FVec Ideal S8192x4096 .bf16) (w : FVec Ideal S4096x4096 .f32) (r : S8448x4096.Idx → Elt Ideal .f32)
    (g : S2x1x4096.Idx → Elt Ideal .f32) (n : Fin 8192) (f : Fin 4096) :
    (addf (extractStridedSlice S8192x4096 ![256, 0] r slices_S8448x4096_S8192x4096_256_0)
      (mulf (broadcastInDim S8192x4096 ![0, 1] bcast_S1x4096_S8192x4096_0_1 (shapeCast _ (extractStridedSlice S1x1x4096 ![1, 0, 0] g slices_S2x1x4096_S1x1x4096_1_0_0) shapeCasts_S1x1x4096_S1x4096))
        (Host.dotGeneral dot_S8192x4096_S4096x4096_S8192x4096_1_0_0_1_n_n none (extf .f32 p bitsLt_bf16_f32) w)) : FVec Ideal S8192x4096 .f32) (ix2 n f)
      = (r (ix2 ⟨256 + n.val, by omega⟩ f) + g (ix3 1 0 f) * ∑ k : Fin 4096, p (ix2 n k) * w (ix2 k f) : EReal) := by
  pointwise

/-- The reference's result at an element. -/
theorem value (x : S8192x1024.Idx → Elt Ideal .bf16) (y : S8192x3072.Idx → Elt Ideal .bf16) (w : FVec Ideal S4096x4096 .f32)
    (r : S8448x4096.Idx → Elt Ideal .f32) (g : S2x1x4096.Idx → Elt Ideal .f32) (i : S8192x4096.Idx) :
    (addf (extractStridedSlice S8192x4096 ![256, 0] r slices_S8448x4096_S8192x4096_256_0)
      (mulf (broadcastInDim S8192x4096 ![0, 1] bcast_S1x4096_S8192x4096_0_1 (shapeCast _ (extractStridedSlice S1x1x4096 ![1, 0, 0] g slices_S2x1x4096_S1x1x4096_1_0_0) shapeCasts_S1x1x4096_S1x4096))
        (Host.dotGeneral dot_S8192x4096_S4096x4096_S8192x4096_1_0_0_1_n_n none (extf .f32 (parts x y) bitsLt_bf16_f32) w)) : FVec Ideal S8192x4096 .f32) i
      = projected x y w r g i := by
  have ei : i = ix2 (i 0) (i 1) := funext fun a => by match a with | ⟨0, _⟩ => rfl | ⟨1, _⟩ => rfl
  refine (congrArg _ ei).trans ((result_apply (parts x y) w r g (i 0) (i 1)).trans ?_)
  unfold projected
  refine congr (congrArg _ (congrArg (fun k => r (ix2 k (i 1))) (Fin.ext (Nat.add_comm _ _)))) (congrArg _ ?_)
  refine (Fin.sum_univ_add (a := 1024) (b := 3072) fun k : Fin (1024 + 3072) =>
    (parts x y (ix2 (i 0) k) * w (ix2 k (i 1)) : EReal)).trans ?_
  refine congr (congrArg _ (Finset.sum_congr rfl fun k _ => ?_)) (Finset.sum_congr rfl fun k _ => ?_)
  · exact congr (congrArg _ (parts_first x y (i 0) k)) rfl
  · exact congr (congrArg _ (parts_second x y (i 0) k)) rfl

end Reference

/-- `Cert.algebraic_Kernel4Ideal_Reference4Ideal`: both hold the projection of the two parts onto the residual. -/
theorem algebraic : Cert.algebraic_Kernel4Ideal_Reference4Ideal := by
  intro m ρ m' ρ' _ hagree
  refine ⟨fun c => projected (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)), ?_, ?_⟩
  · exact (θ_run Cert.Kernel4Ideal.defs _ _).mono (fun r h c => ⟨(h c).1.trans (funext (value m c)), (h c).2⟩)
      (Cert.Kernel4Ideal.Value.run (F := Ideal) m ρ)
  · refine (θ_run Cert.Reference4Ideal.defs _ _).mono (fun r h c => ⟨(h c).1.trans (funext fun i => ?_), (h c).2⟩)
      (Cert.Reference4Ideal.Value.run (F := Ideal) m' ρ')
    obtain ⟨e0, e1, e2, e3, e4⟩ := hagree c
    rw [e0, e1, e2, e3, e4]
    exact Reference.value _ _ _ _ _ i

/-- The call's frame at the ideal instance. -/
theorem frame_ideal : Cert.quiescent_Kernel4Ideal := fun m ρ _ => Cert.Kernel4Ideal.Gen.frame (F := Ideal) m ρ

/-- The kernels' bodies of the two printings are one program, label by label. -/
theorem bodies {F : FTy → Type} [FloatOps F] : @Cert.Kernel4.defs₀ F _ _ = @Cert.Kernel4Ideal.defs₀ F _ _ := by
  refine congrArg (Defs.onTc (nD := Cert.Kernel4.nD) (τ := Cert.Kernel4.τ) (sig := Cert.Kernel4.sig) (Val := Elt F) (Λ := Cert.Kernel4.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel4.defs F _ _ = @Cert.Kernel4Ideal.defs F _ _ :=
  congrArg (Pipeline.defs Cert.Kernel4.pcfgs) bodies

/-- The call's frame at the bit-exact instance: the same run, the two programs being one text. -/
theorem frame_bits : Cert.quiescent_Kernel4 := by
  intro m ρ _
  rw [defs_eq]
  exact Cert.Kernel4Ideal.Gen.frame (F := Bits) m ρ

/-- The reference's frame: it has no counters. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Out

end
-- ==== Proof.Combine.Body.lean ====
/- The combine call's body at one grid point: its two loops (the rows sent for, the rows waited for) and the sum it
   stores. -/
module

public import proofs.«01_k».proof.Proof.Combine.Rows
public import Idealize.ShloMosaic.Lib.VecWindow

@[expose] public section

set_option maxRecDepth 16384
set_option Elab.async false

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The counters of the transfers' batch. -/
abbrev EC : UEmb Counters (MT nD τ sig Unit (Elt F) ℕ (Pipeline.UD sig nD τ) ℕ) := countersEmb (U := Pipeline.UD sig nD τ)

theorem trips1 : k0_t1_loop.trips = 256 := by decide
theorem trips2 : k0_t2_loop.trips = 256 := by decide

/-- What one row's transfer credits its semaphore with. -/
def credit : ℕ := (place ⟨0, by omega⟩).view.dmaCredit
theorem credit_pos : 0 < credit := View.dmaCredit_pos _ (by decide)
theorem credit_eq (off : Fin 3 → ℕ) (h : ∀ a, off a + S1x1x4096.size a ≤ S2x256x4096.size a) :
    ((scB.slice (Rect.unit (s := S2x256x4096) off S1x1x4096.size h) (fun _ => rfl)).squeeze S1x4096 squeezes_S1x1x4096_S1x4096).view.dmaCredit = credit := rfl

section
variable (c : Dev nD) {T : Posns} (hA : Admits T) (i : grid0.Coords) (Y : Outs F)

/-- A place of the scratch, and the share of a row its transfer reads it with. -/
def blk (f : Slabs F) (t : Fin 512) : sProp 𝕄 := (place t).view.loc (c : Thread nD τ) ↦[(place t).view.set]{fullShare} f
def tok (t : Fin 512) : sProp 𝕄 :=
  (row (posn hA i t)).view.loc (c : Thread nD τ) ↦[(row (posn hA i t)).view.set]{Transfers.shareTokN fullShare t.val} Y
/-- What transfer `t` hands back: its place with the row landed, and its share of the row. -/
def deliv (t : Fin 512) : sProp 𝕄 := iprop(blk c (gathered hA i Y) t ∗ tok c hA i Y t)
theorem pointsTo_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance blk_storable (f : Slabs F) (t : Fin 512) : BI.Storable (upEmb : UEmb _ 𝕄) (blk c f t) := pointsTo_storable _ _ _ _
instance tok_storable (t : Fin 512) : BI.Storable (upEmb : UEmb _ 𝕄) (tok c hA i Y t) := pointsTo_storable _ _ _ _
instance deliv_storable (t : Fin 512) : BI.Storable (upEmb : UEmb _ 𝕄) (deliv c hA i Y t) := by
  unfold deliv; infer_instance

/-- The 512 transfers, `j` sent for and `u` units consumed. -/
def batch (j u : ℕ) : sProp 𝕄 := Transfers.Batch EC (c : Thread nD τ) (.dma cc0_scratch1.sem) () credit (deliv c hA i Y) j u

/-- One row sent for. -/
theorem wp_issue (t : Fin 512) (f : Slabs F) (off3 : Fin 3 → ℕ) (h3 : ∀ a, off3 a + S1x1x4096.size a ≤ S2x256x4096.size a)
    (e3 : off3 = ![t.val % 2, t.val / 2, 0]) (off2 : Fin 2 → ℕ) (h2 : ∀ a, off2 a + S1x4096.size a ≤ S24576x4096.size a)
    (e2 : off2 = ![(posn hA i t).val, 0]) {hsrc} {hdst} {hsem} {α : Type} (k : PUnit → Prog (TpuEff nD τ sig (Elt F) Λ₀ .tc) α) (Q : α → sProp 𝕄) :
    iprop(tok c hA i Y t ∗ blk c f t ∗ batch c hA i Y t.val 0)
      ⊢ iprop((batch c hA i Y (t.val + 1) 0 -∗ wp frame (wpE (defs₀ (F := F)) Variants.none c none) Set.univ (k ⟨⟩) Q)
          -∗ wp frame (wpE (defs₀ (F := F)) Variants.none c none) Set.univ
            (.op (.enqueueDma (arY.slice (Rect.unit (s := S24576x4096) off2 S1x4096.size h2) (fun _ => rfl))
              (.here ((scB.slice (Rect.unit (s := S2x256x4096) off3 S1x1x4096.size h3) (fun _ => rfl)).squeeze S1x4096 squeezes_S1x1x4096_S1x4096))
              (.dma cc0_scratch1.sem) hsrc hdst hsem) k) Q) := by
  subst e3; subst e2
  unfold tok blk batch
  refine Transfers.wp_dmaBatch EC (defs := defs₀ (F := F)) Variants.none (c : Thread nD τ) none (src := row (posn hA i t)) (dst := place t)
    () credit rfl subset_rfl (D := deliv c hA i Y) (j := t.val) (u := 0) t.isLt (Nat.zero_le _) ?_
  unfold deliv blk tok
  rw [pointsTo_congr (landed hA i t Y f)]

/-- Before trip `k` of the first loop: `2 k` rows sent for, the places and shares of the others and the half of the table at hand. -/
def issueAt (f : Slabs F) (k : ℕ) (_ : Unit) : sProp 𝕄 :=
  iprop(batch c hA i Y (2 * k) 0 ∗ bigSep (Ring.rangeSet 512 (2 * k) 512) (tok c hA i Y) ∗ bigSep (Ring.rangeSet 512 (2 * k) 512) (blk c f)
    ∗ (tbP.view.loc (c : Thread nD τ) ↦{fullShare.right} T))

variable (a3 : Memref sig .tc .vmem S256x128 .f32) (h3 : a3.IsWhole) (a4 : Memref sig .tc .vmem S256x4096 .f32) (h4 : a4.IsWhole)
  (a5 : Memref sig .tc .vmem S1x1x4096 .f32) (h5 : a5.IsWhole) (a6 : Memref sig .tc .vmem S256x4096 .f32) (h6 : a6.IsWhole)

abbrev trip1 : Fin k0_t1_loop.trips → Unit → Prog (TpuEff nD τ sig (Elt F) Λ₀ .tc) Unit :=
  k0_t1_body i tbP (Memref.isWhole_whole _) arY (Memref.isWhole_whole _) a3 h3 a4 h4 a5 h5 a6 h6 scB (Memref.isWhole_whole _) cc0_scratch1
abbrev trip2 : Fin k0_t2_loop.trips → Unit → Prog (TpuEff nD τ sig (Elt F) Λ₀ .tc) Unit :=
  k0_t2_body i tbP (Memref.isWhole_whole _) arY (Memref.isWhole_whole _) a3 h3 a4 h4 a5 h5 a6 h6 scB (Memref.isWhole_whole _) cc0_scratch1

theorem chk1_of (w : BitVec 32) (h : w.toNat < 24576) : k0_chk1 w := fun a => by
  match a with
  | ⟨0, _⟩ => show w.toNat + 1 ≤ 24576; omega
  | ⟨1, _⟩ => show 0 + 4096 ≤ 4096; omega
theorem chk2_of (w : BitVec 32) (h : w.toNat < 24576) : k0_chk2 w := fun a => by
  match a with
  | ⟨0, _⟩ => show w.toNat + 1 ≤ 24576; omega
  | ⟨1, _⟩ => show 0 + 4096 ≤ 4096; omega

set_option maxHeartbeats 4000000 in
/-- One trip of the first loop. -/
theorem issue_step (f : Slabs F) (k : Fin k0_t1_loop.trips) (acc : Unit) :
    issueAt c hA i Y f k acc ⊢ wp frame (wpE (defs₀ (F := F)) Variants.none (c : Thread nD τ) none) Set.univ (trip1 i a3 h3 a4 h4 a5 h5 a6 h6 k acc)
      (issueAt c hA i Y f (k.val + 1)) := by
  have hk : k.val < 256 := k.isLt.trans_eq trips1
  unfold issueAt
  rw [Ring.bigSep_rangeSet_head (Φ := tok c hA i Y) (lo := 2 * k.val) (by omega) (by omega),
    Ring.bigSep_rangeSet_head (Φ := tok c hA i Y) (lo := 2 * k.val + 1) (by omega) (by omega),
    Ring.bigSep_rangeSet_head (Φ := blk c f) (lo := 2 * k.val) (by omega) (by omega),
    Ring.bigSep_rangeSet_head (Φ := blk c f) (lo := 2 * k.val + 1) (by omega) (by omega),
    show 2 * (k.val + 1) = 2 * k.val + 1 + 1 by omega]
  have hw1 : k0_chk1 (wP (F := F) T (k0_off1 i k) (k0_off1_inb i k)) := chk1_of _ (by
    rw [wP_eq T _ _ (512 * (i 0).val + 2 * k.val) (by have : (i 0).val < 32 := (i 0).isLt; omega) (congrFun (k0_off1_eq i k) 0)]; exact hA _)
  have hw2 : k0_chk2 (wP (F := F) T (k0_off4 i k) (k0_off4_inb i k)) := chk2_of _ (by
    rw [wP_eq T _ _ (512 * (i 0).val + 2 * k.val + 1) (by have : (i 0).val < 32 := (i 0).isLt; omega) (congrFun (k0_off4_eq i k) 0)]; exact hA _)
  have hT : tbP.IsWhole := Memref.isWhole_whole _
  iintro ⟨HB, ⟨HK0, HK1, HKs⟩, ⟨HD0, HD1, HDs⟩, HT⟩
  unfold trip1 k0_t1_body
  sl_exec! (disch := first | (guard_target = k0_chk1 _; exact hw1) | (guard_target = k0_chk2 _; exact hw2))
  iapply (wp_issue c hA i Y ⟨2 * k.val, by omega⟩ f _ _ ((k0_off2_eq k).trans (by
      show ![0, k.val, 0] = ![2 * k.val % 2, 2 * k.val / 2, 0]; rw [Nat.mul_mod_right, Nat.mul_div_cancel_left _ (by omega)])) _ _ (by
      show ![(wP (F := F) T (k0_off1 i k) (k0_off1_inb i k)).toNat, 0] = ![(posn hA i _).val, 0]
      rw [wP_eq T _ _ (512 * (i 0).val + 2 * k.val) (by have : (i 0).val < 32 := (i 0).isLt; omega) (congrFun (k0_off1_eq i k) 0)]; rfl)) $$ [HK0 HD0 HB]
  · isplitl [HK0]; · iexact HK0
    isplitl [HD0]; · iexact HD0
    iexact HB
  iintro HB
  sl_exec! (disch := first | (guard_target = k0_chk1 _; exact hw1) | (guard_target = k0_chk2 _; exact hw2))
  iapply (wp_issue c hA i Y ⟨2 * k.val + 1, by omega⟩ f _ _ ((k0_off5_eq k).trans (by
      show ![1, k.val, 0] = ![(2 * k.val + 1) % 2, (2 * k.val + 1) / 2, 0]
      rw [show (2 * k.val + 1) % 2 = 1 by omega, show (2 * k.val + 1) / 2 = k.val by omega])) _ _ (by
      show ![(wP (F := F) T (k0_off4 i k) (k0_off4_inb i k)).toNat, 0] = ![(posn hA i _).val, 0]
      rw [wP_eq T _ _ (512 * (i 0).val + 2 * k.val + 1) (by have : (i 0).val < 32 := (i 0).isLt; omega) (congrFun (k0_off4_eq i k) 0)]; rfl)) $$ [HK1 HD1 HB]
  · isplitl [HK1]; · iexact HK1
    isplitl [HD1]; · iexact HD1
    iexact HB
  iintro HB
  sl_step
  isplitl [HB]; · iexact HB
  isplitl [HKs]; · iexact HKs
  isplitl [HDs]; · iexact HDs
  iexact HT

/-- Before trip `k` of the second loop: while rows are out, `2 k` of them waited for; after it, every row landed and the semaphore at zero. -/
def drainAt (k : ℕ) (_ : Unit) : sProp 𝕄 :=
  iprop(⌜k ≤ 256⌝ ∗ (∃ W, owes (c : Thread nD τ) 0 W)
    ∗ (if k < 256 then batch c hA i Y 512 (2 * k * credit)
       else iprop(semVal ((c : Thread nD τ), SemLoc.dma cc0_scratch1.sem) 0 ∗ bigSep Finset.univ (deliv c hA i Y))))

set_option maxHeartbeats 4000000 in
/-- One trip of the second loop. -/
theorem drain_step (k : Fin k0_t2_loop.trips) (acc : Unit) :
    drainAt c hA i Y k acc ⊢ wp frame (wpE (defs₀ (F := F)) Variants.none (c : Thread nD τ) none) Set.univ (trip2 i a3 h3 a4 h4 a5 h5 a6 h6 k acc)
      (drainAt c hA i Y (k.val + 1)) := by
  have hk : k.val < 256 := k.isLt.trans_eq trips2
  have hp := credit_pos
  have e1 : 2 * (k.val + 1) * credit = 2 * k.val * credit + credit + credit := by ring
  have e2 : 512 * credit = credit * 512 := Nat.mul_comm _ _
  have hlt : 2 * k.val * credit + credit < credit * 512 := by
    have : (2 * k.val + 1) * credit < 512 * credit := Nat.mul_lt_mul_of_pos_right (by omega) hp
    rw [Nat.add_mul, Nat.one_mul] at this; omega
  unfold drainAt
  simp only [if_pos hk]
  unfold batch
  iintro ⟨-, ⟨%W, HO⟩, HB⟩
  unfold trip2 k0_t2_body
  simp only [Prog.bind_lift, Prog.pure_eq_ret]
  iapply (Transfers.wp_waitBatch EC Variants.none (c : Thread nD τ) none () (credit_eq _ _) (D := deliv c hA i Y) (u := 2 * k.val * credit) hlt) $$ [HB HO]
  · isplitl [HB]; · iexact HB
    iexact HO
  iintro ⟨HB, HO⟩
  rcases Nat.lt_or_ge (k.val + 1) 256 with h1 | h1
  · simp only [if_pos h1]
    have hlt2 : 2 * k.val * credit + credit + credit < credit * 512 := by
      have : 2 * (k.val + 1) * credit < 512 * credit := Nat.mul_lt_mul_of_pos_right (by omega) hp
      omega
    iapply (Transfers.wp_waitBatch EC Variants.none (c : Thread nD τ) none () (credit_eq _ _) (D := deliv c hA i Y) (u := 2 * k.val * credit + credit) hlt2) $$ [HB HO]
    · isplitl [HB]; · iexact HB
      iexact HO
    iintro ⟨HB, HO⟩
    sl_step
    isplitr; · ipureintro; omega
    isplitl [HO]; · iexists _; iexact HO
    rw [e1]
    iexact HB
  · simp only [if_neg (Nat.not_lt.mpr h1)]
    have heq : 2 * k.val * credit + credit + credit = credit * 512 := by
      rw [← e1, ← e2, show k.val + 1 = 256 by omega]
    iapply (Transfers.wp_waitBatchLast EC Variants.none (c : Thread nD τ) none () (credit_eq _ _) credit_pos (D := deliv c hA i Y) (u := 2 * k.val * credit + credit) heq) $$ [HB HO]
    · isplitl [HB]; · iexact HB
      iexact HO
    iintro ⟨HD, HS, HO⟩
    sl_step
    isplitr; · ipureintro; omega
    isplitl [HO]; · iexists _; iexact HO
    isplitl [HS]; · iexact HS
    iexact HD

/-- A transfer's share of all the experts' outputs, and of all but its row. -/
def share (t : Fin 512) : sProp 𝕄 := arY.view.loc (c : Thread nD τ) ↦{Transfers.shareTokN fullShare t.val} Y
def other (t : Fin 512) : sProp 𝕄 :=
  (row (posn hA i t)).view.loc (c : Thread nD τ) ↦[Finset.univ \ (row (posn hA i t)).view.set]{Transfers.shareTokN fullShare t.val} Y

theorem share_split (t : Fin 512) : share c Y t ⊣⊢ iprop(tok c hA i Y t ∗ other c hA i Y t) :=
  pointsTo_split_subset (ℓ := (row (posn hA i t)).view.loc (c : Thread nD τ)) (Finset.subset_univ _)

theorem shares_split : bigSep Finset.univ (share c Y) ⊣⊢ iprop(bigSep Finset.univ (tok c hA i Y) ∗ bigSep Finset.univ (other c hA i Y)) := by
  exact ⟨(BI.bigSep_mono fun t _ => (share_split c hA i Y t).1).trans (Entails.of_eq (BI.bigSep_sep _ _ _)),
    (Entails.of_eq (BI.bigSep_sep _ _ _).symm).trans (BI.bigSep_mono fun t _ => (share_split c hA i Y t).2)⟩

/-- The experts' outputs as what the transfers read their rows with, and the rest. -/
abbrev rest : sProp 𝕄 := iprop(bigSep Finset.univ (other c hA i Y) ∗ (arY.view.loc (c : Thread nD τ) ↦{Transfers.shareDrop fullShare 512} Y))
theorem rows_split : (arY.view.loc (c : Thread nD τ) ↦{fullShare} Y : sProp 𝕄) ⊢ iprop(bigSep Finset.univ (tok c hA i Y) ∗ rest c hA i Y) := by
  iintro H
  ihave H' := (Transfers.pointsTo_toks_range fullShare 512).1 $$ H
  icases H' with ⟨Hr, Ht⟩
  ihave Ht' := ((Entails.of_eq (Ring.bigSep_fin_eq_range 512 (share c Y) _ (fun _ _ => rfl)).symm).trans (shares_split c hA i Y).1) $$ Ht
  icases Ht' with ⟨Ht, Ho⟩
  isplitl [Ht]; · iexact Ht
  isplitl [Ho]; · iexact Ho
  iexact Hr
theorem rows_join : iprop(bigSep Finset.univ (tok c hA i Y) ∗ rest c hA i Y) ⊢ (arY.view.loc (c : Thread nD τ) ↦{fullShare} Y : sProp 𝕄) := by
  iintro ⟨Ht, Ho, Hr⟩
  iapply (Transfers.pointsTo_toks_range fullShare 512).2
  isplitl [Hr]; · iexact Hr
  iapply ((shares_split c hA i Y).2.trans (Entails.of_eq (Ring.bigSep_fin_eq_range 512 (share c Y) _ (fun _ _ => rfl))))
  isplitl [Ht]; · iexact Ht
  iexact Ho

/-- The scratch as the transfers' places. -/
theorem places (f : Slabs F) :
    (scB.view.loc (c : Thread nD τ) ↦{fullShare} f : sProp 𝕄) = bigSep Finset.univ (blk c f) := by
  refine (Ring.pointsTo_blocks (ℓ := scB.view.loc (c : Thread nD τ)) (q := fullShare) elts elts_disjoint elts_cover f).trans ?_
  refine congrArg (bigSep Finset.univ) (funext fun t => ?_)
  unfold blk; rw [place_set]; rfl

/-- After the loops. -/
theorem issued (f : Slabs F) (acc : Unit) :
    issueAt c hA i Y f (Scf.trips k0_t1_loop.lb k0_t1_loop.ub k0_t1_loop.st) acc ⊢ iprop(batch c hA i Y 512 0 ∗ (tbP.view.loc (c : Thread nD τ) ↦{fullShare.right} T)) := by
  rw [show Scf.trips k0_t1_loop.lb k0_t1_loop.ub k0_t1_loop.st = 256 from trips1]
  unfold issueAt
  iintro ⟨HB, -, -, HT⟩
  isplitl [HB]; · iexact HB
  iexact HT
theorem drained (acc : Unit) :
    drainAt c hA i Y (Scf.trips k0_t2_loop.lb k0_t2_loop.ub k0_t2_loop.st) acc
      ⊢ iprop((∃ W, owes (c : Thread nD τ) 0 W) ∗ semVal ((c : Thread nD τ), SemLoc.dma cc0_scratch1.sem) 0 ∗ bigSep Finset.univ (deliv c hA i Y)) := by
  rw [show Scf.trips k0_t2_loop.lb k0_t2_loop.ub k0_t2_loop.st = 256 from trips2]
  unfold drainAt
  rw [if_neg (Nat.lt_irrefl _)]
  iintro ⟨-, HO, HS, HD⟩
  isplitl [HO]; · iexact HO
  isplitl [HS]; · iexact HS
  iexact HD

/-- All deliveries: the scratch with every row landed, and the shares back. -/
theorem delivered : bigSep Finset.univ (deliv c hA i Y) ⊢ iprop((scB.view.loc (c : Thread nD τ) ↦{fullShare} gathered hA i Y) ∗ bigSep Finset.univ (tok c hA i Y)) := by
  rw [places]
  exact Entails.of_eq (BI.bigSep_sep _ _ _)

/-- What the body stores: from the routing block's two columns, the two slabs, the latent rows' block and the gate's block. -/
def stored (x3 : S256x128.Idx → Elt F .f32) (x4 : S256x4096.Idx → Elt F .f32) (x5 : S1x1x4096.Idx → Elt F .f32) (g : Slabs F) : S256x4096.Idx → Elt F .f32 :=
  k0_pay1 (fun y => x3 ((Rect.unit (s := S256x128) ![0, 2] S256x1.size inb_S256x128_S256x1_0_2).emb y))
    (fun y => g ((Rect.unit (s := S2x256x4096) ![0, 0, 0] S1x256x4096.size inb_S2x256x4096_S1x256x4096_0_0_0).emb y))
    (fun y => x3 ((Rect.unit (s := S256x128) ![0, 3] S256x1.size inb_S256x128_S256x1_0_3).emb y))
    (fun y => g ((Rect.unit (s := S2x256x4096) ![1, 0, 0] S1x256x4096.size inb_S2x256x4096_S1x256x4096_1_0_0).emb y)) x4 x5

/-- What the body holds besides its result, the scratch and the semaphore. -/
abbrev held (x3 : S256x128.Idx → Elt F .f32) (x4 : S256x4096.Idx → Elt F .f32) (x5 : S1x1x4096.Idx → Elt F .f32) (R : sProp 𝕄) : sProp 𝕄 :=
  iprop((a3.view.loc (c : Thread nD τ) ↦[a3.view.set]{fullShare} a3.view.rep x3)
    ∗ (a4.view.loc (c : Thread nD τ) ↦[a4.view.set]{fullShare} a4.view.rep x4)
    ∗ (a5.view.loc (c : Thread nD τ) ↦[a5.view.set]{fullShare} a5.view.rep x5)
    ∗ (tbP.view.loc (c : Thread nD τ) ↦{fullShare.right} T)
    ∗ (arY.view.loc (c : Thread nD τ) ↦{fullShare} Y)
    ∗ semVal ((c : Thread nD τ), SemLoc.dma cc0_scratch1.sem) 0 ∗ (∃ f, scB.view.loc (c : Thread nD τ) ↦{fullShare} f) ∗ (∃ W, owes (c : Thread nD τ) 0 W) ∗ R)

/-- The body on these memrefs. -/
abbrev body : Prog (TpuEff nD τ sig (Elt F) Λ₀ .tc) PUnit :=
  cc0_moe_combine i tbP (Memref.isWhole_whole _) arY (Memref.isWhole_whole _) a3 h3 a4 h4 a5 h5 a6 h6 scB (Memref.isWhole_whole _) cc0_scratch1

set_option backward.proofsInPublic true in
set_option maxHeartbeats 4000000 in
/-- The body's run. -/
theorem run (x3 : S256x128.Idx → Elt F .f32) (x4 : S256x4096.Idx → Elt F .f32) (x5 : S1x1x4096.Idx → Elt F .f32) (K : PUnit → sProp 𝕄) :
    held c (T := T) Y a3 a4 a5 x3 x4 x5 iprop((∃ d, owns (c : Thread nD τ) a6 fullShare d)
        ∗ (held c (T := T) Y a3 a4 a5 x3 x4 x5 (owns (c : Thread nD τ) a6 fullShare (stored x3 x4 x5 (gathered hA i Y))) -∗ K ⟨⟩))
      ⊢ wp frame (wpE (defs₀ (F := F)) Variants.none c none) Set.univ (body i a3 h3 a4 h4 a5 h5 a6 h6) K := by
  unfold owns
  unfold body
  rw [cc0_moe_combine_eq_skeleton]
  iintro ⟨H3, H4, H5, HT, HY, HS, ⟨%f, HF⟩, HO, ⟨%d6, %f6, -, H6⟩, Hk⟩
  ihave HY' := (rows_split c hA i Y) $$ HY
  icases HY' with ⟨HK, HR⟩
  ihave HF' := (Entails.of_eq (places c f)) $$ HF
  imod (Transfers.batch_alloc' (Lvl := ℕ) EC (c : Thread nD τ) () credit (deliv c hA i Y) (sm := .dma cc0_scratch1.sem) (E := Set.univ)) $$ HS with HB
  sl_unfold [cc0_moe_combine_skel]
  sl_for (issueAt c hA i Y f) $$ [HB HK HF' HT]
  · intro k acc; exact issue_step c hA i Y a3 h3 a4 h4 a5 h5 a6 h6 f k acc
  · unfold issueAt batch
    rw [Nat.mul_zero, Ring.rangeSet_univ]
    isplitl [HB]; · iexact HB
    isplitl [HK]; · iexact HK
    isplitl [HF']; · iexact HF'
    iexact HT
  iintro %acc HI
  ihave HI' := (issued c hA i Y f acc) $$ HI
  icases HI' with ⟨HB, HT⟩
  sl_unfold [run.sl.prog.cont_1]
  sl_for (drainAt c hA i Y) $$ [HB HO]
  · intro k acc; exact drain_step c hA i Y a3 h3 a4 h4 a5 h5 a6 h6 k acc
  · unfold drainAt
    rw [if_pos (by omega), Nat.mul_zero, Nat.zero_mul]
    isplitr; · ipureintro; omega
    isplitl [HO]; · iexact HO
    iexact HB
  iintro %acc' HD
  ihave HD' := (drained c hA i Y acc') $$ HD
  icases HD' with ⟨HO, HS, HD⟩
  ihave HD'' := (delivered c hA i Y) $$ HD
  icases HD'' with ⟨HF, HK⟩
  ihave HY := (rows_join c hA i Y) $$ [HK HR]
  · isplitl [HK]; · iexact HK
    iexact HR
  have hF : scB.IsWhole := Memref.isWhole_whole _
  have hT : tbP.IsWhole := Memref.isWhole_whole _
  sl_exec!
  sl_step
  iapply Hk
  isplitl [H3]; · iexact H3
  isplitl [H4]; · iexact H4
  isplitl [H5]; · iexact H5
  isplitl [HT]; · iexact HT
  isplitl [HY]; · iexact HY
  isplitl [HS]; · iexact HS
  isplitl [HF]; · iexists _; iexact HF
  isplitl [HO]; · iexact HO
  iexists _; isplitr; swap
  · iexact H6
  · ipureintro
    delta run.sl.H6_1
    rw [View.read_writes_full, View.readAt_rep_full, View.readAt_rep_full, View.readAt_rep, View.readAt_rep]
    rfl

end
end Cert.Combine

end
-- ==== Proof.Combine.Frame.lean ====
/- The combine call's run at an admissible table, over any float values: what its pipeline holds at each point, the
   body's obligation there, the launch, and what the run ends with. -/
module

public import proofs.«01_k».proof.Proof.Combine.Body
public import Idealize.ShloMosaic.Lib.Pipeline.Quiescent
public import Idealize.ShloMosaic.Lib.Claim
public import Idealize.ShloMosaic.Lib.Pipeline.Kit
public import Idealize.ShloMosaic.Lib.Pipeline.Frame
public import Idealize.ShloMosaic.Lib.Pipeline.Value
public import Idealize.ShloMosaic.Lib.Pipeline.ValueKit
public import Idealize.ShloMosaic.Lib.Pipeline.TableIdle
public import Idealize.ShloMosaic.Adequacy

@[expose] public section

set_option maxRecDepth 16384
set_option Elab.async false

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option backward.proofsInPublic true in
/-- The table as the contents the pipeline is handed. -/
def pf (T : Posns) : pre0.Contents (Elt F) := fun | ⟨0, _⟩ => T | ⟨_ + 1, h⟩ => absurd h (by simp)

/-- The table as admissible contents, and the pipeline at it. -/
def adm (T : Posns) : (pcfg0 (F := F)).Adm := ⟨pf T, trivial⟩
abbrev cfgA (T : Posns) : Pipeline.Cfg sig Λ₀ := cfg0 (F := F) (adm T)

variable (T : Posns)

theorem N_eq : (cfgA (F := F) T).N = 32 := N_0

/-- A point's one coordinate is its position. -/
abbrev crd (t : Fin (cfgA (F := F) T).N) : grid0.Coords := (cfgA (F := F) T).grid.coords t
theorem crd_val (t : Fin (cfgA (F := F) T).N) : (crd T t 0).val = t.val := by
  have h : t.val < 32 := t.isLt.trans_eq (N_eq (F := F) T)
  exact (Pipeline.Grid.coords_val (G := grid0) t 0 (S := 1) (B := 32) (by decide) rfl).trans (by omega)

variable {T} (hA : Admits T)
variable (m : (ℓ : Loc nD τ sig) → Buf (Elt F) ℓ) (ρ : Dev nD → PrngReg)

/-- The state the run starts from. -/
abbrev s₀ : MemSt nD τ sig (Elt F) := ⟨m, fun _ => 0, ρ⟩

/-- The table of the memory is the table at hand. -/
abbrev Tables (T : Posns) : Prop := ∀ c : Dev nD, m ((c.tc : Thread nD τ).loc main_arg0) = T

/-- The experts' outputs in the memory. -/
abbrev ys (c : Dev nD) : Outs F := m ((c : Thread nD τ).loc main_arg1)

variable (T) in
abbrev ms0 (t : Fin (cfgA (F := F) T).N) : Memref sig .tc .vmem S256x128 .f32 := spec0_0.stage ((cfgA (F := F) T).slots t (0 : Fin 4))
variable (T) in
abbrev ms1 (t : Fin (cfgA (F := F) T).N) : Memref sig .tc .vmem S256x4096 .f32 := spec0_1.stage ((cfgA (F := F) T).slots t (1 : Fin 4))
variable (T) in
abbrev ms2 (t : Fin (cfgA (F := F) T).N) : Memref sig .tc .vmem S1x1x4096 .f32 := spec0_2.stage ((cfgA (F := F) T).slots t (2 : Fin 4))
variable (T) in
abbrev ms3 (t : Fin (cfgA (F := F) T).N) : Memref sig .tc .vmem S256x4096 .f32 := spec0_3.stage ((cfgA (F := F) T).slots t (3 : Fin 4))
variable (T) in
abbrev hs0 (t : Fin (cfgA (F := F) T).N) : (ms0 T t).IsWhole := hstage0_0 (((cfgA T).slots t (0 : Fin 4)).cast nbuf0_0)
variable (T) in
abbrev hs1 (t : Fin (cfgA (F := F) T).N) : (ms1 T t).IsWhole := hstage0_1 (((cfgA T).slots t (1 : Fin 4)).cast nbuf0_1)
variable (T) in
abbrev hs2 (t : Fin (cfgA (F := F) T).N) : (ms2 T t).IsWhole := hstage0_2 (((cfgA T).slots t (2 : Fin 4)).cast nbuf0_2)
variable (T) in
abbrev hs3 (t : Fin (cfgA (F := F) T).N) : (ms3 T t).IsWhole := hstage0_3 (((cfgA T).slots t (3 : Fin 4)).cast nbuf0_3)

variable (T) in
/-- A window's block at a point, read from the memory the run starts from. -/
def iblk (c : Dev nD) (w : Fin (cfgA (F := F) T).W) (t : Fin (cfgA (F := F) T).N) :
    (((cfgA T).win w).xblock (crd T t)).Idx → Elt F ((cfgA (F := F) T).win w).elt :=
  (((cfgA T).win w).blk t).view.read (Elt F) (m (((cfgA T).win w).arr.view.loc (c : Thread nD τ)))

/-- What a point stores: its rows of the result. -/
def res (c : Dev nD) (t : Fin (cfgA (F := F) T).N) : S256x4096.Idx → Elt F .f32 :=
  stored (iblk T m c (0 : Fin 4) t) (iblk T m c (1 : Fin 4) t) (iblk T m c (2 : Fin 4) t) (gathered hA (crd T t) (ys m c))

variable (T) in
/-- Between points the body holds the scratch, half of the table, the experts' outputs, and its semaphore at zero. -/
def Phi (c : Dev nD) : sProp 𝕄 :=
  iprop((∃ f, scB.view.loc (c : Thread nD τ) ↦{fullShare} f) ∗ (tbP.view.loc (c : Thread nD τ) ↦{fullShare.right} T)
    ∗ (arY.view.loc (c : Thread nD τ) ↦{fullShare} ys m c) ∗ semVal ((c : Thread nD τ), SemLoc.dma cc0_scratch1.sem) 0)

/-- What the pipeline's buffers hold after each point. -/
def dats (_ : Fin 1) (c : Dev nD) : Dat τ (Elt F) Unit ℕ (Pipeline.UD sig nD τ) ℕ (cfgA (F := F) T) c where
  A w := (s₀ m ρ).mem (((cfgA T).win w).arr.view.loc (c : Thread nD τ))
  after w t := match w with
    | ⟨0, _⟩ => iblk T m c (0 : Fin 4) t
    | ⟨1, _⟩ => iblk T m c (1 : Fin 4) t
    | ⟨2, _⟩ => iblk T m c (2 : Fin 4) t
    | ⟨3, _⟩ => res hA m c t
  Φ _ := Phi T m c
  q _ := fullShare
  owed _ := 0

theorem after0 (c : Dev nD) (t : Fin (cfgA (F := F) T).N) : (dats hA m ρ 0 c).after (0 : Fin 4) t = iblk T m c (0 : Fin 4) t := rfl
theorem after1 (c : Dev nD) (t : Fin (cfgA (F := F) T).N) : (dats hA m ρ 0 c).after (1 : Fin 4) t = iblk T m c (1 : Fin 4) t := rfl
theorem after2 (c : Dev nD) (t : Fin (cfgA (F := F) T).N) : (dats hA m ρ 0 c).after (2 : Fin 4) t = iblk T m c (2 : Fin 4) t := rfl
theorem after3 (c : Dev nD) (t : Fin (cfgA (F := F) T).N) : (dats hA m ρ 0 c).after (3 : Fin 4) t = res hA m c t := rfl

theorem before0 (c : Dev nD) (t : Fin (cfgA (F := F) T).N) (d) : (dats hA m ρ 0 c).before (0 : Fin 4) t d = iblk T m c (0 : Fin 4) t :=
  ((dats hA m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA (F := F) T).N) (d) : (dats hA m ρ 0 c).before (1 : Fin 4) t d = iblk T m c (1 : Fin 4) t :=
  ((dats hA m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA (F := F) T).N) (d) : (dats hA m ρ 0 c).before (2 : Fin 4) t d = iblk T m c (2 : Fin 4) t :=
  ((dats hA m ρ 0 c).before_in_eq_fetched (2 : Fin 4) rfl (fun _ => rfl) (fun _ _ _ => rfl) (fun t => by rw [after2]; unfold Dat.blockOf iblk; rfl) t d).trans
    (by unfold Dat.fetched Dat.blockOf iblk; rfl)

variable (T) in
/-- The body at point `t` on its staging memrefs. -/
abbrev bodyAt (t : Fin (cfgA (F := F) T).N) : Prog (TpuEff nD τ sig (Elt F) Λ₀ .tc) PUnit :=
  body (crd T t) (ms0 T t) (hs0 T t) (ms1 T t) (hs1 T t) (ms2 T t) (hs2 T t) (ms3 T t) (hs3 T t)

set_option maxHeartbeats 4000000 in
/-- The body's obligation at point `t`. -/
theorem sound_body (c : Dev nD) (t : Fin (cfgA (F := F) T).N) :
    iprop((dats hA m ρ 0 c).Φ t.castSucc ∗ (dats hA m ρ 0 c).owesAt () t.castSucc
        ∗ (∃ d, owns (c : Thread nD τ) (ms0 T t) fullShare ((dats hA m ρ 0 c).before (0 : Fin 4) t d))
        ∗ (∃ d, owns (c : Thread nD τ) (ms1 T t) fullShare ((dats hA m ρ 0 c).before (1 : Fin 4) t d))
        ∗ (∃ d, owns (c : Thread nD τ) (ms2 T t) fullShare ((dats hA m ρ 0 c).before (2 : Fin 4) t d))
        ∗ (∃ d, owns (c : Thread nD τ) (ms3 T t) fullShare ((dats hA m ρ 0 c).before (3 : Fin 4) t d)))
      ⊢ wp frame (wpE (defs₀ (F := F)) Variants.none c none) Set.univ (bodyAt T t) fun _ =>
          iprop((dats hA m ρ 0 c).Φ t.succ ∗ (dats hA m ρ 0 c).owesAt () t.succ
            ∗ owns (c : Thread nD τ) (ms0 T t) fullShare ((dats hA m ρ 0 c).after (0 : Fin 4) t)
            ∗ owns (c : Thread nD τ) (ms1 T t) fullShare ((dats hA m ρ 0 c).after (1 : Fin 4) t)
            ∗ owns (c : Thread nD τ) (ms2 T t) fullShare ((dats hA m ρ 0 c).after (2 : Fin 4) t)
            ∗ owns (c : Thread nD τ) (ms3 T t) fullShare ((dats hA m ρ 0 c).after (3 : Fin 4) t)) := by
  rewrite [show (dats hA m ρ 0 c).Φ t.succ = Phi T m c from rfl, show (dats hA m ρ 0 c).Φ t.castSucc = Phi T m c from rfl,
    show (dats hA m ρ 0 c).owesAt () t.succ = (dats hA m ρ 0 c).owesAt () t.castSucc from rfl]
  simp only [before0, before1, before2, after0, after1, after2, after3]
  unfold Phi
  iintro ⟨⟨HS, HT, HY, Hs⟩, ⟨%W, -, Ho⟩, ⟨%d0, H0⟩, ⟨%d1, H1⟩, ⟨%d2, H2⟩, ⟨%d3, H3⟩⟩
  iapply (run c hA (crd T t) (ys m c) (ms0 T t) (hs0 T t) (ms1 T t) (hs1 T t) (ms2 T t) (hs2 T t) (ms3 T t) (hs3 T t)
    (iblk T m c (0 : Fin 4) t) (iblk T m c (1 : Fin 4) t) (iblk T m c (2 : Fin 4) t) _)
  unfold held
  isplitl [H0]; · iapply rep_of_owns; iexact H0
  isplitl [H1]; · iapply rep_of_owns; iexact H1
  isplitl [H2]; · iapply rep_of_owns; iexact H2
  isplitl [HT]; · iexact HT
  isplitl [HY]; · iexact HY
  isplitl [Hs]; · iexact Hs
  isplitl [HS]; · iexact HS
  isplitl [Ho]; · iexists W; iexact Ho
  isplitl [H3]; · iexists _; iexact H3
  iintro ⟨H0, H1, H2, HT, HY, Hs, HS, ⟨%W', Ho⟩, H3⟩
  isplitl [HS HT HY Hs]
  · isplitl [HS]; · iexact HS
    isplitl [HT]; · iexact HT
    isplitl [HY]; · iexact HY
    iexact Hs
  isplitl [Ho]
  · iexists W'; isplitr; swap
    · iexact Ho
    · ipureintro; exact fun x _ => Or.inl (Set.mem_univ x)
  isplitl [H0]; · iapply owns_of_rep; iexact H0
  isplitl [H1]; · iapply owns_of_rep; iexact H1
  isplitl [H2]; · iapply owns_of_rep; iexact H2
  iexact H3

/-- The body's obligation, at every point. -/
theorem body_obligation (c : Dev nD) : BodyObligation (dats hA m ρ 0 c) (defs₀ (F := F)) Variants.none () Set.univ := fun t => by
  rw [bigSep_W0, bigSep_W0]
  exact sound_body hA m ρ c t

/-! ## The launch -/

/-- The body's own semaphore. -/
abbrev osem0 : Fin 1 → SemLoc sig := fun _ => SemLoc.dma cc0_scratch1.sem
theorem ownSemFacts0 : Pipeline.OwnSemFacts spec0 osem0 := by decide

variable (T) in
/-- The pipelines at this table, and the element the launch starts from. -/
abbrev pcs : Fin 1 → Cfg sig Λ₀ := Pipeline.pin (pcfgs (F := F)) fun _ => adm T
variable (T) in
def u₀ : Pipeline.UD sig nD τ :=
  (initOf (Pipeline.cells (pcs (F := F) T) ((launch0 (F := F)).cellOf_inj fun _ => adm T))
    (Pipeline.launchToks (pcs (F := F) T) ((launch0 (F := F)).cellOf_inj fun _ => adm T)), 1)

theorem share_eq (c : Dev nD) (w : Fin (cfgA (F := F) T).W) : (dats hA m ρ 0 c).share w = fullShare := by unfold Dat.share; split <;> rfl

/-- The table as the launch hands it over, and the body's one semaphore. -/
theorem prefHeld_eq (c : Dev nD) (q : Fin 1 → PosShare TreeShare) (v : pre0.Contents (Elt F)) :
    (Pipeline.prefHeld (Ix := Unit) (Name := ℕ) (U := Pipeline.UD sig nD τ) (Lvl := ℕ) pre0 c q v : sProp 𝕄)
      = (((c : Thread nD τ).loc main_arg0) ↦{q 0} v 0) := by
  unfold Pipeline.prefHeld
  rw [show (Finset.univ : Finset (Fin 1)) = {(0 : Fin 1)} from by decide, bigSep_singleton]
  rfl
theorem ownSems_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  unfold Pipeline.ownSems0
  rw [show (Finset.univ : Finset (Fin 1)) = {(0 : Fin 1)} from by decide, bigSep_singleton]

/-- The experts' outputs, held whole. -/
abbrev outs (c : Dev nD) : sProp 𝕄 := iprop(((c : Thread nD τ).loc main_arg1) ↦{fullShare} m ((c : Thread nD τ).loc main_arg1))

/-- What the body holds before the first point. -/
theorem phi_intro (c : Dev nD) :
    iprop((outs m c ∗ Pipeline.ownSems0 osem0 c) ∗ Pipeline.prefHeld pre0 c (fun _ => fullShare.right) (adm (F := F) T).1 ∗ Pipeline.scopedRest spec0 c)
      ⊢ (dats hA m ρ 0 c).Φ 0 := by
  rw [prefHeld_eq, scopedRest0_eq, ownSems_eq, show (dats hA m ρ 0 c).Φ 0 = Phi T m c from rfl]
  unfold Phi
  iintro ⟨⟨HY, Hs⟩, HT, HS⟩
  isplitl [HS]; · iexact HS
  isplitl [HT]; · iexact HT
  isplitl [HY]; · iexact HY
  iexact Hs

/-- After the last point it gives back the experts' outputs, the semaphore and the scratch. -/
theorem phi_exit (c : Dev nD) : (dats hA m ρ 0 c).Φ (Fin.last (cfgA (F := F) T).N)
    ⊢ iprop(outs m c ∗ Pipeline.ownSems0 osem0 c ∗ Pipeline.scopedRest spec0 c) := by
  rw [scopedRest0_eq, ownSems_eq, show (dats hA m ρ 0 c).Φ (Fin.last (cfgA T).N) = Phi T m c from rfl]
  unfold Phi
  iintro ⟨HS, -, HY, Hs⟩
  isplitl [HY]; · iexact HY
  isplitl [Hs]; · iexact Hs
  iexact HS

/-- What the run ends with: every window's array as the pipeline leaves it, the table and the experts' outputs as they were. -/
def Post : PUnit × MemSt nD τ sig (Elt F) → Prop := fun r =>
  ∀ c : Dev nD, (∀ w : Fin (cfgA (F := F) T).W, r.2.mem (((cfgA (F := F) T).win w).arr.view.loc (c : Thread nD τ)) = (dats hA m ρ 0 c).arrAt w (cfgA (F := F) T).N)
    ∧ (∀ j, r.2.mem ((c : Thread nD τ).loc (pre0.ref j)) = (adm (F := F) T).1 j)
    ∧ r.2.mem ((c : Thread nD τ).loc main_arg1) = m ((c : Thread nD τ).loc main_arg1)

theorem V_pre (hp : Tables (F := F) m T) (c : Dev nD) (j : Fin 1) : m ((c : Thread nD τ).loc (pre0.ref j)) = (adm (F := F) T).1 j := by
  fin_cases j
  exact hp c

set_option backward.isDefEq.respectTransparency.types false in
set_option maxHeartbeats 4000000 in
/-- From any memory with this table the run terminates without a fault, in such a state with every counter at zero. -/
theorem run_quiescent (hp : Tables (F := F) m T) :
    θ_run (defs (F := F)) (onTc (τ := τ) (main (F := F))) (s₀ m ρ) (fun r => Post hA m ρ r ∧ r.2.sem = fun _ => 0) :=
  Pipeline.θ_run_region_pf_quiescent pcfgs (fun _ => adm T) (dats hA m ρ) () ((launch0 (F := F)).cellOf_inj fun _ => adm T) (0 : Fin 1)
    (launch0 (F := F)).win.to₀ ownSemFacts0 (launch0 (F := F)).pre embL defs₀ Variants.none m ρ main
    (hbody := fun c => (body_obligation hA m ρ c).loose) (hne := (launch0 (F := F)).block_pos)
    (harr := (launch0 (F := F)).arr_whole) (hstage := (launch0 (F := F)).stage_whole) (howed := fun _ _ => rfl)
    (G := fun _ => iprop(emp)) (u₀ := u₀ (F := F) T)
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats hA m ρ) 0 (launch0 (F := F)).win.arr_inj c (launch0 (F := F)).arr_whole
      (share_eq hA m ρ c) _ _ fun _ => rfl)
    (hpf := V_pre m hp)
    (X := fun c => iprop(outs m c ∗ Pipeline.ownSems0 osem0 c)) (Y := fun c => outs m c) (Z := fun _ => iprop(emp))
    (hX := fun c => by
      rw [unscopedRestP0_eq]
      iintro ⟨HU, Ho, -, -, -⟩; imodintro
      isplitl [HU Ho]
      · isplitl [HU]; · iexact HU
        iexact Ho
      iempintro)
    (hin := phi_intro hA m ρ)
    (hout := phi_exit hA m ρ)
    (QY := fun c s => s.mem ((c : Thread nD τ).loc main_arg1) = m ((c : Thread nD τ).loc main_arg1))
    (hY := fun c s' => by
      iintro ⟨HY, -, HSI⟩
      ihave H' := (pointsTo_read_all {main_arg1} (fun b => (c.tc : Thread nD τ).loc b) (fun b => m ((c : Thread nD τ).loc b)) s') $$ [HY HSI]
      · isplitl [HY]
        · rw [bigSep_singleton]; iexact HY
        · iexact HSI
      icases H' with ⟨%h, HSI⟩
      imodintro
      isplitr; · ipureintro; exact h _ (Finset.mem_singleton_self _)
      iexact HSI)
    (hQ := fun _ h hz => ⟨h, hz⟩)

/-- The run, with the arguments as they were, the result's array as the pipeline leaves it, and every counter at zero. -/
theorem run_args (hp : Tables (F := F) m T) :
    θ_run (defs (F := F)) (onTc (τ := τ) (main (F := F))) ⟨m, fun _ => 0, ρ⟩ (fun r => (∀ c : Dev nD,
      r.2.mem ((c.tc : Thread nD τ).loc main_v0) = (dats hA m ρ 0 c).arrAt (3 : Fin 4) (cfgA (F := F) T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2.1 0).trans (hp c).symm, (h.1 c).2.2,
      ((h.1 c).1 (0 : Fin 4)).trans ((dats hA m ρ 0 c).arrAt_in (0 : Fin 4) rfl _),
      ((h.1 c).1 (1 : Fin 4)).trans ((dats hA m ρ 0 c).arrAt_in (1 : Fin 4) rfl _),
      ((h.1 c).1 (2 : Fin 4)).trans ((dats hA m ρ 0 c).arrAt_in (2 : Fin 4) rfl _)⟩, h.2⟩) (run_quiescent hA m ρ hp)

end Cert.Combine

end
-- ==== Proof.Combine.Value.lean ====
/- What the combine call leaves, at the ideal instance: each latent row, plus the second gate times the sum of its two
   experts' outputs, each by its routing weight. -/
module

public import proofs.«01_k».proof.Proof.Combine.Frame
public import Idealize.ShloMosaic.Lib.Pointwise

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.ShloMosaic.Pipeline (Dat Cfg Window)

section
variable {F : FTy → Type} [FloatOps F]
variable (T : Posns)

theorem points (t : Fin (cfgA (F := F) T).N) : t.val < 32 := t.isLt.trans_eq (N_eq (F := F) T)

/-- A point's number, as the index maps compute it. -/
theorem word (t : Fin (cfgA (F := F) T).N) : (BitVec.ofNat 32 (crd T t 0).val).toNat = t.val := by
  have := points (F := F) T t
  rw [crd_val, BitVec.toNat_ofNat]; omega

/-- Each point takes its block of 256 rows, and the second gate. -/
theorem index0 (t : Fin (cfgA (F := F) T).N) : ((cfgA T).win (0 : Fin 4)).index t = ![t.val, 0] :=
  congrArg (fun n => ![n, 0]) (word (F := F) T t)
theorem index1 (t : Fin (cfgA (F := F) T).N) : ((cfgA T).win (1 : Fin 4)).index t = ![t.val, 0] :=
  congrArg (fun n => ![n, 0]) ((congrArg BitVec.toNat (BitVec.add_zero _)).trans (word (F := F) T t))
theorem index2 (t : Fin (cfgA (F := F) T).N) : ((cfgA T).win (2 : Fin 4)).index t = ![1, 0, 0] := by
  have h : ∀ n : Fin 32, Scalar.select (Scalar.cmpi .sge (Scalar.addi (BitVec.ofNat 32 n.val) 0#32) 0#32) 1#32 0#32 = 1#32 := by
    decide
  exact congrArg (fun w : BitVec 32 => ![w.toNat, 0, 0]) (h (crd T t 0))
theorem index3 (t : Fin (cfgA (F := F) T).N) : ((cfgA T).win (3 : Fin 4)).index t = ![t.val, 0] :=
  congrArg (fun n => ![n, 0]) (word (F := F) T t)

/-- Every point's block of the result is written back. -/
theorem flush3 (t : Fin (cfgA (F := F) T).N) : ((cfgA T).win (3 : Fin 4)).flush t = true := by
  have hN := N_eq (F := F) T
  have ht := points (F := F) T t
  rw [Pipeline.Window.flush_eq_flushF]
  unfold Pipeline.Window.flushF
  have ho : ((cfgA (F := F) T).win (3 : Fin 4)).isOut = true := rfl
  rw [ho, Bool.true_and]
  simp only [Bool.or_eq_true, decide_eq_true_eq]
  have hg : (cfgA (F := F) T).grid.N = 32 := hN
  by_cases h : t.val + 1 = 32
  · left; exact h.trans hg.symm
  · right
    refine ⟨lt_of_lt_of_eq (show t.val + 1 < 32 by omega) hg.symm, (0 : Fin 2), ?_⟩
    rw [index3, index3]
    show t.val + 1 ≠ t.val
    omega

variable (m : (ℓ : Loc nD τ sig) → Buf (Elt F) ℓ) (ρ : Dev nD → PrngReg)

/-- A point's rows of the routing weights, -/
theorem route_apply (c : Dev nD) (t : Fin (cfgA (F := F) T).N) (r : Fin 256) (k : Fin 128) :
    iblk T m c (0 : Fin 4) t (ix2 r k) = m ((c : Thread nD τ).loc main_arg2)
      (ix2 ⟨t.val * 256 + r.val, by have := points T t; omega⟩ k) := by
  have e := index0 (F := F) T t
  refine congrArg (m ((c : Thread nD τ).loc main_arg2)) (funext fun a => Fin.ext ?_)
  refine (Pipeline.Window.rect_emb_val ((cfgA (F := F) T).win (0 : Fin 4)) t (ix2 r k) a rfl).trans ?_
  rw [e]
  match a with
  | ⟨0, _⟩ => rfl
  | ⟨1, _⟩ => show 0 * 128 + k.val = k.val; omega

/-- of the latent, -/
theorem latent_apply (c : Dev nD) (t : Fin (cfgA (F := F) T).N) (r : Fin 256) (f : Fin 4096) :
    iblk T m c (1 : Fin 4) t (ix2 r f) = m ((c : Thread nD τ).loc main_arg3)
      (ix2 ⟨t.val * 256 + r.val, by have := points T t; omega⟩ f) := by
  have e := index1 (F := F) T t
  refine congrArg (m ((c : Thread nD τ).loc main_arg3)) (funext fun a => Fin.ext ?_)
  refine (Pipeline.Window.rect_emb_val ((cfgA (F := F) T).win (1 : Fin 4)) t (ix2 r f) a rfl).trans ?_
  rw [e]
  match a with
  | ⟨0, _⟩ => rfl
  | ⟨1, _⟩ => show 0 * 4096 + f.val = f.val; omega

/-- and the second gate. -/
theorem gate_apply (c : Dev nD) (t : Fin (cfgA (F := F) T).N) (f : Fin 4096) :
    iblk T m c (2 : Fin 4) t (ix3 0 0 f) = m ((c : Thread nD τ).loc main_arg4) (ix3 1 0 f) := by
  have e := index2 (F := F) T t
  refine congrArg (m ((c : Thread nD τ).loc main_arg4)) (funext fun a => Fin.ext ?_)
  refine (Pipeline.Window.rect_emb_val ((cfgA (F := F) T).win (2 : Fin 4)) t (ix3 0 0 f) a rfl).trans ?_
  rw [e]
  match a with
  | ⟨0, _⟩ => rfl
  | ⟨1, _⟩ => rfl
  | ⟨2, _⟩ => show 0 * 4096 + f.val = f.val; omega

variable {T} (hA : Admits T)

/-- The row a latent row's choice `k` names. -/
def chosen (r : Fin 8192) (k : Fin 2) : Fin 24576 :=
  ⟨(T (at16384 (2 * r.val + k.val) (by omega))).toNat, hA _⟩

/-- What lands in a point's scratch: for each of its rows the two rows chosen. -/
theorem gathered_apply (t : Fin (cfgA (F := F) T).N) (Y : Outs F) (k : Fin 2) (r : Fin 256) (f : Fin 4096) :
    gathered hA (crd T t) Y (ix3 k r f) = Y (ix2 (chosen hA ⟨t.val * 256 + r.val, by have := points T t; omega⟩ k) f) := by
  have ec := crd_val (F := F) T t
  unfold gathered
  refine congrArg (fun n => Y (ix2 n f)) (Fin.ext ?_)
  unfold posn chosen
  refine congrArg (fun x => (T x).toNat) (funext fun a => Fin.ext ?_)
  match a with
  | ⟨0, _⟩ => show 512 * (crd T t 0).val + (2 * r.val + k.val) = 2 * (t.val * 256 + r.val) + k.val; rw [ec]; omega

/-- The point of a row of the result, and the result's array row by row: each row its point's. -/
def pt (r : Fin 8192) : Fin (cfgA (F := F) T).N := ⟨r.val / 256, by rw [N_eq]; omega⟩
def rows (c : Dev nD) (i : S8192x4096.Idx) : Elt F .f32 :=
  res hA m c (pt (i 0)) (ix2 ⟨(i 0).val % 256, Nat.mod_lt _ (by omega)⟩ (i 1))

/-- Where an element of the result's block lies in the array. -/
theorem blk3_emb (t : Fin (cfgA (F := F) T).N) (y : S256x4096.Idx) :
    ((((cfgA (F := F) T).win (3 : Fin 4)).blk t).view.emb y 0).val = t.val * 256 + (y 0).val
      ∧ ((((cfgA (F := F) T).win (3 : Fin 4)).blk t).view.emb y 1).val = (y 1).val := by
  have e := index3 (F := F) T t
  constructor
  · refine (Pipeline.Window.rect_emb_val ((cfgA (F := F) T).win (3 : Fin 4)) t y 0 rfl).trans ?_
    rw [e]; rfl
  · refine (Pipeline.Window.rect_emb_val ((cfgA (F := F) T).win (3 : Fin 4)) t y 1 rfl).trans ?_
    rw [e]; show 0 * 4096 + (y 1).val = _; omega

/-- What a point writes back is its block of those rows. -/
theorem flushed3 (c : Dev nD) (t : Fin (cfgA (F := F) T).N) :
    (dats hA m ρ 0 c).flushed (3 : Fin 4) t = (((cfgA (F := F) T).win (3 : Fin 4)).blk t).view.read (Elt F) (rows m hA c) := by
  funext y
  have hy : (y 0).val < 256 := (y 0).isLt
  obtain ⟨e0, e1⟩ := blk3_emb (F := F) t y
  show res hA m c t y = rows m hA c ((((cfgA (F := F) T).win (3 : Fin 4)).blk t).view.emb y)
  unfold rows
  have ep : pt (F := F) (T := T) ((((cfgA (F := F) T).win (3 : Fin 4)).blk t).view.emb y 0) = t :=
    Fin.ext (by show _ / 256 = _; rw [e0]; omega)
  rw [ep]
  refine congrArg (res hA m c t) (funext fun a => Fin.ext ?_)
  match a with
  | ⟨0, _⟩ => show (y 0).val = _ % 256; rw [e0]; omega
  | ⟨1, _⟩ => exact e1.symm

/-- Each row ends up holding its point's result. -/
theorem arr_apply (c : Dev nD) (i : S8192x4096.Idx) :
    (dats hA m ρ 0 c).arrAt (3 : Fin 4) (cfgA (F := F) T).N i = rows m hA c i := by
  have hN := N_eq (F := F) T
  have hr : (i 0).val < 8192 := (i 0).isLt
  obtain ⟨n, hn, hd⟩ : ∃ n, n < 32 ∧ n = (i 0).val / 256 := ⟨_, by omega, rfl⟩
  refine (dats hA m ρ 0 c).arrAt_apply_of_mem (3 : Fin 4) (rows m hA c) (fun t _ => flushed3 m ρ hA c t) _
    ⟨n, hn.trans_eq hN.symm⟩ i (hn.trans_eq hN.symm) (flush3 (F := F) T _) ?_
  have e : (((cfgA (F := F) T).win (3 : Fin 4)).blk ⟨n, hn.trans_eq hN.symm⟩).view.emb
      (ix2 ⟨(i 0).val % 256, Nat.mod_lt _ (by omega)⟩ (i 1) : S256x4096.Idx) = i := by
    obtain ⟨e0, e1⟩ := blk3_emb (F := F) (T := T) ⟨n, hn.trans_eq hN.symm⟩ (ix2 ⟨(i 0).val % 256, Nat.mod_lt _ (by omega)⟩ (i 1))
    funext a
    refine Fin.ext ?_
    match a with
    | ⟨0, _⟩ =>
      refine e0.trans ?_
      show n * 256 + (i 0).val % 256 = (i 0).val
      omega
    | ⟨1, _⟩ => exact e1
  exact e ▸ View.emb_mem_set _ _
end

/-- What a point stores, at an element. -/
theorem pay_apply (p : Vec Ideal S256x1 .f32) (a : Vec Ideal S1x256x4096 .f32) (q : Vec Ideal S256x1 .f32)
    (b : Vec Ideal S1x256x4096 .f32) (x : Vec Ideal S256x4096 .f32) (g : Vec Ideal S1x1x4096 .f32) (r : Fin 256) (f : Fin 4096) :
    k0_pay1 (F := Ideal) p a q b x g (ix2 r f)
      = (x (ix2 r f) + g (ix3 0 0 f) * (p (ix2 r 0) * a (ix3 0 r f) + q (ix2 r 0) * b (ix3 0 r f)) : EReal) := by
  unfold k0_pay1
  pointwise

theorem stored_apply (x3 : S256x128.Idx → Elt Ideal .f32) (x4 : S256x4096.Idx → Elt Ideal .f32) (x5 : S1x1x4096.Idx → Elt Ideal .f32)
    (g : Slabs Ideal) (r : Fin 256) (f : Fin 4096) :
    stored (F := Ideal) x3 x4 x5 g (ix2 r f)
      = (x4 (ix2 r f) + x5 (ix3 0 0 f) * (x3 (ix2 r 2) * g (ix3 0 r f) + x3 (ix2 r 3) * g (ix3 1 r f)) : EReal) := by
  unfold stored
  refine (pay_apply _ _ _ _ _ _ _ _).trans ?_
  refine congrArg _ (congrArg _ (congr (congrArg _ (congr (congrArg _ (congrArg x3 ?_)) (congrArg g ?_)))
    (congr (congrArg _ (congrArg x3 ?_)) (congrArg g ?_)))) <;> funext a <;> refine Fin.ext ?_
  · match a with
    | ⟨0, _⟩ => show 0 + 1 * r.val = r.val; omega
    | ⟨1, _⟩ => rfl
  · match a with
    | ⟨0, _⟩ => rfl
    | ⟨1, _⟩ => show 0 + 1 * r.val = r.val; omega
    | ⟨2, _⟩ => show 0 + 1 * f.val = f.val; omega
  · match a with
    | ⟨0, _⟩ => show 0 + 1 * r.val = r.val; omega
    | ⟨1, _⟩ => rfl
  · match a with
    | ⟨0, _⟩ => rfl
    | ⟨1, _⟩ => show 0 + 1 * r.val = r.val; omega
    | ⟨2, _⟩ => show 0 + 1 * f.val = f.val; omega

variable {T : Posns} (hA : Admits T)

/-- An element of the combination. -/
def combined (y : S24576x4096.Idx → EReal) (w : S8192x128.Idx → EReal) (x : S8192x4096.Idx → EReal) (g : S2x1x4096.Idx → EReal)
    (i : S8192x4096.Idx) : EReal :=
  x i + g (ix3 1 0 (i 1)) * (w (ix2 (i 0) 2) * y (ix2 (chosen hA (i 0) 0) (i 1)) + w (ix2 (i 0) 3) * y (ix2 (chosen hA (i 0) 1) (i 1)))

/-- The result at the ideal instance. -/
theorem value (m : (ℓ : Loc nD τ sig) → Buf (Elt Ideal) ℓ) (ρ : Dev nD → PrngReg) (c : Dev nD) (i : S8192x4096.Idx) :
    (dats hA m ρ 0 c).arrAt (3 : Fin 4) (cfgA (F := Ideal) T).N i
      = combined hA (m ((c : Thread nD τ).loc main_arg1)) (m ((c : Thread nD τ).loc main_arg2)) (m ((c : Thread nD τ).loc main_arg3))
          (m ((c : Thread nD τ).loc main_arg4)) i := by
  rw [arr_apply m ρ hA c i]
  unfold rows res combined
  refine (stored_apply _ _ _ _ _ _).trans ?_
  have hr : (i 0).val < 8192 := (i 0).isLt
  have er : ∀ h, (⟨(pt (F := Ideal) (T := T) (i 0)).val * 256 + (i 0).val % 256, h⟩ : Fin 8192) = i 0 := fun h =>
    Fin.ext (by show (i 0).val / 256 * 256 + (i 0).val % 256 = (i 0).val; omega)
  have ei : i = ix2 (i 0) (i 1) := funext fun a => by match a with | ⟨0, _⟩ => rfl | ⟨1, _⟩ => rfl
  refine congr (congrArg _ ?_) (congr (congrArg _ ?_) (congr (congrArg _ (congr (congrArg _ ?_) ?_)) (congr (congrArg _ ?_) ?_)))
  · refine (latent_apply T m c _ _ _).trans ?_
    rw [er]; exact congrArg _ ei.symm
  · exact gate_apply T m c _ _
  · exact (route_apply T m c _ _ _).trans (by rw [er])
  · exact (gathered_apply hA _ _ _ _ _).trans (by rw [er])
  · exact (route_apply T m c _ _ _).trans (by rw [er])
  · exact (gathered_apply hA _ _ _ _ _).trans (by rw [er])

end Cert.Combine

end
-- ==== Proof.Combine.Reference.lean ====
/- What the combine reference computes at the ideal instance: each latent row, plus the second gate times the sum of its
   two experts' outputs, each by its routing weight. -/
module

public import proofs.«01_k».proof.Proof.Combine.Value
public import proofs.«01_k».proof.Proof.Gen.Reference5Ideal.Run
public import Idealize.ShloMosaic.Lib.Routing.Ops

@[expose] public section

set_option maxRecDepth 16384

noncomputable section

namespace Cert.Combine.Reference

open Cert.Reference5Ideal Cert.Reference5Ideal.Gen
open Idealize.ShloMosaic Idealize.ShloMosaic.TcCoe Idealize.SL.Sem

/-- The first and the second choice of every latent row. -/
def first (p : IVec S16384 32) : IVec S8192 32 :=
  shapeCast _ (extractStridedSlice S8192x1 ![0, 0] (shapeCast _ p shapeCasts_S16384_S8192x2) slices_S8192x2_S8192x1_0_0) shapeCasts_S8192x1_S8192
def second (p : IVec S16384 32) : IVec S8192 32 :=
  shapeCast _ (extractStridedSlice S8192x1 ![0, 1] (shapeCast _ p shapeCasts_S16384_S8192x2) slices_S8192x2_S8192x1_0_1) shapeCasts_S8192x1_S8192

/-- The same with a negative number counted from the end, as a column. -/
def column (e : IVec S8192 32) : IVec S8192x1 32 :=
  broadcastInDim S8192x1 ![0] bcast_S8192_S8192x1_0 (select (cmpi .slt e (broadcastInDim S8192 ![] bcast_S_S8192 (constantI S_ 32 0#32))) (addi e (broadcastInDim S8192 ![] bcast_S_S8192 (constantI S_ 32 24576#32))) e)

/-- The rows of the experts' outputs that a column of numbers names. -/
def taken (y : FVec Ideal S24576x4096 .f32) (e : IVec S8192 32) : FVec Ideal S8192x4096 .f32 :=
  Host.gather gather_S24576x4096_S8192x1_S8192x4096_1_0_n_n_0_1_14096 y (column e)

theorem first_apply (p : IVec S16384 32) (r : Fin 8192) : first p (ix1 r) = p (ix1 ⟨2 * r.val, by omega⟩) := by
  unfold first
  pointwise
  exact congrArg (fun n => p (ix1 n)) (Fin.ext (Nat.mul_comm _ _))
theorem second_apply (p : IVec S16384 32) (r : Fin 8192) : second p (ix1 r) = p (ix1 ⟨2 * r.val + 1, by omega⟩) := by
  unfold second
  pointwise
  exact congrArg (fun n => p (ix1 n)) (Fin.ext (congrArg (· + 1) (Nat.mul_comm _ _)))

/-- A number in range is left as it is. -/
theorem column_apply (e : IVec S8192 32) (r : Fin 8192) (h : (e (ix1 r)).toNat < 24576) : column e (ix2 r 0) = e (ix1 r) := by
  unfold column
  pointwise
  have hc : IntOp.cmpi .slt (e (ix1 r)) 0#32 = 0#1 := by
    have hn : ¬ (e (ix1 r)).slt 0#32 = true := by
      rw [BitVec.slt_iff_toInt_lt, BitVec.toInt_eq_toNat_of_lt (x := e (ix1 r)) (by omega), show (0#32 : BitVec 32).toInt = 0 from rfl]; omega
    show BitVec.ofBool _ = 0#1
    rw [Bool.not_eq_true] at hn
    rw [hn]; rfl
  rw [hc]; rfl

theorem taken_apply (y : FVec Ideal S24576x4096 .f32) (e : IVec S8192 32) (r : Fin 8192) (f : Fin 4096) (b : Fin 24576)
    (hb : (e (ix1 r)).toNat = b.val) : taken y e (ix2 r f) = y (ix2 b f) := by
  have hc := column_apply e r (hb.trans_lt b.isLt)
  refine Routing.gather_row gather_S24576x4096_S8192x1_S8192x4096_1_0_n_n_0_1_14096 rfl rfl rfl rfl rfl y (column e) r f b ?_ (by omega)
  exact hc.trans (BitVec.eq_of_toNat_eq (by rw [hb, BitVec.toNat_ofNat]; have := b.isLt; omega))

/-- The reference's result at an element, from the rows it takes. -/
theorem result_apply (x : FVec Ideal S8192x4096 .f32) (g : FVec Ideal S2x1x4096 .f32) (w : FVec Ideal S8192x128 .f32)
    (p q : FVec Ideal S8192x4096 .f32) (r : Fin 8192) (f : Fin 4096) :
    (addf x (mulf (broadcastInDim S8192x4096 ![0, 1] bcast_S1x4096_S8192x4096_0_1 (shapeCast _ (extractStridedSlice S1x1x4096 ![1, 0, 0] g slices_S2x1x4096_S1x1x4096_1_0_0) shapeCasts_S1x1x4096_S1x4096))
      (addf (mulf (broadcastInDim S8192x4096 ![0, 1] bcast_S8192x1_S8192x4096_0_1 (extractStridedSlice S8192x1 ![0, 2] w slices_S8192x128_S8192x1_0_2)) p)
        (mulf (broadcastInDim S8192x4096 ![0, 1] bcast_S8192x1_S8192x4096_0_1 (extractStridedSlice S8192x1 ![0, 3] w slices_S8192x128_S8192x1_0_3)) q))) : FVec Ideal S8192x4096 .f32) (ix2 r f)
      = (x (ix2 r f) + g (ix3 1 0 f) * (w (ix2 r 2) * p (ix2 r f) + w (ix2 r 3) * q (ix2 r f)) : EReal) := by
  pointwise

/-- The reference's result at an element. -/
theorem value (p : IVec S16384 32) (hA : Cert.Combine.Admits p) (y : FVec Ideal S24576x4096 .f32) (w : FVec Ideal S8192x128 .f32)
    (x : FVec Ideal S8192x4096 .f32) (g : FVec Ideal S2x1x4096 .f32) (i : S8192x4096.Idx) :
    (addf x (mulf (broadcastInDim S8192x4096 ![0, 1] bcast_S1x4096_S8192x4096_0_1 (shapeCast _ (extractStridedSlice S1x1x4096 ![1, 0, 0] g slices_S2x1x4096_S1x1x4096_1_0_0) shapeCasts_S1x1x4096_S1x4096))
      (addf (mulf (broadcastInDim S8192x4096 ![0, 1] bcast_S8192x1_S8192x4096_0_1 (extractStridedSlice S8192x1 ![0, 2] w slices_S8192x128_S8192x1_0_2)) (taken y (first p)))
        (mulf (broadcastInDim S8192x4096 ![0, 1] bcast_S8192x1_S8192x4096_0_1 (extractStridedSlice S8192x1 ![0, 3] w slices_S8192x128_S8192x1_0_3)) (taken y (second p))))) : FVec Ideal S8192x4096 .f32) i
      = Cert.Combine.combined hA y w x g i := by
  have ei : i = ix2 (i 0) (i 1) := funext fun a => by match a with | ⟨0, _⟩ => rfl | ⟨1, _⟩ => rfl
  have e0 : (first p (ix1 (i 0))).toNat = (Cert.Combine.chosen hA (i 0) 0).val :=
    (congrArg BitVec.toNat (first_apply p (i 0))).trans (congrArg (fun x => (p x).toNat) (funext fun a => Fin.ext (by match a with | ⟨0, _⟩ => rfl)))
  have e1 : (second p (ix1 (i 0))).toNat = (Cert.Combine.chosen hA (i 0) 1).val :=
    (congrArg BitVec.toNat (second_apply p (i 0))).trans (congrArg (fun x => (p x).toNat) (funext fun a => Fin.ext (by match a with | ⟨0, _⟩ => rfl)))
  refine (congrArg _ ei).trans ((result_apply x g w _ _ (i 0) (i 1)).trans ?_)
  unfold Cert.Combine.combined
  rw [taken_apply y (first p) (i 0) (i 1) _ e0, taken_apply y (second p) (i 0) (i 1) _ e1]
  exact congrArg (fun j => (x j + _ : EReal)) ei.symm

end Cert.Combine.Reference

end
-- ==== Proof.Combine.Algebraic.lean ====
/- The combine call and its reference leave equal extended reals; the frames of both. -/
module

public import proofs.«01_k».proof.Defs
public import proofs.«01_k».proof.Proof.Admit
public import proofs.«01_k».proof.Proof.Combine.Reference
public import proofs.«01_k».proof.Proof.Gen.Kernel5
public import Idealize.ShloMosaic.Lib.Quiescent
public import Idealize.ShloMosaic.Adequacy
public import Idealize.ShloMosaic.Init

@[expose] public section

set_option maxRecDepth 16384

noncomputable section

namespace Cert.Combine

open Idealize.ShloMosaic Idealize.SL.Sem

/-- The prefetched table is the same on every device: there is one. -/
theorem tables {F : FTy → Type} [FloatOps F]
    (m : (ℓ : Loc Cert.Kernel5Ideal.nD Cert.Kernel5Ideal.τ Cert.Kernel5Ideal.sig) → Buf (Elt F) ℓ) :
    Tables (F := F) m (m (((0 : Dev Cert.Kernel5Ideal.nD).tc : Thread _ Cert.Kernel5Ideal.τ).loc Cert.Kernel5Ideal.main_arg0)) :=
  fun c => by obtain rfl : c = 0 := Subsingleton.elim (α := Fin 1) _ _; rfl

/-- The call's frame at the ideal instance. -/
theorem frame_ideal : Cert.quiescent_Kernel5Ideal := fun m ρ h =>
  (θ_run Cert.Kernel5Ideal.defs _ _).mono (fun _ h => ⟨fun c => (h.1 c).2, h.2⟩)
    (run_args (F := Ideal) (Admit.combine _ _ _ _ _ (h 0)) m ρ (tables m))

/-- The kernels' bodies of the two printings are one program, label by label. -/
theorem bodies {F : FTy → Type} [FloatOps F] : @Cert.Kernel5.defs₀ F _ _ = @Cert.Kernel5Ideal.defs₀ F _ _ := by
  refine congrArg (Defs.onTc (nD := Cert.Kernel5.nD) (τ := Cert.Kernel5.τ) (sig := Cert.Kernel5.sig) (Val := Elt F) (Λ := Cert.Kernel5.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel5.defs F _ _ = @Cert.Kernel5Ideal.defs F _ _ :=
  congrArg (Pipeline.defs Cert.Kernel5.pcfgs) bodies

/-- The call's frame at the bit-exact instance: the same run, the two programs being one text. -/
theorem frame_bits : Cert.quiescent_Kernel5 := by
  intro m ρ h
  rw [defs_eq]
  exact (θ_run Cert.Kernel5Ideal.defs _ _).mono (fun _ h => ⟨fun c => (h.1 c).2, h.2⟩)
    (run_args (F := Bits) (Admit.combine _ _ _ _ _ (h 0)) m ρ (tables m))

/-- The reference's frame: it has no counters. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- `Cert.algebraic_Kernel5Ideal_Reference5Ideal`: both hold each latent row plus the gated sum of its two experts' outputs. -/
theorem algebraic : Cert.algebraic_Kernel5Ideal_Reference5Ideal := by
  intro m ρ m' ρ' hpre hagree
  have hA := Admit.combine _ _ _ _ _ (hpre 0)
  refine ⟨fun c => combined hA (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4)), ?_, ?_⟩
  · refine (θ_run Cert.Kernel5Ideal.defs _ _).mono (fun r h c => ⟨?_, (h.1 c).2⟩) (run_args (F := Ideal) hA m ρ (tables m))
    exact (h.1 c).1.trans (funext fun i => value hA m ρ c i)
  · refine (θ_run Cert.Reference5Ideal.defs _ _).mono (fun r h c => ⟨?_, (h c).2⟩) (Cert.Reference5Ideal.Value.run (F := Ideal) m' ρ')
    obtain rfl : c = 0 := Subsingleton.elim (α := Fin 1) _ _
    obtain ⟨e0, e1, e2, e3, e4⟩ := hagree 0
    refine (h 0).1.trans (funext fun i => ?_)
    rw [e0, e1, e2, e3, e4]
    exact Reference.value _ hA _ _ _ _ i

end Cert.Combine

end
-- ==== Proof.Glu.Value.lean ====
/- What the S5 part's gated unit leaves, at the ideal instance: each latent row's activations `g`, times the sigmoid of
   their products with the weights plus the bias. The weights are rounded once, at the first row block, and held. -/
module

public import proofs.«01_k».proof.Proof.Gen.Kernel6Ideal.Value
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.Glu

open Cert.Kernel6Ideal Cert.Kernel6Ideal.Gen Cert.Kernel6Ideal.Value
open Idealize.ShloMosaic Idealize.ShloMosaic.TcCoe Idealize.ShloMosaic.Tactic
open Idealize.ShloMosaic.Pipeline (Dat Cfg Window)

theorem origin : (![0, 0] : Fin 2 → Nat) = fun _ => 0 := funext fun a => by fin_cases a <;> rfl

section
variable {F : FTy → Type} [FloatOps F]
variable (m : (ℓ : Loc nD τ sig) → Buf (Elt F) ℓ)

section
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x1024 .f32) (h3 : a3.IsWhole)
  (a4 : Memref sig .tc .vmem S1024x1024 .f32) (h4 : a4.IsWhole) (a5 : Memref sig .tc .vmem S1x1024 .f32) (h5 : a5.IsWhole)
  (a6 : Memref sig .tc .vmem S256x1024 .bf16) (h6 : a6.IsWhole) (a7 : Memref sig .tc .vmem S1024x1024 .bf16) (h7 : a7.IsWhole)
  (y : Vec F S256x1024 .f32) (u : Vec F S256x1024 .f32) (d : Vec F S1x1024 .f32) (w : Vec F S1024x1024 .f32)
  (b : Vec F S1x1024 .f32) (s : Vec F S1024x1024 .bf16)

/-- The first row block leaves the weights rounded, -/
theorem held_first (hc : cond0_0 i) :
    sout0_A_0 c i a1 h1 a2 h2 a3 h3 a4 h4 a5 h5 a6 h6 a7 h7 hc y u d w b = k0_pay1 w := by
  unfold sout0_A_0
  rw [View.read_writes_eq_canon _ _ _ (scover0_A_0 c i a1 h1 a2 h2 a3 h3 a4 h4 a5 h5 a6 h6 a7 h7 hc y u d w b)]
  unfold kernelRun0_A
  dsimp only
  sl_unfold_words
  rw [View.canon_unit_zero (S := S1024x1024) origin]
  simp only [View.readAt_eq_ld, h4.read_unread, View.ld_unit_zero (S := S1024x1024) origin]

/-- and in the result's block what these give. -/
theorem result_first (hc : cond0_0 i) :
    out0_A_5 c i a1 h1 a2 h2 a3 h3 a4 h4 a5 h5 a6 h6 a7 h7 hc y u d w b = k0_pay2 d u y (k0_pay1 w) b := by
  unfold out0_A_5
  rw [View.read_writes_eq_canon _ _ _ (cover0_A_5 c i a1 h1 a2 h2 a3 h3 a4 h4 a5 h5 a6 h6 a7 h7 hc y u d w b)]
  unfold kernelRun0_A
  dsimp only
  sl_unfold_words
  rw [View.canon_unit_zero (S := S256x1024) origin]
  simp only [View.readCov_eq_canon', View.canon_unit_zero (S := S1024x1024) origin, View.readAt_eq_ld, h1.read_unread, h2.read_unread,
    h3.read_unread, h4.read_unread, h5.read_unread, View.ld_unit_zero (S := S1024x1024) origin,
    View.ld_unit_zero (S := S256x1024) origin, View.ld_unit_zero (S := S1x1024) origin]
  refine congrArg (fun s => k0_pay2 d u y s b) (funext fun j => congrArg (k0_pay1 w) (funext fun a => Fin.ext ?_))
  match a with
  | ⟨0, _⟩ => show 0 + 1 * (j 0).val = (j 0).val; omega
  | ⟨1, _⟩ => show 0 + 1 * (j 1).val = (j 1).val; omega

/-- A later row block leaves in the result's block what the weights held give. -/
theorem result_later (hc : ¬cond0_0 i) :
    out0_B_5 c i a1 h1 a2 h2 a3 h3 a4 h4 a5 h5 a6 h6 a7 h7 hc y u d w b s = k0_pay2 d u y s b := by
  unfold out0_B_5
  rw [View.read_writes_eq_canon _ _ _ (cover0_B_5 c i a1 h1 a2 h2 a3 h3 a4 h4 a5 h5 a6 h6 a7 h7 hc y u d w b s)]
  unfold kernelRun0_B
  dsimp only
  sl_unfold_words
  rw [View.canon_unit_zero (S := S256x1024) origin]
  simp only [View.readAt_eq_ld, h1.read_unread, h2.read_unread, h3.read_unread, h5.read_unread, h7.read_unread,
    View.ld_unit_zero (S := S256x1024) origin, View.ld_unit_zero (S := S1x1024) origin, View.ld_unit_zero (S := S1024x1024) origin]
end

/-- The row blocks start after the context's, and the rest is one block. -/
theorem index0 : ∀ t : Fin cfg0.N, win0_0.index t = ![t.val + 1, 0] :=
  (by decide +kernel : ∀ t : Fin grid0.N, win0_0.index t = ![t.val + 1, 0])
theorem index1 : ∀ t : Fin cfg0.N, win0_1.index t = ![t.val + 1, 0] :=
  (by decide +kernel : ∀ t : Fin grid0.N, win0_1.index t = ![t.val + 1, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])

theorem points (t : Fin cfg0.N) : t.val < 32 := t.isLt.trans_eq (show cfg0.N = 32 from N_0)

/-- A point's rows of the scan's outputs, -/
theorem scan_apply (c : Dev nD) (t : Fin cfg0.N) (r : Fin 256) (k : Fin 1024) :
    iblk m c 0 t (ix2 r k) = m ((c : Thread nD τ).loc main_arg0) (ix2 ⟨t.val * 256 + r.val + 256, by have := points t; omega⟩ k) := by
  have e := index0 t
  refine congrArg (m ((c : Thread nD τ).loc main_arg0)) (funext fun a => Fin.ext ?_)
  refine (Pipeline.Window.rect_emb_val (cfg0.win 0) t (ix2 r k) a rfl).trans ?_
  rw [show (cfg0.win 0).index t = _ from e]
  match a with
  | ⟨0, _⟩ => show (t.val + 1) * 256 + r.val = t.val * 256 + r.val + 256; omega
  | ⟨1, _⟩ => show 0 * 1024 + k.val = k.val; omega

/-- of the projection's first 1024 columns, -/
theorem proj_apply (c : Dev nD) (t : Fin cfg0.N) (r : Fin 256) (k : Fin 1024) :
    iblk m c 1 t (ix2 r k) = m ((c : Thread nD τ).loc main_arg1)
      (ix2 ⟨t.val * 256 + r.val + 256, by have := points t; omega⟩ ⟨k.val, by omega⟩) := by
  have e := index1 t
  refine congrArg (m ((c : Thread nD τ).loc main_arg1)) (funext fun a => Fin.ext ?_)
  refine (Pipeline.Window.rect_emb_val (cfg0.win 1) t (ix2 r k) a rfl).trans ?_
  rw [show (cfg0.win 1).index t = _ from e]
  match a with
  | ⟨0, _⟩ => show (t.val + 1) * 256 + r.val = t.val * 256 + r.val + 256; omega
  | ⟨1, _⟩ => show 0 * 1024 + k.val = k.val; omega

/-- and the skip's, the weights' and the bias's block, each whole. -/
theorem skip_apply (c : Dev nD) (t : Fin cfg0.N) (k : Fin 1024) :
    iblk m c 2 t (ix2 0 k) = m ((c : Thread nD τ).loc main_arg2) (ix2 0 k) := by
  have e := index2 t
  refine congrArg (m ((c : Thread nD τ).loc main_arg2)) (funext fun a => Fin.ext ?_)
  refine (Pipeline.Window.rect_emb_val (cfg0.win 2) t (ix2 0 k) a rfl).trans ?_
  rw [show (cfg0.win 2).index t = _ from e]
  match a with
  | ⟨0, _⟩ => rfl
  | ⟨1, _⟩ => show 0 * 1024 + k.val = k.val; omega
theorem weights_apply (c : Dev nD) (t : Fin cfg0.N) (k : Fin 1024) (f : Fin 1024) :
    iblk m c 3 t (ix2 k f) = m ((c : Thread nD τ).loc main_arg3) (ix2 k f) := by
  have e := index3 t
  refine congrArg (m ((c : Thread nD τ).loc main_arg3)) (funext fun a => Fin.ext ?_)
  refine (Pipeline.Window.rect_emb_val (cfg0.win 3) t (ix2 k f) a rfl).trans ?_
  rw [show (cfg0.win 3).index t = _ from e]
  match a with
  | ⟨0, _⟩ => show 0 * 1024 + k.val = k.val; omega
  | ⟨1, _⟩ => show 0 * 1024 + f.val = f.val; omega
theorem bias_apply (c : Dev nD) (t : Fin cfg0.N) (f : Fin 1024) :
    iblk m c 4 t (ix2 0 f) = m ((c : Thread nD τ).loc main_arg4) (ix2 0 f) := by
  have e := index4 t
  refine congrArg (m ((c : Thread nD τ).loc main_arg4)) (funext fun a => Fin.ext ?_)
  refine (Pipeline.Window.rect_emb_val (cfg0.win 4) t (ix2 0 f) a rfl).trans ?_
  rw [show (cfg0.win 4).index t = _ from e]
  match a with
  | ⟨0, _⟩ => rfl
  | ⟨1, _⟩ => show 0 * 1024 + f.val = f.val; omega

/-- All points read one block of weights. -/
theorem weights_congr (c : Dev nD) (t t' : Fin cfg0.N) : (iblk m c 3 t : Vec F S1024x1024 .f32) = iblk m c 3 t' := by
  funext y
  have ey : y = ix2 (y 0) (y 1) := funext fun a => by match a with | ⟨0, _⟩ => rfl | ⟨1, _⟩ => rfl
  rw [ey]
  exact (weights_apply m c t (y 0) (y 1)).trans (weights_apply m c t' (y 0) (y 1)).symm

/-- What every point leaves: its block's result with the weights rounded, and these held. -/
theorem state (c : Dev nD) : ∀ (n : ℕ) (h : n < cfg0.N),
    outsAt0 m c n h = (k0_pay2 (iblk m c 2 ⟨n, h⟩) (iblk m c 1 ⟨n, h⟩) (iblk m c 0 ⟨n, h⟩) (k0_pay1 (iblk m c 3 ⟨n, h⟩)) (iblk m c 4 ⟨n, h⟩),
      k0_pay1 (iblk m c 3 ⟨n, h⟩))
  | 0, h => by
    rw [outsAt0_A m c ⟨0, h⟩ rfl, result_first, held_first]
  | n + 1, h => by
    have h0 : ¬(n + 1) % 32 = 0 := by have := points ⟨n + 1, h⟩; dsimp only at this; omega
    rw [outsAt0_B m c ⟨n + 1, h⟩ h0, result_later]
    have e : (outsAt0 m c n (Nat.lt_of_succ_lt h)).2 = k0_pay1 (iblk m c 3 ⟨n + 1, h⟩) := by
      rw [state c n]
      exact congrArg k0_pay1 (weights_congr m c _ _)
    exact Prod.ext (congrArg (fun s => k0_pay2 _ _ _ s _) e) e
end

/-- Rounding the weights does nothing at the ideal instance. -/
theorem rounded_apply (w : Vec Ideal S1024x1024 .f32) (k : Fin 1024) (f : Fin 1024) :
    k0_pay1 (F := Ideal) w (ix2 k f) = w (ix2 k f) := by
  unfold k0_pay1
  pointwise

/-- The activation: a half of `x`, times one plus the tangent of the scaled cubic. -/
def gelu (x : EReal) : EReal :=
  Ideal.ofBits .f32 0x3F000000#32 * x * (1 + Ideal.tanh (Ideal.ofBits .f32 0x3F4C422A#32 * (x + Ideal.ofBits .f32 0x3D372713#32 * (x * x * x))))

/-- `g` times the sigmoid of `z`. -/
def gated (g z : EReal) : EReal := g * Ideal.div 1 (1 + Ideal.exp (-z))

/-- The payload at an element. -/
theorem pay_apply (d : FVec Ideal S1x1024 .f32) (u y : FVec Ideal S256x1024 .f32) (w : FVec Ideal S1024x1024 .bf16)
    (b : FVec Ideal S1x1024 .f32) (r : Fin 256) (f : Fin 1024) :
    k0_pay2 (F := Ideal) d u y w b (ix2 r f)
      = gated (gelu (d (ix2 0 f) * u (ix2 r f) + y (ix2 r f)))
          (∑ k : Fin 1024, gelu (d (ix2 0 k) * u (ix2 r k) + y (ix2 r k)) * w (ix2 k f) + b (ix2 0 f)) := by
  unfold k0_pay2 gated gelu
  pointwise
  rw [zero_sub]

/-- A latent row's activation. -/
def act (y : S8448x1024.Idx → EReal) (u : S8448x7168.Idx → EReal) (d : S1x1024.Idx → EReal) (r : Fin 8192) (k : Fin 1024) : EReal :=
  gelu (d (ix2 0 k) * u (ix2 ⟨r.val + 256, by omega⟩ ⟨k.val, by omega⟩) + y (ix2 ⟨r.val + 256, by omega⟩ k))

/-- An element of the result. -/
def unit (y : S8448x1024.Idx → EReal) (u : S8448x7168.Idx → EReal) (d : S1x1024.Idx → EReal) (w : S1024x1024.Idx → EReal)
    (b : S1x1024.Idx → EReal) (i : S8192x1024.Idx) : EReal :=
  gated (act y u d (i 0) (i 1)) (∑ k : Fin 1024, act y u d (i 0) k * w (ix2 k (i 1)) + b (ix2 0 (i 1)))

/-- The result at the ideal instance. -/
theorem value (m : (ℓ : Loc nD τ sig) → Buf (Elt Ideal) ℓ) (c : Dev nD) (i : S8192x1024.Idx) :
    G5 m c i = unit (m ((c : Thread nD τ).loc main_arg0)) (m ((c : Thread nD τ).loc main_arg1)) (m ((c : Thread nD τ).loc main_arg2))
      (m ((c : Thread nD τ).loc main_arg3)) (m ((c : Thread nD τ).loc main_arg4)) i := by
  have h0 : (i 0).val < 8192 := (i 0).isLt
  have h1 : (i 1).val < 1024 := (i 1).isLt
  have ep : pt5Of i = (i 0).val / 256 := by
    show 1 * ((i 0).val / 256 - 0) + 1 * ((i 1).val / 1024 - 0) = _
    omega
  have hp : pt5Of i < cfg0.N := by
    rw [show cfg0.N = 32 from N_0, ep]
    omega
  have er : pt5Of i * 256 + (i 0).val % 256 + 256 = (i 0).val + 256 := by rw [ep]; omega
  refine (dif_pos hp).trans ?_
  rw [← outsAt0_sweep m c (pt5Of i) hp, state]
  have el : loc5Of i = ix2 ⟨(i 0).val % 256, Nat.mod_lt _ (by decide)⟩ (i 1) :=
    funext fun a => by match a with | ⟨0, _⟩ => rfl | ⟨1, _⟩ => exact Fin.ext (Nat.mod_eq_of_lt h1)
  rw [el]
  have ea : ∀ k : Fin 1024, (fun d u y : EReal => gelu (d * u + y)) (iblk m c 2 ⟨pt5Of i, hp⟩ (ix2 0 k))
        (iblk m c 1 ⟨pt5Of i, hp⟩ (ix2 ⟨(i 0).val % 256, Nat.mod_lt _ (by decide)⟩ k))
        (iblk m c 0 ⟨pt5Of i, hp⟩ (ix2 ⟨(i 0).val % 256, Nat.mod_lt _ (by decide)⟩ k))
      = act (m ((c : Thread nD τ).loc main_arg0)) (m ((c : Thread nD τ).loc main_arg1)) (m ((c : Thread nD τ).loc main_arg2)) (i 0) k := fun k => by
    unfold act
    refine congrArg gelu (congr (congrArg _ (congr (congrArg _ (skip_apply m c _ _)) ?_)) ?_)
    · exact (proj_apply m c _ _ _).trans (congrArg (fun n => m ((c : Thread nD τ).loc main_arg1) (ix2 n _)) (Fin.ext er))
    · exact (scan_apply m c _ _ _).trans (congrArg (fun n => m ((c : Thread nD τ).loc main_arg0) (ix2 n _)) (Fin.ext er))
  unfold unit
  refine (pay_apply _ _ _ _ _ _ _).trans ?_
  refine congr (congrArg gated (ea (i 1))) (congr (congrArg _ (Finset.sum_congr rfl fun k _ => congr (congrArg _ (ea k)) ?_)) (bias_apply m c _ _))
  exact (rounded_apply _ _ _).trans (weights_apply m c _ _ _)

end Cert.Glu

end
-- ==== Proof.Glu.Algebraic.lean ====
/- The gated unit and its reference leave equal extended reals; the frames of both. -/
module

public import proofs.«01_k».proof.Defs
public import proofs.«01_k».proof.Proof.Glu.Value
public import proofs.«01_k».proof.Proof.Gen.Kernel6
public import proofs.«01_k».proof.Proof.Gen.Reference6Ideal.Run
public import Idealize.ShloMosaic.Lib.Quiescent
public import Idealize.ShloMosaic.Adequacy
public import Idealize.ShloMosaic.Init

@[expose] public section

set_option maxRecDepth 16384

noncomputable section

namespace Cert.Glu

open Idealize.ShloMosaic Idealize.SL.Sem

namespace Reference

open Cert.Reference6Ideal Cert.Reference6Ideal.Gen

/-- The scan's rows with the skip added. -/
def skipped (y : S8448x1024.Idx → Elt Ideal .f32) (u : S8448x7168.Idx → Elt Ideal .f32) (d : S1x1024.Idx → Elt Ideal .f32) :
    FVec Ideal S8192x1024 .f32 :=
  addf (mulf (broadcastInDim S8192x1024 ![0, 1] bcast_S1x1024_S8192x1024_0_1 d) (extractStridedSlice S8192x1024 ![256, 0] u slices_S8448x7168_S8192x1024_256_0))
    (extractStridedSlice S8192x1024 ![256, 0] y slices_S8448x1024_S8192x1024_256_0)

theorem skipped_apply (y : S8448x1024.Idx → Elt Ideal .f32) (u : S8448x7168.Idx → Elt Ideal .f32) (d : S1x1024.Idx → Elt Ideal .f32)
    (r : Fin 8192) (k : Fin 1024) :
    skipped y u d (ix2 r k)
      = (d (ix2 0 k) * u (ix2 ⟨256 + r.val, by omega⟩ ⟨k.val, by omega⟩) + y (ix2 ⟨256 + r.val, by omega⟩ k) : EReal) := by
  unfold skipped
  pointwise

/-- Its activation, in the reference's order of the factors. -/
def active (x : FVec Ideal S8192x1024 .f32) : FVec Ideal S8192x1024 .f32 :=
  mulf x (mulf (broadcastInDim S8192x1024 ![] bcast_S_S8192x1024 (constant S_ .f32 0x3F000000#32)) (addf (broadcastInDim S8192x1024 ![] bcast_S_S8192x1024 (constant S_ .f32 0x3F800000#32))
    (Host.tanh (mulf (broadcastInDim S8192x1024 ![] bcast_S_S8192x1024 (constant S_ .f32 0x3F4C422A#32)) (addf x (mulf (broadcastInDim S8192x1024 ![] bcast_S_S8192x1024 (constant S_ .f32 0x3D372713#32)) (mulf (mulf x x) x)))))))

theorem active_apply (x : FVec Ideal S8192x1024 .f32) (r : Fin 8192) (k : Fin 1024) : active x (ix2 r k) = gelu (x (ix2 r k)) := by
  have h : active x (ix2 r k) = (x (ix2 r k) * (Ideal.ofBits .f32 0x3F000000#32 * (1 + Ideal.tanh (Ideal.ofBits .f32 0x3F4C422A#32
      * (x (ix2 r k) + Ideal.ofBits .f32 0x3D372713#32 * (x (ix2 r k) * x (ix2 r k) * x (ix2 r k)))))) : EReal) := by
    unfold active
    pointwise
  exact h.trans ((mul_left_comm _ _ _).trans (mul_assoc _ _ _).symm)

/-- The reference's result, of the activation. -/
def gate (g : FVec Ideal S8192x1024 .f32) (w : FVec Ideal S1024x1024 .f32) (b : S1x1024.Idx → Elt Ideal .f32) : FVec Ideal S8192x1024 .bf16 :=
  truncf .bf16 (mulf g (Host.divf (broadcastInDim S8192x1024 ![] bcast_S_S8192x1024 (constant S_ .f32 0x3F800000#32)) (addf (broadcastInDim S8192x1024 ![] bcast_S_S8192x1024 (constant S_ .f32 0x3F800000#32))
    (Host.exp (Host.negf (addf (Host.dotGeneral dot_S8192x1024_S1024x1024_S8192x1024_1_0_0_1_n_n none g w)
      (broadcastInDim S8192x1024 ![0, 1] bcast_S1x1024_S8192x1024_0_1 b))))))) bitsLt_bf16_f32

theorem gate_apply (g : FVec Ideal S8192x1024 .f32) (w : FVec Ideal S1024x1024 .f32) (b : S1x1024.Idx → Elt Ideal .f32)
    (r : Fin 8192) (f : Fin 1024) :
    gate g w b (ix2 r f) = gated (g (ix2 r f)) (∑ k : Fin 1024, g (ix2 r k) * w (ix2 k f) + b (ix2 0 f)) := by
  unfold gate gated
  pointwise

/-- The reference's result at an element. -/
theorem value (y : S8448x1024.Idx → Elt Ideal .f32) (u : S8448x7168.Idx → Elt Ideal .f32) (d : S1x1024.Idx → Elt Ideal .f32)
    (w : FVec Ideal S1024x1024 .f32) (b : S1x1024.Idx → Elt Ideal .f32) (i : S8192x1024.Idx) :
    gate (active (skipped y u d)) w b i = unit y u d w b i := by
  have ei : i = ix2 (i 0) (i 1) := funext fun a => by match a with | ⟨0, _⟩ => rfl | ⟨1, _⟩ => rfl
  refine (congrArg _ ei).trans ((gate_apply _ w b (i 0) (i 1)).trans ?_)
  have ea : ∀ k : Fin 1024, active (skipped y u d) (ix2 (i 0) k) = act y u d (i 0) k := fun k => by
    refine (active_apply _ (i 0) k).trans (congrArg gelu ((skipped_apply y u d (i 0) k).trans ?_))
    refine congr (congrArg _ (congrArg (_ * ·) (congrArg (fun n => u (ix2 n _)) (Fin.ext ?_)))) (congrArg (fun n => y (ix2 n k)) (Fin.ext ?_))
    · exact Nat.add_comm _ _
    · exact Nat.add_comm _ _
  unfold unit
  exact congr (congrArg gated (ea (i 1))) (congrArg (· + _) (Finset.sum_congr rfl fun k _ => congrArg (· * _) (ea k)))

end Reference

/-- `Cert.algebraic_Kernel6Ideal_Reference6Ideal`: both hold the gated unit of the latent rows. -/
theorem algebraic : Cert.algebraic_Kernel6Ideal_Reference6Ideal := by
  intro m ρ m' ρ' _ hagree
  refine ⟨fun c => unit (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4)), ?_, ?_⟩
  · exact (θ_run Cert.Kernel6Ideal.defs _ _).mono (fun r h c => ⟨(h c).1.trans (funext (value m c)), (h c).2⟩)
      (Cert.Kernel6Ideal.Value.run (F := Ideal) m ρ)
  · refine (θ_run Cert.Reference6Ideal.defs _ _).mono (fun r h c => ⟨(h c).1.trans (funext fun i => ?_), (h c).2⟩)
      (Cert.Reference6Ideal.Value.run (F := Ideal) m' ρ')
    obtain ⟨e0, e1, e2, e3, e4⟩ := hagree c
    show Reference.gate (Reference.active (Reference.skipped _ _ _)) _ _ i = _
    rw [e0, e1, e2, e3, e4]
    exact Reference.value _ _ _ _ _ i

/-- The call's frame at the ideal instance. -/
theorem frame_ideal : Cert.quiescent_Kernel6Ideal := fun m ρ _ => Cert.Kernel6Ideal.Gen.frame (F := Ideal) m ρ

/-- The kernels' bodies of the two printings are one program, label by label. -/
theorem bodies {F : FTy → Type} [FloatOps F] : @Cert.Kernel6.defs₀ F _ _ = @Cert.Kernel6Ideal.defs₀ F _ _ := by
  refine congrArg (Defs.onTc (nD := Cert.Kernel6.nD) (τ := Cert.Kernel6.τ) (sig := Cert.Kernel6.sig) (Val := Elt F) (Λ := Cert.Kernel6.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel6.defs F _ _ = @Cert.Kernel6Ideal.defs F _ _ :=
  congrArg (Pipeline.defs Cert.Kernel6.pcfgs) bodies

/-- The call's frame at the bit-exact instance: the same run, the two programs being one text. -/
theorem frame_bits : Cert.quiescent_Kernel6 := by
  intro m ρ _
  rw [defs_eq]
  exact Cert.Kernel6Ideal.Gen.frame (F := Bits) m ρ

/-- The reference's frame: it has no counters. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Glu

end
-- ==== Proof.Norm.Value.lean ====
/- What the norm with its modulation leaves, at the ideal instance: each row over its root mean square, by the norm's
   weights, scaled and shifted as its part says: the text's rows by the first modulation, the latent's by the second. -/
module

public import proofs.«01_k».proof.Proof.Gen.Kernel7Ideal.Value
public import Idealize.ShloMosaic.Lib.Pipeline.Value
public import Idealize.ShloMosaic.Lib.Pointwise

@[expose] public section

set_option maxRecDepth 16384

noncomputable section

namespace Cert.Norm

open Cert.Kernel7Ideal Cert.Kernel7Ideal.Gen Cert.Kernel7Ideal.Value
open Idealize.ShloMosaic Idealize.ShloMosaic.TcCoe Idealize.ShloMosaic.Tactic
open Idealize.ShloMosaic.Pipeline (Dat Cfg Window)

theorem origin2 : (![0, 0] : Fin 2 → Nat) = fun _ => 0 := funext fun a => by fin_cases a <;> rfl
theorem origin3 : (![0, 0, 0] : Fin 3 → Nat) = fun _ => 0 := funext fun a => by fin_cases a <;> rfl

/-- The part a row lies in: the text's 256 rows, then the latent's. -/
def part (n : ℕ) : Fin 2 := if n < 256 then 0 else 1

section
variable {F : FTy → Type} [FloatOps F]
variable (m : (ℓ : Loc nD τ sig) → Buf (Elt F) ℓ)

theorem points (t : Fin cfg0.N) : t.val < 33 := t.isLt.trans_eq (show cfg0.N = 33 from N_0)

/-- Each point takes its block of 256 rows and its part's modulation. -/
theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![(part (t.val * 256)).val, 0, 0] :=
  (by decide +kernel : ∀ t : Fin grid0.N, win0_2.index t = ![(part (t.val * 256)).val, 0, 0])
theorem index3 : ∀ t : Fin cfg0.N, win0_3.index t = ![(part (t.val * 256)).val, 0, 0] :=
  (by decide +kernel : ∀ t : Fin grid0.N, win0_3.index t = ![(part (t.val * 256)).val, 0, 0])
theorem index4 : ∀ t : Fin cfg0.N, win0_4.index t = ![t.val, 0] :=
  (by decide +kernel : ∀ t : Fin grid0.N, win0_4.index t = ![t.val, 0])

/-- Every point's block of the result is written back. -/
theorem flush4 : ∀ t : Fin cfg0.N, (cfg0.win 4).flush t = true :=
  (by decide +kernel : ∀ t : Fin grid0.N, win0_4.flush t = true)

/-- A point's rows, -/
theorem rows_apply (c : Dev nD) (t : Fin cfg0.N) (r : Fin 256) (k : Fin 4096) :
    iblk m c 0 t (ix2 r k) = m ((c : Thread nD τ).loc main_arg0) (ix2 ⟨t.val * 256 + r.val, by have := points t; omega⟩ k) := by
  refine congrArg (m ((c : Thread nD τ).loc main_arg0)) (funext fun a => Fin.ext ?_)
  refine (Pipeline.Window.rect_emb_val (cfg0.win 0) t (ix2 r k) a rfl).trans ?_
  rw [show (cfg0.win 0).index t = _ from index0 t]
  match a with
  | ⟨0, _⟩ => rfl
  | ⟨1, _⟩ => show 0 * 4096 + k.val = k.val; omega

/-- the norm's weights, -/
theorem weights_apply (c : Dev nD) (t : Fin cfg0.N) (k : Fin 4096) :
    iblk m c 1 t (ix2 0 k) = m ((c : Thread nD τ).loc main_arg1) (ix2 0 k) := by
  refine congrArg (m ((c : Thread nD τ).loc main_arg1)) (funext fun a => Fin.ext ?_)
  refine (Pipeline.Window.rect_emb_val (cfg0.win 1) t (ix2 0 k) a rfl).trans ?_
  rw [show (cfg0.win 1).index t = _ from index1 t]
  match a with
  | ⟨0, _⟩ => rfl
  | ⟨1, _⟩ => show 0 * 4096 + k.val = k.val; omega

/-- its part's shift, -/
theorem shift_apply (c : Dev nD) (t : Fin cfg0.N) (k : Fin 4096) :
    iblk m c 2 t (ix3 0 0 k) = m ((c : Thread nD τ).loc main_arg2) (ix3 (part (t.val * 256)) 0 k) := by
  refine congrArg (m ((c : Thread nD τ).loc main_arg2)) (funext fun a => Fin.ext ?_)
  refine (Pipeline.Window.rect_emb_val (cfg0.win 2) t (ix3 0 0 k) a rfl).trans ?_
  rw [show (cfg0.win 2).index t = _ from index2 t]
  match a with
  | ⟨0, _⟩ => show (part (t.val * 256)).val * 1 + 0 = (part (t.val * 256)).val; omega
  | ⟨1, _⟩ => rfl
  | ⟨2, _⟩ => show 0 * 4096 + k.val = k.val; omega

/-- and its part's scale. -/
theorem scale_apply (c : Dev nD) (t : Fin cfg0.N) (k : Fin 4096) :
    iblk m c 3 t (ix3 0 0 k) = m ((c : Thread nD τ).loc main_arg3) (ix3 (part (t.val * 256)) 0 k) := by
  refine congrArg (m ((c : Thread nD τ).loc main_arg3)) (funext fun a => Fin.ext ?_)
  refine (Pipeline.Window.rect_emb_val (cfg0.win 3) t (ix3 0 0 k) a rfl).trans ?_
  rw [show (cfg0.win 3).index t = _ from index3 t]
  match a with
  | ⟨0, _⟩ => show (part (t.val * 256)).val * 1 + 0 = (part (t.val * 256)).val; omega
  | ⟨1, _⟩ => rfl
  | ⟨2, _⟩ => show 0 * 4096 + k.val = k.val; omega

/-- Where an element of a point's block of the result lies in the array. -/
def place (t : Fin cfg0.N) (r : Fin 256) (f : Fin 4096) : S8448x4096.Idx :=
  ix2 ⟨t.val * 256 + r.val, by have := points t; omega⟩ f

theorem blk4_emb (t : Fin cfg0.N) (r : Fin 256) (f : Fin 4096) :
    ((cfg0.win 4).blk t).view.emb (ix2 r f : S256x4096.Idx) = place t r f := by
  funext a
  refine Fin.ext ((Pipeline.Window.rect_emb_val (cfg0.win 4) t (ix2 r f) a rfl).trans ?_)
  rw [show (cfg0.win 4).index t = _ from index4 t]
  match a with
  | ⟨0, _⟩ => rfl
  | ⟨1, _⟩ => show 0 * 4096 + f.val = f.val; omega

/-- The array there ends up holding what the point stores. -/
theorem arr_apply (c : Dev nD) (t : Fin cfg0.N) (r : Fin 256) (f : Fin 4096) :
    (dats m 0 c).arrAt 4 cfg0.N (place t r f)
      = k0_pay1 (iblk m c 0 t) (iblk m c 1 t) (iblk m c 3 t) (iblk m c 2 t) (ix2 r f) := by
  have h := congrFun (blocks4 m c t (flush4 t)) (ix2 r f : S256x4096.Idx)
  rw [flushed4] at h
  have ho : out0_4 (iblk m c 0 t) (iblk m c 1 t) (iblk m c 2 t) (iblk m c 3 t)
      = k0_pay1 (iblk m c 0 t) (iblk m c 1 t) (iblk m c 3 t) (iblk m c 2 t) := by
    unfold out0_4
    rw [View.canon_unit_zero (S := S256x4096) origin2, View.ld_unit_zero (S := S256x4096) origin2,
      View.ld_unit_zero (S := S1x4096) origin2, View.ld_unit_zero (S := S1x1x4096) origin3,
      View.ld_unit_zero (S := S1x1x4096) origin3]
  rw [ho] at h
  exact (congrArg ((dats m 0 c).arrAt 4 cfg0.N) (blk4_emb t r f)).symm.trans h

end

/-- An element of a row over the row's root mean square, by its weight, scaled and shifted. -/
def scaled (x : Fin 4096 → EReal) (g c s : EReal) (f : Fin 4096) : EReal :=
  x f * Ideal.rsqrt (Ideal.div (∑ k : Fin 4096, x k * x k) (Ideal.ofBits .f32 0x45800000#32) + Ideal.ofBits .f32 0x358637BD#32)
    * g * (1 + c) + s

/-- What a point stores, at an element. -/
theorem pay_apply (x : Vec Ideal S256x4096 .f32) (g : Vec Ideal S1x4096 .f32) (c : Vec Ideal S1x1x4096 .f32)
    (s : Vec Ideal S1x1x4096 .f32) (r : Fin 256) (f : Fin 4096) :
    k0_pay1 (F := Ideal) x g c s (ix2 r f) = scaled (fun k => x (ix2 r k)) (g (ix2 0 f)) (c (ix3 0 0 f)) (s (ix3 0 0 f)) f := by
  unfold k0_pay1 scaled
  pointwise

/-- An element of the result. -/
def modulated (x : S8448x4096.Idx → EReal) (g : S1x4096.Idx → EReal) (s c : S2x1x4096.Idx → EReal) (i : S8448x4096.Idx) : EReal :=
  scaled (fun k => x (ix2 (i 0) k)) (g (ix2 0 (i 1))) (c (ix3 (part (i 0).val) 0 (i 1))) (s (ix3 (part (i 0).val) 0 (i 1))) (i 1)

/-- The result at the ideal instance. -/
theorem value (m : (ℓ : Loc nD τ sig) → Buf (Elt Ideal) ℓ) (c : Dev nD) (i : S8448x4096.Idx) :
    (dats m 0 c).arrAt 4 cfg0.N i
      = modulated (m ((c : Thread nD τ).loc main_arg0)) (m ((c : Thread nD τ).loc main_arg1)) (m ((c : Thread nD τ).loc main_arg2))
          (m ((c : Thread nD τ).loc main_arg3)) i := by
  have h0 : (i 0).val < 8448 := (i 0).isLt
  obtain ⟨n, hn, e0⟩ : ∃ n, n < 33 ∧ n = (i 0).val / 256 := ⟨_, by omega, rfl⟩
  have hN : n < cfg0.N := hn.trans_eq (show cfg0.N = 33 from N_0).symm
  have l0 : ∀ h, (⟨n * 256 + (i 0).val % 256, h⟩ : Fin 8448) = i 0 := fun h =>
    Fin.ext (by show n * 256 + (i 0).val % 256 = (i 0).val; omega)
  have ep : part (n * 256) = part (i 0).val := by
    unfold part
    exact if_congr (by omega) rfl rfl
  have key := arr_apply m c ⟨n, hN⟩ ⟨(i 0).val % 256, Nat.mod_lt _ (by decide)⟩ (i 1)
  refine (congrArg ((dats m 0 c).arrAt 4 cfg0.N) (funext fun a => ?_)).trans (key.trans ((pay_apply _ _ _ _ _ _).trans ?_))
  · match a with
    | ⟨0, _⟩ => exact (l0 _).symm
    | ⟨1, _⟩ => rfl
  · unfold modulated
    have ex : ∀ k : Fin 4096, iblk m c 0 ⟨n, hN⟩ (ix2 ⟨(i 0).val % 256, Nat.mod_lt _ (by decide)⟩ k)
        = m ((c : Thread nD τ).loc main_arg0) (ix2 (i 0) k) := fun k =>
      (rows_apply m c _ _ _).trans (congrArg (fun a : Fin 8448 => m ((c : Thread nD τ).loc main_arg0) (ix2 a k)) (l0 _))
    refine congrFun (congr (congr (congr (congrArg scaled (funext ex)) (weights_apply m c _ _)) ?_) ?_) (i 1)
    · exact (scale_apply m c _ _).trans (congrArg (fun p : Fin 2 => m ((c : Thread nD τ).loc main_arg3) (ix3 p 0 (i 1))) ep)
    · exact (shift_apply m c _ _).trans (congrArg (fun p : Fin 2 => m ((c : Thread nD τ).loc main_arg2) (ix3 p 0 (i 1))) ep)

end Cert.Norm

end
-- ==== Proof.Norm.Algebraic.lean ====
/- The norm with its modulation and its reference leave equal extended reals; the frames of both. -/
module

public import proofs.«01_k».proof.Defs
public import proofs.«01_k».proof.Proof.Norm.Value
public import proofs.«01_k».proof.Proof.Gen.Kernel7
public import proofs.«01_k».proof.Proof.Gen.Reference7Ideal.Run
public import Idealize.ShloMosaic.Lib.Quiescent
public import Idealize.ShloMosaic.Adequacy
public import Idealize.ShloMosaic.Init

@[expose] public section

set_option maxRecDepth 16384

noncomputable section

namespace Cert.Norm

open Idealize.ShloMosaic Idealize.SL.Sem

namespace Reference

open Cert.Reference7Ideal Cert.Reference7Ideal.Gen

/-- The text's rows, normed and modulated. -/
def text (x : FVec Ideal S8448x4096 .f32) (g : S1x4096.Idx → Elt Ideal .f32) (s c : S2x1x4096.Idx → Elt Ideal .f32) :
    FVec Ideal S256x4096 .f32 :=
  addf (mulf (mulf (mulf (extractStridedSlice S256x4096 ![0, 0] x slices_S8448x4096_S256x4096_0_0)
    (broadcastInDim S256x4096 ![0, 1] bcast_S256x1_S256x4096_0_1 (Host.rsqrt (addf (Host.divf
      (broadcastInDim S256x1 ![0] bcast_S256_S256x1_0 (Host.reduceAdd
        (mulf (extractStridedSlice S256x4096 ![0, 0] x slices_S8448x4096_S256x4096_0_0) (extractStridedSlice S256x4096 ![0, 0] x slices_S8448x4096_S256x4096_0_0))
        (constant S_ .f32 0x00000000#32) reducesTo_S256x4096_S256_d1 h_S_))
      (broadcastInDim S256x1 ![] bcast_S_S256x1 (constant S_ .f32 0x45800000#32))) (broadcastInDim S256x1 ![] bcast_S_S256x1 (constant S_ .f32 0x358637BD#32))))))
    (broadcastInDim S256x4096 ![0, 1] bcast_S1x4096_S256x4096_0_1 g))
    (broadcastInDim S256x4096 ![0, 1] bcast_S1x4096_S256x4096_0_1 (addf (broadcastInDim S1x4096 ![] bcast_S_S1x4096 (constant S_ .f32 0x3F800000#32))
      (shapeCast _ (extractStridedSlice S1x1x4096 ![0, 0, 0] c slices_S2x1x4096_S1x1x4096_0_0_0) shapeCasts_S1x1x4096_S1x4096))))
    (broadcastInDim S256x4096 ![0, 1] bcast_S1x4096_S256x4096_0_1 (shapeCast _ (extractStridedSlice S1x1x4096 ![0, 0, 0] s slices_S2x1x4096_S1x1x4096_0_0_0) shapeCasts_S1x1x4096_S1x4096))

theorem text_apply (x : FVec Ideal S8448x4096 .f32) (g : S1x4096.Idx → Elt Ideal .f32) (s c : S2x1x4096.Idx → Elt Ideal .f32)
    (r : Fin 256) (f : Fin 4096) :
    text x g s c (ix2 r f)
      = scaled (fun k => x (ix2 ⟨r.val, by omega⟩ k)) (g (ix2 0 f)) (c (ix3 0 0 f)) (s (ix3 0 0 f)) f := by
  unfold text scaled
  pointwise

/-- The latent's rows, normed and modulated. -/
def latent (x : FVec Ideal S8448x4096 .f32) (g : S1x4096.Idx → Elt Ideal .f32) (s c : S2x1x4096.Idx → Elt Ideal .f32) :
    FVec Ideal S8192x4096 .f32 :=
  addf (mulf (mulf (mulf (extractStridedSlice S8192x4096 ![256, 0] x slices_S8448x4096_S8192x4096_256_0)
    (broadcastInDim S8192x4096 ![0, 1] bcast_S8192x1_S8192x4096_0_1 (Host.rsqrt (addf (Host.divf
      (broadcastInDim S8192x1 ![0] bcast_S8192_S8192x1_0 (Host.reduceAdd
        (mulf (extractStridedSlice S8192x4096 ![256, 0] x slices_S8448x4096_S8192x4096_256_0) (extractStridedSlice S8192x4096 ![256, 0] x slices_S8448x4096_S8192x4096_256_0))
        (constant S_ .f32 0x00000000#32) reducesTo_S8192x4096_S8192_d1 h_S_))
      (broadcastInDim S8192x1 ![] bcast_S_S8192x1 (constant S_ .f32 0x45800000#32))) (broadcastInDim S8192x1 ![] bcast_S_S8192x1 (constant S_ .f32 0x358637BD#32))))))
    (broadcastInDim S8192x4096 ![0, 1] bcast_S1x4096_S8192x4096_0_1 g))
    (broadcastInDim S8192x4096 ![0, 1] bcast_S1x4096_S8192x4096_0_1 (addf (broadcastInDim S1x4096 ![] bcast_S_S1x4096 (constant S_ .f32 0x3F800000#32))
      (shapeCast _ (extractStridedSlice S1x1x4096 ![1, 0, 0] c slices_S2x1x4096_S1x1x4096_1_0_0) shapeCasts_S1x1x4096_S1x4096))))
    (broadcastInDim S8192x4096 ![0, 1] bcast_S1x4096_S8192x4096_0_1 (shapeCast _ (extractStridedSlice S1x1x4096 ![1, 0, 0] s slices_S2x1x4096_S1x1x4096_1_0_0) shapeCasts_S1x1x4096_S1x4096))

theorem latent_apply (x : FVec Ideal S8448x4096 .f32) (g : S1x4096.Idx → Elt Ideal .f32) (s c : S2x1x4096.Idx → Elt Ideal .f32)
    (r : Fin 8192) (f : Fin 4096) :
    latent x g s c (ix2 r f)
      = scaled (fun k => x (ix2 ⟨256 + r.val, by omega⟩ k)) (g (ix2 0 f)) (c (ix3 1 0 f)) (s (ix3 1 0 f)) f := by
  unfold latent scaled
  pointwise

/-- The two parts one above the other. -/
def stacked (a : FVec Ideal S256x4096 .f32) (b : FVec Ideal S8192x4096 .f32) : FVec Ideal S8448x4096 .bf16 :=
  truncf .bf16 (concatenate S8448x4096 0 [⟨S256x4096, a⟩, ⟨S8192x4096, b⟩] concatenates_S256x4096_S8192x4096_S8448x4096_d0) bitsLt_bf16_f32

theorem stacked_first (a : FVec Ideal S256x4096 .f32) (b : FVec Ideal S8192x4096 .f32) (r : Fin 256) (f : Fin 4096) :
    stacked a b (ix2 (⟨r.val, by omega⟩ : Fin 8448) f) = a (ix2 r f) := by
  unfold stacked
  pointwise

theorem stacked_second (a : FVec Ideal S256x4096 .f32) (b : FVec Ideal S8192x4096 .f32) (r : Fin 8192) (f : Fin 4096) :
    stacked a b (ix2 (⟨256 + r.val, by omega⟩ : Fin 8448) f) = b (ix2 r f) := by
  unfold stacked
  pointwise

/-- The reference's result at an element. -/
theorem value (x : FVec Ideal S8448x4096 .f32) (g : S1x4096.Idx → Elt Ideal .f32) (s c : S2x1x4096.Idx → Elt Ideal .f32) (i : S8448x4096.Idx) :
    stacked (text x g s c) (latent x g s c) i = modulated x g s c i := by
  have h0 : (i 0).val < 8448 := (i 0).isLt
  unfold modulated
  by_cases h : (i 0).val < 256
  · have ep : part (i 0).val = 0 := if_pos h
    have ei : i = ix2 (⟨(⟨(i 0).val, h⟩ : Fin 256).val, h0⟩ : Fin 8448) (i 1) := funext fun a => by match a with | ⟨0, _⟩ => rfl | ⟨1, _⟩ => rfl
    rw [ep]
    exact (congrArg _ ei).trans ((stacked_first _ _ ⟨(i 0).val, h⟩ (i 1)).trans (text_apply x g s c ⟨(i 0).val, h⟩ (i 1)))
  · have ep : part (i 0).val = 1 := if_neg h
    have er : ∀ h', (⟨256 + ((i 0).val - 256), h'⟩ : Fin 8448) = i 0 := fun h' => Fin.ext (by show 256 + ((i 0).val - 256) = (i 0).val; omega)
    have hl : (i 0).val - 256 < 8192 := by omega
    have ei : i = ix2 (⟨256 + (⟨(i 0).val - 256, hl⟩ : Fin 8192).val, by show 256 + ((i 0).val - 256) < 8448; omega⟩ : Fin 8448) (i 1) :=
      funext fun a => by match a with | ⟨0, _⟩ => exact (er _).symm | ⟨1, _⟩ => rfl
    rw [ep]
    refine (congrArg _ ei).trans ((stacked_second _ _ ⟨(i 0).val - 256, hl⟩ (i 1)).trans ((latent_apply x g s c ⟨(i 0).val - 256, hl⟩ (i 1)).trans ?_))
    exact congrArg (fun n : Fin 8448 => scaled (fun k => x (ix2 n k)) (g (ix2 0 (i 1))) (c (ix3 1 0 (i 1))) (s (ix3 1 0 (i 1))) (i 1)) (er _)

end Reference

/-- `Cert.algebraic_Kernel7Ideal_Reference7Ideal`: both hold the rows normed and modulated. -/
theorem algebraic : Cert.algebraic_Kernel7Ideal_Reference7Ideal := by
  intro m ρ m' ρ' _ hagree
  refine ⟨fun c => modulated (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono (fun r h c => ⟨(h c).1.trans (funext (value m c)), (h c).2⟩)
      (Cert.Kernel7Ideal.Value.run_blocks (F := Ideal) m ρ)
  · refine (θ_run Cert.Reference7Ideal.defs _ _).mono (fun r h c => ⟨(h c).1.trans (funext fun i => ?_), (h c).2⟩)
      (Cert.Reference7Ideal.Value.run (F := Ideal) m' ρ')
    obtain ⟨e0, e1, e2, e3⟩ := hagree c
    rw [e0, e1, e2, e3]
    exact Reference.value _ _ _ _ i

/-- The call's frame at the ideal instance. -/
theorem frame_ideal : Cert.quiescent_Kernel7Ideal := fun m ρ _ => Cert.Kernel7Ideal.Gen.frame (F := Ideal) m ρ

/-- The kernels' bodies of the two printings are one program, label by label. -/
theorem bodies {F : FTy → Type} [FloatOps F] : @Cert.Kernel7.defs₀ F _ _ = @Cert.Kernel7Ideal.defs₀ F _ _ := by
  refine congrArg (Defs.onTc (nD := Cert.Kernel7.nD) (τ := Cert.Kernel7.τ) (sig := Cert.Kernel7.sig) (Val := Elt F) (Λ := Cert.Kernel7.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel7.defs F _ _ = @Cert.Kernel7Ideal.defs F _ _ :=
  congrArg (Pipeline.defs Cert.Kernel7.pcfgs) bodies

/-- The call's frame at the bit-exact instance: the same run, the two programs being one text. -/
theorem frame_bits : Cert.quiescent_Kernel7 := by
  intro m ρ _
  rw [defs_eq]
  exact Cert.Kernel7Ideal.Gen.frame (F := Bits) m ρ

/-- The reference's frame: it has no counters. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Norm

end
-- ==== Proof.Modulation.Value.lean ====
/- What the modulation leaves, at the ideal instance: for each of the two layers, each conditioning vector through the
   SiLU and the layer's weights, plus the layer's bias. -/
module

public import proofs.«01_k».proof.Proof.Gen.Kernel8Ideal.Value
public import Idealize.ShloMosaic.Lib.Pipeline.Value
public import Idealize.ShloMosaic.Lib.Pointwise

@[expose] public section

set_option maxRecDepth 16384

noncomputable section

namespace Cert.Modulation

open Cert.Kernel8Ideal Cert.Kernel8Ideal.Gen Cert.Kernel8Ideal.Value
open Idealize.ShloMosaic Idealize.ShloMosaic.TcCoe Idealize.ShloMosaic.Tactic
open Idealize.ShloMosaic.Pipeline (Dat Cfg Window)

theorem origin2 : (![0, 0] : Fin 2 → Nat) = fun _ => 0 := funext fun a => by fin_cases a <;> rfl
theorem origin3 : (![0, 0, 0] : Fin 3 → Nat) = fun _ => 0 := funext fun a => by fin_cases a <;> rfl

section
variable {F : FTy → Type} [FloatOps F]
variable (m : (ℓ : Loc nD τ sig) → Buf (Elt F) ℓ)

theorem points (t : Fin cfg0.N) : t.val < 96 := t.isLt.trans_eq (show cfg0.N = 96 from N_0)

/-- The points take the layers in turn, and of each the columns in 48 blocks. -/
theorem index0 : ∀ t : Fin cfg0.N, win0_0.index t = ![0, 0] :=
  (by decide +kernel : ∀ t : Fin grid0.N, win0_0.index t = ![0, 0])
theorem index1 : ∀ t : Fin cfg0.N, win0_1.index t = ![t.val / 48, 0, t.val % 48] :=
  (by decide +kernel : ∀ t : Fin grid0.N, win0_1.index t = ![t.val / 48, 0, t.val % 48])
theorem index2 : ∀ t : Fin cfg0.N, win0_2.index t = ![t.val / 48, 0, t.val % 48] :=
  (by decide +kernel : ∀ t : Fin grid0.N, win0_2.index t = ![t.val / 48, 0, t.val % 48])
theorem index3 : ∀ t : Fin cfg0.N, win0_3.index t = ![t.val / 48, 0, t.val % 48] :=
  (by decide +kernel : ∀ t : Fin grid0.N, win0_3.index t = ![t.val / 48, 0, t.val % 48])

/-- Every point's block of the result is written back. -/
theorem flush3 : ∀ t : Fin cfg0.N, (cfg0.win 3).flush t = true :=
  (by decide +kernel : ∀ t : Fin grid0.N, win0_3.flush t = true)

/-- A point's conditioning vectors, -/
theorem vectors_apply (c : Dev nD) (t : Fin cfg0.N) (r : Fin 8) (k : Fin 4096) :
    iblk m c (0 : Fin 4) t (ix2 r k) = m ((c : Thread nD τ).loc main_arg0) (ix2 r k) := by
  refine congrArg (m ((c : Thread nD τ).loc main_arg0)) (funext fun a => Fin.ext ?_)
  refine (Pipeline.Window.rect_emb_val (cfg0.win 0) t (ix2 r k) a rfl).trans ?_
  rw [show (cfg0.win 0).index t = _ from index0 t]
  match a with
  | ⟨0, _⟩ => show 0 * 8 + r.val = r.val; omega
  | ⟨1, _⟩ => show 0 * 4096 + k.val = k.val; omega

/-- its block of the layer's weights, -/
theorem weights_apply (c : Dev nD) (t : Fin cfg0.N) (k : Fin 4096) (f : Fin 512) :
    iblk m c (1 : Fin 4) t (ix3 0 k f) = m ((c : Thread nD τ).loc main_arg1)
      (ix3 ⟨t.val / 48, by have := points t; omega⟩ k ⟨t.val % 48 * 512 + f.val, by omega⟩) := by
  refine congrArg (m ((c : Thread nD τ).loc main_arg1)) (funext fun a => Fin.ext ?_)
  refine (Pipeline.Window.rect_emb_val (cfg0.win 1) t (ix3 0 k f) a rfl).trans ?_
  rw [show (cfg0.win 1).index t = _ from index1 t]
  match a with
  | ⟨0, _⟩ => show t.val / 48 * 1 + 0 = t.val / 48; omega
  | ⟨1, _⟩ => show 0 * 4096 + k.val = k.val; omega
  | ⟨2, _⟩ => rfl

/-- and of its bias. -/
theorem bias_apply (c : Dev nD) (t : Fin cfg0.N) (f : Fin 512) :
    iblk m c (2 : Fin 4) t (ix3 0 0 f) = m ((c : Thread nD τ).loc main_arg2)
      (ix3 ⟨t.val / 48, by have := points t; omega⟩ 0 ⟨t.val % 48 * 512 + f.val, by omega⟩) := by
  refine congrArg (m ((c : Thread nD τ).loc main_arg2)) (funext fun a => Fin.ext ?_)
  refine (Pipeline.Window.rect_emb_val (cfg0.win 2) t (ix3 0 0 f) a rfl).trans ?_
  rw [show (cfg0.win 2).index t = _ from index2 t]
  match a with
  | ⟨0, _⟩ => show t.val / 48 * 1 + 0 = t.val / 48; omega
  | ⟨1, _⟩ => rfl
  | ⟨2, _⟩ => rfl

/-- Where an element of a point's block of the result lies in the array. -/
def place (t : Fin cfg0.N) (r : Fin 8) (f : Fin 512) : S2x8x24576.Idx :=
  ix3 ⟨t.val / 48, by have := points t; omega⟩ r ⟨t.val % 48 * 512 + f.val, by omega⟩

theorem blk3_emb (t : Fin cfg0.N) (r : Fin 8) (f : Fin 512) : ((cfg0.win 3).blk t).view.emb (ix3 0 r f : S1x8x512.Idx) = place t r f := by
  funext a
  refine Fin.ext ((Pipeline.Window.rect_emb_val (cfg0.win 3) t (ix3 0 r f) a rfl).trans ?_)
  rw [show (cfg0.win 3).index t = _ from index3 t]
  match a with
  | ⟨0, _⟩ => show t.val / 48 * 1 + 0 = t.val / 48; omega
  | ⟨1, _⟩ => show 0 * 8 + r.val = r.val; omega
  | ⟨2, _⟩ => rfl

/-- The array there ends up holding what the point stores. -/
theorem arr_apply (c : Dev nD) (t : Fin cfg0.N) (r : Fin 8) (f : Fin 512) :
    (dats m 0 c).arrAt 3 cfg0.N (place t r f) = k0_pay1 (iblk m c 0 t) (iblk m c 1 t) (iblk m c 2 t) (ix3 0 r f) := by
  have h := congrFun (blocks3 m c t (flush3 t)) (ix3 0 r f : S1x8x512.Idx)
  rw [flushed3] at h
  have ho : out0_3 (iblk m c 0 t) (iblk m c 1 t) (iblk m c 2 t) = k0_pay1 (iblk m c 0 t) (iblk m c 1 t) (iblk m c 2 t) := by
    unfold out0_3
    rw [View.canon_unit_zero (S := S1x8x512) origin3, View.ld_unit_zero (S := S8x4096) origin2,
      View.ld_unit_zero (S := S1x4096x512) origin3, View.ld_unit_zero (S := S1x1x512) origin3]
  rw [ho] at h
  exact (congrArg ((dats m 0 c).arrAt 3 cfg0.N) (blk3_emb t r f)).symm.trans h

end

/-- The SiLU. -/
def silu (x : EReal) : EReal := x * Ideal.div 1 (1 + Ideal.exp (-x))

/-- What a point stores, at an element. -/
theorem pay_apply (x : Vec Ideal S8x4096 .f32) (w : Vec Ideal S1x4096x512 .f32) (b : Vec Ideal S1x1x512 .f32) (r : Fin 8) (f : Fin 512) :
    k0_pay1 (F := Ideal) x w b (ix3 0 r f) = (∑ k : Fin 4096, silu (x (ix2 r k)) * w (ix3 0 k f) + b (ix3 0 0 f) : EReal) := by
  unfold k0_pay1 silu
  pointwise
  simp only [zero_sub]

/-- An element of the modulation. -/
def modulation (x : S8x4096.Idx → EReal) (w : S2x4096x24576.Idx → EReal) (b : S2x1x24576.Idx → EReal) (i : S2x8x24576.Idx) : EReal :=
  ∑ k : Fin 4096, silu (x (ix2 (i 1) k)) * w (ix3 (i 0) k (i 2)) + b (ix3 (i 0) 0 (i 2))

/-- The result at the ideal instance. -/
theorem value (m : (ℓ : Loc nD τ sig) → Buf (Elt Ideal) ℓ) (c : Dev nD) (i : S2x8x24576.Idx) :
    (dats m 0 c).arrAt 3 cfg0.N i
      = modulation (m ((c : Thread nD τ).loc main_arg0)) (m ((c : Thread nD τ).loc main_arg1)) (m ((c : Thread nD τ).loc main_arg2)) i := by
  have h0 : (i 0).val < 2 := (i 0).isLt
  have h2 : (i 2).val < 24576 := (i 2).isLt
  obtain ⟨n, hn, e0, e2⟩ : ∃ n, n < 96 ∧ n / 48 = (i 0).val ∧ n % 48 = (i 2).val / 512 :=
    ⟨(i 0).val * 48 + (i 2).val / 512, by omega, by omega, by omega⟩
  have hN : n < cfg0.N := hn.trans_eq (show cfg0.N = 96 from N_0).symm
  have ef : n % 48 * 512 + (i 2).val % 512 = (i 2).val := by omega
  have l0 : ∀ h, (⟨n / 48, h⟩ : Fin 2) = i 0 := fun h => Fin.ext e0
  have l2 : ∀ h, (⟨n % 48 * 512 + (i 2).val % 512, h⟩ : Fin 24576) = i 2 := fun h => Fin.ext ef
  have key := arr_apply m c ⟨n, hN⟩ (i 1) ⟨(i 2).val % 512, Nat.mod_lt _ (by decide)⟩
  refine (congrArg ((dats m 0 c).arrAt 3 cfg0.N) (funext fun a => ?_)).trans (key.trans ((pay_apply _ _ _ _ _).trans ?_))
  · match a with
    | ⟨0, _⟩ => exact (l0 _).symm
    | ⟨1, _⟩ => rfl
    | ⟨2, _⟩ => exact (l2 _).symm
  · unfold modulation
    refine congr (congrArg _ (Finset.sum_congr rfl fun k _ => congr (congrArg _ (congrArg silu (vectors_apply m c _ _ _))) ?_)) ?_
    · exact (weights_apply m c _ _ _).trans (congrArg₂ (fun (a : Fin 2) (b : Fin 24576) => m ((c : Thread nD τ).loc main_arg1) (ix3 a k b)) (l0 _) (l2 _))
    · exact (bias_apply m c _ _).trans (congrArg₂ (fun (a : Fin 2) (b : Fin 24576) => m ((c : Thread nD τ).loc main_arg2) (ix3 a 0 b)) (l0 _) (l2 _))

end Cert.Modulation

end
-- ==== Proof.Modulation.Algebraic.lean ====
/- The modulation and its reference leave equal extended reals; the frames of both. -/
module

public import proofs.«01_k».proof.Defs
public import proofs.«01_k».proof.Proof.Modulation.Value
public import proofs.«01_k».proof.Proof.Gen.Kernel8
public import proofs.«01_k».proof.Proof.Gen.Reference8Ideal.Run
public import Idealize.ShloMosaic.Lib.Quiescent
public import Idealize.ShloMosaic.Adequacy
public import Idealize.ShloMosaic.Init

@[expose] public section

set_option maxRecDepth 16384

noncomputable section

namespace Cert.Modulation

open Idealize.ShloMosaic Idealize.SL.Sem

namespace Reference

open Cert.Reference8Ideal Cert.Reference8Ideal.Gen

/-- The conditioning vectors through the SiLU. -/
def active (x : FVec Ideal S8x4096 .f32) : FVec Ideal S8x4096 .f32 :=
  mulf x (Host.divf (broadcastInDim S8x4096 ![] bcast_S_S8x4096 (constant S_ .f32 0x3F800000#32)) (addf (broadcastInDim S8x4096 ![] bcast_S_S8x4096 (constant S_ .f32 0x3F800000#32)) (Host.exp (Host.negf x))))

theorem active_apply (x : FVec Ideal S8x4096 .f32) (r : Fin 8) (k : Fin 4096) : active x (ix2 r k) = silu (x (ix2 r k)) := by
  unfold active silu
  pointwise

/-- The reference's result, the weights being the product's first operand. -/
theorem result_apply (s : FVec Ideal S8x4096 .f32) (w : FVec Ideal S2x4096x24576 .f32) (b : S2x1x24576.Idx → Elt Ideal .f32)
    (l : Fin 2) (r : Fin 8) (f : Fin 24576) :
    (addf (transpose S2x8x24576 [0, 2, 1] (Host.dotGeneral dot_S2x4096x24576_S8x4096_S2x24576x8_1_1_02_0_n_n none w s) transposes_S2x24576x8_S2x8x24576_0_2_1)
      (broadcastInDim S2x8x24576 ![0, 1, 2] bcast_S2x1x24576_S2x8x24576_0_1_2 b) : FVec Ideal S2x8x24576 .f32) (ix3 l r f)
      = (∑ k : Fin 4096, w (ix3 l k f) * s (ix2 r k) + b (ix3 l 0 f) : EReal) := by
  pointwise

/-- The reference's result at an element. -/
theorem value (x : FVec Ideal S8x4096 .f32) (w : FVec Ideal S2x4096x24576 .f32) (b : S2x1x24576.Idx → Elt Ideal .f32) (i : S2x8x24576.Idx) :
    (addf (transpose S2x8x24576 [0, 2, 1] (Host.dotGeneral dot_S2x4096x24576_S8x4096_S2x24576x8_1_1_02_0_n_n none w (active x)) transposes_S2x24576x8_S2x8x24576_0_2_1)
      (broadcastInDim S2x8x24576 ![0, 1, 2] bcast_S2x1x24576_S2x8x24576_0_1_2 b) : FVec Ideal S2x8x24576 .f32) i = modulation x w b i := by
  have ei : i = ix3 (i 0) (i 1) (i 2) := funext fun a => by match a with | ⟨0, _⟩ => rfl | ⟨1, _⟩ => rfl | ⟨2, _⟩ => rfl
  refine (congrArg _ ei).trans ((result_apply (active x) w b (i 0) (i 1) (i 2)).trans ?_)
  unfold modulation
  refine congrArg (· + _) (Finset.sum_congr rfl fun k _ => (mul_comm _ _).trans (congrArg (· * _) ?_))
  exact active_apply x (i 1) k

end Reference

/-- `Cert.algebraic_Kernel8Ideal_Reference8Ideal`: both hold the modulation of the two layers. -/
theorem algebraic : Cert.algebraic_Kernel8Ideal_Reference8Ideal := by
  intro m ρ m' ρ' _ hagree
  refine ⟨fun c => modulation (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2)), ?_, ?_⟩
  · exact (θ_run Cert.Kernel8Ideal.defs _ _).mono (fun r h c => ⟨(h c).1.trans (funext (value m c)), (h c).2⟩)
      (Cert.Kernel8Ideal.Value.run_blocks (F := Ideal) m ρ)
  · refine (θ_run Cert.Reference8Ideal.defs _ _).mono (fun r h c => ⟨(h c).1.trans (funext fun i => ?_), (h c).2⟩)
      (Cert.Reference8Ideal.Value.run (F := Ideal) m' ρ')
    obtain ⟨e0, e1, e2⟩ := hagree c
    rw [e0, e1, e2]
    exact Reference.value _ _ _ i

/-- The call's frame at the ideal instance. -/
theorem frame_ideal : Cert.quiescent_Kernel8Ideal := fun m ρ _ => Cert.Kernel8Ideal.Gen.frame (F := Ideal) m ρ

/-- The kernels' bodies of the two printings are one program, label by label. -/
theorem bodies {F : FTy → Type} [FloatOps F] : @Cert.Kernel8.defs₀ F _ _ = @Cert.Kernel8Ideal.defs₀ F _ _ := by
  refine congrArg (Defs.onTc (nD := Cert.Kernel8.nD) (τ := Cert.Kernel8.τ) (sig := Cert.Kernel8.sig) (Val := Elt F) (Λ := Cert.Kernel8.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel8.defs F _ _ = @Cert.Kernel8Ideal.defs F _ _ :=
  congrArg (Pipeline.defs Cert.Kernel8.pcfgs) bodies

/-- The call's frame at the bit-exact instance: the same run, the two programs being one text. -/
theorem frame_bits : Cert.quiescent_Kernel8 := by
  intro m ρ _
  rw [defs_eq]
  exact Cert.Kernel8Ideal.Gen.frame (F := Bits) m ρ

/-- The reference's frame: it has no counters. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Modulation

end
-- ==== Proof.Gmlp.Value.lean ====
/- What the gMLP mixer leaves, at the ideal instance: each latent row's activations, times the head's spatial mix of the
   chunk's normed activations plus the position's bias. -/
module

public import proofs.«01_k».proof.Proof.Gen.Kernel9Ideal.Value
public import proofs.«01_k».proof.Proof.Glu.Value
public import Idealize.ShloMosaic.Lib.Pipeline.Value
public import Idealize.ShloMosaic.Lib.Pointwise

@[expose] public section

set_option maxRecDepth 16384

noncomputable section

namespace Cert.Gmlp

open Cert.Kernel9Ideal Cert.Kernel9Ideal.Gen Cert.Kernel9Ideal.Value
open Cert.Glu (gelu)
open Idealize.ShloMosaic Idealize.ShloMosaic.TcCoe Idealize.ShloMosaic.Tactic
open Idealize.ShloMosaic.Pipeline (Dat Cfg Window)

theorem origin : (![0, 0] : Fin 2 → Nat) = fun _ => 0 := funext fun a => by fin_cases a <;> rfl

/-! ## One chunk of one head -/

/-- What is stored for a chunk of a head, of its activations, its normed activations, the head's weights and its bias. -/
def chunk (u : FVec Ideal S128x384 .f32) (v : FVec Ideal S128x384 .bf16) (w : FVec Ideal S1x128x128 .f32) (s : S128x1.Idx → Elt Ideal .f32) :
    FVec Ideal S128x384 .bf16 :=
  truncf .bf16 (mulf u (addf (matmul dot_S128x128_S128x384_S128x384_1_0_0_1_n_n none
    (truncf .bf16 (shapeCast S128x128 w shapeCasts_S1x128x128_S128x128) bitsLt_bf16_f32) v (constant S128x384 .f32 0x00000000#32))
    (broadcastTo S128x384 (shapeCast S128x1 s shapeCasts_S128x1_S128x1) broadcasts_S128x1_S128x384))) bitsLt_bf16_f32

theorem chunk_apply (u : FVec Ideal S128x384 .f32) (v : FVec Ideal S128x384 .bf16) (w : FVec Ideal S1x128x128 .f32) (s : S128x1.Idx → Elt Ideal .f32)
    (r : Fin 128) (f : Fin 384) :
    chunk u v w s (ix2 r f) = (u (ix2 r f) * (∑ j : Fin 128, w (ix3 0 r j) * v (ix2 j f) + s (ix2 r 0)) : EReal) := by
  unfold chunk
  pointwise

/-- An element of a block of the result, of the block's activations and normed activations. -/
def block (u : FVec Ideal S256x3072 .f32) (v : FVec Ideal S256x3072 .bf16) (w : S8x128x128.Idx → Elt Ideal .f32) (s : S128x8.Idx → Elt Ideal .f32)
    (r : Fin 256) (f : Fin 3072) : EReal :=
  u (ix2 r f) * (∑ j : Fin 128, w (ix3 ⟨f.val / 384, by omega⟩ ⟨r.val % 128, by omega⟩ j) * v (ix2 ⟨r.val / 128 * 128 + j.val, by omega⟩ f)
    + s (ix2 ⟨r.val % 128, by omega⟩ ⟨f.val / 384, by omega⟩))

/-- The chunk `a` of the head `g`, taken out of the block and stored back where it was, holds the block's elements. -/
theorem piece (u : FVec Ideal S256x3072 .f32) (v : FVec Ideal S256x3072 .bf16) (w : S8x128x128.Idx → Elt Ideal .f32) (s : S128x8.Idx → Elt Ideal .f32)
    (a g : ℕ) (ha : a < 2) (hg : g < 8) (hs : S256x3072.Slices ![a * 128, g * 384] S128x384)
    (hw : ∀ k, (![g, 0, 0] : Fin 3 → Nat) k + S1x128x128.size k ≤ S8x128x128.size k)
    (hb : ∀ k, (![0, g] : Fin 2 → Nat) k + S128x1.size k ≤ S128x8.size k)
    (ho : ∀ k, (![a * 128, g * 384] : Fin 2 → Nat) k + S128x384.size k ≤ S256x3072.size k) (x : S128x384.Idx) :
    chunk (extractStridedSlice S128x384 ![a * 128, g * 384] u hs) (extractStridedSlice S128x384 ![a * 128, g * 384] v hs)
        (View.ld w (Rect.unit (s := S8x128x128) ![g, 0, 0] S1x128x128.size hw)) (View.ld s (Rect.unit (s := S128x8) ![0, g] S128x1.size hb)) x
      = block u v w s ((Rect.unit (s := S256x3072) ![a * 128, g * 384] S128x384.size ho).emb x 0)
          ((Rect.unit (s := S256x3072) ![a * 128, g * 384] S128x384.size ho).emb x 1) := by
  have h0 : (x 0).val < 128 := (x 0).isLt
  have h1 : (x 1).val < 384 := (x 1).isLt
  have ex : x = ix2 (x 0) (x 1) := funext fun k => by match k with | ⟨0, _⟩ => rfl | ⟨1, _⟩ => rfl
  have e0 : (Rect.unit (s := S256x3072) ![a * 128, g * 384] S128x384.size ho).emb x 0 = (⟨a * 128 + (x 0).val, by omega⟩ : Fin 256) :=
    Fin.ext (by show a * 128 + 1 * (x 0).val = a * 128 + (x 0).val; omega)
  have e1 : (Rect.unit (s := S256x3072) ![a * 128, g * 384] S128x384.size ho).emb x 1 = (⟨g * 384 + (x 1).val, by omega⟩ : Fin 3072) :=
    Fin.ext (by show g * 384 + 1 * (x 1).val = g * 384 + (x 1).val; omega)
  refine (congrArg _ ex).trans ((chunk_apply _ _ _ _ (x 0) (x 1)).trans ?_)
  refine Eq.trans ?_ (congrArg₂ (block u v w s) e0 e1).symm
  unfold block
  refine congr (congrArg _ ?_) (congr (congrArg _ (Finset.sum_congr rfl fun j _ => congr (congrArg _ ?_) ?_)) ?_)
  · exact congrArg u (funext fun k => Fin.ext (by match k with | ⟨0, _⟩ => rfl | ⟨1, _⟩ => rfl))
  · refine congrArg w (funext fun k => Fin.ext ?_)
    match k with
    | ⟨0, _⟩ => show g + 1 * 0 = (g * 384 + (x 1).val) / 384; omega
    | ⟨1, _⟩ => show 0 + 1 * (x 0).val = (a * 128 + (x 0).val) % 128; omega
    | ⟨2, _⟩ => show 0 + 1 * j.val = j.val; omega
  · refine congrArg v (funext fun k => Fin.ext ?_)
    match k with
    | ⟨0, _⟩ => show a * 128 + j.val = (a * 128 + (x 0).val) / 128 * 128 + j.val; omega
    | ⟨1, _⟩ => rfl
  · refine congrArg s (funext fun k => Fin.ext ?_)
    match k with
    | ⟨0, _⟩ => show 0 + 1 * (x 0).val = (a * 128 + (x 0).val) % 128; omega
    | ⟨1, _⟩ => show g + 1 * 0 = (g * 384 + (x 1).val) / 384; omega

/-- The block's normed activations. -/
abbrev normedBlock (x3 x4 x5 : FVec Ideal S256x1024 .f32) (g b : S1x3072.Idx → Elt Ideal .f32) : FVec Ideal S256x3072 .bf16 :=
  k0_pay6 (k0_pay3 x3 x4 x5) (k0_pay4 x3 x4 x5) k0_pay5 g b

/-- A point's block of the result: the sixteen chunks fill it. -/
theorem out_apply (x0 x1 x2 x3 x4 x5 : FVec Ideal S256x1024 .f32) (g b : S1x3072.Idx → Elt Ideal .f32) (w : S8x128x128.Idx → Elt Ideal .f32)
    (s : S128x8.Idx → Elt Ideal .f32) (r : Fin 256) (f : Fin 3072) :
    out0_10 (F := Ideal) x0 x1 x2 x3 x4 x5 g b w s (ix2 r f) = block (k0_pay2 x0 x1 x2) (normedBlock x3 x4 x5 g b) w s r f := by
  have eu : k0_pay26 (F := Ideal) x0 x1 x2 x3 x4 x5 g b w s = k0_pay2 x0 x1 x2 := by
    unfold k0_pay26
    simp only [View.ld_unit_zero (S := S256x1024) origin]
  have ev : k0_pay30 (F := Ideal) x0 x1 x2 x3 x4 x5 g b w s = normedBlock x3 x4 x5 g b := by
    unfold k0_pay30 k0_pay27 k0_pay28 k0_pay29
    simp only [View.ld_unit_zero (S := S256x1024) origin, View.ld_unit_zero (S := S1x3072) origin]
  rw [← eu, ← ev]
  have P := piece (k0_pay26 (F := Ideal) x0 x1 x2 x3 x4 x5 g b w s) (k0_pay30 (F := Ideal) x0 x1 x2 x3 x4 x5 g b w s) w s
  refine View.canon_apply_of_pieces (S := S256x3072) (Val := Elt Ideal) (e := .bf16) (fun y => block (k0_pay26 (F := Ideal) x0 x1 x2 x3 x4 x5 g b w s) (k0_pay30 (F := Ideal) x0 x1 x2 x3 x4 x5 g b w s) w s (y 0) (y 1)) _ ?_
    (ix2 r f) (cover0_10 _ _ _ _ _ _ _ _ _ _ _ _ _ _ _ _ _)
  simp only [List.forall_mem_cons]
  exact ⟨P 1 7 (by decide) (by decide) _ _ _ _, P 1 6 (by decide) (by decide) _ _ _ _, P 1 5 (by decide) (by decide) _ _ _ _,
    P 1 4 (by decide) (by decide) _ _ _ _, P 1 3 (by decide) (by decide) _ _ _ _, P 1 2 (by decide) (by decide) _ _ _ _,
    P 1 1 (by decide) (by decide) _ _ _ _, P 1 0 (by decide) (by decide) _ _ _ _, P 0 7 (by decide) (by decide) _ _ _ _,
    P 0 6 (by decide) (by decide) _ _ _ _, P 0 5 (by decide) (by decide) _ _ _ _, P 0 4 (by decide) (by decide) _ _ _ _,
    P 0 3 (by decide) (by decide) _ _ _ _, P 0 2 (by decide) (by decide) _ _ _ _, P 0 1 (by decide) (by decide) _ _ _ _,
    P 0 0 (by decide) (by decide) _ _ _ _, fun _ h => absurd h List.not_mem_nil⟩

/-! ## The activations and their norm -/

/-- Three blocks side by side. -/
def joined (x y z : FVec Ideal S256x1024 .f32) : FVec Ideal S256x3072 .f32 :=
  concatenate S256x3072 1 [⟨S256x1024, x⟩, ⟨S256x1024, y⟩, ⟨S256x1024, z⟩] concatenates_S256x1024_S256x1024_S256x1024_S256x3072_d1

theorem joined_first (x y z : FVec Ideal S256x1024 .f32) (r : Fin 256) (k : Fin 1024) :
    joined x y z (ix2 r (⟨k.val, by omega⟩ : Fin 3072)) = x (ix2 r k) := by
  unfold joined
  pointwise

theorem joined_second (x y z : FVec Ideal S256x1024 .f32) (r : Fin 256) (k : Fin 1024) :
    joined x y z (ix2 r (⟨1024 + k.val, by omega⟩ : Fin 3072)) = y (ix2 r k) := by
  unfold joined
  pointwise

theorem joined_third (x y z : FVec Ideal S256x1024 .f32) (r : Fin 256) (k : Fin 1024) :
    joined x y z (ix2 r (⟨2048 + k.val, by omega⟩ : Fin 3072)) = z (ix2 r k) := by
  unfold joined
  pointwise
  rw [dif_neg (by omega), dif_neg (by omega)]
  exact congrArg (fun n => z (ix2 r n)) (Fin.ext (by show 2048 + k.val - 1024 - 1024 = k.val; omega))

/-- So three blocks that are the thirds of a row's values make the row. -/
theorem joined_apply (x y z : FVec Ideal S256x1024 .f32) (r : Fin 256) (v : Fin 3072 → EReal)
    (hx : ∀ k : Fin 1024, x (ix2 r k) = v ⟨k.val, by omega⟩) (hy : ∀ k : Fin 1024, y (ix2 r k) = v ⟨1024 + k.val, by omega⟩)
    (hz : ∀ k : Fin 1024, z (ix2 r k) = v ⟨2048 + k.val, by omega⟩) (k : Fin 3072) : joined x y z (ix2 r k) = v k := by
  by_cases h : k.val < 1024
  · exact (joined_first x y z r ⟨k.val, h⟩).trans (hx _)
  by_cases h' : k.val < 2048
  · have e : ∀ p, (⟨1024 + (k.val - 1024), p⟩ : Fin 3072) = k := fun p => Fin.ext (by show 1024 + (k.val - 1024) = k.val; omega)
    have := (joined_second x y z r ⟨k.val - 1024, by omega⟩).trans (hy _)
    simpa only [e] using this
  · have e : ∀ p, (⟨2048 + (k.val - 2048), p⟩ : Fin 3072) = k := fun p => Fin.ext (by show 2048 + (k.val - 2048) = k.val; omega)
    have := (joined_third x y z r ⟨k.val - 2048, by omega⟩).trans (hz _)
    simpa only [e] using this

/-- The activation of a block. -/
def active (x : FVec Ideal S256x3072 .f32) : FVec Ideal S256x3072 .f32 :=
  mulf (mulf (broadcast S256x3072 (Scalar.ofBits .f32 0x3F000000#32)) x) (addf (broadcast S256x3072 (Scalar.ofBits .f32 0x3F800000#32))
    (tanh (mulf (broadcast S256x3072 (Scalar.ofBits .f32 0x3F4C422A#32)) (addf x (mulf (broadcast S256x3072 (Scalar.ofBits .f32 0x3D372713#32)) (mulf (mulf x x) x))))))

theorem active_apply (x : FVec Ideal S256x3072 .f32) (r : Fin 256) (k : Fin 3072) : active x (ix2 r k) = gelu (x (ix2 r k)) := by
  unfold active gelu
  pointwise

/-- A row less its mean, over its deviation, times the weight, plus the bias, at a column. -/
def normed (v : Fin 3072 → EReal) (g b : EReal) (f : Fin 3072) : EReal :=
  (v f - Ideal.div (∑ k : Fin 3072, v k) (Ideal.ofBits .f32 0x45400000#32))
    * Ideal.rsqrt (Ideal.div (∑ k : Fin 3072, (v k - Ideal.div (∑ k : Fin 3072, v k) (Ideal.ofBits .f32 0x45400000#32))
        * (v k - Ideal.div (∑ k : Fin 3072, v k) (Ideal.ofBits .f32 0x45400000#32))) (Ideal.ofBits .f32 0x45400000#32)
      + Ideal.ofBits .f32 0x358637BD#32) * g + b

/-- A row's sum, of every row. -/
def sums (x : FVec Ideal S256x3072 .f32) : FVec Ideal S256x1 .f32 :=
  shapeCast S256x1 (multiReduction .add [1] S256 x 0x00000000#32 reduces_S256x3072_S256 (.inl rfl) rfl) shapeCasts_S256_S256x1

theorem norm_apply (x : FVec Ideal S256x3072 .f32) (g b : S1x3072.Idx → Elt Ideal .f32) (r : Fin 256) (f : Fin 3072) :
    k0_pay6 (F := Ideal) x (sums x) k0_pay5 g b (ix2 r f) = normed (fun k => x (ix2 r k)) (g (ix2 0 f)) (b (ix2 0 f)) f := by
  unfold k0_pay6 sums k0_pay5 normed
  pointwise

/-! ## The array -/

section
variable {F : FTy → Type} [FloatOps F]
variable (m : (ℓ : Loc nD τ sig) → Buf (Elt F) ℓ)

/-- The transposed bias, at an element. -/
theorem turned_apply {α : Type} (s : S8x128.Idx → α) (n : Fin 128) (g : Fin 8) : transpose S128x8 [1, 0] s transposes_S8x128_S128x8_1_0 (ix2 n g) = s (ix2 g n) := by
  pointwise

theorem points (t : Fin cfg0.N) : t.val < 32 := t.isLt.trans_eq (show cfg0.N = 32 from N_0)

/-- The points take the latent's row blocks in turn, and of each six column blocks, -/
theorem index0 : ∀ t : Fin cfg0.N, win0_0.index t = ![t.val + 1, 1] ∧ win0_1.index t = ![t.val + 1, 2] ∧ win0_2.index t = ![t.val + 1, 3]
    ∧ win0_3.index t = ![t.val + 1, 4] ∧ win0_4.index t = ![t.val + 1, 5] ∧ win0_5.index t = ![t.val + 1, 6] :=
  (by decide +kernel : ∀ t : Fin grid0.N, win0_0.index t = ![t.val + 1, 1] ∧ win0_1.index t = ![t.val + 1, 2] ∧ win0_2.index t = ![t.val + 1, 3]
    ∧ win0_3.index t = ![t.val + 1, 4] ∧ win0_4.index t = ![t.val + 1, 5] ∧ win0_5.index t = ![t.val + 1, 6])
/-- the other operands whole. -/
theorem index6 : ∀ t : Fin cfg0.N, win0_6.index t = ![0, 0] ∧ win0_7.index t = ![0, 0] ∧ win0_8.index t = ![0, 0, 0] ∧ win0_9.index t = ![0, 0] :=
  (by decide +kernel : ∀ t : Fin grid0.N, win0_6.index t = ![0, 0] ∧ win0_7.index t = ![0, 0] ∧ win0_8.index t = ![0, 0, 0] ∧ win0_9.index t = ![0, 0])
theorem index10 : ∀ t : Fin cfg0.N, win0_10.index t = ![t.val, 0] :=
  (by decide +kernel : ∀ t : Fin grid0.N, win0_10.index t = ![t.val, 0])

/-- Every point's block of the result is written back. -/
theorem flush10 : ∀ t : Fin cfg0.N, (cfg0.win 10).flush t = true :=
  (by decide +kernel : ∀ t : Fin grid0.N, win0_10.flush t = true)

/-- Where an element of a point's column block `q` of the projection lies in it. -/
theorem proj_place (t : Fin cfg0.N) (q : ℕ) (hq : q < 7) (e : S256x1024.Idx → S8448x7168.Idx)
    (he : ∀ x a, (e x a).val = (![t.val + 1, q] : Fin 2 → Nat) a * S256x1024.size a + (x a).val) (r : Fin 256) (k : Fin 1024) :
    e (ix2 r k) = ix2 ⟨256 + (t.val * 256 + r.val), by have := points t; omega⟩ ⟨q * 1024 + k.val, by omega⟩ := by
  funext a
  refine Fin.ext ((he _ a).trans ?_)
  match a with
  | ⟨0, _⟩ => show (t.val + 1) * 256 + r.val = 256 + (t.val * 256 + r.val); omega
  | ⟨1, _⟩ => rfl

/-- The projection, as the points find it. -/
theorem at_arg0 (c : Dev nD) {x y : S8448x7168.Idx} (h : x = y) : V m c main_arg0 x = m ((c : Thread nD τ).loc main_arg0) y :=
  (congrFun (V_main_arg0 m c) x).trans (congrArg _ h)

/-- The heads' biases, as the points find them: the argument transposed. -/
theorem V_main_v0 (c : Dev nD) : V m c main_v0 = transpose S128x8 [1, 0] (m ((c : Thread nD τ).loc main_arg4)) transposes_S8x128_S128x8_1_0 := by
  show StableHlo.after hostOps0 (fun b => m (c, b)) _ = _
  after_results_simp

/-- A point's column blocks of the projection, -/
theorem proj_apply (c : Dev nD) (t : Fin cfg0.N) (r : Fin 256) (k : Fin 1024) :
    (iblk m c (0 : Fin 11) t (ix2 r k) = m ((c : Thread nD τ).loc main_arg0) (ix2 ⟨256 + (t.val * 256 + r.val), by have := points t; omega⟩ ⟨1 * 1024 + k.val, by omega⟩)
      ∧ iblk m c (1 : Fin 11) t (ix2 r k) = m ((c : Thread nD τ).loc main_arg0) (ix2 ⟨256 + (t.val * 256 + r.val), by have := points t; omega⟩ ⟨2 * 1024 + k.val, by omega⟩)
      ∧ iblk m c (2 : Fin 11) t (ix2 r k) = m ((c : Thread nD τ).loc main_arg0) (ix2 ⟨256 + (t.val * 256 + r.val), by have := points t; omega⟩ ⟨3 * 1024 + k.val, by omega⟩))
    ∧ iblk m c (3 : Fin 11) t (ix2 r k) = m ((c : Thread nD τ).loc main_arg0) (ix2 ⟨256 + (t.val * 256 + r.val), by have := points t; omega⟩ ⟨4 * 1024 + k.val, by omega⟩)
      ∧ iblk m c (4 : Fin 11) t (ix2 r k) = m ((c : Thread nD τ).loc main_arg0) (ix2 ⟨256 + (t.val * 256 + r.val), by have := points t; omega⟩ ⟨5 * 1024 + k.val, by omega⟩)
      ∧ iblk m c (5 : Fin 11) t (ix2 r k) = m ((c : Thread nD τ).loc main_arg0) (ix2 ⟨256 + (t.val * 256 + r.val), by have := points t; omega⟩ ⟨6 * 1024 + k.val, by omega⟩) := by
  obtain ⟨i0, i1, i2, i3, i4, i5⟩ := index0 t
  refine ⟨⟨at_arg0 m c (proj_place t 1 (by decide) _ (fun x a => ?_) r k),
    at_arg0 m c (proj_place t 2 (by decide) _ (fun x a => ?_) r k),
    at_arg0 m c (proj_place t 3 (by decide) _ (fun x a => ?_) r k)⟩,
    at_arg0 m c (proj_place t 4 (by decide) _ (fun x a => ?_) r k),
    at_arg0 m c (proj_place t 5 (by decide) _ (fun x a => ?_) r k),
    at_arg0 m c (proj_place t 6 (by decide) _ (fun x a => ?_) r k)⟩
  · exact (Pipeline.Window.rect_emb_val (cfg0.win 0) t x a rfl).trans (by rw [show (cfg0.win 0).index t = _ from i0])
  · exact (Pipeline.Window.rect_emb_val (cfg0.win 1) t x a rfl).trans (by rw [show (cfg0.win 1).index t = _ from i1])
  · exact (Pipeline.Window.rect_emb_val (cfg0.win 2) t x a rfl).trans (by rw [show (cfg0.win 2).index t = _ from i2])
  · exact (Pipeline.Window.rect_emb_val (cfg0.win 3) t x a rfl).trans (by rw [show (cfg0.win 3).index t = _ from i3])
  · exact (Pipeline.Window.rect_emb_val (cfg0.win 4) t x a rfl).trans (by rw [show (cfg0.win 4).index t = _ from i4])
  · exact (Pipeline.Window.rect_emb_val (cfg0.win 5) t x a rfl).trans (by rw [show (cfg0.win 5).index t = _ from i5])

/-- its norm's weight and bias, -/
theorem norm_operands (c : Dev nD) (t : Fin cfg0.N) (f : Fin 3072) :
    iblk m c (6 : Fin 11) t (ix2 0 f) = m ((c : Thread nD τ).loc main_arg1) (ix2 0 f)
      ∧ iblk m c (7 : Fin 11) t (ix2 0 f) = m ((c : Thread nD τ).loc main_arg2) (ix2 0 f) := by
  obtain ⟨i6, i7, -, -⟩ := index6 t
  refine ⟨(congrFun (V_main_arg1 m c) _).trans (congrArg (m ((c : Thread nD τ).loc main_arg1)) (funext fun a => Fin.ext ?_)),
    (congrFun (V_main_arg2 m c) _).trans (congrArg (m ((c : Thread nD τ).loc main_arg2)) (funext fun a => Fin.ext ?_))⟩
  · refine (Pipeline.Window.rect_emb_val (cfg0.win 6) t (ix2 0 f) a rfl).trans ?_
    rw [show (cfg0.win 6).index t = _ from i6]
    match a with
    | ⟨0, _⟩ => rfl
    | ⟨1, _⟩ => show 0 * 3072 + f.val = f.val; omega
  · refine (Pipeline.Window.rect_emb_val (cfg0.win 7) t (ix2 0 f) a rfl).trans ?_
    rw [show (cfg0.win 7).index t = _ from i7]
    match a with
    | ⟨0, _⟩ => rfl
    | ⟨1, _⟩ => show 0 * 3072 + f.val = f.val; omega

/-- the heads' weights, -/
theorem weights_apply (c : Dev nD) (t : Fin cfg0.N) (g : Fin 8) (n j : Fin 128) :
    iblk m c (8 : Fin 11) t (ix3 g n j) = m ((c : Thread nD τ).loc main_arg3) (ix3 g n j) := by
  refine (congrFun (V_main_arg3 m c) _).trans (congrArg (m ((c : Thread nD τ).loc main_arg3)) (funext fun a => Fin.ext ?_))
  refine (Pipeline.Window.rect_emb_val (cfg0.win 8) t (ix3 g n j) a rfl).trans ?_
  rw [show (cfg0.win 8).index t = _ from (index6 t).2.2.1]
  match a with
  | ⟨0, _⟩ => show 0 * 8 + g.val = g.val; omega
  | ⟨1, _⟩ => show 0 * 128 + n.val = n.val; omega
  | ⟨2, _⟩ => show 0 * 128 + j.val = j.val; omega

/-- and their biases. -/
theorem bias_apply (c : Dev nD) (t : Fin cfg0.N) (n : Fin 128) (g : Fin 8) :
    iblk m c (9 : Fin 11) t (ix2 n g) = m ((c : Thread nD τ).loc main_arg4) (ix2 g n) := by
  refine (congrFun (V_main_v0 m c) _).trans ((congrArg (transpose S128x8 [1, 0] (m ((c : Thread nD τ).loc main_arg4)) transposes_S8x128_S128x8_1_0)
    (funext fun a => Fin.ext ?_)).trans (turned_apply _ n g))
  refine (Pipeline.Window.rect_emb_val (cfg0.win 9) t (ix2 n g) a rfl).trans ?_
  rw [show (cfg0.win 9).index t = _ from (index6 t).2.2.2]
  match a with
  | ⟨0, _⟩ => show 0 * 128 + n.val = n.val; omega
  | ⟨1, _⟩ => show 0 * 8 + g.val = g.val; omega

/-- Where an element of a point's block of the result lies in the array. -/
def place (t : Fin cfg0.N) (r : Fin 256) (f : Fin 3072) : S8192x3072.Idx := ix2 ⟨t.val * 256 + r.val, by have := points t; omega⟩ f

theorem blk10_emb (t : Fin cfg0.N) (r : Fin 256) (f : Fin 3072) : ((cfg0.win 10).blk t).view.emb (ix2 r f : S256x3072.Idx) = place t r f := by
  funext a
  refine Fin.ext ((Pipeline.Window.rect_emb_val (cfg0.win 10) t (ix2 r f) a rfl).trans ?_)
  rw [show (cfg0.win 10).index t = _ from index10 t]
  match a with
  | ⟨0, _⟩ => rfl
  | ⟨1, _⟩ => show 0 * 3072 + f.val = f.val; omega

/-- The array there ends up holding what the point stores. -/
theorem arr_apply (c : Dev nD) (t : Fin cfg0.N) (r : Fin 256) (f : Fin 3072) :
    (dats m 0 c).arrAt 10 cfg0.N (place t r f) = out0_10 (iblk m c 0 t) (iblk m c 1 t) (iblk m c 2 t) (iblk m c 3 t) (iblk m c 4 t)
      (iblk m c 5 t) (iblk m c 6 t) (iblk m c 7 t) (iblk m c 8 t) (iblk m c 9 t) (ix2 r f) := by
  have h := congrFun (blocks10 m c t (flush10 t)) (ix2 r f : S256x3072.Idx)
  rw [flushed10] at h
  exact (congrArg ((dats m 0 c).arrAt 10 cfg0.N) (blk10_emb t r f)).symm.trans h

end

/-- A latent row's activations, of the columns of the projection from `q` on. -/
def half (u : S8448x7168.Idx → EReal) (q : ℕ) (hq : q + 3072 ≤ 7168) (n : Fin 8192) (k : Fin 3072) : EReal :=
  gelu (u (ix2 ⟨256 + n.val, by omega⟩ ⟨q + k.val, by omega⟩))

/-- An element of the result. -/
def mixed (u : S8448x7168.Idx → EReal) (g b : S1x3072.Idx → EReal) (w : S8x128x128.Idx → EReal) (s : S8x128.Idx → EReal) (n : Fin 8192) (f : Fin 3072) : EReal :=
  half u 1024 (by decide) n f * (∑ j : Fin 128, w (ix3 ⟨f.val / 384, by omega⟩ ⟨n.val % 128, by omega⟩ j)
      * normed (half u 4096 (by decide) ⟨n.val / 128 * 128 + j.val, by omega⟩) (g (ix2 0 f)) (b (ix2 0 f)) f
    + s (ix2 ⟨f.val / 384, by omega⟩ ⟨n.val % 128, by omega⟩))

section
variable (m : (ℓ : Loc nD τ sig) → Buf (Elt Ideal) ℓ) (c : Dev nD) (t : Fin cfg0.N)

/-- The first half's activations in a point's block, -/
theorem first_apply (r : Fin 256) (k : Fin 3072) :
    k0_pay2 (F := Ideal) (iblk m c 0 t) (iblk m c 1 t) (iblk m c 2 t) (ix2 r k)
      = half (m ((c : Thread nD τ).loc main_arg0)) 1024 (by decide) ⟨t.val * 256 + r.val, by have := points t; omega⟩ k := by
  refine (active_apply (joined (iblk m c 0 t) (iblk m c 1 t) (iblk m c 2 t)) r k).trans (congrArg gelu ?_)
  refine joined_apply _ _ _ r (fun k => m ((c : Thread nD τ).loc main_arg0) (ix2 ⟨256 + (t.val * 256 + r.val), by have := points t; omega⟩ ⟨1024 + k.val, by omega⟩))
    (fun k => ?_) (fun k => ?_) (fun k => ?_) k
  · refine (proj_apply m c t r k).1.1.trans (congrArg (fun n => m ((c : Thread nD τ).loc main_arg0) (ix2 _ n)) (Fin.ext ?_))
    show 1 * 1024 + k.val = 1024 + k.val; omega
  · refine (proj_apply m c t r k).1.2.1.trans (congrArg (fun n => m ((c : Thread nD τ).loc main_arg0) (ix2 _ n)) (Fin.ext ?_))
    show 2 * 1024 + k.val = 1024 + (1024 + k.val); omega
  · refine (proj_apply m c t r k).1.2.2.trans (congrArg (fun n => m ((c : Thread nD τ).loc main_arg0) (ix2 _ n)) (Fin.ext ?_))
    show 3 * 1024 + k.val = 1024 + (2048 + k.val); omega

/-- and the second half's. -/
theorem second_apply (r : Fin 256) (k : Fin 3072) :
    k0_pay3 (F := Ideal) (iblk m c 3 t) (iblk m c 4 t) (iblk m c 5 t) (ix2 r k)
      = half (m ((c : Thread nD τ).loc main_arg0)) 4096 (by decide) ⟨t.val * 256 + r.val, by have := points t; omega⟩ k := by
  refine (active_apply (joined (iblk m c 3 t) (iblk m c 4 t) (iblk m c 5 t)) r k).trans (congrArg gelu ?_)
  refine joined_apply _ _ _ r (fun k => m ((c : Thread nD τ).loc main_arg0) (ix2 ⟨256 + (t.val * 256 + r.val), by have := points t; omega⟩ ⟨4096 + k.val, by omega⟩))
    (fun k => ?_) (fun k => ?_) (fun k => ?_) k
  · refine (proj_apply m c t r k).2.1.trans (congrArg (fun n => m ((c : Thread nD τ).loc main_arg0) (ix2 _ n)) (Fin.ext ?_))
    show 4 * 1024 + k.val = 4096 + k.val; omega
  · refine (proj_apply m c t r k).2.2.1.trans (congrArg (fun n => m ((c : Thread nD τ).loc main_arg0) (ix2 _ n)) (Fin.ext ?_))
    show 5 * 1024 + k.val = 4096 + (1024 + k.val); omega
  · refine (proj_apply m c t r k).2.2.2.trans (congrArg (fun n => m ((c : Thread nD τ).loc main_arg0) (ix2 _ n)) (Fin.ext ?_))
    show 6 * 1024 + k.val = 4096 + (2048 + k.val); omega

/-- The second half's norm in a point's block. -/
theorem normed_apply (r : Fin 256) (f : Fin 3072) :
    normedBlock (iblk m c 3 t) (iblk m c 4 t) (iblk m c 5 t) (iblk m c 6 t) (iblk m c 7 t) (ix2 r f)
      = normed (half (m ((c : Thread nD τ).loc main_arg0)) 4096 (by decide) ⟨t.val * 256 + r.val, by have := points t; omega⟩)
          (m ((c : Thread nD τ).loc main_arg1) (ix2 0 f)) (m ((c : Thread nD τ).loc main_arg2) (ix2 0 f)) f := by
  refine (norm_apply (k0_pay3 (iblk m c 3 t) (iblk m c 4 t) (iblk m c 5 t)) (iblk m c 6 t) (iblk m c 7 t) r f).trans ?_
  exact congrFun (congr (congr (congrArg normed (funext fun k => second_apply m c t r k)) (norm_operands m c t f).1) (norm_operands m c t f).2) f

/-- The result at the ideal instance. -/
theorem value (i : S8192x3072.Idx) :
    (dats m 0 c).arrAt 10 cfg0.N i
      = mixed (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  have h0 : (i 0).val < 8192 := (i 0).isLt
  obtain ⟨n, hn, e0⟩ : ∃ n, n < 32 ∧ n = (i 0).val / 256 := ⟨(i 0).val / 256, by omega, rfl⟩
  have hN : n < cfg0.N := hn.trans_eq (show cfg0.N = 32 from N_0).symm
  have er : n * 256 + (i 0).val % 256 = (i 0).val := by omega
  have lr : ∀ h, (⟨n * 256 + (i 0).val % 256, h⟩ : Fin 8192) = i 0 := fun h => Fin.ext er
  have key := arr_apply m c ⟨n, hN⟩ ⟨(i 0).val % 256, Nat.mod_lt _ (by decide)⟩ (i 1)
  refine (congrArg ((dats m 0 c).arrAt 10 cfg0.N) (funext fun a => ?_)).trans (key.trans ((out_apply _ _ _ _ _ _ _ _ _ _ _ _).trans ?_))
  · match a with
    | ⟨0, _⟩ => exact (lr _).symm
    | ⟨1, _⟩ => rfl
  · unfold block mixed
    have em : (i 0).val % 256 % 128 = (i 0).val % 128 := by omega
    refine congr (congrArg _ ((first_apply m c _ _ _).trans (congrArg (fun n => half _ 1024 _ n (i 1)) (lr _)))) (congr (congrArg _ (Finset.sum_congr rfl fun j _ => congr (congrArg _ ?_) ?_)) ?_)
    · exact (weights_apply m c _ _ _ _).trans (congrArg (fun n => m ((c : Thread nD τ).loc main_arg3) (ix3 _ n j)) (Fin.ext em))
    · refine (normed_apply m c _ _ _).trans (congrArg (fun n => normed (half _ 4096 _ n) _ _ (i 1)) (Fin.ext ?_))
      show n * 256 + ((i 0).val % 256 / 128 * 128 + j.val) = (i 0).val / 128 * 128 + j.val
      omega
    · exact (bias_apply m c _ _ _).trans (congrArg (fun n => m ((c : Thread nD τ).loc main_arg4) (ix2 _ n)) (Fin.ext em))

end

end Cert.Gmlp

end
-- ==== Proof.Gmlp.Algebraic.lean ====
/- The gMLP mixer and its reference leave equal extended reals; the frames of both. -/
module

public import proofs.«01_k».proof.Defs
public import proofs.«01_k».proof.Proof.Gmlp.Value
public import proofs.«01_k».proof.Proof.Gen.Kernel9
public import proofs.«01_k».proof.Proof.Gen.Reference9Ideal.Run
public import Idealize.ShloMosaic.Lib.Quiescent
public import Idealize.ShloMosaic.Adequacy
public import Idealize.ShloMosaic.Init

@[expose] public section

set_option maxRecDepth 16384

noncomputable section

namespace Cert.Gmlp

open Cert.Glu (gelu)
open Idealize.ShloMosaic Idealize.SL.Sem

namespace Reference

open Cert.Reference9Ideal Cert.Reference9Ideal.Gen

/-- The latent's rows of the projection, of the columns for the first half, -/
def first (u : S8448x7168.Idx → Elt Ideal .f32) : FVec Ideal S8192x3072 .f32 := extractStridedSlice S8192x3072 ![256, 1024] u slices_S8448x7168_S8192x3072_256_1024

theorem first_apply (u : S8448x7168.Idx → Elt Ideal .f32) (n : Fin 8192) (k : Fin 3072) :
    first u (ix2 n k) = u (ix2 ⟨256 + n.val, by omega⟩ ⟨1024 + k.val, by omega⟩) := by
  unfold first
  pointwise

/-- and for the second. -/
def second (u : S8448x7168.Idx → Elt Ideal .f32) : FVec Ideal S8192x3072 .f32 := extractStridedSlice S8192x3072 ![256, 4096] u slices_S8448x7168_S8192x3072_256_4096

theorem second_apply (u : S8448x7168.Idx → Elt Ideal .f32) (n : Fin 8192) (k : Fin 3072) :
    second u (ix2 n k) = u (ix2 ⟨256 + n.val, by omega⟩ ⟨4096 + k.val, by omega⟩) := by
  unfold second
  pointwise

/-- Their activation, in the reference's order of the factors. -/
def active (x : FVec Ideal S8192x3072 .f32) : FVec Ideal S8192x3072 .f32 :=
  mulf x (mulf (broadcastInDim S8192x3072 ![] bcast_S_S8192x3072 (constant S_ .f32 0x3F000000#32)) (addf (broadcastInDim S8192x3072 ![] bcast_S_S8192x3072 (constant S_ .f32 0x3F800000#32))
    (Host.tanh (mulf (broadcastInDim S8192x3072 ![] bcast_S_S8192x3072 (constant S_ .f32 0x3F4C422A#32)) (addf x (mulf (broadcastInDim S8192x3072 ![] bcast_S_S8192x3072 (constant S_ .f32 0x3D372713#32)) (mulf (mulf x x) x)))))))

theorem active_apply (x : FVec Ideal S8192x3072 .f32) (n : Fin 8192) (k : Fin 3072) : active x (ix2 n k) = gelu (x (ix2 n k)) := by
  have h : active x (ix2 n k) = (x (ix2 n k) * (Ideal.ofBits .f32 0x3F000000#32 * (1 + Ideal.tanh (Ideal.ofBits .f32 0x3F4C422A#32
      * (x (ix2 n k) + Ideal.ofBits .f32 0x3D372713#32 * (x (ix2 n k) * x (ix2 n k) * x (ix2 n k)))))) : EReal) := by
    unfold active
    pointwise
  exact h.trans ((mul_left_comm _ _ _).trans (mul_assoc _ _ _).symm)

/-- The rows less their means. -/
def centred (x : FVec Ideal S8192x3072 .f32) : FVec Ideal S8192x3072 .f32 :=
  subf x (broadcastInDim S8192x3072 ![0, 1] bcast_S8192x1_S8192x3072_0_1 (Host.divf (broadcastInDim S8192x1 ![0] bcast_S8192_S8192x1_0
    (Host.reduceAdd x (constant S_ .f32 0x00000000#32) reducesTo_S8192x3072_S8192_d1 h_S_)) (broadcastInDim S8192x1 ![] bcast_S_S8192x1 (constant S_ .f32 0x45400000#32))))

theorem centred_apply (x : FVec Ideal S8192x3072 .f32) (n : Fin 8192) (f : Fin 3072) :
    centred x (ix2 n f) = (x (ix2 n f) - Ideal.div (∑ k : Fin 3072, x (ix2 n k)) (Ideal.ofBits .f32 0x45400000#32) : EReal) := by
  unfold centred
  pointwise

/-- These over their deviations, times the weight, plus the bias. -/
def scaled (x : FVec Ideal S8192x3072 .f32) (g b : S1x3072.Idx → Elt Ideal .f32) : FVec Ideal S8192x3072 .f32 :=
  addf (mulf (mulf x (broadcastInDim S8192x3072 ![0, 1] bcast_S8192x1_S8192x3072_0_1 (Host.rsqrt (addf (Host.divf (broadcastInDim S8192x1 ![0] bcast_S8192_S8192x1_0
    (Host.reduceAdd (mulf x x) (constant S_ .f32 0x00000000#32) reducesTo_S8192x3072_S8192_d1 h_S_)) (broadcastInDim S8192x1 ![] bcast_S_S8192x1 (constant S_ .f32 0x45400000#32)))
    (broadcastInDim S8192x1 ![] bcast_S_S8192x1 (constant S_ .f32 0x358637BD#32))))))
    (broadcastInDim S8192x3072 ![0, 1] bcast_S1x3072_S8192x3072_0_1 g)) (broadcastInDim S8192x3072 ![0, 1] bcast_S1x3072_S8192x3072_0_1 b)

theorem scaled_apply (x : FVec Ideal S8192x3072 .f32) (g b : S1x3072.Idx → Elt Ideal .f32) (n : Fin 8192) (f : Fin 3072) :
    scaled x g b (ix2 n f) = (x (ix2 n f) * Ideal.rsqrt (Ideal.div (∑ k : Fin 3072, x (ix2 n k) * x (ix2 n k)) (Ideal.ofBits .f32 0x45400000#32)
      + Ideal.ofBits .f32 0x358637BD#32) * g (ix2 0 f) + b (ix2 0 f) : EReal) := by
  unfold scaled
  pointwise

theorem normed_apply (x : FVec Ideal S8192x3072 .f32) (g b : S1x3072.Idx → Elt Ideal .f32) (n : Fin 8192) (f : Fin 3072) :
    scaled (centred x) g b (ix2 n f) = normed (fun k => x (ix2 n k)) (g (ix2 0 f)) (b (ix2 0 f)) f := by
  refine (scaled_apply _ g b n f).trans ?_
  unfold normed
  simp only [centred_apply]

/-- The rows and columns cut in chunks and heads. -/
def split (x : FVec Ideal S8192x3072 .f32) : FVec Ideal S64x128x8x384 .f32 := shapeCast _ x shapeCasts_S8192x3072_S64x128x8x384

theorem split_apply (x : FVec Ideal S8192x3072 .f32) (n : Fin 64) (r : Fin 128) (g : Fin 8) (c : Fin 384) :
    split x (ix4 n r g c) = x (ix2 ⟨n.val * 128 + r.val, by omega⟩ ⟨g.val * 384 + c.val, by omega⟩) := by
  unfold split
  pointwise

/-- The chunks and heads put together again. -/
def merged (x : FVec Ideal S64x128x8x384 .f32) : FVec Ideal S8192x3072 .f32 := shapeCast _ x shapeCasts_S64x128x8x384_S8192x3072

theorem merged_apply (x : FVec Ideal S64x128x8x384 .f32) (n : Fin 8192) (f : Fin 3072) :
    merged x (ix2 n f) = x (ix4 ⟨n.val / 128, by omega⟩ ⟨n.val % 128, by omega⟩ ⟨f.val / 384, by omega⟩ ⟨f.val % 384, by omega⟩) := by
  unfold merged
  pointwise

/-- Every head's spatial mix of every chunk, plus the position's bias. -/
def mix (x : FVec Ideal S64x128x8x384 .f32) (w : FVec Ideal S8x128x128 .f32) (s : S8x128.Idx → Elt Ideal .f32) : FVec Ideal S64x128x8x384 .f32 :=
  addf (transpose S64x128x8x384 [1, 3, 0, 2] (Host.dotGeneral dot_S64x128x8x384_S8x128x128_S8x64x384x128_1_2_03_1_2_0 none x w) transposes_S8x64x384x128_S64x128x8x384_1_3_0_2)
    (broadcastInDim S64x128x8x384 ![0, 1, 2, 3] bcast_S1x128x8x1_S64x128x8x384_0_1_2_3 (broadcastInDim S1x128x8x1 ![1, 2, 3] bcast_S128x8x1_S1x128x8x1_1_2_3
      (broadcastInDim S128x8x1 ![0, 1] bcast_S128x8_S128x8x1_0_1
        (transpose S128x8 [1, 0] s transposes_S8x128_S128x8_1_0))))

theorem mix_apply (x : FVec Ideal S64x128x8x384 .f32) (w : FVec Ideal S8x128x128 .f32) (s : S8x128.Idx → Elt Ideal .f32)
    (n : Fin 64) (r : Fin 128) (g : Fin 8) (c : Fin 384) :
    mix x w s (ix4 n r g c) = (∑ j : Fin 128, x (ix4 n j g c) * w (ix3 g r j) + s (ix2 g r) : EReal) := by
  unfold mix
  pointwise

/-- The reference's result. -/
def result (u : S8448x7168.Idx → Elt Ideal .f32) (g b : S1x3072.Idx → Elt Ideal .f32) (w : FVec Ideal S8x128x128 .f32) (s : S8x128.Idx → Elt Ideal .f32) :
    FVec Ideal S8192x3072 .bf16 :=
  truncf .bf16 (mulf (active (first u)) (merged (mix (split (scaled (centred (active (second u))) g b)) w s))) bitsLt_bf16_f32

/-- The reference's result at an element. -/
theorem value (u : S8448x7168.Idx → Elt Ideal .f32) (g b : S1x3072.Idx → Elt Ideal .f32) (w : FVec Ideal S8x128x128 .f32) (s : S8x128.Idx → Elt Ideal .f32)
    (i : S8192x3072.Idx) : result u g b w s i = mixed u g b w s (i 0) (i 1) := by
  have h0 : (i 0).val < 8192 := (i 0).isLt
  have h1 : (i 1).val < 3072 := (i 1).isLt
  have ei : i = ix2 (i 0) (i 1) := funext fun a => by match a with | ⟨0, _⟩ => rfl | ⟨1, _⟩ => rfl
  have ef : ∀ h, (⟨(i 1).val / 384 * 384 + (i 1).val % 384, h⟩ : Fin 3072) = i 1 := fun h => Fin.ext (by show (i 1).val / 384 * 384 + (i 1).val % 384 = (i 1).val; omega)
  have eu : active (first u) (ix2 (i 0) (i 1)) = half u 1024 (by decide) (i 0) (i 1) := (active_apply _ _ _).trans (congrArg gelu (first_apply u _ _))
  have ev : ∀ n k, active (second u) (ix2 n k) = half u 4096 (by decide) n k := fun n k => (active_apply _ _ _).trans (congrArg gelu (second_apply u _ _))
  unfold mixed
  refine (congrArg _ ei).trans (congr (congrArg (fun x y : EReal => x * y) eu) ((merged_apply _ (i 0) (i 1)).trans ((mix_apply _ w s _ _ _ _).trans ?_)))
  refine congrArg (· + _) (Finset.sum_congr rfl fun j _ => (mul_comm _ _).trans (congrArg (_ * ·) ?_))
  refine (split_apply _ _ _ _ _).trans ((normed_apply _ g b _ _).trans ?_)
  rw [ef]
  exact congrArg (fun v => normed v _ _ (i 1)) (funext fun k => ev _ k)

end Reference

/-- `Cert.algebraic_Kernel9Ideal_Reference9Ideal`: both hold the latent rows mixed. -/
theorem algebraic : Cert.algebraic_Kernel9Ideal_Reference9Ideal := by
  intro m ρ m' ρ' _ hagree
  refine ⟨fun c i => mixed (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2))
    (m ((c.tc : Thread Cert.Kernel9Ideal.nD Cert.Kernel9Ideal.τ).loc Cert.Kernel9Ideal.main_arg3))
    (m ((c.tc : Thread Cert.Kernel9Ideal.nD Cert.Kernel9Ideal.τ).loc Cert.Kernel9Ideal.main_arg4)) (i 0) (i 1), ?_, ?_⟩
  · exact (θ_run Cert.Kernel9Ideal.defs _ _).mono (fun r h c => ⟨(h c).1.trans (funext (value m c)), (h c).2⟩)
      (Cert.Kernel9Ideal.Value.run_blocks (F := Ideal) m ρ)
  · refine (θ_run Cert.Reference9Ideal.defs _ _).mono (fun r h c => ⟨(h c).1.trans (funext fun i => ?_), (h c).2⟩)
      (Cert.Reference9Ideal.Value.run (F := Ideal) m' ρ')
    obtain ⟨e0, e1, e2, e3, e4⟩ := hagree c
    show Reference.result _ _ _ _ _ i = _
    rw [e0, e1, e2, e3, e4]
    exact Reference.value _ _ _ _ _ i

/-- The call's frame at the ideal instance. -/
theorem frame_ideal : Cert.quiescent_Kernel9Ideal := fun m ρ _ => Cert.Kernel9Ideal.Gen.frame (F := Ideal) m ρ

/-- The kernels' bodies of the two printings are one program, label by label. -/
theorem bodies {F : FTy → Type} [FloatOps F] : @Cert.Kernel9.defs₀ F _ _ = @Cert.Kernel9Ideal.defs₀ F _ _ := by
  refine congrArg (Defs.onTc (nD := Cert.Kernel9.nD) (τ := Cert.Kernel9.τ) (sig := Cert.Kernel9.sig) (Val := Elt F) (Λ := Cert.Kernel9.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel9.defs F _ _ = @Cert.Kernel9Ideal.defs F _ _ :=
  congrArg (Pipeline.defs Cert.Kernel9.pcfgs) bodies

/-- The call's frame at the bit-exact instance: the same run, the two programs being one text. -/
theorem frame_bits : Cert.quiescent_Kernel9 := by
  intro m ρ _
  rw [defs_eq]
  exact Cert.Kernel9Ideal.Gen.frame (F := Bits) m ρ

/-- The reference's frame: it has no counters. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Gmlp

end
-- ==== Proof.Qkv.Head.lean ====
/- One head of the queries or keys in a row block: its norm, its rotation, its scale. -/
module

public import proofs.«01_k».proof.Proof.Gen.Kernel10Ideal.Skeleton
public import Idealize.ShloMosaic.Lib.Pointwise

@[expose] public section

set_option maxRecDepth 16384

noncomputable section

namespace Cert.Qkv

open Cert.Kernel10Ideal Cert.Kernel10Ideal.Gen
open Idealize.ShloMosaic

/-- A row over its root mean square, times the weight, at a column. -/
def normed (x g : Fin 128 → EReal) (j : Fin 128) : EReal :=
  x j * Ideal.rsqrt (Ideal.div (∑ k : Fin 128, x k * x k) (Ideal.ofBits .f32 0x43000000#32) + Ideal.ofBits .f32 0x358637BD#32) * g j

/-- A row times the first table, plus the row shifted each way by 32 columns times the other two. -/
def turned (v c a b : Fin 128 → EReal) (j : Fin 128) : EReal :=
  v j * c j + v ⟨(j.val + 128 - 96) % 128, Nat.mod_lt _ (by decide)⟩ * a j + v ⟨(j.val + 128 - 32) % 128, Nat.mod_lt _ (by decide)⟩ * b j

theorem query_apply (c a b x : FVec Ideal S256x128 .f32) (g : S1x128.Idx → Elt Ideal .f32) (r : Fin 256) (j : Fin 128) :
    k0_pay14 (F := Ideal) c a b x g (ix2 r j) = (turned (normed (fun k => x (ix2 r k)) (fun k => g (ix2 0 k)))
      (fun k => c (ix2 r k)) (fun k => a (ix2 r k)) (fun k => b (ix2 r k)) j * Ideal.ofBits .f32 0x3DB504F3#32 : EReal) := by
  unfold k0_pay14 turned normed
  pointwise

theorem key_apply (c a b x : FVec Ideal S256x128 .f32) (g : S1x128.Idx → Elt Ideal .f32) (r : Fin 256) (j : Fin 128) :
    k0_pay39 (F := Ideal) c a b x g (ix2 r j) = turned (normed (fun k => x (ix2 r k)) (fun k => g (ix2 0 k)))
      (fun k => c (ix2 r k)) (fun k => a (ix2 r k)) (fun k => b (ix2 r k)) j := by
  unfold k0_pay39 turned normed
  pointwise

theorem value_apply (x : S256x512.Idx → Elt Ideal .f32) (r : Fin 256) (j : Fin 512) : k0_pay2 (F := Ideal) x (ix2 r j) = x (ix2 r j) := by
  unfold k0_pay2
  pointwise

/-- The tables are taken as they are. -/
theorem table_apply (x : S256x128.Idx → Elt Ideal .f32) (r : Fin 256) (j : Fin 128) : k0_pay3 (F := Ideal) x (ix2 r j) = x (ix2 r j) := by
  unfold k0_pay3
  pointwise
theorem table3 (x : S256x128.Idx → Elt Ideal .f32) : k0_pay3 (F := Ideal) x = x := by
  funext i
  have ei : i = ix2 (i 0) (i 1) := funext fun a => by match a with | ⟨0, _⟩ => rfl | ⟨1, _⟩ => rfl
  exact (congrArg _ ei).trans ((table_apply x (i 0) (i 1)).trans (congrArg x ei.symm))
theorem table4 (x : S256x128.Idx → Elt Ideal .f32) : k0_pay4 (F := Ideal) x = x := table3 x
theorem table5 (x : S256x128.Idx → Elt Ideal .f32) : k0_pay5 (F := Ideal) x = x := table3 x

end Cert.Qkv

end
-- ==== Proof.Qkv.Block.lean ====
/- What a row block of the call leaves in its three results, of the blocks it reads. -/
module

public import proofs.«01_k».proof.Proof.Qkv.Head
public import proofs.«01_k».proof.Proof.Gen.Kernel10Ideal.Frame
public import Idealize.ShloMosaic.Lib.Pipeline.Value
public import Idealize.ShloMosaic.Lib.Pointwise

@[expose] public section

set_option maxRecDepth 65536

noncomputable section

namespace Cert.Qkv

open Cert.Kernel10Ideal Cert.Kernel10Ideal.Gen
open Idealize.ShloMosaic Idealize.ShloMosaic.TcCoe Idealize.ShloMosaic.Tactic

theorem origin : (![0, 0] : Fin 2 → Nat) = fun _ => 0 := funext fun a => by fin_cases a <;> rfl

/-- An element of a block of queries. -/
def queryBlock (x : S256x2048.Idx → EReal) (t u w : S256x128.Idx → EReal) (g : S1x128.Idx → EReal) (r : Fin 256) (f : Fin 2048) : EReal :=
  turned (normed (fun k => x (ix2 r ⟨f.val / 128 * 128 + k.val, by omega⟩)) (fun k => g (ix2 0 k)))
    (fun k => t (ix2 r k)) (fun k => u (ix2 r k)) (fun k => w (ix2 r k)) ⟨f.val % 128, by omega⟩
    * Ideal.ofBits .f32 0x3DB504F3#32

theorem query_piece (x : S256x2048.Idx → Elt Ideal .f32) (t u w : Vec Ideal S256x128 .f32) (g : S1x128.Idx → Elt Ideal .f32) (h : ℕ) (hh : h < 16)
    (hl : ∀ k, (![0, h * 128] : Fin 2 → Nat) k + S256x128.size k ≤ S256x2048.size k)
    (ho : ∀ k, (![0, h * 128] : Fin 2 → Nat) k + S256x128.size k ≤ S256x2048.size k) (y : S256x128.Idx) :
    k0_pay14 (F := Ideal) (k0_pay3 t) (k0_pay4 u) (k0_pay5 w) (View.ld x (Rect.unit (s := S256x2048) ![0, h * 128] S256x128.size hl)) g y
      = queryBlock x t u w g ((Rect.unit (s := S256x2048) ![0, h * 128] S256x128.size ho).emb y 0)
          ((Rect.unit (s := S256x2048) ![0, h * 128] S256x128.size ho).emb y 1) := by
  have h0 : (y 0).val < 256 := (y 0).isLt
  have h1 : (y 1).val < 128 := (y 1).isLt
  have ey : y = ix2 (y 0) (y 1) := funext fun k => by match k with | ⟨0, _⟩ => rfl | ⟨1, _⟩ => rfl
  have e0 : (Rect.unit (s := S256x2048) ![0, h * 128] S256x128.size ho).emb y 0 = (⟨(y 0).val, by omega⟩ : Fin 256) :=
    Fin.ext (by show 0 + 1 * (y 0).val = (y 0).val; omega)
  have e1 : (Rect.unit (s := S256x2048) ![0, h * 128] S256x128.size ho).emb y 1 = (⟨h * 128 + (y 1).val, by omega⟩ : Fin 2048) :=
    Fin.ext (by show h * 128 + 1 * (y 1).val = h * 128 + (y 1).val; omega)
  rw [table3, table4, table5]
  refine (congrArg _ ey).trans ((query_apply _ _ _ _ _ (y 0) (y 1)).trans ?_)
  refine Eq.trans ?_ (congrArg₂ (queryBlock x t u w g) e0 e1).symm
  unfold queryBlock
  have em : (⟨(h * 128 + (y 1).val) % 128, by omega⟩ : Fin 128) = y 1 := Fin.ext (by show (h * 128 + (y 1).val) % 128 = (y 1).val; omega)
  have ex : (fun k : Fin 128 => View.ld x (Rect.unit (s := S256x2048) ![0, h * 128] S256x128.size hl) (ix2 (y 0) k))
      = fun k : Fin 128 => x (ix2 (y 0) ⟨(h * 128 + (y 1).val) / 128 * 128 + k.val, by omega⟩) := funext fun k => by
    refine congrArg x (funext fun a => Fin.ext ?_)
    match a with
    | ⟨0, _⟩ => show 0 + 1 * (y 0).val = (y 0).val; omega
    | ⟨1, _⟩ => show h * 128 + 1 * k.val = (h * 128 + (y 1).val) / 128 * 128 + k.val; omega
  dsimp only
  rw [em]
  exact congrArg (fun v => turned (normed v _) _ _ _ (y 1)
    * Ideal.ofBits .f32 0x3DB504F3#32) ex

/-- An element of a block of keys. -/
def keyBlock (x : S256x512.Idx → EReal) (t u w : S256x128.Idx → EReal) (g : S1x128.Idx → EReal) (r : Fin 256) (f : Fin 512) : EReal :=
  turned (normed (fun k => x (ix2 r ⟨f.val / 128 * 128 + k.val, by omega⟩)) (fun k => g (ix2 0 k)))
    (fun k => t (ix2 r k)) (fun k => u (ix2 r k)) (fun k => w (ix2 r k)) ⟨f.val % 128, by omega⟩

theorem key_piece (x : S256x512.Idx → Elt Ideal .f32) (t u w : Vec Ideal S256x128 .f32) (g : S1x128.Idx → Elt Ideal .f32) (h : ℕ) (hh : h < 4)
    (hl : ∀ k, (![0, h * 128] : Fin 2 → Nat) k + S256x128.size k ≤ S256x512.size k)
    (ho : ∀ k, (![0, h * 128] : Fin 2 → Nat) k + S256x128.size k ≤ S256x512.size k) (y : S256x128.Idx) :
    k0_pay39 (F := Ideal) (k0_pay3 t) (k0_pay4 u) (k0_pay5 w) (View.ld x (Rect.unit (s := S256x512) ![0, h * 128] S256x128.size hl)) g y
      = keyBlock x t u w g ((Rect.unit (s := S256x512) ![0, h * 128] S256x128.size ho).emb y 0)
          ((Rect.unit (s := S256x512) ![0, h * 128] S256x128.size ho).emb y 1) := by
  have h0 : (y 0).val < 256 := (y 0).isLt
  have h1 : (y 1).val < 128 := (y 1).isLt
  have ey : y = ix2 (y 0) (y 1) := funext fun k => by match k with | ⟨0, _⟩ => rfl | ⟨1, _⟩ => rfl
  have e0 : (Rect.unit (s := S256x512) ![0, h * 128] S256x128.size ho).emb y 0 = (⟨(y 0).val, by omega⟩ : Fin 256) :=
    Fin.ext (by show 0 + 1 * (y 0).val = (y 0).val; omega)
  have e1 : (Rect.unit (s := S256x512) ![0, h * 128] S256x128.size ho).emb y 1 = (⟨h * 128 + (y 1).val, by omega⟩ : Fin 512) :=
    Fin.ext (by show h * 128 + 1 * (y 1).val = h * 128 + (y 1).val; omega)
  rw [table3, table4, table5]
  refine (congrArg _ ey).trans ((key_apply _ _ _ _ _ (y 0) (y 1)).trans ?_)
  refine Eq.trans ?_ (congrArg₂ (keyBlock x t u w g) e0 e1).symm
  unfold keyBlock
  have em : (⟨(h * 128 + (y 1).val) % 128, by omega⟩ : Fin 128) = y 1 := Fin.ext (by show (h * 128 + (y 1).val) % 128 = (y 1).val; omega)
  have ex : (fun k : Fin 128 => View.ld x (Rect.unit (s := S256x512) ![0, h * 128] S256x128.size hl) (ix2 (y 0) k))
      = fun k : Fin 128 => x (ix2 (y 0) ⟨(h * 128 + (y 1).val) / 128 * 128 + k.val, by omega⟩) := funext fun k => by
    refine congrArg x (funext fun a => Fin.ext ?_)
    match a with
    | ⟨0, _⟩ => show 0 + 1 * (y 0).val = (y 0).val; omega
    | ⟨1, _⟩ => show h * 128 + 1 * k.val = (h * 128 + (y 1).val) / 128 * 128 + k.val; omega
  dsimp only
  rw [em]
  exact congrArg (fun v => turned (normed v _) _ _ _ (y 1)) ex

section
variable (c : Dev nD) (i : grid0.Coords) (a1 : Memref sig .tc .vmem S256x2048 .f32) (h1 : a1.IsWhole)
  (a2 : Memref sig .tc .vmem S256x512 .f32) (h2 : a2.IsWhole) (a3 : Memref sig .tc .vmem S256x512 .f32) (h3 : a3.IsWhole)
  (a4 : Memref sig .tc .vmem S256x128 .f32) (h4 : a4.IsWhole) (a5 : Memref sig .tc .vmem S256x128 .f32) (h5 : a5.IsWhole)
  (a6 : Memref sig .tc .vmem S256x128 .f32) (h6 : a6.IsWhole) (a7 : Memref sig .tc .vmem S1x128 .f32) (h7 : a7.IsWhole)
  (a8 : Memref sig .tc .vmem S1x128 .f32) (h8 : a8.IsWhole) (a9 : Memref sig .tc .vmem S256x2048 .bf16) (h9 : a9.IsWhole)
  (a10 : Memref sig .tc .vmem S256x512 .bf16) (h10 : a10.IsWhole) (a11 : Memref sig .tc .vmem S256x512 .bf16) (h11 : a11.IsWhole)
  (x : Vec Ideal S256x2048 .f32) (y : Vec Ideal S256x512 .f32) (z : Vec Ideal S256x512 .f32) (t : Vec Ideal S256x128 .f32)
  (u : Vec Ideal S256x128 .f32) (w : Vec Ideal S256x128 .f32) (g : Vec Ideal S1x128 .f32) (k : Vec Ideal S1x128 .f32)

set_option maxHeartbeats 4000000 in
theorem query_out (r : Fin 256) (f : Fin 2048) : out0_A_8 (F := Ideal) c i a1 h1 a2 h2 a3 h3 a4 h4 a5 h5 a6 h6 a7 h7 a8 h8 a9 h9 a10 h10 a11 h11 x y z t u w g k (ix2 r f) = queryBlock x t u w g r f := by
  have P := query_piece x t u w g
  unfold out0_A_8
  rw [View.read_writes_eq_canon _ _ _ (cover0_A_8 c i a1 h1 a2 h2 a3 h3 a4 h4 a5 h5 a6 h6 a7 h7 a8 h8 a9 h9 a10 h10 a11 h11 x y z t u w g k)]
  refine View.canon_apply_of_pieces (S := S256x2048) (Val := Elt Ideal) (e := .bf16) (fun e => queryBlock x t u w g (e 0) (e 1)) _ ?_
    (ix2 r f) (cover0_A_8 c i a1 h1 a2 h2 a3 h3 a4 h4 a5 h5 a6 h6 a7 h7 a8 h8 a9 h9 a10 h10 a11 h11 x y z t u w g k _)
  unfold kernelRun0_A
  dsimp only
  sl_unfold_words
  simp only [View.readAt_eq_ld, h1.read_unread, h2.read_unread, h3.read_unread, h4.read_unread, h5.read_unread, h6.read_unread, h7.read_unread, h8.read_unread,
    View.ld_unit_zero (S := S256x128) origin, View.ld_unit_zero (S := S1x128) origin, View.ld_unit_zero (S := S256x512) origin]
  simp only [List.forall_mem_cons]
  exact ⟨P 15 (by decide) _ _, P 14 (by decide) _ _, P 13 (by decide) _ _, P 12 (by decide) _ _, P 11 (by decide) _ _, P 10 (by decide) _ _, P 9 (by decide) _ _, P 8 (by decide) _ _, P 7 (by decide) _ _, P 6 (by decide) _ _, P 5 (by decide) _ _, P 4 (by decide) _ _, P 3 (by decide) _ _, P 2 (by decide) _ _, P 1 (by decide) _ _, P 0 (by decide) _ _, fun _ h => absurd h List.not_mem_nil⟩

set_option maxHeartbeats 4000000 in
theorem key_out (r : Fin 256) (f : Fin 512) : out0_A_9 (F := Ideal) c i a1 h1 a2 h2 a3 h3 a4 h4 a5 h5 a6 h6 a7 h7 a8 h8 a9 h9 a10 h10 a11 h11 x y z t u w g k (ix2 r f) = keyBlock y t u w k r f := by
  have P := key_piece y t u w k
  unfold out0_A_9
  rw [View.read_writes_eq_canon _ _ _ (cover0_A_9 c i a1 h1 a2 h2 a3 h3 a4 h4 a5 h5 a6 h6 a7 h7 a8 h8 a9 h9 a10 h10 a11 h11 x y z t u w g k)]
  refine View.canon_apply_of_pieces (S := S256x512) (Val := Elt Ideal) (e := .bf16) (fun e => keyBlock y t u w k (e 0) (e 1)) _ ?_
    (ix2 r f) (cover0_A_9 c i a1 h1 a2 h2 a3 h3 a4 h4 a5 h5 a6 h6 a7 h7 a8 h8 a9 h9 a10 h10 a11 h11 x y z t u w g k _)
  unfold kernelRun0_A
  dsimp only
  sl_unfold_words
  simp only [View.readAt_eq_ld, h1.read_unread, h2.read_unread, h3.read_unread, h4.read_unread, h5.read_unread, h6.read_unread, h7.read_unread, h8.read_unread,
    View.ld_unit_zero (S := S256x128) origin, View.ld_unit_zero (S := S1x128) origin, View.ld_unit_zero (S := S256x512) origin]
  simp only [List.forall_mem_cons]
  exact ⟨P 3 (by decide) _ _, P 2 (by decide) _ _, P 1 (by decide) _ _, P 0 (by decide) _ _, fun _ h => absurd h List.not_mem_nil⟩

theorem value_out (r : Fin 256) (f : Fin 512) : out0_A_10 (F := Ideal) c i a1 h1 a2 h2 a3 h3 a4 h4 a5 h5 a6 h6 a7 h7 a8 h8 a9 h9 a10 h10 a11 h11 x y z t u w g k (ix2 r f) = z (ix2 r f) := by
  unfold out0_A_10
  rw [View.read_writes_eq_canon _ _ _ (cover0_A_10 c i a1 h1 a2 h2 a3 h3 a4 h4 a5 h5 a6 h6 a7 h7 a8 h8 a9 h9 a10 h10 a11 h11 x y z t u w g k)]
  unfold kernelRun0_A
  dsimp only
  sl_unfold_words
  rw [View.canon_unit_zero (S := S256x512) origin]
  simp only [View.readAt_eq_ld, h1.read_unread, h2.read_unread, h3.read_unread, h4.read_unread, h5.read_unread, h6.read_unread, h7.read_unread, h8.read_unread,
    View.ld_unit_zero (S := S256x128) origin, View.ld_unit_zero (S := S1x128) origin, View.ld_unit_zero (S := S256x512) origin]
  exact value_apply z r f

end

end Cert.Qkv

end
-- ==== Proof.Qkv.Tables.lean ====
/- The rotary tables the program builds before the call, at the ideal instance. -/
module

public import proofs.«01_k».proof.Proof.Gen.Kernel10Ideal.Frame.Runs
public import Idealize.ShloMosaic.Lib.Pointwise

@[expose] public section

set_option maxRecDepth 65536

noncomputable section

namespace Cert.Qkv

open Cert.Kernel10Ideal Cert.Kernel10Ideal.Gen
open Idealize.ShloMosaic Idealize.ShloMosaic.TcCoe Idealize.ShloMosaic.Tactic

/-- A token's row of the grid, -/
def gridRow : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

/-- the divisor of its column, -/
def width : IVec S_ 32 := select (cmpi .eq (id (constantI S_ 32 64#32)) (constantI S_ 32 0#32)) (constantI S_ 32 1#32) (id (constantI S_ 32 64#32))

/-- and its column. -/
def gridColumn : IVec S8192 32 :=
  select (andi (cmpi .ne (cmpi .slt (Host.remsi (iotaInDim S8192 32 0) (broadcastInDim S8192 ![] bcast_S_S8192 width)) (broadcastInDim S8192 ![] bcast_S_S8192 (constantI S_ 32 0#32)))
        (broadcastInDim S8192 ![] bcast_S_S8192 (cmpi .slt width (constantI S_ 32 0#32))))
      (cmpi .ne (Host.remsi (iotaInDim S8192 32 0) (broadcastInDim S8192 ![] bcast_S_S8192 width)) (broadcastInDim S8192 ![] bcast_S_S8192 (constantI S_ 32 0#32))))
    (addi (Host.remsi (iotaInDim S8192 32 0) (broadcastInDim S8192 ![] bcast_S_S8192 width)) (broadcastInDim S8192 ![] bcast_S_S8192 width))
    (Host.remsi (iotaInDim S8192 32 0) (broadcastInDim S8192 ![] bcast_S_S8192 width))

/-- The angles of a coordinate. -/
def angle (p : IVec S8192 32) : FVec Ideal S8192x32 .f32 :=
  mulf (broadcastInDim S8192x32 ![0, 1] bcast_S8192x1_S8192x32_0_1 (broadcastInDim S8192x1 ![0] bcast_S8192_S8192x1_0 (sitofp .f32 p)))
    (broadcastInDim S8192x32 ![0, 1] bcast_S1x32_S8192x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Every token's angles, of its row twice and of its column twice. -/
def angles : FVec Ideal S8192x128 .f32 :=
  concatenate S8192x128 1 [⟨S8192x32, angle gridRow⟩, ⟨S8192x32, angle gridRow⟩, ⟨S8192x32, angle gridColumn⟩, ⟨S8192x32, angle gridColumn⟩]
    concatenates_S8192x32_S8192x32_S8192x32_S8192x32_S8192x128_d1

/-- The context's angles are zero. -/
def allAngles : FVec Ideal S8448x128 .f32 :=
  concatenate S8448x128 0 [⟨S256x128, broadcastInDim S256x128 ![] bcast_S_S256x128 (constant S_ .f32 0x00000000#32)⟩, ⟨S8192x128, angles⟩]
    concatenates_S256x128_S8192x128_S8448x128_d0

variable (m : (ℓ : Loc nD τ sig) → Buf (Elt Ideal) ℓ) (c : Dev nD)

theorem join2 {x x' : FVec Ideal S256x128 .f32} {y y' : FVec Ideal S8192x128 .f32} (h : x = x') (h' : y = y') :
    concatenate S8448x128 0 [⟨S256x128, x⟩, ⟨S8192x128, y⟩] concatenates_S256x128_S8192x128_S8448x128_d0
      = concatenate S8448x128 0 [⟨S256x128, x'⟩, ⟨S8192x128, y'⟩] concatenates_S256x128_S8192x128_S8448x128_d0 := by subst h h'; rfl
theorem join4 {x x' y y' z z' w w' : FVec Ideal S8192x32 .f32} (hx : x = x') (hy : y = y') (hz : z = z') (hw : w = w') :
    concatenate S8192x128 1 [⟨S8192x32, x⟩, ⟨S8192x32, y⟩, ⟨S8192x32, z⟩, ⟨S8192x32, w⟩] concatenates_S8192x32_S8192x32_S8192x32_S8192x32_S8192x128_d1
      = concatenate S8192x128 1 [⟨S8192x32, x'⟩, ⟨S8192x32, y'⟩, ⟨S8192x32, z'⟩, ⟨S8192x32, w'⟩] concatenates_S8192x32_S8192x32_S8192x32_S8192x32_S8192x128_d1 := by
  subst hx hy hz hw; rfl

set_option maxHeartbeats 4000000 in
/-- The angles the tables are made from. -/
theorem V_angles : V m c main_v23 = allAngles := by
  show StableHlo.after (List.flatten [hostOps0, hostOps0_1, hostOps0_2, hostOps0_3, hostOps0_4, hostOps0_5, hostOps0_6, hostOps0_7, hostOps0_8, hostOps0_9, hostOps0_10]) (fun b => m (c, b)) _ = _
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  refine join2 ?_ ?_
  · after_results_simp
  · after_results_simp
    dsimp only [Matrix.cons_val]
    refine join4 ?_ ?_ ?_ ?_ <;> after_results_simp <;> rfl

/-- The columns that are the first of their pairs. -/
def firstHalf : IVec S128 1 :=
  cmpi .slt (select (andi (cmpi .ne (cmpi .slt (Host.remsi (iotaInDim S128 32 0) (broadcastInDim S128 ![] bcast_S_S128 width)) (broadcastInDim S128 ![] bcast_S_S128 (constantI S_ 32 0#32)))
        (broadcastInDim S128 ![] bcast_S_S128 (cmpi .slt width (constantI S_ 32 0#32))))
      (cmpi .ne (Host.remsi (iotaInDim S128 32 0) (broadcastInDim S128 ![] bcast_S_S128 width)) (broadcastInDim S128 ![] bcast_S_S128 (constantI S_ 32 0#32))))
    (addi (Host.remsi (iotaInDim S128 32 0) (broadcastInDim S128 ![] bcast_S_S128 width)) (broadcastInDim S128 ![] bcast_S_S128 width))
    (Host.remsi (iotaInDim S128 32 0) (broadcastInDim S128 ![] bcast_S_S128 width))) (broadcastInDim S128 ![] bcast_S_S128 (constantI S_ 32 32#32))

set_option maxHeartbeats 4000000 in
/-- The first table, -/
theorem V_cos : V m c main_v24 = Host.cos (F := Ideal) (s := S8448x128) (φ := .f32) (V m c main_v23) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v24) = Host.cos (F := Ideal) (s := S8448x128) (φ := .f32) (StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v23))
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp

set_option maxHeartbeats 4000000 in
/-- the second, -/
theorem V_first : V m c main_v31 = select (α := Elt Ideal .f32) (broadcastInDim S8448x128 ![1] bcast_S128_S8448x128_1 firstHalf) (Host.negf (F := Ideal) (Host.sin (F := Ideal) (s := S8448x128) (φ := .f32) (V m c main_v23))) (broadcastInDim S8448x128 ![] bcast_S_S8448x128 (id (constant (F := Ideal) S_ .f32 0x00000000#32))) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v31) = select (α := Elt Ideal .f32) (broadcastInDim S8448x128 ![1] bcast_S128_S8448x128_1 firstHalf) (Host.negf (F := Ideal) (Host.sin (F := Ideal) (s := S8448x128) (φ := .f32) (StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v23)))) (broadcastInDim S8448x128 ![] bcast_S_S8448x128 (id (constant (F := Ideal) S_ .f32 0x00000000#32)))
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

set_option maxHeartbeats 4000000 in
/-- and the third. -/
theorem V_second : V m c main_v32 = select (α := Elt Ideal .f32) (broadcastInDim S8448x128 ![1] bcast_S128_S8448x128_1 firstHalf) (broadcastInDim S8448x128 ![] bcast_S_S8448x128 (id (constant (F := Ideal) S_ .f32 0x00000000#32))) (Host.sin (F := Ideal) (s := S8448x128) (φ := .f32) (V m c main_v23)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v32) = select (α := Elt Ideal .f32) (broadcastInDim S8448x128 ![1] bcast_S128_S8448x128_1 firstHalf) (broadcastInDim S8448x128 ![] bcast_S_S8448x128 (id (constant (F := Ideal) S_ .f32 0x00000000#32))) (Host.sin (F := Ideal) (s := S8448x128) (φ := .f32) (StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v23)))
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

set_option maxHeartbeats 4000000 in
/-- The weights are the arguments, as one row. -/
theorem V_query : V m c main_v33 = shapeCast S1x128 (m ((c : Thread nD τ).loc main_arg1)) shapeCasts_S128_S1x128 := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v33) = shapeCast S1x128 (m ((c : Thread nD τ).loc main_arg1)) shapeCasts_S128_S1x128
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

set_option maxHeartbeats 4000000 in
/-- The same for the keys'. -/
theorem V_key : V m c main_v34 = shapeCast S1x128 (m ((c : Thread nD τ).loc main_arg2)) shapeCasts_S128_S1x128 := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v34) = shapeCast S1x128 (m ((c : Thread nD τ).loc main_arg2)) shapeCasts_S128_S1x128
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

end Cert.Qkv

end
-- ==== Proof.Qkv.Rotation.lean ====
/- A row with the program's tables is the row rotated by its token's angles; the context's rows stay. -/
module

public import proofs.«01_k».proof.Proof.Qkv.Head
public import proofs.«01_k».proof.Proof.Qkv.Tables
public import Idealize.ShloMosaic.Lib.Pointwise

@[expose] public section

set_option maxRecDepth 65536

noncomputable section

namespace Cert.Qkv

open Cert.Kernel10Ideal Cert.Kernel10Ideal.Gen
open Idealize.ShloMosaic Idealize.ShloMosaic.TcCoe Idealize.ShloMosaic.Tactic

theorem context_angles (r : Fin 256) (j : Fin 128) : allAngles (ix2 ⟨r.val, by omega⟩ j) = (0 : EReal) := by
  unfold allAngles
  generalize angles = w
  pointwise

theorem latent_angles (n : Fin 8192) (j : Fin 128) : allAngles (ix2 ⟨256 + n.val, by omega⟩ j) = angles (ix2 n j) := by
  unfold allAngles
  generalize angles = w
  pointwise

theorem half_apply : ∀ j : Fin 128, firstHalf (ix1 j) = if j.val % 64 < 32 then 1#1 else 0#1 := by
  decide +kernel

theorem first_at (x : FVec Ideal S8448x128 .f32) (k : IVec S128 1) (n : Fin 8448) (j : Fin 128) :
    select (α := Elt Ideal .f32) (broadcastInDim S8448x128 ![1] bcast_S128_S8448x128_1 k) (Host.negf (F := Ideal) (Host.sin (F := Ideal) (s := S8448x128) (φ := .f32) x))
      (broadcastInDim S8448x128 ![] bcast_S_S8448x128 (constant (F := Ideal) S_ .f32 0x00000000#32)) (ix2 n j)
      = (if k (ix1 j) = 1#1 then -Ideal.sin (x (ix2 n j)) else 0 : EReal) := by
  pointwise
  rfl

theorem second_at (x : FVec Ideal S8448x128 .f32) (k : IVec S128 1) (n : Fin 8448) (j : Fin 128) :
    select (α := Elt Ideal .f32) (broadcastInDim S8448x128 ![1] bcast_S128_S8448x128_1 k)
      (broadcastInDim S8448x128 ![] bcast_S_S8448x128 (constant (F := Ideal) S_ .f32 0x00000000#32)) (Host.sin (F := Ideal) (s := S8448x128) (φ := .f32) x) (ix2 n j)
      = (if k (ix1 j) = 1#1 then 0 else Ideal.sin (x (ix2 n j)) : EReal) := by
  pointwise
  rfl

theorem cos_at (x : FVec Ideal S8448x128 .f32) (n : Fin 8448) (j : Fin 128) : Host.cos (F := Ideal) (s := S8448x128) (φ := .f32) x (ix2 n j) = Ideal.cos (x (ix2 n j)) := by
  pointwise

theorem cos_zero : Ideal.cos 0 = 1 := by
  show ((Real.cos 0 : ℝ) : EReal) = 1
  rw [Real.cos_zero]
  rfl
theorem sin_zero : Ideal.sin 0 = 0 := by
  show ((Real.sin 0 : ℝ) : EReal) = 0
  rw [Real.sin_zero]
  rfl

/-- A row of the queries or keys, rotated: each pair of columns 32 apart turns by the token's angle. -/
def rotated (v : Fin 128 → EReal) (n : Fin 8448) (j : Fin 128) : EReal :=
  if h : n.val < 256 then v j
  else v j * Ideal.cos (angles (ix2 ⟨n.val - 256, by omega⟩ j))
    + (if j.val % 64 < 32 then -v ⟨(j.val + 128 - 96) % 128, Nat.mod_lt _ (by decide)⟩ else v ⟨(j.val + 128 - 32) % 128, Nat.mod_lt _ (by decide)⟩)
      * Ideal.sin (angles (ix2 ⟨n.val - 256, by omega⟩ j))

theorem turned_eq (m : (ℓ : Loc nD τ sig) → Buf (Elt Ideal) ℓ) (c : Dev nD) (v : Fin 128 → EReal) (n : Fin 8448) (j : Fin 128) :
    turned v (fun k => V m c main_v24 (ix2 n k)) (fun k => V m c main_v31 (ix2 n k)) (fun k => V m c main_v32 (ix2 n k)) j = rotated v n j := by
  have e0 : V m c main_v24 (ix2 n j) = Ideal.cos (allAngles (ix2 n j)) :=
    (congrFun (V_cos m c) _).trans ((cos_at _ n j).trans (congrArg (fun x : FVec Ideal S8448x128 .f32 => Ideal.cos (x (ix2 n j))) (V_angles m c)))
  have e1 : V m c main_v31 (ix2 n j) = (if firstHalf (ix1 j) = 1#1 then -Ideal.sin (allAngles (ix2 n j)) else 0 : EReal) :=
    (congrFun (V_first m c) _).trans ((first_at _ _ n j).trans (congrArg (fun x : FVec Ideal S8448x128 .f32 => (if firstHalf (ix1 j) = 1#1 then -Ideal.sin (x (ix2 n j)) else 0 : EReal)) (V_angles m c)))
  have e2 : V m c main_v32 (ix2 n j) = (if firstHalf (ix1 j) = 1#1 then 0 else Ideal.sin (allAngles (ix2 n j)) : EReal) :=
    (congrFun (V_second m c) _).trans ((second_at _ _ n j).trans (congrArg (fun x : FVec Ideal S8448x128 .f32 => (if firstHalf (ix1 j) = 1#1 then 0 else Ideal.sin (x (ix2 n j)) : EReal)) (V_angles m c)))
  unfold turned rotated
  dsimp only
  rw [e0, e1, e2, half_apply]
  by_cases h : n.val < 256
  · have ea : allAngles (ix2 n j) = (0 : EReal) := context_angles ⟨n.val, h⟩ j
    rw [ea, cos_zero, sin_zero, dif_pos h]
    simp
  · have ea : allAngles (ix2 n j) = angles (ix2 ⟨n.val - 256, by omega⟩ j) := by
      refine Eq.trans ?_ (latent_angles ⟨n.val - 256, by omega⟩ j)
      exact congrArg (fun k => allAngles (ix2 k j)) (Fin.ext (by show n.val = 256 + (n.val - 256); omega))
    rw [ea, dif_neg h]
    by_cases hj : j.val % 64 < 32
    · simp [hj]
    · simp [hj]

end Cert.Qkv

end
-- ==== Proof.Qkv.Value.lean ====
/- What the call computes, at every element of its three results. -/
module

public import proofs.«01_k».proof.Proof.Qkv.Block
public import proofs.«01_k».proof.Proof.Qkv.Rotation
public import proofs.«01_k».proof.Proof.Gen.Kernel10Ideal.Value
public import Idealize.ShloMosaic.Lib.Pipeline.Value
public import Idealize.ShloMosaic.Lib.Pointwise

@[expose] public section

set_option maxRecDepth 65536

noncomputable section

namespace Cert.Qkv

open Cert.Kernel10Ideal Cert.Kernel10Ideal.Gen Cert.Kernel10Ideal.Value
open Idealize.ShloMosaic Idealize.ShloMosaic.TcCoe Idealize.ShloMosaic.Tactic

/-- A query: its head's row of the projection, normed, weighted and rotated, over the root of the head's width. -/
def query (u : S8448x5120.Idx → EReal) (g : S128.Idx → EReal) (n : Fin 8448) (f : Fin 2048) : EReal :=
  rotated (normed (fun k => u (ix2 n ⟨f.val / 128 * 128 + k.val, by omega⟩)) (fun k => g (ix1 k))) n ⟨f.val % 128, by omega⟩ * Ideal.ofBits .f32 0x3DB504F3#32

/-- A key: its head's row of the projection, normed, weighted and rotated. -/
def key (u : S8448x5120.Idx → EReal) (g : S128.Idx → EReal) (n : Fin 8448) (f : Fin 512) : EReal :=
  rotated (normed (fun k => u (ix2 n ⟨2048 + (f.val / 128 * 128 + k.val), by omega⟩)) (fun k => g (ix1 k))) n ⟨f.val % 128, by omega⟩

/-- A value: the projection's. -/
def value (u : S8448x5120.Idx → EReal) (n : Fin 8448) (f : Fin 512) : EReal := u (ix2 n ⟨2560 + f.val, by omega⟩)

theorem gain_at (g : FVec Ideal S128 .f32) (j : Fin 128) : shapeCast S1x128 g shapeCasts_S128_S1x128 (ix2 0 j) = g (ix1 j) := by
  pointwise

theorem points (t : Fin cfg0.N) : t.val < 33 := t.isLt.trans_eq (show cfg0.N = 33 from N_0)

theorem index0 : ∀ t : Fin cfg0.N, win0_0.index t = ![t.val, 0] := (by decide +kernel : ∀ t : Fin grid0.N, win0_0.index t = ![t.val, 0])
theorem index1 : ∀ t : Fin cfg0.N, win0_1.index t = ![t.val, 4] := (by decide +kernel : ∀ t : Fin grid0.N, win0_1.index t = ![t.val, 4])
theorem index2 : ∀ t : Fin cfg0.N, win0_2.index t = ![t.val, 5] := (by decide +kernel : ∀ t : Fin grid0.N, win0_2.index t = ![t.val, 5])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem flush8 : ∀ t : Fin cfg0.N, (cfg0.win 8).flush t = true := (by decide +kernel : ∀ t : Fin grid0.N, win0_8.flush t = true)
theorem flush9 : ∀ t : Fin cfg0.N, (cfg0.win 9).flush t = true := (by decide +kernel : ∀ t : Fin grid0.N, win0_9.flush t = true)
theorem flush10 : ∀ t : Fin cfg0.N, (cfg0.win 10).flush t = true := (by decide +kernel : ∀ t : Fin grid0.N, win0_10.flush t = true)

/-- The array's row of a point's row. -/
def row (t : Fin cfg0.N) (r : Fin 256) : Fin 8448 := ⟨t.val * 256 + r.val, by have := points t; omega⟩

section
variable (m : (ℓ : Loc nD τ sig) → Buf (Elt Ideal) ℓ) (c : Dev nD) (t : Fin cfg0.N)

theorem block0 (r : Fin 256) (f : Fin 2048) :
    X0_0 m c t (ix2 r f) = m ((c : Thread nD τ).loc main_arg0) (ix2 (row t r) ⟨f.val, by omega⟩) := by
  have key : ∀ a : Fin 2, (![t.val, 0] : Fin 2 → Nat) a * S256x2048.size a + ((ix2 r f : S256x2048.Idx) a).val
      = ((ix2 (row t r) (⟨f.val, by omega⟩ : Fin 5120) : S8448x5120.Idx) a).val := fun a => by
    match a with
    | ⟨0, _⟩ => rfl
    | ⟨1, _⟩ => show 0 * 2048 + f.val = f.val; omega
  unfold X0_0 Pipeline.Window.fill
  rw [dif_pos (moved0_0 t (ix2 r f))]
  refine (congrFun (V_main_arg0 m c) _).trans (congrArg (m ((c : Thread nD τ).loc main_arg0)) (funext fun a => Fin.ext ?_))
  refine (Pipeline.Window.rect_emb_val (cfg0.win 0) t _ a rfl).trans ?_
  rw [show (cfg0.win 0).index t = _ from index0 t]
  exact key a

theorem block1 (r : Fin 256) (f : Fin 512) :
    iblk m c (1 : Fin 11) t (ix2 r f) = m ((c : Thread nD τ).loc main_arg0) (ix2 (row t r) ⟨2048 + f.val, by omega⟩) := by
  refine (congrFun (V_main_arg0 m c) _).trans (congrArg (m ((c : Thread nD τ).loc main_arg0)) (funext fun a => Fin.ext ?_))
  refine (Pipeline.Window.rect_emb_val (cfg0.win 1) t (ix2 r f) a rfl).trans ?_
  rw [show (cfg0.win 1).index t = _ from index1 t]
  match a with
  | ⟨0, _⟩ => rfl
  | ⟨1, _⟩ => show 4 * 512 + f.val = 2048 + f.val; omega

theorem block2 (r : Fin 256) (f : Fin 512) :
    iblk m c (2 : Fin 11) t (ix2 r f) = m ((c : Thread nD τ).loc main_arg0) (ix2 (row t r) ⟨2560 + f.val, by omega⟩) := by
  refine (congrFun (V_main_arg0 m c) _).trans (congrArg (m ((c : Thread nD τ).loc main_arg0)) (funext fun a => Fin.ext ?_))
  refine (Pipeline.Window.rect_emb_val (cfg0.win 2) t (ix2 r f) a rfl).trans ?_
  rw [show (cfg0.win 2).index t = _ from index2 t]
  match a with
  | ⟨0, _⟩ => rfl
  | ⟨1, _⟩ => show 5 * 512 + f.val = 2560 + f.val; omega

theorem block3 (r : Fin 256) (j : Fin 128) : iblk m c (3 : Fin 11) t (ix2 r j) = V m c main_v24 (ix2 (row t r) j) := by
  refine congrArg (V m c main_v24) (funext fun a => Fin.ext ?_)
  refine (Pipeline.Window.rect_emb_val (cfg0.win 3) t (ix2 r j) a rfl).trans ?_
  rw [show (cfg0.win 3).index t = _ from index3 t]
  match a with
  | ⟨0, _⟩ => rfl
  | ⟨1, _⟩ => show 0 * 128 + j.val = j.val; omega

theorem block4 (r : Fin 256) (j : Fin 128) : iblk m c (4 : Fin 11) t (ix2 r j) = V m c main_v31 (ix2 (row t r) j) := by
  refine congrArg (V m c main_v31) (funext fun a => Fin.ext ?_)
  refine (Pipeline.Window.rect_emb_val (cfg0.win 4) t (ix2 r j) a rfl).trans ?_
  rw [show (cfg0.win 4).index t = _ from index4 t]
  match a with
  | ⟨0, _⟩ => rfl
  | ⟨1, _⟩ => show 0 * 128 + j.val = j.val; omega

theorem block5 (r : Fin 256) (j : Fin 128) : iblk m c (5 : Fin 11) t (ix2 r j) = V m c main_v32 (ix2 (row t r) j) := by
  refine congrArg (V m c main_v32) (funext fun a => Fin.ext ?_)
  refine (Pipeline.Window.rect_emb_val (cfg0.win 5) t (ix2 r j) a rfl).trans ?_
  rw [show (cfg0.win 5).index t = _ from index5 t]
  match a with
  | ⟨0, _⟩ => rfl
  | ⟨1, _⟩ => show 0 * 128 + j.val = j.val; omega

theorem block6 (j : Fin 128) : iblk m c (6 : Fin 11) t (ix2 0 j) = m ((c : Thread nD τ).loc main_arg1) (ix1 j) := by
  refine Eq.trans (congrArg (V m c main_v33) (funext fun a => Fin.ext ?_)) ((congrFun (V_query m c) (ix2 0 j)).trans (gain_at _ j))
  refine (Pipeline.Window.rect_emb_val (cfg0.win 6) t (ix2 0 j) a rfl).trans ?_
  rw [show (cfg0.win 6).index t = _ from index6 t]
  match a with
  | ⟨0, _⟩ => rfl
  | ⟨1, _⟩ => show 0 * 128 + j.val = j.val; omega

theorem block7 (j : Fin 128) : iblk m c (7 : Fin 11) t (ix2 0 j) = m ((c : Thread nD τ).loc main_arg2) (ix1 j) := by
  refine Eq.trans (congrArg (V m c main_v34) (funext fun a => Fin.ext ?_)) ((congrFun (V_key m c) (ix2 0 j)).trans (gain_at _ j))
  refine (Pipeline.Window.rect_emb_val (cfg0.win 7) t (ix2 0 j) a rfl).trans ?_
  rw [show (cfg0.win 7).index t = _ from index7 t]
  match a with
  | ⟨0, _⟩ => rfl
  | ⟨1, _⟩ => show 0 * 128 + j.val = j.val; omega

theorem arr8 (r : Fin 256) (f : Fin 2048) :
    (dats m 0 c).arrAt 8 cfg0.N (ix2 (row t r) f : S8448x2048.Idx) = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) (iblk m c 6 t) (iblk m c 7 t) (ix2 r f) := by
  have h := congrFun (blocks8 m c t (flush8 t)) (ix2 r f : S256x2048.Idx)
  rw [flushed8_A] at h
  refine (congrArg ((dats m 0 c).arrAt 8 cfg0.N) (funext fun a => Fin.ext ?_)).symm.trans h
  refine (Pipeline.Window.rect_emb_val (cfg0.win 8) t (ix2 r f) a rfl).trans ?_
  rw [show (cfg0.win 8).index t = _ from index8 t]
  match a with
  | ⟨0, _⟩ => rfl
  | ⟨1, _⟩ => show 0 * 2048 + f.val = f.val; omega

theorem arr9 (r : Fin 256) (f : Fin 512) :
    (dats m 0 c).arrAt 9 cfg0.N (ix2 (row t r) f : S8448x512.Idx) = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) (iblk m c 6 t) (iblk m c 7 t) (ix2 r f) := by
  have h := congrFun (blocks9 m c t (flush9 t)) (ix2 r f : S256x512.Idx)
  rw [flushed9_A] at h
  refine (congrArg ((dats m 0 c).arrAt 9 cfg0.N) (funext fun a => Fin.ext ?_)).symm.trans h
  refine (Pipeline.Window.rect_emb_val (cfg0.win 9) t (ix2 r f) a rfl).trans ?_
  rw [show (cfg0.win 9).index t = _ from index9 t]
  match a with
  | ⟨0, _⟩ => rfl
  | ⟨1, _⟩ => show 0 * 512 + f.val = f.val; omega

theorem arr10 (r : Fin 256) (f : Fin 512) :
    (dats m 0 c).arrAt 10 cfg0.N (ix2 (row t r) f : S8448x512.Idx) = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) (iblk m c 6 t) (iblk m c 7 t) (ix2 r f) := by
  have h := congrFun (blocks10 m c t (flush10 t)) (ix2 r f : S256x512.Idx)
  rw [flushed10_A] at h
  refine (congrArg ((dats m 0 c).arrAt 10 cfg0.N) (funext fun a => Fin.ext ?_)).symm.trans h
  refine (Pipeline.Window.rect_emb_val (cfg0.win 10) t (ix2 r f) a rfl).trans ?_
  rw [show (cfg0.win 10).index t = _ from index10 t]
  match a with
  | ⟨0, _⟩ => rfl
  | ⟨1, _⟩ => show 0 * 512 + f.val = f.val; omega

theorem query_block (r : Fin 256) (f : Fin 2048) :
    queryBlock (X0_0 m c t) (iblk m c 3 t) (iblk m c 4 t) (iblk m c 5 t) (iblk m c 6 t) r f
      = query (m ((c : Thread nD τ).loc main_arg0)) (m ((c : Thread nD τ).loc main_arg1)) (row t r) f := by
  unfold queryBlock query
  have ex : (fun k : Fin 128 => (X0_0 m c t) (ix2 r (⟨f.val / 128 * 128 + k.val, by omega⟩ : Fin 2048)))
      = fun k : Fin 128 => m ((c : Thread nD τ).loc main_arg0) (ix2 (row t r) (⟨(f.val / 128 * 128 + k.val), by omega⟩ : Fin 5120)) :=
    funext fun k => block0 m c t r _
  have eg : (fun k : Fin 128 => iblk m c (6 : Fin 11) t (ix2 0 k)) = fun k : Fin 128 => m ((c : Thread nD τ).loc main_arg1) (ix1 k) :=
    funext fun k => block6 m c t k
  have e3 : (fun k : Fin 128 => iblk m c (3 : Fin 11) t (ix2 r k)) = fun k => V m c main_v24 (ix2 (row t r) k) := funext fun k => block3 m c t r k
  have e4 : (fun k : Fin 128 => iblk m c (4 : Fin 11) t (ix2 r k)) = fun k => V m c main_v31 (ix2 (row t r) k) := funext fun k => block4 m c t r k
  have e5 : (fun k : Fin 128 => iblk m c (5 : Fin 11) t (ix2 r k)) = fun k => V m c main_v32 (ix2 (row t r) k) := funext fun k => block5 m c t r k
  have e := turned_eq m c (normed (fun k : Fin 128 => m ((c : Thread nD τ).loc main_arg0) (ix2 (row t r) (⟨(f.val / 128 * 128 + k.val), by omega⟩ : Fin 5120)))
    (fun k : Fin 128 => m ((c : Thread nD τ).loc main_arg1) (ix1 k))) (row t r) ⟨f.val % 128, by omega⟩
  refine Eq.trans ?_ (congrArg (fun v : EReal => v * Ideal.ofBits .f32 0x3DB504F3#32) e)
  exact congrArg (fun v : EReal => v * Ideal.ofBits .f32 0x3DB504F3#32) (congrFun (congr (congr (congr (congrArg turned (congr (congrArg normed ex) eg)) e3) e4) e5) _)

theorem key_block (r : Fin 256) (f : Fin 512) :
    keyBlock (iblk m c 1 t) (iblk m c 3 t) (iblk m c 4 t) (iblk m c 5 t) (iblk m c 7 t) r f
      = key (m ((c : Thread nD τ).loc main_arg0)) (m ((c : Thread nD τ).loc main_arg2)) (row t r) f := by
  unfold keyBlock key
  have ex : (fun k : Fin 128 => (iblk m c 1 t) (ix2 r (⟨f.val / 128 * 128 + k.val, by omega⟩ : Fin 512)))
      = fun k : Fin 128 => m ((c : Thread nD τ).loc main_arg0) (ix2 (row t r) (⟨2048 + (f.val / 128 * 128 + k.val), by omega⟩ : Fin 5120)) :=
    funext fun k => block1 m c t r _
  have eg : (fun k : Fin 128 => iblk m c (7 : Fin 11) t (ix2 0 k)) = fun k : Fin 128 => m ((c : Thread nD τ).loc main_arg2) (ix1 k) :=
    funext fun k => block7 m c t k
  have e3 : (fun k : Fin 128 => iblk m c (3 : Fin 11) t (ix2 r k)) = fun k => V m c main_v24 (ix2 (row t r) k) := funext fun k => block3 m c t r k
  have e4 : (fun k : Fin 128 => iblk m c (4 : Fin 11) t (ix2 r k)) = fun k => V m c main_v31 (ix2 (row t r) k) := funext fun k => block4 m c t r k
  have e5 : (fun k : Fin 128 => iblk m c (5 : Fin 11) t (ix2 r k)) = fun k => V m c main_v32 (ix2 (row t r) k) := funext fun k => block5 m c t r k
  have e := turned_eq m c (normed (fun k : Fin 128 => m ((c : Thread nD τ).loc main_arg0) (ix2 (row t r) (⟨2048 + (f.val / 128 * 128 + k.val), by omega⟩ : Fin 5120)))
    (fun k : Fin 128 => m ((c : Thread nD τ).loc main_arg2) (ix1 k))) (row t r) ⟨f.val % 128, by omega⟩
  refine Eq.trans ?_ (congrArg (fun v : EReal => v) e)
  exact congrArg (fun v : EReal => v) (congrFun (congr (congr (congr (congrArg turned (congr (congrArg normed ex) eg)) e3) e4) e5) _)

end

section
variable (m : (ℓ : Loc nD τ sig) → Buf (Elt Ideal) ℓ) (c : Dev nD)

theorem query_value (i : S8448x2048.Idx) :
    (dats m 0 c).arrAt 8 cfg0.N i = query (m ((c : Thread nD τ).loc main_arg0)) (m ((c : Thread nD τ).loc main_arg1)) (i 0) (i 1) := by
  have h0 : (i 0).val < 8448 := (i 0).isLt
  obtain ⟨n, hn, e0⟩ : ∃ n, n < 33 ∧ n = (i 0).val / 256 := ⟨(i 0).val / 256, by omega, rfl⟩
  have hN : n < cfg0.N := hn.trans_eq (show cfg0.N = 33 from N_0).symm
  have lr : row ⟨n, hN⟩ ⟨(i 0).val % 256, Nat.mod_lt _ (by decide)⟩ = i 0 := Fin.ext (by show n * 256 + (i 0).val % 256 = (i 0).val; omega)
  have ei : i = ix2 (row ⟨n, hN⟩ ⟨(i 0).val % 256, Nat.mod_lt _ (by decide)⟩) (i 1) := funext fun a => by
    match a with
    | ⟨0, _⟩ => exact lr.symm
    | ⟨1, _⟩ => rfl
  refine (congrArg ((dats m 0 c).arrAt 8 cfg0.N) ei).trans ((arr8 m c ⟨n, hN⟩ _ (i 1)).trans (((query_out ..).trans ?_).trans
    (congrArg (fun n => query (m ((c : Thread nD τ).loc main_arg0)) (m ((c : Thread nD τ).loc main_arg1)) n (i 1)) lr)))
  exact query_block m c _ _ _

theorem key_value (i : S8448x512.Idx) :
    (dats m 0 c).arrAt 9 cfg0.N i = key (m ((c : Thread nD τ).loc main_arg0)) (m ((c : Thread nD τ).loc main_arg2)) (i 0) (i 1) := by
  have h0 : (i 0).val < 8448 := (i 0).isLt
  obtain ⟨n, hn, e0⟩ : ∃ n, n < 33 ∧ n = (i 0).val / 256 := ⟨(i 0).val / 256, by omega, rfl⟩
  have hN : n < cfg0.N := hn.trans_eq (show cfg0.N = 33 from N_0).symm
  have lr : row ⟨n, hN⟩ ⟨(i 0).val % 256, Nat.mod_lt _ (by decide)⟩ = i 0 := Fin.ext (by show n * 256 + (i 0).val % 256 = (i 0).val; omega)
  have ei : i = ix2 (row ⟨n, hN⟩ ⟨(i 0).val % 256, Nat.mod_lt _ (by decide)⟩) (i 1) := funext fun a => by
    match a with
    | ⟨0, _⟩ => exact lr.symm
    | ⟨1, _⟩ => rfl
  refine (congrArg ((dats m 0 c).arrAt 9 cfg0.N) ei).trans ((arr9 m c ⟨n, hN⟩ _ (i 1)).trans (((key_out ..).trans ?_).trans
    (congrArg (fun n => key (m ((c : Thread nD τ).loc main_arg0)) (m ((c : Thread nD τ).loc main_arg2)) n (i 1)) lr)))
  exact key_block m c _ _ _

theorem value_value (i : S8448x512.Idx) :
    (dats m 0 c).arrAt 10 cfg0.N i = value (m ((c : Thread nD τ).loc main_arg0)) (i 0) (i 1) := by
  have h0 : (i 0).val < 8448 := (i 0).isLt
  obtain ⟨n, hn, e0⟩ : ∃ n, n < 33 ∧ n = (i 0).val / 256 := ⟨(i 0).val / 256, by omega, rfl⟩
  have hN : n < cfg0.N := hn.trans_eq (show cfg0.N = 33 from N_0).symm
  have lr : row ⟨n, hN⟩ ⟨(i 0).val % 256, Nat.mod_lt _ (by decide)⟩ = i 0 := Fin.ext (by show n * 256 + (i 0).val % 256 = (i 0).val; omega)
  have ei : i = ix2 (row ⟨n, hN⟩ ⟨(i 0).val % 256, Nat.mod_lt _ (by decide)⟩) (i 1) := funext fun a => by
    match a with
    | ⟨0, _⟩ => exact lr.symm
    | ⟨1, _⟩ => rfl
  refine (congrArg ((dats m 0 c).arrAt 10 cfg0.N) ei).trans ((arr10 m c ⟨n, hN⟩ _ (i 1)).trans (((value_out ..).trans ?_).trans
    (congrArg (fun n => value (m ((c : Thread nD τ).loc main_arg0)) n (i 1)) lr)))
  exact block2 m c _ _ _

end

end Cert.Qkv

end
-- ==== Proof.Qkv.Reference.lean ====
/- The reference's queries and keys, at an element. -/
module

public import proofs.«01_k».proof.Defs
public import proofs.«01_k».proof.Proof.Qkv.Value
public import proofs.«01_k».proof.Proof.Gen.Reference10Ideal.Run

@[expose] public section

set_option maxRecDepth 16384

noncomputable section

namespace Cert.Qkv.Reference

open Idealize.ShloMosaic Idealize.SL.Sem
open Cert.Reference10Ideal Cert.Reference10Ideal.Gen

namespace Key

/-- The heads' columns of the projection, head by head. -/
def heads (u : S8448x5120.Idx → Elt Ideal .f32) : FVec Ideal S8448x4x128 .f32 :=
  shapeCast S8448x4x128 (extractStridedSlice S8448x512 ![0, 2048] u slices_S8448x5120_S8448x512_0_2048) shapeCasts_S8448x512_S8448x4x128

theorem heads_apply (u : S8448x5120.Idx → Elt Ideal .f32) (n : Fin 8448) (h : Fin 4) (j : Fin 128) :
    heads u (ix3 n h j) = u (ix2 n ⟨2048 + (h.val * 128 + j.val), by omega⟩) := by
  unfold heads
  pointwise

/-- Their norm. -/
def unit (x : FVec Ideal S8448x4x128 .f32) (g : S128.Idx → Elt Ideal .f32) : FVec Ideal S8448x4x128 .f32 :=
  mulf (mulf x (broadcastInDim S8448x4x128 ![0, 1, 2] bcast_S8448x4x1_S8448x4x128_0_1_2 (Host.rsqrt (addf (Host.divf (broadcastInDim S8448x4x1 ![0, 1] bcast_S8448x4_S8448x4x1_0_1
      (Host.reduceAdd (mulf x x) (constant S_ .f32 0x00000000#32) reducesTo_S8448x4x128_S8448x4_d2 h_S_)) (broadcastInDim S8448x4x1 ![] bcast_S_S8448x4x1 (constant S_ .f32 0x43000000#32)))
      (broadcastInDim S8448x4x1 ![] bcast_S_S8448x4x1 (constant S_ .f32 0x358637BD#32))))))
    (broadcastInDim S8448x4x128 ![0, 1, 2] bcast_S1x1x128_S8448x4x128_0_1_2 (broadcastInDim S1x1x128 ![2] bcast_S128_S1x1x128_2 g))

theorem unit_apply (x : FVec Ideal S8448x4x128 .f32) (g : S128.Idx → Elt Ideal .f32) (n : Fin 8448) (h : Fin 4) (j : Fin 128) :
    unit x g (ix3 n h j) = normed (fun k => x (ix3 n h k)) (fun k => g (ix1 k)) j := by
  unfold unit normed
  pointwise

/-- The latent's rows, -/
def latent (x : FVec Ideal S8448x4x128 .f32) : FVec Ideal S8192x4x128 .f32 := extractStridedSlice S8192x4x128 ![256, 0, 0] x slices_S8448x4x128_S8192x4x128_256_0_0

theorem latent_apply (x : FVec Ideal S8448x4x128 .f32) (n : Fin 8192) (h : Fin 4) (j : Fin 128) : latent x (ix3 n h j) = x (ix3 ⟨256 + n.val, by omega⟩ h j) := by
  unfold latent
  pointwise

/-- and the context's. -/
def context (x : FVec Ideal S8448x4x128 .f32) : FVec Ideal S256x4x128 .f32 := extractStridedSlice S256x4x128 ![0, 0, 0] x slices_S8448x4x128_S256x4x128_0_0_0

theorem context_apply (x : FVec Ideal S8448x4x128 .f32) (n : Fin 256) (h : Fin 4) (j : Fin 128) : context x (ix3 n h j) = x (ix3 ⟨n.val, by omega⟩ h j) := by
  unfold context
  pointwise

/-- The columns in pairs of 32. -/
def pairs (x : FVec Ideal S8192x4x128 .f32) : FVec Ideal S8192x4x2x2x32 .f32 := shapeCast S8192x4x2x2x32 x shapeCasts_S8192x4x128_S8192x4x2x2x32

/-- The second of each pair negated, then the first. -/
def swap (p : FVec Ideal S8192x4x2x2x32 .f32) : FVec Ideal S8192x4x2x2x32 .f32 :=
  concatenate S8192x4x2x2x32 3 [⟨S8192x4x2x1x32, Host.negf (extractStridedSlice S8192x4x2x1x32 ![0, 0, 0, 1, 0] p slices_S8192x4x2x2x32_S8192x4x2x1x32_0_0_0_1_0)⟩,
    ⟨S8192x4x2x1x32, extractStridedSlice S8192x4x2x1x32 ![0, 0, 0, 0, 0] p slices_S8192x4x2x2x32_S8192x4x2x1x32_0_0_0_0_0⟩]
    concatenates_S8192x4x2x1x32_S8192x4x2x1x32_S8192x4x2x2x32_d3

theorem pairs_apply (x : FVec Ideal S8192x4x128 .f32) (n : Fin 8192) (h : Fin 4) (a b : Fin 2) (c : Fin 32) :
    pairs x (ix5 n h a b c) = x (ix3 n h ⟨a.val * 64 + b.val * 32 + c.val, by omega⟩) := by
  unfold pairs
  pointwise

theorem swap_apply (p : FVec Ideal S8192x4x2x2x32 .f32) (n : Fin 8192) (h : Fin 4) (a b : Fin 2) (c : Fin 32) :
    swap p (ix5 n h a b c) = (if b.val < 1 then -p (ix5 n h a 1 c) else p (ix5 n h a 0 c) : EReal) := by
  unfold swap
  pointwise
  match b with
  | ⟨0, _⟩ => rfl
  | ⟨1, _⟩ => rfl

/-- The columns put back in a row. -/
def flat (p : FVec Ideal S8192x4x2x2x32 .f32) : FVec Ideal S8192x4x128 .f32 := shapeCast S8192x4x128 p shapeCasts_S8192x4x2x2x32_S8192x4x128

theorem flat_apply (p : FVec Ideal S8192x4x2x2x32 .f32) (n : Fin 8192) (h : Fin 4) (j : Fin 128) :
    flat p (ix3 n h j) = p (ix5 n h ⟨j.val / 64, by omega⟩ ⟨j.val / 32 % 2, by omega⟩ ⟨j.val % 32, by omega⟩) := by
  unfold flat
  pointwise

theorem turn_apply (x : FVec Ideal S8192x4x128 .f32) (n : Fin 8192) (h : Fin 4) (j : Fin 128) :
    flat (swap (pairs x)) (ix3 n h j) = (if j.val % 64 < 32 then -x (ix3 n h ⟨(j.val + 128 - 96) % 128, Nat.mod_lt _ (by decide)⟩)
      else x (ix3 n h ⟨(j.val + 128 - 32) % 128, Nat.mod_lt _ (by decide)⟩) : EReal) := by
  rw [flat_apply, swap_apply, pairs_apply, pairs_apply]
  by_cases hj : j.val % 64 < 32
  · rw [if_pos hj, if_pos (show j.val / 32 % 2 < 1 by omega)]
    refine congrArg (fun k : Fin 128 => (-x (ix3 n h k) : EReal)) (Fin.ext ?_)
    show j.val / 64 * 64 + 1 * 32 + j.val % 32 = (j.val + 128 - 96) % 128
    omega
  · rw [if_neg hj, if_neg (show ¬ j.val / 32 % 2 < 1 by omega)]
    refine congrArg (fun k : Fin 128 => x (ix3 n h k)) (Fin.ext ?_)
    show j.val / 64 * 64 + 0 * 32 + j.val % 32 = (j.val + 128 - 32) % 128
    omega

/-- The latent's rows, rotated by the angles. -/
def turn (x : FVec Ideal S8192x4x128 .f32) (θ : FVec Ideal S8192x128 .f32) : FVec Ideal S8192x4x128 .f32 :=
  addf (mulf x (broadcastInDim S8192x4x128 ![0, 1, 2] bcast_S8192x1x128_S8192x4x128_0_1_2 (broadcastInDim S8192x1x128 ![0, 2] bcast_S8192x128_S8192x1x128_0_2 (Host.cos θ))))
    (mulf (flat (swap (pairs x))) (broadcastInDim S8192x4x128 ![0, 1, 2] bcast_S8192x1x128_S8192x4x128_0_1_2 (broadcastInDim S8192x1x128 ![0, 2] bcast_S8192x128_S8192x1x128_0_2 (Host.sin θ))))

theorem sum_apply (x y : FVec Ideal S8192x4x128 .f32) (θ : FVec Ideal S8192x128 .f32) (n : Fin 8192) (h : Fin 4) (j : Fin 128) :
    addf (mulf x (broadcastInDim S8192x4x128 ![0, 1, 2] bcast_S8192x1x128_S8192x4x128_0_1_2 (broadcastInDim S8192x1x128 ![0, 2] bcast_S8192x128_S8192x1x128_0_2 (Host.cos θ))))
      (mulf y (broadcastInDim S8192x4x128 ![0, 1, 2] bcast_S8192x1x128_S8192x4x128_0_1_2 (broadcastInDim S8192x1x128 ![0, 2] bcast_S8192x128_S8192x1x128_0_2 (Host.sin θ)))) (ix3 n h j)
      = (x (ix3 n h j) * Ideal.cos (θ (ix2 n j)) + y (ix3 n h j) * Ideal.sin (θ (ix2 n j)) : EReal) := by
  pointwise

/-- The context's rows before the rotated ones. -/
def whole (x : FVec Ideal S256x4x128 .f32) (y : FVec Ideal S8192x4x128 .f32) : FVec Ideal S8448x4x128 .f32 :=
  concatenate S8448x4x128 0 [⟨S256x4x128, x⟩, ⟨S8192x4x128, y⟩] concatenates_S256x4x128_S8192x4x128_S8448x4x128_d0

theorem whole_apply (x : FVec Ideal S256x4x128 .f32) (y : FVec Ideal S8192x4x128 .f32) (n : Fin 8448) (h : Fin 4) (j : Fin 128) :
    whole x y (ix3 n h j) = if p : n.val < 256 then x (ix3 ⟨n.val, p⟩ h j) else y (ix3 ⟨n.val - 256, by omega⟩ h j) := by
  unfold whole
  pointwise

/-- The normed rows, rotated. -/
def rotation (x : FVec Ideal S8448x4x128 .f32) (θ : FVec Ideal S8192x128 .f32) : FVec Ideal S8448x4x128 .f32 := whole (context x) (turn (latent x) θ)

theorem rotation_apply (x : FVec Ideal S8448x4x128 .f32) (n : Fin 8448) (h : Fin 4) (j : Fin 128) :
    rotation x angles (ix3 n h j) = rotated (fun k => x (ix3 n h k)) n j := by
  unfold rotation rotated
  rw [whole_apply]
  by_cases p : n.val < 256
  · rw [dif_pos p, dif_pos p]
    exact context_apply _ _ _ _
  · rw [dif_neg p, dif_neg p]
    have en : ∀ q, (⟨256 + (n.val - 256), q⟩ : Fin 8448) = n := fun q => Fin.ext (by show 256 + (n.val - 256) = n.val; omega)
    have el : ∀ k : Fin 128, latent x (ix3 ⟨n.val - 256, by omega⟩ h k) = x (ix3 n h k) := fun k =>
      (latent_apply x _ h k).trans (congrArg (fun n => x (ix3 n h k)) (en _))
    unfold turn
    refine (sum_apply _ _ _ _ _ _).trans ?_
    rw [turn_apply, el, el, el]

/-- The rows side by side again. -/
def joined (x : FVec Ideal S8448x4x128 .f32) : FVec Ideal S8448x512 .bf16 := truncf .bf16 (shapeCast S8448x512 x shapeCasts_S8448x4x128_S8448x512) bitsLt_bf16_f32

theorem joined_apply (x : FVec Ideal S8448x4x128 .f32) (n : Fin 8448) (f : Fin 512) :
    joined x (ix2 n f) = x (ix3 n ⟨f.val / 128, by omega⟩ ⟨f.val % 128, by omega⟩) := by
  unfold joined
  pointwise

def result (u : S8448x5120.Idx → Elt Ideal .f32) (g : S128.Idx → Elt Ideal .f32) (θ : FVec Ideal S8192x128 .f32) : FVec Ideal S8448x512 .bf16 :=
  joined (rotation (unit (heads u) g) θ)

theorem result_apply (u : S8448x5120.Idx → Elt Ideal .f32) (g : S128.Idx → Elt Ideal .f32) (n : Fin 8448) (f : Fin 512) :
    result u g angles (ix2 n f) = key u g n f := by
  unfold result key
  rw [joined_apply, rotation_apply]
  simp only [unit_apply, heads_apply]

end Key

namespace Query

/-- The heads' columns of the projection, head by head. -/
def heads (u : S8448x5120.Idx → Elt Ideal .f32) : FVec Ideal S8448x16x128 .f32 :=
  shapeCast S8448x16x128 (extractStridedSlice S8448x2048 ![0, 0] u slices_S8448x5120_S8448x2048_0_0) shapeCasts_S8448x2048_S8448x16x128

theorem heads_apply (u : S8448x5120.Idx → Elt Ideal .f32) (n : Fin 8448) (h : Fin 16) (j : Fin 128) :
    heads u (ix3 n h j) = u (ix2 n ⟨0 + (h.val * 128 + j.val), by omega⟩) := by
  unfold heads
  pointwise

/-- Their norm. -/
def unit (x : FVec Ideal S8448x16x128 .f32) (g : S128.Idx → Elt Ideal .f32) : FVec Ideal S8448x16x128 .f32 :=
  mulf (mulf x (broadcastInDim S8448x16x128 ![0, 1, 2] bcast_S8448x16x1_S8448x16x128_0_1_2 (Host.rsqrt (addf (Host.divf (broadcastInDim S8448x16x1 ![0, 1] bcast_S8448x16_S8448x16x1_0_1
      (Host.reduceAdd (mulf x x) (constant S_ .f32 0x00000000#32) reducesTo_S8448x16x128_S8448x16_d2 h_S_)) (broadcastInDim S8448x16x1 ![] bcast_S_S8448x16x1 (constant S_ .f32 0x43000000#32)))
      (broadcastInDim S8448x16x1 ![] bcast_S_S8448x16x1 (constant S_ .f32 0x358637BD#32))))))
    (broadcastInDim S8448x16x128 ![0, 1, 2] bcast_S1x1x128_S8448x16x128_0_1_2 (broadcastInDim S1x1x128 ![2] bcast_S128_S1x1x128_2 g))

theorem unit_apply (x : FVec Ideal S8448x16x128 .f32) (g : S128.Idx → Elt Ideal .f32) (n : Fin 8448) (h : Fin 16) (j : Fin 128) :
    unit x g (ix3 n h j) = normed (fun k => x (ix3 n h k)) (fun k => g (ix1 k)) j := by
  unfold unit normed
  pointwise

/-- The latent's rows, -/
def latent (x : FVec Ideal S8448x16x128 .f32) : FVec Ideal S8192x16x128 .f32 := extractStridedSlice S8192x16x128 ![256, 0, 0] x slices_S8448x16x128_S8192x16x128_256_0_0

theorem latent_apply (x : FVec Ideal S8448x16x128 .f32) (n : Fin 8192) (h : Fin 16) (j : Fin 128) : latent x (ix3 n h j) = x (ix3 ⟨256 + n.val, by omega⟩ h j) := by
  unfold latent
  pointwise

/-- and the context's. -/
def context (x : FVec Ideal S8448x16x128 .f32) : FVec Ideal S256x16x128 .f32 := extractStridedSlice S256x16x128 ![0, 0, 0] x slices_S8448x16x128_S256x16x128_0_0_0

theorem context_apply (x : FVec Ideal S8448x16x128 .f32) (n : Fin 256) (h : Fin 16) (j : Fin 128) : context x (ix3 n h j) = x (ix3 ⟨n.val, by omega⟩ h j) := by
  unfold context
  pointwise

/-- The columns in pairs of 32. -/
def pairs (x : FVec Ideal S8192x16x128 .f32) : FVec Ideal S8192x16x2x2x32 .f32 := shapeCast S8192x16x2x2x32 x shapeCasts_S8192x16x128_S8192x16x2x2x32

/-- The second of each pair negated, then the first. -/
def swap (p : FVec Ideal S8192x16x2x2x32 .f32) : FVec Ideal S8192x16x2x2x32 .f32 :=
  concatenate S8192x16x2x2x32 3 [⟨S8192x16x2x1x32, Host.negf (extractStridedSlice S8192x16x2x1x32 ![0, 0, 0, 1, 0] p slices_S8192x16x2x2x32_S8192x16x2x1x32_0_0_0_1_0)⟩,
    ⟨S8192x16x2x1x32, extractStridedSlice S8192x16x2x1x32 ![0, 0, 0, 0, 0] p slices_S8192x16x2x2x32_S8192x16x2x1x32_0_0_0_0_0⟩]
    concatenates_S8192x16x2x1x32_S8192x16x2x1x32_S8192x16x2x2x32_d3

theorem pairs_apply (x : FVec Ideal S8192x16x128 .f32) (n : Fin 8192) (h : Fin 16) (a b : Fin 2) (c : Fin 32) :
    pairs x (ix5 n h a b c) = x (ix3 n h ⟨a.val * 64 + b.val * 32 + c.val, by omega⟩) := by
  unfold pairs
  pointwise

theorem swap_apply (p : FVec Ideal S8192x16x2x2x32 .f32) (n : Fin 8192) (h : Fin 16) (a b : Fin 2) (c : Fin 32) :
    swap p (ix5 n h a b c) = (if b.val < 1 then -p (ix5 n h a 1 c) else p (ix5 n h a 0 c) : EReal) := by
  unfold swap
  pointwise
  match b with
  | ⟨0, _⟩ => rfl
  | ⟨1, _⟩ => rfl

/-- The columns put back in a row. -/
def flat (p : FVec Ideal S8192x16x2x2x32 .f32) : FVec Ideal S8192x16x128 .f32 := shapeCast S8192x16x128 p shapeCasts_S8192x16x2x2x32_S8192x16x128

theorem flat_apply (p : FVec Ideal S8192x16x2x2x32 .f32) (n : Fin 8192) (h : Fin 16) (j : Fin 128) :
    flat p (ix3 n h j) = p (ix5 n h ⟨j.val / 64, by omega⟩ ⟨j.val / 32 % 2, by omega⟩ ⟨j.val % 32, by omega⟩) := by
  unfold flat
  pointwise

theorem turn_apply (x : FVec Ideal S8192x16x128 .f32) (n : Fin 8192) (h : Fin 16) (j : Fin 128) :
    flat (swap (pairs x)) (ix3 n h j) = (if j.val % 64 < 32 then -x (ix3 n h ⟨(j.val + 128 - 96) % 128, Nat.mod_lt _ (by decide)⟩)
      else x (ix3 n h ⟨(j.val + 128 - 32) % 128, Nat.mod_lt _ (by decide)⟩) : EReal) := by
  rw [flat_apply, swap_apply, pairs_apply, pairs_apply]
  by_cases hj : j.val % 64 < 32
  · rw [if_pos hj, if_pos (show j.val / 32 % 2 < 1 by omega)]
    refine congrArg (fun k : Fin 128 => (-x (ix3 n h k) : EReal)) (Fin.ext ?_)
    show j.val / 64 * 64 + 1 * 32 + j.val % 32 = (j.val + 128 - 96) % 128
    omega
  · rw [if_neg hj, if_neg (show ¬ j.val / 32 % 2 < 1 by omega)]
    refine congrArg (fun k : Fin 128 => x (ix3 n h k)) (Fin.ext ?_)
    show j.val / 64 * 64 + 0 * 32 + j.val % 32 = (j.val + 128 - 32) % 128
    omega

/-- The latent's rows, rotated by the angles. -/
def turn (x : FVec Ideal S8192x16x128 .f32) (θ : FVec Ideal S8192x128 .f32) : FVec Ideal S8192x16x128 .f32 :=
  addf (mulf x (broadcastInDim S8192x16x128 ![0, 1, 2] bcast_S8192x1x128_S8192x16x128_0_1_2 (broadcastInDim S8192x1x128 ![0, 2] bcast_S8192x128_S8192x1x128_0_2 (Host.cos θ))))
    (mulf (flat (swap (pairs x))) (broadcastInDim S8192x16x128 ![0, 1, 2] bcast_S8192x1x128_S8192x16x128_0_1_2 (broadcastInDim S8192x1x128 ![0, 2] bcast_S8192x128_S8192x1x128_0_2 (Host.sin θ))))

theorem sum_apply (x y : FVec Ideal S8192x16x128 .f32) (θ : FVec Ideal S8192x128 .f32) (n : Fin 8192) (h : Fin 16) (j : Fin 128) :
    addf (mulf x (broadcastInDim S8192x16x128 ![0, 1, 2] bcast_S8192x1x128_S8192x16x128_0_1_2 (broadcastInDim S8192x1x128 ![0, 2] bcast_S8192x128_S8192x1x128_0_2 (Host.cos θ))))
      (mulf y (broadcastInDim S8192x16x128 ![0, 1, 2] bcast_S8192x1x128_S8192x16x128_0_1_2 (broadcastInDim S8192x1x128 ![0, 2] bcast_S8192x128_S8192x1x128_0_2 (Host.sin θ)))) (ix3 n h j)
      = (x (ix3 n h j) * Ideal.cos (θ (ix2 n j)) + y (ix3 n h j) * Ideal.sin (θ (ix2 n j)) : EReal) := by
  pointwise

/-- The context's rows before the rotated ones. -/
def whole (x : FVec Ideal S256x16x128 .f32) (y : FVec Ideal S8192x16x128 .f32) : FVec Ideal S8448x16x128 .f32 :=
  concatenate S8448x16x128 0 [⟨S256x16x128, x⟩, ⟨S8192x16x128, y⟩] concatenates_S256x16x128_S8192x16x128_S8448x16x128_d0

theorem whole_apply (x : FVec Ideal S256x16x128 .f32) (y : FVec Ideal S8192x16x128 .f32) (n : Fin 8448) (h : Fin 16) (j : Fin 128) :
    whole x y (ix3 n h j) = if p : n.val < 256 then x (ix3 ⟨n.val, p⟩ h j) else y (ix3 ⟨n.val - 256, by omega⟩ h j) := by
  unfold whole
  pointwise

/-- The normed rows, rotated. -/
def rotation (x : FVec Ideal S8448x16x128 .f32) (θ : FVec Ideal S8192x128 .f32) : FVec Ideal S8448x16x128 .f32 := whole (context x) (turn (latent x) θ)

theorem rotation_apply (x : FVec Ideal S8448x16x128 .f32) (n : Fin 8448) (h : Fin 16) (j : Fin 128) :
    rotation x angles (ix3 n h j) = rotated (fun k => x (ix3 n h k)) n j := by
  unfold rotation rotated
  rw [whole_apply]
  by_cases p : n.val < 256
  · rw [dif_pos p, dif_pos p]
    exact context_apply _ _ _ _
  · rw [dif_neg p, dif_neg p]
    have en : ∀ q, (⟨256 + (n.val - 256), q⟩ : Fin 8448) = n := fun q => Fin.ext (by show 256 + (n.val - 256) = n.val; omega)
    have el : ∀ k : Fin 128, latent x (ix3 ⟨n.val - 256, by omega⟩ h k) = x (ix3 n h k) := fun k =>
      (latent_apply x _ h k).trans (congrArg (fun n => x (ix3 n h k)) (en _))
    unfold turn
    refine (sum_apply _ _ _ _ _ _).trans ?_
    rw [turn_apply, el, el, el]

/-- The rows side by side again, over the root of the head's width. -/
def joined (x : FVec Ideal S8448x16x128 .f32) : FVec Ideal S8448x2048 .bf16 :=
  truncf .bf16 (shapeCast S8448x2048 (mulf x (broadcastInDim S8448x16x128 ![] bcast_S_S8448x16x128 (constant S_ .f32 0x3DB504F3#32))) shapeCasts_S8448x16x128_S8448x2048) bitsLt_bf16_f32

theorem joined_apply (x : FVec Ideal S8448x16x128 .f32) (n : Fin 8448) (f : Fin 2048) :
    joined x (ix2 n f) = (x (ix3 n ⟨f.val / 128, by omega⟩ ⟨f.val % 128, by omega⟩) * Ideal.ofBits .f32 0x3DB504F3#32 : EReal) := by
  unfold joined
  pointwise

def result (u : S8448x5120.Idx → Elt Ideal .f32) (g : S128.Idx → Elt Ideal .f32) (θ : FVec Ideal S8192x128 .f32) : FVec Ideal S8448x2048 .bf16 :=
  joined (rotation (unit (heads u) g) θ)

theorem result_apply (u : S8448x5120.Idx → Elt Ideal .f32) (g : S128.Idx → Elt Ideal .f32) (n : Fin 8448) (f : Fin 2048) :
    result u g angles (ix2 n f) = query u g n f := by
  unfold result query
  rw [joined_apply, rotation_apply]
  simp only [unit_apply, heads_apply, Nat.zero_add]

end Query

theorem value_result_apply (u : S8448x5120.Idx → Elt Ideal .f32) (n : Fin 8448) (f : Fin 512) :
    (truncf .bf16 (extractStridedSlice S8448x512 ![0, 2560] u slices_S8448x5120_S8448x512_0_2560) bitsLt_bf16_f32 : FVec Ideal S8448x512 .bf16) (ix2 n f) = value u n f := by
  unfold value
  pointwise

end Cert.Qkv.Reference

end
-- ==== Proof.Qkv.Algebraic.lean ====
/- The queries', keys' and values' call and its reference leave equal extended reals; the frames of both. -/
module

public import proofs.«01_k».proof.Defs
public import proofs.«01_k».proof.Proof.Qkv.Reference
public import proofs.«01_k».proof.Proof.Gen.Kernel10
public import Idealize.ShloMosaic.Lib.Quiescent
public import Idealize.ShloMosaic.Adequacy
public import Idealize.ShloMosaic.Init

@[expose] public section

set_option maxRecDepth 16384

noncomputable section

namespace Cert.Qkv

open Idealize.ShloMosaic Idealize.SL.Sem

namespace Reference

open Cert.Reference10Ideal Cert.Reference10Ideal.Gen

section
variable (m : (ℓ : Loc nD τ sig) → Buf (Elt Ideal) ℓ) (c : Dev nD)

theorem query_result : Value.res_main_v89 (F := Ideal) m c
    = Query.result (m ((c.tc : Thread nD τ).loc main_arg0)) (m ((c.tc : Thread nD τ).loc main_arg1)) angles := by
  unfold Value.res_main_v89
  rfl

theorem key_result : Value.res_main_v91 (F := Ideal) m c
    = Key.result (m ((c.tc : Thread nD τ).loc main_arg0)) (m ((c.tc : Thread nD τ).loc main_arg2)) angles := by
  unfold Value.res_main_v91
  rfl

end

theorem queries (u : S8448x5120.Idx → Elt Ideal .f32) (g : S128.Idx → Elt Ideal .f32) (i : S8448x2048.Idx) : Query.result u g angles i = query u g (i 0) (i 1) :=
  (congrArg (Query.result u g angles) (show i = ix2 (i 0) (i 1) from funext fun a => by match a with | ⟨0, _⟩ => rfl | ⟨1, _⟩ => rfl)).trans (Query.result_apply u g (i 0) (i 1))

theorem keys (u : S8448x5120.Idx → Elt Ideal .f32) (g : S128.Idx → Elt Ideal .f32) (i : S8448x512.Idx) : Key.result u g angles i = key u g (i 0) (i 1) :=
  (congrArg (Key.result u g angles) (show i = ix2 (i 0) (i 1) from funext fun a => by match a with | ⟨0, _⟩ => rfl | ⟨1, _⟩ => rfl)).trans (Key.result_apply u g (i 0) (i 1))

theorem values (u : S8448x5120.Idx → Elt Ideal .f32) (i : S8448x512.Idx) :
    (truncf .bf16 (extractStridedSlice S8448x512 ![0, 2560] u slices_S8448x5120_S8448x512_0_2560) bitsLt_bf16_f32 : FVec Ideal S8448x512 .bf16) i = value u (i 0) (i 1) :=
  (congrArg (truncf .bf16 (extractStridedSlice S8448x512 ![0, 2560] u slices_S8448x5120_S8448x512_0_2560) bitsLt_bf16_f32 : FVec Ideal S8448x512 .bf16)
    (show i = ix2 (i 0) (i 1) from funext fun a => by match a with | ⟨0, _⟩ => rfl | ⟨1, _⟩ => rfl)).trans (value_result_apply u (i 0) (i 1))

end Reference

/-- `Cert.algebraic_Kernel10Ideal_Reference10Ideal`: both hold the queries, the keys and the values. -/
theorem algebraic : Cert.algebraic_Kernel10Ideal_Reference10Ideal := by
  intro m ρ m' ρ' _ hagree
  refine ⟨fun c i => query (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (i 0) (i 1), fun c i => key (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)) (i 0) (i 1), fun c i => value (m ((c.tc : Thread Cert.Kernel10Ideal.nD Cert.Kernel10Ideal.τ).loc Cert.Kernel10Ideal.main_arg0)) (i 0) (i 1), ?_, ?_⟩
  · exact (θ_run Cert.Kernel10Ideal.defs _ _).mono (fun r h c => ⟨(h c).1.trans (funext (query_value m c)), (h c).2.1.trans (funext (key_value m c)),
      (h c).2.2.1.trans (funext (value_value m c)), (h c).2.2.2⟩) (Cert.Kernel10Ideal.Value.run_blocks (F := Ideal) m ρ)
  · refine (θ_run Cert.Reference10Ideal.defs _ _).mono (fun r h c => ?_) (Cert.Reference10Ideal.Value.run (F := Ideal) m' ρ')
    obtain ⟨e0, e1, e2⟩ := hagree c
    refine ⟨(h c).1.trans ((Reference.query_result m' c).trans (funext fun i => ?_)), (h c).2.1.trans ((Reference.key_result m' c).trans (funext fun i => ?_)),
      (h c).2.2.1.trans (funext fun i => ?_), (h c).2.2.2⟩
    · rw [e0, e1]
      exact Reference.queries _ _ i
    · rw [e0, e2]
      exact Reference.keys _ _ i
    · rw [e0]
      exact Reference.values _ i

/-- The call's frame at the ideal instance. -/
theorem frame_ideal : Cert.quiescent_Kernel10Ideal := fun m ρ _ => Cert.Kernel10Ideal.Gen.frame (F := Ideal) m ρ

set_option maxHeartbeats 8000000 in
/-- The kernels' bodies of the two printings are one program, label by label. -/
theorem bodies {F : FTy → Type} [FloatOps F] : @Cert.Kernel10.defs₀ F _ _ = @Cert.Kernel10Ideal.defs₀ F _ _ := by
  refine congrArg (Defs.onTc (nD := Cert.Kernel10.nD) (τ := Cert.Kernel10.τ) (sig := Cert.Kernel10.sig) (Val := Elt F) (Λ := Cert.Kernel10.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel10.defs F _ _ = @Cert.Kernel10Ideal.defs F _ _ :=
  congrArg (Pipeline.defs Cert.Kernel10.pcfgs) bodies

set_option maxHeartbeats 8000000 in
/-- The call's frame at the bit-exact instance: the same run, the two programs being one text. -/
theorem frame_bits : Cert.quiescent_Kernel10 := by
  intro m ρ _
  rw [defs_eq]
  exact Cert.Kernel10Ideal.Gen.frame (F := Bits) m ρ

/-- The reference's frame: it has no counters. -/
theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

end Cert.Qkv

end
-- ==== Proof.S5.Terms.lean ====
/- What a chunk of the scan's input adds to a group's state, as the call's body computes it. -/
module

public import proofs.«01_k».proof.Proof.Gen.Kernel11Ideal.Skeleton
public import Idealize.ShloMosaic.Lib.Pointwise

@[expose] public section

set_option maxRecDepth 16384

noncomputable section

namespace Cert.S5

open Cert.Kernel11Ideal Cert.Kernel11Ideal.Gen
open Idealize.ShloMosaic

/-- The hold's gain, from a rate and the logarithm of the step, real and imaginary. -/
def gainRe (a b d : EReal) : EReal :=
  Ideal.div ((Ideal.exp (a * Ideal.exp d) * Ideal.cos (b * Ideal.exp d) - 1) * a + Ideal.exp (a * Ideal.exp d) * Ideal.sin (b * Ideal.exp d) * b) (a * a + b * b)
def gainIm (a b d : EReal) : EReal :=
  Ideal.div (Ideal.exp (a * Ideal.exp d) * Ideal.sin (b * Ideal.exp d) * a - (Ideal.exp (a * Ideal.exp d) * Ideal.cos (b * Ideal.exp d) - 1) * b) (a * a + b * b)

/-- A channel's drive: its input weight times the gain. -/
def driveRe (a b d x y : EReal) : EReal := gainRe a b d * x - gainIm a b d * y
def driveIm (a b d x y : EReal) : EReal := gainRe a b d * y + gainIm a b d * x

/-- The decay over `k` steps. -/
def decayRe (k a b d : EReal) : EReal := Ideal.exp (k * (a * Ideal.exp d)) * Ideal.cos (k * (b * Ideal.exp d))
def decayIm (k a b d : EReal) : EReal := Ideal.exp (k * (a * Ideal.exp d)) * Ideal.sin (k * (b * Ideal.exp d))

/-- The weight of an input `k` steps before. -/
def weightRe (k a b d x y : EReal) : EReal := driveRe a b d x y * decayRe k a b d - driveIm a b d x y * decayIm k a b d
def weightIm (k a b d x y : EReal) : EReal := driveRe a b d x y * decayIm k a b d + driveIm a b d x y * decayRe k a b d

/-- A step's number. -/
def step (t : Fin 32) : EReal := FloatOps.sitofp (F := Ideal) FTy.f32 (BitVec.ofNat 32 t.val)

theorem before_apply (t : Fin 32) : k0_pay4 (F := Ideal) (ix2 t 0) = (Ideal.ofBits .f32 0x41F80000#32 - step t : EReal) := by
  unfold k0_pay4 k0_pay3 step
  pointwise

theorem after_apply (t : Fin 32) : k0_pay3 (F := Ideal) (ix2 t 0) = step t := by
  unfold k0_pay3 step
  pointwise

theorem input_apply (x : S1x264x512.Idx → Elt Ideal .f32) (r : Fin 264) (n : Fin 512) : k0_pay2 (F := Ideal) x (ix2 r n) = x (ix3 0 r n) := by
  unfold k0_pay2
  pointwise

/-- A step's values on all its channels, and a channel's on all steps. -/
def ofSteps (w : FVec Ideal S32x64 .f32) : FVec Ideal S512x64 .f32 :=
  shapeCast S512x64 (broadcastTo S32x16x64 (shapeCast S32x1x64 (shapeCast S32x1x64 w shapeCasts_S32x64_S32x1x64) shapeCasts_S32x1x64_S32x1x64) broadcasts_S32x1x64_S32x16x64) shapeCasts_S32x16x64_S512x64
def ofChannels (w : FVec Ideal S16x64 .f32) : FVec Ideal S512x64 .f32 :=
  shapeCast S512x64 (broadcastTo S32x16x64 (shapeCast S1x16x64 (shapeCast S1x16x64 w shapeCasts_S16x64_S1x16x64) shapeCasts_S1x16x64_S1x16x64) broadcasts_S1x16x64_S32x16x64) shapeCasts_S32x16x64_S512x64

theorem ofSteps_apply (w : FVec Ideal S32x64 .f32) (n : Fin 512) (j : Fin 64) : ofSteps w (ix2 n j) = w (ix2 ⟨n.val / 16, by omega⟩ j) := by
  unfold ofSteps
  pointwise

theorem ofChannels_apply (w : FVec Ideal S16x64 .f32) (n : Fin 512) (j : Fin 64) : ofChannels w (ix2 n j) = w (ix2 ⟨n.val % 16, by omega⟩ j) := by
  unfold ofChannels
  pointwise

/-- The weights' product with the chunk's inputs. -/
def product (u : FVec Ideal S264x512 .bf16) (p q : FVec Ideal S512x64 .f32) : FVec Ideal S264x128 .f32 :=
  matmul dot_S264x512_S512x128_S264x128_1_0_0_1_n_n none u (truncf .bf16 (concatenate S512x128 1 [⟨S512x64, p⟩, ⟨S512x64, q⟩] concatenates_S512x64_S512x64_S512x128_d1) bitsLt_bf16_f32) (constant S264x128 .f32 0x00000000#32)

theorem product_re (u : FVec Ideal S264x512 .bf16) (p q : FVec Ideal S512x64 .f32) (r : Fin 264) (j : Fin 64) :
    product u p q (ix2 r (⟨j.val, by omega⟩ : Fin 128)) = ∑ n : Fin 512, u (ix2 r n) * p (ix2 n j) := by
  unfold product
  pointwise

theorem product_im (u : FVec Ideal S264x512 .bf16) (p q : FVec Ideal S512x64 .f32) (r : Fin 264) (j : Fin 64) :
    product u p q (ix2 r (⟨64 + j.val, by omega⟩ : Fin 128)) = ∑ n : Fin 512, u (ix2 r n) * q (ix2 n j) := by
  unfold product
  pointwise

section
variable (u : FVec Ideal S264x512 .bf16) (k : FVec Ideal S32x1 .f32) (a b d : S1x1x1x64.Idx → Elt Ideal .f32) (x y : S1x1x16x64.Idx → Elt Ideal .f32)

def gainReV : FVec Ideal S1x64 .f32 := divf (k0_pay14 a b d) (k0_pay12 a b)
def gainImV : FVec Ideal S1x64 .f32 := divf (subf (mulf (k0_pay11 a b d) (k0_pay5 a)) (mulf (k0_pay13 a b d) (k0_pay6 b))) (k0_pay12 a b)
def driveReV : FVec Ideal S16x64 .f32 := subf (mulf (broadcastTo S16x64 (gainReV a b d) broadcasts_S1x64_S16x64) (k0_pay8 x)) (mulf (broadcastTo S16x64 (gainImV a b d) broadcasts_S1x64_S16x64) (k0_pay9 y))
def driveImV : FVec Ideal S16x64 .f32 := addf (mulf (broadcastTo S16x64 (gainReV a b d) broadcasts_S1x64_S16x64) (k0_pay9 y)) (mulf (broadcastTo S16x64 (gainImV a b d) broadcasts_S1x64_S16x64) (k0_pay8 x))
def magnitudeV : FVec Ideal S32x64 .f32 := exp (mulf (broadcastTo S32x64 k broadcasts_S32x1_S32x64) (broadcastTo S32x64 (mulf (k0_pay5 a) (k0_pay7 d)) broadcasts_S1x64_S32x64))
def phaseV : FVec Ideal S32x64 .f32 := mulf (broadcastTo S32x64 k broadcasts_S32x1_S32x64) (broadcastTo S32x64 (mulf (k0_pay6 b) (k0_pay7 d)) broadcasts_S1x64_S32x64)
def decayReV : FVec Ideal S32x64 .f32 := mulf (magnitudeV k a d) (cos (phaseV k b d))
def decayImV : FVec Ideal S32x64 .f32 := mulf (magnitudeV k a d) (sin (phaseV k b d))
def weightReV : FVec Ideal S512x64 .f32 := subf (mulf (ofChannels (driveReV a b d x y)) (ofSteps (decayReV k a b d))) (mulf (ofChannels (driveImV a b d x y)) (ofSteps (decayImV k a b d)))
def weightImV : FVec Ideal S512x64 .f32 := addf (mulf (ofChannels (driveReV a b d x y)) (ofSteps (decayImV k a b d))) (mulf (ofChannels (driveImV a b d x y)) (ofSteps (decayReV k a b d)))

theorem gainReV_apply (j : Fin 64) : gainReV a b d (ix2 0 j) = gainRe (a (ix4 0 0 0 j)) (b (ix4 0 0 0 j)) (d (ix4 0 0 0 j)) := by
  unfold gainReV gainRe k0_pay14 k0_pay13 k0_pay12 k0_pay11 k0_pay10 k0_pay7 k0_pay6 k0_pay5
  pointwise

theorem gainImV_apply (j : Fin 64) : gainImV a b d (ix2 0 j) = gainIm (a (ix4 0 0 0 j)) (b (ix4 0 0 0 j)) (d (ix4 0 0 0 j)) := by
  unfold gainImV gainIm k0_pay13 k0_pay12 k0_pay11 k0_pay10 k0_pay7 k0_pay6 k0_pay5
  pointwise

theorem driveReV_apply (h : Fin 16) (j : Fin 64) : driveReV a b d x y (ix2 h j) = driveRe (a (ix4 0 0 0 j)) (b (ix4 0 0 0 j)) (d (ix4 0 0 0 j)) (x (ix4 0 0 h j)) (y (ix4 0 0 h j)) := by
  unfold driveRe
  rw [← gainReV_apply, ← gainImV_apply]
  unfold driveReV k0_pay8 k0_pay9
  pointwise

theorem driveImV_apply (h : Fin 16) (j : Fin 64) : driveImV a b d x y (ix2 h j) = driveIm (a (ix4 0 0 0 j)) (b (ix4 0 0 0 j)) (d (ix4 0 0 0 j)) (x (ix4 0 0 h j)) (y (ix4 0 0 h j)) := by
  unfold driveIm
  rw [← gainReV_apply, ← gainImV_apply]
  unfold driveImV k0_pay8 k0_pay9
  pointwise

theorem decayReV_apply (t : Fin 32) (j : Fin 64) : decayReV k a b d (ix2 t j) = decayRe (k (ix2 t 0)) (a (ix4 0 0 0 j)) (b (ix4 0 0 0 j)) (d (ix4 0 0 0 j)) := by
  unfold decayReV magnitudeV phaseV decayRe k0_pay7 k0_pay6 k0_pay5
  pointwise

theorem decayImV_apply (t : Fin 32) (j : Fin 64) : decayImV k a b d (ix2 t j) = decayIm (k (ix2 t 0)) (a (ix4 0 0 0 j)) (b (ix4 0 0 0 j)) (d (ix4 0 0 0 j)) := by
  unfold decayImV magnitudeV phaseV decayIm k0_pay7 k0_pay6 k0_pay5
  pointwise

theorem weightReV_apply (n : Fin 512) (j : Fin 64) : weightReV k a b d x y (ix2 n j) = weightRe (k (ix2 ⟨n.val / 16, by omega⟩ 0)) (a (ix4 0 0 0 j)) (b (ix4 0 0 0 j)) (d (ix4 0 0 0 j))
    (x (ix4 0 0 ⟨n.val % 16, by omega⟩ j)) (y (ix4 0 0 ⟨n.val % 16, by omega⟩ j)) := by
  show ofChannels (driveReV a b d x y) (ix2 n j) * ofSteps (decayReV k a b d) (ix2 n j) - ofChannels (driveImV a b d x y) (ix2 n j) * ofSteps (decayImV k a b d) (ix2 n j) = _
  rw [ofChannels_apply, ofChannels_apply, ofSteps_apply, ofSteps_apply, driveReV_apply, driveImV_apply, decayReV_apply, decayImV_apply]
  rfl

theorem weightImV_apply (n : Fin 512) (j : Fin 64) : weightImV k a b d x y (ix2 n j) = weightIm (k (ix2 ⟨n.val / 16, by omega⟩ 0)) (a (ix4 0 0 0 j)) (b (ix4 0 0 0 j)) (d (ix4 0 0 0 j))
    (x (ix4 0 0 ⟨n.val % 16, by omega⟩ j)) (y (ix4 0 0 ⟨n.val % 16, by omega⟩ j)) := by
  show ofChannels (driveReV a b d x y) (ix2 n j) * ofSteps (decayImV k a b d) (ix2 n j) + ofChannels (driveImV a b d x y) (ix2 n j) * ofSteps (decayReV k a b d) (ix2 n j) = _
  rw [ofChannels_apply, ofChannels_apply, ofSteps_apply, ofSteps_apply, driveReV_apply, driveImV_apply, decayReV_apply, decayImV_apply]
  rfl

/-- A direction's states. -/
def states : FVec Ideal S264x128 .f32 := product u (weightReV k a b d x y) (weightImV k a b d x y)

theorem forward_eq : k0_pay15 (F := Ideal) u k (k0_pay5 a) (k0_pay6 b) (k0_pay7 d) (k0_pay8 x) (k0_pay9 y) (k0_pay11 a b d) (k0_pay12 a b) (k0_pay13 a b d) (k0_pay14 a b d)
    = states u k a b d x y := rfl

theorem backward_eq : k0_pay1 (F := Ideal) u k (k0_pay16 a) (k0_pay17 b) (k0_pay18 d) (k0_pay27 a b d x y) (k0_pay28 a b d y) (k0_pay29 a b d x)
    = states u k a b d x y := rfl

theorem states_re (r : Fin 264) (j : Fin 64) : states u k a b d x y (ix2 r (⟨j.val, by omega⟩ : Fin 128))
    = ∑ n : Fin 512, u (ix2 r n) * weightRe (k (ix2 ⟨n.val / 16, by omega⟩ 0)) (a (ix4 0 0 0 j)) (b (ix4 0 0 0 j)) (d (ix4 0 0 0 j))
        (x (ix4 0 0 ⟨n.val % 16, by omega⟩ j)) (y (ix4 0 0 ⟨n.val % 16, by omega⟩ j)) :=
  (product_re u _ _ r j).trans (Finset.sum_congr rfl fun n _ => congrArg (u (ix2 r n) * ·) (weightReV_apply k a b d x y n j))

theorem states_im (r : Fin 264) (j : Fin 64) : states u k a b d x y (ix2 r (⟨64 + j.val, by omega⟩ : Fin 128))
    = ∑ n : Fin 512, u (ix2 r n) * weightIm (k (ix2 ⟨n.val / 16, by omega⟩ 0)) (a (ix4 0 0 0 j)) (b (ix4 0 0 0 j)) (d (ix4 0 0 0 j))
        (x (ix4 0 0 ⟨n.val % 16, by omega⟩ j)) (y (ix4 0 0 ⟨n.val % 16, by omega⟩ j)) :=
  (product_im u _ _ r j).trans (Finset.sum_congr rfl fun n _ => congrArg (u (ix2 r n) * ·) (weightImV_apply k a b d x y n j))

end

end Cert.S5

end
-- ==== Proof.S5.Value.lean ====
/- What the chunk states' call computes, at every element of its two results. -/
module

public import proofs.«01_k».proof.Proof.S5.Terms
public import proofs.«01_k».proof.Proof.Gen.Kernel11Ideal.Value
public import Idealize.ShloMosaic.Lib.Pipeline.Value
public import Idealize.ShloMosaic.Lib.Pointwise

@[expose] public section

set_option maxRecDepth 65536

noncomputable section

namespace Cert.S5

open Cert.Kernel11Ideal Cert.Kernel11Ideal.Gen Cert.Kernel11Ideal.Value
open Idealize.ShloMosaic Idealize.ShloMosaic.TcCoe Idealize.ShloMosaic.Tactic

/-- A chunk's contribution to a group's state, over the chunk's steps and the group's channels, real and imaginary. -/
def stateRe (s : S8448x1024.Idx → EReal) (a b : S2x64x64.Idx → EReal) (d : S2x64.Idx → EReal) (x y : S2x64x64x16.Idx → EReal) (e : Fin 2) (k : Fin 32 → EReal) (r : Fin 264) (g j : Fin 64) : EReal :=
  ∑ n : Fin 512, s (ix2 ⟨r.val * 32 + n.val / 16, by omega⟩ ⟨g.val * 16 + n.val % 16, by omega⟩)
    * weightRe (k ⟨n.val / 16, by omega⟩) (a (ix3 e g j)) (b (ix3 e g j)) (d (ix2 e g)) (x (ix4 e g j ⟨n.val % 16, by omega⟩)) (y (ix4 e g j ⟨n.val % 16, by omega⟩))
def stateIm (s : S8448x1024.Idx → EReal) (a b : S2x64x64.Idx → EReal) (d : S2x64.Idx → EReal) (x y : S2x64x64x16.Idx → EReal) (e : Fin 2) (k : Fin 32 → EReal) (r : Fin 264) (g j : Fin 64) : EReal :=
  ∑ n : Fin 512, s (ix2 ⟨r.val * 32 + n.val / 16, by omega⟩ ⟨g.val * 16 + n.val % 16, by omega⟩)
    * weightIm (k ⟨n.val / 16, by omega⟩) (a (ix3 e g j)) (b (ix3 e g j)) (d (ix2 e g)) (x (ix4 e g j ⟨n.val % 16, by omega⟩)) (y (ix4 e g j ⟨n.val % 16, by omega⟩))

/-- The steps from an input to its chunk's end, and from its chunk's start. -/
def before (t : Fin 32) : EReal := Ideal.ofBits .f32 0x41F80000#32 - step t

/-- Two arrays of states are equal when their real and imaginary lanes are. -/
theorem states_ext (v w : S264x8192.Idx → EReal)
    (h0 : ∀ (r : Fin 264) (g j : Fin 64), v (ix2 r ⟨g.val * 128 + (⟨j.val, by omega⟩ : Fin 128).val, by omega⟩) = w (ix2 r ⟨g.val * 128 + (⟨j.val, by omega⟩ : Fin 128).val, by omega⟩))
    (h1 : ∀ (r : Fin 264) (g j : Fin 64), v (ix2 r ⟨g.val * 128 + (⟨64 + j.val, by omega⟩ : Fin 128).val, by omega⟩) = w (ix2 r ⟨g.val * 128 + (⟨64 + j.val, by omega⟩ : Fin 128).val, by omega⟩)) : v = w := by
  funext i
  have hi : (i 1).val < 8192 := (i 1).isLt
  by_cases h : (i 1).val % 128 < 64
  · have e : i = ix2 (i 0) (⟨(⟨(i 1).val / 128, by omega⟩ : Fin 64).val * 128 + (⟨(⟨(i 1).val % 128, h⟩ : Fin 64).val, by omega⟩ : Fin 128).val, by show (i 1).val / 128 * 128 + (i 1).val % 128 < 8192; omega⟩ : Fin 8192) := funext fun a => by
      match a with
      | ⟨0, _⟩ => rfl
      | ⟨1, _⟩ => exact Fin.ext (by show (i 1).val = (i 1).val / 128 * 128 + (i 1).val % 128; omega)
    rw [e]
    exact h0 _ _ _
  · have e : i = ix2 (i 0) (⟨(⟨(i 1).val / 128, by omega⟩ : Fin 64).val * 128 + (⟨64 + (⟨(i 1).val % 128 - 64, by omega⟩ : Fin 64).val, by omega⟩ : Fin 128).val, by show (i 1).val / 128 * 128 + (64 + ((i 1).val % 128 - 64)) < 8192; omega⟩ : Fin 8192) := funext fun a => by
      match a with
      | ⟨0, _⟩ => rfl
      | ⟨1, _⟩ => exact Fin.ext (by show (i 1).val = (i 1).val / 128 * 128 + (64 + ((i 1).val % 128 - 64)); omega)
    rw [e]
    exact h1 _ _ _

theorem points (t : Fin cfg0.N) : t.val < 64 := t.isLt.trans_eq (show cfg0.N = 64 from N_0)

theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0, 0] := (by decide +kernel : ∀ t : Fin grid0.N, win0_1.index t = ![t.val, 0, 0, 0])
theorem index2 : ∀ t : Fin cfg0.N, win0_2.index t = ![t.val, 0, 0, 0] := (by decide +kernel : ∀ t : Fin grid0.N, win0_2.index t = ![t.val, 0, 0, 0])
theorem index3 : ∀ t : Fin cfg0.N, win0_3.index t = ![t.val, 0, 0, 0] := (by decide +kernel : ∀ t : Fin grid0.N, win0_3.index t = ![t.val, 0, 0, 0])
theorem index4 : ∀ t : Fin cfg0.N, win0_4.index t = ![t.val, 0, 0, 0] := (by decide +kernel : ∀ t : Fin grid0.N, win0_4.index t = ![t.val, 0, 0, 0])
theorem index5 : ∀ t : Fin cfg0.N, win0_5.index t = ![t.val, 0, 0, 0] := (by decide +kernel : ∀ t : Fin grid0.N, win0_5.index t = ![t.val, 0, 0, 0])
theorem index6 : ∀ t : Fin cfg0.N, win0_6.index t = ![0, t.val] := (by decide +kernel : ∀ t : Fin grid0.N, win0_6.index t = ![0, t.val])
theorem flush6 : ∀ t : Fin cfg0.N, (cfg0.win 6).flush t = true := (by decide +kernel : ∀ t : Fin grid0.N, win0_6.flush t = true)
theorem index7 : ∀ t : Fin cfg0.N, win0_7.index t = ![0, t.val] := (by decide +kernel : ∀ t : Fin grid0.N, win0_7.index t = ![0, t.val])
theorem flush7 : ∀ t : Fin cfg0.N, (cfg0.win 7).flush t = true := (by decide +kernel : ∀ t : Fin grid0.N, win0_7.flush t = true)

theorem origin : (![0, 0, 0] : Fin 3 → Nat) = fun _ => 0 := by decide

/-- A point's group. -/
def group (t : Fin cfg0.N) : Fin 64 := ⟨t.val, points t⟩

section
variable (m : (ℓ : Loc nD τ sig) → Buf (Elt Ideal) ℓ) (c : Dev nD)

theorem V_2 : V m c main_v2 = shapeCast S64x264x512 (transpose S64x264x32x16 [2, 0, 1, 3] (shapeCast S264x32x64x16 (m ((c : Thread nD τ).loc main_arg0)) shapeCasts_S8448x1024_S264x32x64x16) transposes_S264x32x64x16_S64x264x32x16_2_0_1_3) shapeCasts_S64x264x32x16_S64x264x512 := by
  show StableHlo.after hostOps0 (fun b => m (c, b)) (Proc.devRef .tc main_v2) = shapeCast S64x264x512 (transpose S64x264x32x16 [2, 0, 1, 3] (shapeCast S264x32x64x16 (m ((c : Thread nD τ).loc main_arg0)) shapeCasts_S8448x1024_S264x32x64x16) transposes_S264x32x64x16_S64x264x32x16_2_0_1_3) shapeCasts_S64x264x32x16_S64x264x512
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem V_4 : V m c main_v4 = broadcastInDim S64x2x1x64 ![0, 1, 3] bcast_S64x2x64_S64x2x1x64_0_1_3 (transpose S64x2x64 [1, 0, 2] (m ((c : Thread nD τ).loc main_arg1)) transposes_S2x64x64_S64x2x64_1_0_2) := by
  show StableHlo.after hostOps0 (fun b => m (c, b)) (Proc.devRef .tc main_v4) = broadcastInDim S64x2x1x64 ![0, 1, 3] bcast_S64x2x64_S64x2x1x64_0_1_3 (transpose S64x2x64 [1, 0, 2] (m ((c : Thread nD τ).loc main_arg1)) transposes_S2x64x64_S64x2x64_1_0_2)
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem V_6 : V m c main_v6 = broadcastInDim S64x2x1x64 ![0, 1, 3] bcast_S64x2x64_S64x2x1x64_0_1_3 (transpose S64x2x64 [1, 0, 2] (m ((c : Thread nD τ).loc main_arg2)) transposes_S2x64x64_S64x2x64_1_0_2) := by
  show StableHlo.after hostOps0 (fun b => m (c, b)) (Proc.devRef .tc main_v6) = broadcastInDim S64x2x1x64 ![0, 1, 3] bcast_S64x2x64_S64x2x1x64_0_1_3 (transpose S64x2x64 [1, 0, 2] (m ((c : Thread nD τ).loc main_arg2)) transposes_S2x64x64_S64x2x64_1_0_2)
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem V_9 : V m c main_v9 = broadcastInDim S64x2x1x64 ![0, 1, 2, 3] bcast_S64x2x1x1_S64x2x1x64_0_1_2_3 (broadcastInDim S64x2x1x1 ![0, 1] bcast_S64x2_S64x2x1x1_0_1 (transpose S64x2 [1, 0] (m ((c : Thread nD τ).loc main_arg3)) transposes_S2x64_S64x2_1_0)) := by
  show StableHlo.after hostOps0 (fun b => m (c, b)) (Proc.devRef .tc main_v9) = broadcastInDim S64x2x1x64 ![0, 1, 2, 3] bcast_S64x2x1x1_S64x2x1x64_0_1_2_3 (broadcastInDim S64x2x1x1 ![0, 1] bcast_S64x2_S64x2x1x1_0_1 (transpose S64x2 [1, 0] (m ((c : Thread nD τ).loc main_arg3)) transposes_S2x64_S64x2_1_0))
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem V_10 : V m c main_v10 = transpose S64x2x16x64 [1, 0, 3, 2] (m ((c : Thread nD τ).loc main_arg4)) transposes_S2x64x64x16_S64x2x16x64_1_0_3_2 := by
  show StableHlo.after hostOps0 (fun b => m (c, b)) (Proc.devRef .tc main_v10) = transpose S64x2x16x64 [1, 0, 3, 2] (m ((c : Thread nD τ).loc main_arg4)) transposes_S2x64x64x16_S64x2x16x64_1_0_3_2
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem V_11 : V m c main_v11 = transpose S64x2x16x64 [1, 0, 3, 2] (m ((c : Thread nD τ).loc main_arg5)) transposes_S2x64x64x16_S64x2x16x64_1_0_3_2 := by
  show StableHlo.after hostOps0 (fun b => m (c, b)) (Proc.devRef .tc main_v11) = transpose S64x2x16x64 [1, 0, 3, 2] (m ((c : Thread nD τ).loc main_arg5)) transposes_S2x64x64x16_S64x2x16x64_1_0_3_2
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem host2 (x : FVec Ideal S8448x1024 .f32) (g : Fin 64) (r : Fin 264) (n : Fin 512) : (shapeCast S64x264x512 (transpose S64x264x32x16 [2, 0, 1, 3] (shapeCast S264x32x64x16 x shapeCasts_S8448x1024_S264x32x64x16) transposes_S264x32x64x16_S64x264x32x16_2_0_1_3) shapeCasts_S64x264x32x16_S64x264x512) (ix3 g r n) = x (ix2 ⟨r.val * 32 + n.val / 16, by omega⟩ ⟨g.val * 16 + n.val % 16, by omega⟩) := by
  pointwise

theorem host4 (x : FVec Ideal S2x64x64 .f32) (g j : Fin 64) (e : Fin 2) : (broadcastInDim S64x2x1x64 ![0, 1, 3] bcast_S64x2x64_S64x2x1x64_0_1_3 (transpose S64x2x64 [1, 0, 2] x transposes_S2x64x64_S64x2x64_1_0_2)) (ix4 g e 0 j) = x (ix3 e g j) := by
  pointwise

theorem host9 (x : FVec Ideal S2x64 .f32) (g j : Fin 64) (e : Fin 2) : (broadcastInDim S64x2x1x64 ![0, 1, 2, 3] bcast_S64x2x1x1_S64x2x1x64_0_1_2_3 (broadcastInDim S64x2x1x1 ![0, 1] bcast_S64x2_S64x2x1x1_0_1 (transpose S64x2 [1, 0] x transposes_S2x64_S64x2_1_0))) (ix4 g e 0 j) = x (ix2 e g) := by
  pointwise

theorem host10 (x : FVec Ideal S2x64x64x16 .f32) (g j : Fin 64) (e : Fin 2) (h : Fin 16) : (transpose S64x2x16x64 [1, 0, 3, 2] x transposes_S2x64x64x16_S64x2x16x64_1_0_3_2) (ix4 g e h j) = x (ix4 e g j h) := by
  pointwise

variable (t : Fin cfg0.N)

theorem block0 (r : Fin 264) (n : Fin 512) :
    iblk m c (0 : Fin 8) t (ix3 0 r n) = m ((c : Thread nD τ).loc main_arg0) (ix2 ⟨r.val * 32 + n.val / 16, by omega⟩ ⟨(group t).val * 16 + n.val % 16, by omega⟩) := by
  refine Eq.trans (congrArg (V m c main_v2) (funext fun a => Fin.ext ?_)) ((congrFun (V_2 m c) (ix3 (group t) r n)).trans (host2 _ (group t) r n))
  refine (Pipeline.Window.rect_emb_val (cfg0.win 0) t (ix3 0 r n) a rfl).trans ?_
  rw [show (cfg0.win 0).index t = _ from index0 t]
  match a with
  | ⟨0, _⟩ => show t.val * 1 + 0 = t.val; omega
  | ⟨1, _⟩ => show 0 * 264 + r.val = r.val; omega
  | ⟨2, _⟩ => show 0 * 512 + n.val = n.val; omega

theorem block1 (e : Fin 2) (j : Fin 64) : iblk m c (1 : Fin 8) t (ix4 0 e 0 j) = m ((c : Thread nD τ).loc main_arg1) (ix3 e (group t) j) := by
  refine Eq.trans (congrArg (V m c main_v4) (funext fun a => Fin.ext ?_)) ((congrFun (V_4 m c) (ix4 (group t) e 0 j)).trans (host4 _ (group t) j e))
  refine (Pipeline.Window.rect_emb_val (cfg0.win 1) t (ix4 0 e 0 j) a rfl).trans ?_
  rw [show (cfg0.win 1).index t = _ from index1 t]
  match a with
  | ⟨0, _⟩ => show t.val * 1 + 0 = t.val; omega
  | ⟨1, _⟩ => show 0 * 2 + e.val = e.val; omega
  | ⟨2, _⟩ => rfl
  | ⟨3, _⟩ => show 0 * 64 + j.val = j.val; omega

theorem block2 (e : Fin 2) (j : Fin 64) : iblk m c (2 : Fin 8) t (ix4 0 e 0 j) = m ((c : Thread nD τ).loc main_arg2) (ix3 e (group t) j) := by
  refine Eq.trans (congrArg (V m c main_v6) (funext fun a => Fin.ext ?_)) ((congrFun (V_6 m c) (ix4 (group t) e 0 j)).trans (host4 _ (group t) j e))
  refine (Pipeline.Window.rect_emb_val (cfg0.win 2) t (ix4 0 e 0 j) a rfl).trans ?_
  rw [show (cfg0.win 2).index t = _ from index2 t]
  match a with
  | ⟨0, _⟩ => show t.val * 1 + 0 = t.val; omega
  | ⟨1, _⟩ => show 0 * 2 + e.val = e.val; omega
  | ⟨2, _⟩ => rfl
  | ⟨3, _⟩ => show 0 * 64 + j.val = j.val; omega

theorem block3 (e : Fin 2) (j : Fin 64) : iblk m c (3 : Fin 8) t (ix4 0 e 0 j) = m ((c : Thread nD τ).loc main_arg3) (ix2 e (group t)) := by
  refine Eq.trans (congrArg (V m c main_v9) (funext fun a => Fin.ext ?_)) ((congrFun (V_9 m c) (ix4 (group t) e 0 j)).trans (host9 _ (group t) j e))
  refine (Pipeline.Window.rect_emb_val (cfg0.win 3) t (ix4 0 e 0 j) a rfl).trans ?_
  rw [show (cfg0.win 3).index t = _ from index3 t]
  match a with
  | ⟨0, _⟩ => show t.val * 1 + 0 = t.val; omega
  | ⟨1, _⟩ => show 0 * 2 + e.val = e.val; omega
  | ⟨2, _⟩ => rfl
  | ⟨3, _⟩ => show 0 * 64 + j.val = j.val; omega

theorem block4 (e : Fin 2) (h : Fin 16) (j : Fin 64) : iblk m c (4 : Fin 8) t (ix4 0 e h j) = m ((c : Thread nD τ).loc main_arg4) (ix4 e (group t) j h) := by
  refine Eq.trans (congrArg (V m c main_v10) (funext fun a => Fin.ext ?_)) ((congrFun (V_10 m c) (ix4 (group t) e h j)).trans (host10 _ (group t) j e h))
  refine (Pipeline.Window.rect_emb_val (cfg0.win 4) t (ix4 0 e h j) a rfl).trans ?_
  rw [show (cfg0.win 4).index t = _ from index4 t]
  match a with
  | ⟨0, _⟩ => show t.val * 1 + 0 = t.val; omega
  | ⟨1, _⟩ => show 0 * 2 + e.val = e.val; omega
  | ⟨2, _⟩ => show 0 * 16 + h.val = h.val; omega
  | ⟨3, _⟩ => show 0 * 64 + j.val = j.val; omega

theorem block5 (e : Fin 2) (h : Fin 16) (j : Fin 64) : iblk m c (5 : Fin 8) t (ix4 0 e h j) = m ((c : Thread nD τ).loc main_arg5) (ix4 e (group t) j h) := by
  refine Eq.trans (congrArg (V m c main_v11) (funext fun a => Fin.ext ?_)) ((congrFun (V_11 m c) (ix4 (group t) e h j)).trans (host10 _ (group t) j e h))
  refine (Pipeline.Window.rect_emb_val (cfg0.win 5) t (ix4 0 e h j) a rfl).trans ?_
  rw [show (cfg0.win 5).index t = _ from index5 t]
  match a with
  | ⟨0, _⟩ => show t.val * 1 + 0 = t.val; omega
  | ⟨1, _⟩ => show 0 * 2 + e.val = e.val; omega
  | ⟨2, _⟩ => show 0 * 16 + h.val = h.val; omega
  | ⟨3, _⟩ => show 0 * 64 + j.val = j.val; omega

theorem arr6 (r : Fin 264) (l : Fin 128) :
    (dats m 0 c).arrAt 6 cfg0.N (ix2 r ⟨(group t).val * 128 + l.val, by omega⟩ : S264x8192.Idx) = out0_6 (F := Ideal) (iblk m c 0 t) (iblk m c 1 t) (iblk m c 2 t) (iblk m c 3 t) (iblk m c 4 t) (iblk m c 5 t) (ix2 r l) := by
  have h := congrFun (blocks6 m c t (flush6 t)) (ix2 r l : S264x128.Idx)
  rw [flushed6] at h
  refine (congrArg ((dats m 0 c).arrAt 6 cfg0.N) (funext fun a => Fin.ext ?_)).symm.trans h
  refine (Pipeline.Window.rect_emb_val (cfg0.win 6) t (ix2 r l) a rfl).trans ?_
  rw [show (cfg0.win 6).index t = _ from index6 t]
  match a with
  | ⟨0, _⟩ => show 0 * 264 + r.val = r.val; omega
  | ⟨1, _⟩ => rfl

theorem arr7 (r : Fin 264) (l : Fin 128) :
    (dats m 0 c).arrAt 7 cfg0.N (ix2 r ⟨(group t).val * 128 + l.val, by omega⟩ : S264x8192.Idx) = out0_7 (F := Ideal) (iblk m c 0 t) (iblk m c 1 t) (iblk m c 2 t) (iblk m c 3 t) (iblk m c 4 t) (iblk m c 5 t) (ix2 r l) := by
  have h := congrFun (blocks7 m c t (flush7 t)) (ix2 r l : S264x128.Idx)
  rw [flushed7] at h
  refine (congrArg ((dats m 0 c).arrAt 7 cfg0.N) (funext fun a => Fin.ext ?_)).symm.trans h
  refine (Pipeline.Window.rect_emb_val (cfg0.win 7) t (ix2 r l) a rfl).trans ?_
  rw [show (cfg0.win 7).index t = _ from index7 t]
  match a with
  | ⟨0, _⟩ => show 0 * 264 + r.val = r.val; omega
  | ⟨1, _⟩ => rfl

end

section
variable (x : Vec Ideal S1x2x1x64 .f32) (z : Vec Ideal S1x2x16x64 .f32)

theorem ld_1 (j : Fin 64) : View.ld x r0_1 (ix4 0 0 0 j) = x (ix4 0 0 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

theorem ld_4 (j : Fin 64) : View.ld x r0_4 (ix4 0 0 0 j) = x (ix4 0 1 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

theorem ld_2 (h : Fin 16) (j : Fin 64) : View.ld z r0_2 (ix4 0 0 h j) = z (ix4 0 0 h j) := by
  refine congrArg z (funext fun a => Fin.ext ?_)
  match a with
  | ⟨0, _⟩ => rfl
  | ⟨1, _⟩ => rfl
  | ⟨2, _⟩ => show 0 + 1 * h.val = h.val; omega
  | ⟨3, _⟩ => show 0 + 1 * j.val = j.val; omega

theorem ld_5 (h : Fin 16) (j : Fin 64) : View.ld z r0_5 (ix4 0 0 h j) = z (ix4 0 1 h j) := by
  refine congrArg z (funext fun a => Fin.ext ?_)
  match a with
  | ⟨0, _⟩ => rfl
  | ⟨1, _⟩ => rfl
  | ⟨2, _⟩ => show 0 + 1 * h.val = h.val; omega
  | ⟨3, _⟩ => show 0 + 1 * j.val = j.val; omega

end

section
variable (x0 : Vec Ideal S1x264x512 .f32) (x1 x2 x3 : Vec Ideal S1x2x1x64 .f32) (x4 x5 : Vec Ideal S1x2x16x64 .f32)

theorem out_6 : out0_6 (F := Ideal) x0 x1 x2 x3 x4 x5 = states (k0_pay2 (View.ld x0 r0_0)) k0_pay4 (View.ld x1 r0_1) (View.ld x2 r0_1) (View.ld x3 r0_1) (View.ld x4 r0_2) (View.ld x5 r0_2) := by
  unfold out0_6 k0_pay30
  exact (View.canon_unit_zero (by decide) _ _).trans (forward_eq ..)

theorem out_7 : out0_7 (F := Ideal) x0 x1 x2 x3 x4 x5 = states (k0_pay2 (View.ld x0 r0_0)) k0_pay3 (View.ld x1 r0_4) (View.ld x2 r0_4) (View.ld x3 r0_4) (View.ld x4 r0_5) (View.ld x5 r0_5) := by
  unfold out0_7 k0_pay30
  exact (View.canon_unit_zero (by decide) _ _).trans (backward_eq ..)

end

section
variable (m : (ℓ : Loc nD τ sig) → Buf (Elt Ideal) ℓ) (c : Dev nD)

theorem value6_re (r : Fin 264) (g j : Fin 64) :
    (dats m 0 c).arrAt 6 cfg0.N (ix2 r ⟨g.val * 128 + (⟨j.val, by omega⟩ : Fin 128).val, by omega⟩ : S264x8192.Idx) = stateRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 before r g j := by
  have hN : g.val < cfg0.N := g.isLt.trans_eq (show cfg0.N = 64 from N_0).symm
  refine (arr6 m c ⟨g.val, hN⟩ r ⟨j.val, by omega⟩).trans ((congrFun (out_6 ..) _).trans ((states_re _ _ _ _ _ _ _ r j).trans (Finset.sum_congr rfl fun n _ => ?_)))
  have hu := (input_apply (View.ld (iblk m c 0 ⟨g.val, hN⟩) r0_0) r n).trans ((congrFun (View.ld_unit_zero origin _ _) _).trans (block0 m c ⟨g.val, hN⟩ r n))
  have h1 := (ld_1 (iblk m c 1 ⟨g.val, hN⟩) j).trans (block1 m c ⟨g.val, hN⟩ 0 j)
  have h2 := (ld_1 (iblk m c 2 ⟨g.val, hN⟩) j).trans (block2 m c ⟨g.val, hN⟩ 0 j)
  have h3 := (ld_1 (iblk m c 3 ⟨g.val, hN⟩) j).trans (block3 m c ⟨g.val, hN⟩ 0 j)
  have h4 := (ld_2 (iblk m c 4 ⟨g.val, hN⟩) ⟨n.val % 16, by omega⟩ j).trans (block4 m c ⟨g.val, hN⟩ 0 ⟨n.val % 16, by omega⟩ j)
  have h5 := (ld_2 (iblk m c 5 ⟨g.val, hN⟩) ⟨n.val % 16, by omega⟩ j).trans (block5 m c ⟨g.val, hN⟩ 0 ⟨n.val % 16, by omega⟩ j)
  exact congr (congrArg (fun u v : EReal => u * v) hu) (congr (congr (congr (congr (congr (congrArg weightRe (before_apply ⟨n.val / 16, by omega⟩)) h1) h2) h3) h4) h5)

theorem value6_im (r : Fin 264) (g j : Fin 64) :
    (dats m 0 c).arrAt 6 cfg0.N (ix2 r ⟨g.val * 128 + (⟨64 + j.val, by omega⟩ : Fin 128).val, by omega⟩ : S264x8192.Idx) = stateIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 before r g j := by
  have hN : g.val < cfg0.N := g.isLt.trans_eq (show cfg0.N = 64 from N_0).symm
  refine (arr6 m c ⟨g.val, hN⟩ r ⟨64 + j.val, by omega⟩).trans ((congrFun (out_6 ..) _).trans ((states_im _ _ _ _ _ _ _ r j).trans (Finset.sum_congr rfl fun n _ => ?_)))
  have hu := (input_apply (View.ld (iblk m c 0 ⟨g.val, hN⟩) r0_0) r n).trans ((congrFun (View.ld_unit_zero origin _ _) _).trans (block0 m c ⟨g.val, hN⟩ r n))
  have h1 := (ld_1 (iblk m c 1 ⟨g.val, hN⟩) j).trans (block1 m c ⟨g.val, hN⟩ 0 j)
  have h2 := (ld_1 (iblk m c 2 ⟨g.val, hN⟩) j).trans (block2 m c ⟨g.val, hN⟩ 0 j)
  have h3 := (ld_1 (iblk m c 3 ⟨g.val, hN⟩) j).trans (block3 m c ⟨g.val, hN⟩ 0 j)
  have h4 := (ld_2 (iblk m c 4 ⟨g.val, hN⟩) ⟨n.val % 16, by omega⟩ j).trans (block4 m c ⟨g.val, hN⟩ 0 ⟨n.val % 16, by omega⟩ j)
  have h5 := (ld_2 (iblk m c 5 ⟨g.val, hN⟩) ⟨n.val % 16, by omega⟩ j).trans (block5 m c ⟨g.val, hN⟩ 0 ⟨n.val % 16, by omega⟩ j)
  exact congr (congrArg (fun u v : EReal => u * v) hu) (congr (congr (congr (congr (congr (congrArg weightIm (before_apply ⟨n.val / 16, by omega⟩)) h1) h2) h3) h4) h5)

theorem value7_re (r : Fin 264) (g j : Fin 64) :
    (dats m 0 c).arrAt 7 cfg0.N (ix2 r ⟨g.val * 128 + (⟨j.val, by omega⟩ : Fin 128).val, by omega⟩ : S264x8192.Idx) = stateRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 step r g j := by
  have hN : g.val < cfg0.N := g.isLt.trans_eq (show cfg0.N = 64 from N_0).symm
  refine (arr7 m c ⟨g.val, hN⟩ r ⟨j.val, by omega⟩).trans ((congrFun (out_7 ..) _).trans ((states_re _ _ _ _ _ _ _ r j).trans (Finset.sum_congr rfl fun n _ => ?_)))
  have hu := (input_apply (View.ld (iblk m c 0 ⟨g.val, hN⟩) r0_0) r n).trans ((congrFun (View.ld_unit_zero origin _ _) _).trans (block0 m c ⟨g.val, hN⟩ r n))
  have h1 := (ld_4 (iblk m c 1 ⟨g.val, hN⟩) j).trans (block1 m c ⟨g.val, hN⟩ 1 j)
  have h2 := (ld_4 (iblk m c 2 ⟨g.val, hN⟩) j).trans (block2 m c ⟨g.val, hN⟩ 1 j)
  have h3 := (ld_4 (iblk m c 3 ⟨g.val, hN⟩) j).trans (block3 m c ⟨g.val, hN⟩ 1 j)
  have h4 := (ld_5 (iblk m c 4 ⟨g.val, hN⟩) ⟨n.val % 16, by omega⟩ j).trans (block4 m c ⟨g.val, hN⟩ 1 ⟨n.val % 16, by omega⟩ j)
  have h5 := (ld_5 (iblk m c 5 ⟨g.val, hN⟩) ⟨n.val % 16, by omega⟩ j).trans (block5 m c ⟨g.val, hN⟩ 1 ⟨n.val % 16, by omega⟩ j)
  exact congr (congrArg (fun u v : EReal => u * v) hu) (congr (congr (congr (congr (congr (congrArg weightRe (after_apply ⟨n.val / 16, by omega⟩)) h1) h2) h3) h4) h5)

theorem value7_im (r : Fin 264) (g j : Fin 64) :
    (dats m 0 c).arrAt 7 cfg0.N (ix2 r ⟨g.val * 128 + (⟨64 + j.val, by omega⟩ : Fin 128).val, by omega⟩ : S264x8192.Idx) = stateIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 step r g j := by
  have hN : g.val < cfg0.N := g.isLt.trans_eq (show cfg0.N = 64 from N_0).symm
  refine (arr7 m c ⟨g.val, hN⟩ r ⟨64 + j.val, by omega⟩).trans ((congrFun (out_7 ..) _).trans ((states_im _ _ _ _ _ _ _ r j).trans (Finset.sum_congr rfl fun n _ => ?_)))
  have hu := (input_apply (View.ld (iblk m c 0 ⟨g.val, hN⟩) r0_0) r n).trans ((congrFun (View.ld_unit_zero origin _ _) _).trans (block0 m c ⟨g.val, hN⟩ r n))
  have h1 := (ld_4 (iblk m c 1 ⟨g.val, hN⟩) j).trans (block1 m c ⟨g.val, hN⟩ 1 j)
  have h2 := (ld_4 (iblk m c 2 ⟨g.val, hN⟩) j).trans (block2 m c ⟨g.val, hN⟩ 1 j)
  have h3 := (ld_4 (iblk m c 3 ⟨g.val, hN⟩) j).trans (block3 m c ⟨g.val, hN⟩ 1 j)
  have h4 := (ld_5 (iblk m c 4 ⟨g.val, hN⟩) ⟨n.val % 16, by omega⟩ j).trans (block4 m c ⟨g.val, hN⟩ 1 ⟨n.val % 16, by omega⟩ j)
  have h5 := (ld_5 (iblk m c 5 ⟨g.val, hN⟩) ⟨n.val % 16, by omega⟩ j).trans (block5 m c ⟨g.val, hN⟩ 1 ⟨n.val % 16, by omega⟩ j)
  exact congr (congrArg (fun u v : EReal => u * v) hu) (congr (congr (congr (congr (congr (congrArg weightIm (after_apply ⟨n.val / 16, by omega⟩)) h1) h2) h3) h4) h5)

end

end Cert.S5

end
-- ==== Proof.S5.Reference.lean ====
/- What the reference of the chunk states' call computes, at every element of its two results. -/
module

public import proofs.«01_k».proof.Proof.S5.Terms
public import proofs.«01_k».proof.Proof.Gen.Reference11Ideal.Run
public import Idealize.ShloMosaic.Lib.Pointwise

@[expose] public section

set_option maxRecDepth 65536

noncomputable section

namespace Cert.S5.Reference

open Cert.Reference11Ideal Cert.Reference11Ideal.Gen
open Idealize.ShloMosaic

section
variable (s : S8448x1024.Idx → Elt Ideal .f32) (P : S2x64x64.Idx → Elt Ideal .f32) (L : S2x64.Idx → Elt Ideal .f32) (Z : S2x64x64x16.Idx → Elt Ideal .f32)

def inputs : FVec Ideal S64x264x512 .f32 :=
  shapeCast _ (transpose S64x264x32x16 [2, 0, 1, 3] (shapeCast _ s shapeCasts_S8448x1024_S264x32x64x16) transposes_S264x32x64x16_S64x264x32x16_2_0_1_3) shapeCasts_S64x264x32x16_S64x264x512

theorem inputs_apply (g : Fin 64) (r : Fin 264) (n : Fin 512) : inputs s (ix3 g r n) = s (ix2 ⟨r.val * 32 + n.val / 16, by omega⟩ ⟨g.val * 16 + n.val % 16, by omega⟩) := by
  unfold inputs
  pointwise

def counts : FVec Ideal S32 .f32 := sitofp .f32 (iotaInDim S32 32 0)
def remaining : FVec Ideal S32 .f32 := subf (broadcastInDim S32 ![] bcast_S_S32 (constant S_ .f32 0x41F80000#32)) counts

theorem counts_apply (t : Fin 32) : counts (ix1 t) = step t := by
  unfold counts step
  pointwise

theorem remaining_apply (t : Fin 32) : remaining (ix1 t) = (Ideal.ofBits .f32 0x41F80000#32 - step t : EReal) := by
  unfold remaining counts step
  pointwise

def rates0 : FVec Ideal S64x64 .f32 := shapeCast _ (extractStridedSlice S1x64x64 ![0, 0, 0] P slices_S2x64x64_S1x64x64_0_0_0) shapeCasts_S1x64x64_S64x64
def rates1 : FVec Ideal S64x64 .f32 := shapeCast _ (extractStridedSlice S1x64x64 ![1, 0, 0] P slices_S2x64x64_S1x64x64_1_0_0) shapeCasts_S1x64x64_S64x64
def weights0 : FVec Ideal S64x64x16 .f32 := shapeCast _ (extractStridedSlice S1x64x64x16 ![0, 0, 0, 0] Z slices_S2x64x64x16_S1x64x64x16_0_0_0_0) shapeCasts_S1x64x64x16_S64x64x16
def weights1 : FVec Ideal S64x64x16 .f32 := shapeCast _ (extractStridedSlice S1x64x64x16 ![1, 0, 0, 0] Z slices_S2x64x64x16_S1x64x64x16_1_0_0_0) shapeCasts_S1x64x64x16_S64x64x16
def width0 : FVec Ideal S64x1 .f32 := broadcastInDim S64x1 ![0] bcast_S64_S64x1_0 (Host.exp (shapeCast _ (extractStridedSlice S1x64 ![0, 0] L slices_S2x64_S1x64_0_0) shapeCasts_S1x64_S64))
def width1 : FVec Ideal S64x1 .f32 := broadcastInDim S64x1 ![0] bcast_S64_S64x1_0 (Host.exp (shapeCast _ (extractStridedSlice S1x64 ![1, 0] L slices_S2x64_S1x64_1_0) shapeCasts_S1x64_S64))

theorem rates0_apply (g p : Fin 64) : rates0 P (ix2 g p) = P (ix3 0 g p) := by
  unfold rates0
  pointwise
theorem rates1_apply (g p : Fin 64) : rates1 P (ix2 g p) = P (ix3 1 g p) := by
  unfold rates1
  pointwise
theorem weights0_apply (g p : Fin 64) (h : Fin 16) : weights0 Z (ix3 g p h) = Z (ix4 0 g p h) := by
  unfold weights0
  pointwise
theorem weights1_apply (g p : Fin 64) (h : Fin 16) : weights1 Z (ix3 g p h) = Z (ix4 1 g p h) := by
  unfold weights1
  pointwise
theorem width0_apply (g : Fin 64) : width0 L (ix2 g 0) = Ideal.exp (L (ix2 0 g)) := by
  unfold width0
  pointwise
theorem width1_apply (g : Fin 64) : width1 L (ix2 g 0) = Ideal.exp (L (ix2 1 g)) := by
  unfold width1
  pointwise
end

section
variable (U : FVec Ideal S64x264x512 .f32) (K : FVec Ideal S32 .f32) (A B : FVec Ideal S64x64 .f32) (D : FVec Ideal S64x1 .f32) (X Y : FVec Ideal S64x64x16 .f32)

def magnitudeV : FVec Ideal S64x64 .f32 := Host.exp (mulf A (broadcastInDim S64x64 ![0, 1] bcast_S64x1_S64x64_0_1 D))
def sineV : FVec Ideal S64x64 .f32 := mulf (magnitudeV A D) (Host.sin (mulf B (broadcastInDim S64x64 ![0, 1] bcast_S64x1_S64x64_0_1 D)))
def normV : FVec Ideal S64x64 .f32 := addf (mulf A A) (mulf B B)
def cosineV : FVec Ideal S64x64 .f32 := subf (mulf (magnitudeV A D) (Host.cos (mulf B (broadcastInDim S64x64 ![0, 1] bcast_S64x1_S64x64_0_1 D)))) (broadcastInDim S64x64 ![] bcast_S_S64x64 (constant S_ .f32 0x3F800000#32))
def gainReV : FVec Ideal S64x64 .f32 := Host.divf (addf (mulf (cosineV A B D) A) (mulf (sineV A B D) B)) (normV A B)
def gainImV : FVec Ideal S64x64 .f32 := Host.divf (subf (mulf (sineV A B D) A) (mulf (cosineV A B D) B)) (normV A B)
def wide (w : FVec Ideal S64x64 .f32) : FVec Ideal S64x64x16 .f32 := broadcastInDim S64x64x16 ![0, 1, 2] bcast_S64x64x1_S64x64x16_0_1_2 (broadcastInDim S64x64x1 ![0, 1] bcast_S64x64_S64x64x1_0_1 w)
def driveReV : FVec Ideal S64x64x16 .f32 := subf (mulf (wide (gainReV A B D)) X) (mulf (wide (gainImV A B D)) Y)
def driveImV : FVec Ideal S64x64x16 .f32 := addf (mulf (wide (gainReV A B D)) Y) (mulf (wide (gainImV A B D)) X)
def powers (w : FVec Ideal S64x64 .f32) : FVec Ideal S32x64x64 .f32 := mulf (broadcastInDim S32x64x64 ![0, 1, 2] bcast_S32x1x1_S32x64x64_0_1_2 (broadcastInDim S32x1x1 ![0] bcast_S32_S32x1x1_0 K)) (broadcastInDim S32x64x64 ![0, 1, 2] bcast_S1x64x64_S32x64x64_0_1_2 (broadcastInDim S1x64x64 ![1, 2] bcast_S64x64_S1x64x64_1_2 (mulf w (broadcastInDim S64x64 ![0, 1] bcast_S64x1_S64x64_0_1 D))))
def decayReV : FVec Ideal S32x64x64x1 .f32 := broadcastInDim S32x64x64x1 ![0, 1, 2] bcast_S32x64x64_S32x64x64x1_0_1_2 (mulf (Host.exp (powers K D A)) (Host.cos (powers K D B)))
def decayImV : FVec Ideal S32x64x64x1 .f32 := broadcastInDim S32x64x64x1 ![0, 1, 2] bcast_S32x64x64_S32x64x64x1_0_1_2 (mulf (Host.exp (powers K D A)) (Host.sin (powers K D B)))
def ofDrive (w : FVec Ideal S64x64x16 .f32) : FVec Ideal S32x64x64x16 .f32 := broadcastInDim S32x64x64x16 ![0, 1, 2, 3] bcast_S1x64x64x16_S32x64x64x16_0_1_2_3 (broadcastInDim S1x64x64x16 ![1, 2, 3] bcast_S64x64x16_S1x64x64x16_1_2_3 w)
def ofDecay (w : FVec Ideal S32x64x64x1 .f32) : FVec Ideal S32x64x64x16 .f32 := broadcastInDim S32x64x64x16 ![0, 1, 2, 3] bcast_S32x64x64x1_S32x64x64x16_0_1_2_3 w
def weightReV : FVec Ideal S32x64x64x16 .f32 := subf (mulf (ofDrive (driveReV A B D X Y)) (ofDecay (decayReV K A B D))) (mulf (ofDrive (driveImV A B D X Y)) (ofDecay (decayImV K A B D)))
def weightImV : FVec Ideal S32x64x64x16 .f32 := addf (mulf (ofDrive (driveReV A B D X Y)) (ofDecay (decayImV K A B D))) (mulf (ofDrive (driveImV A B D X Y)) (ofDecay (decayReV K A B D)))
def product (w : FVec Ideal S32x64x64x16 .f32) : FVec Ideal S64x264x64 .f32 :=
  Host.dotGeneral dot_S64x264x512_S64x512x64_S64x264x64_2_1_1_2_0_0 none U (shapeCast _ (transpose S64x32x16x64 [1, 0, 3, 2] w transposes_S32x64x64x16_S64x32x16x64_1_0_3_2) shapeCasts_S64x32x16x64_S64x512x64)
def joined (p q : FVec Ideal S64x264x64 .f32) : FVec Ideal S64x264x128 .f32 := concatenate S64x264x128 2 [⟨S64x264x64, p⟩, ⟨S64x264x64, q⟩] concatenates_S64x264x64_S64x264x64_S64x264x128_d2
def side (w : FVec Ideal S64x264x128 .f32) : FVec Ideal S264x8192 .f32 := shapeCast _ (transpose S264x64x128 [1, 0, 2] w transposes_S64x264x128_S264x64x128_1_0_2) shapeCasts_S264x64x128_S264x8192

/-- A direction's states. -/
def result : FVec Ideal S264x8192 .f32 := side (joined (product U (weightReV K A B D X Y)) (product U (weightImV K A B D X Y)))

theorem side_apply (w : FVec Ideal S64x264x128 .f32) (r : Fin 264) (g : Fin 64) (l : Fin 128) : side w (ix2 r ⟨g.val * 128 + l.val, by omega⟩) = w (ix3 g r l) := by
  unfold side
  pointwise

theorem joined_re (p q : FVec Ideal S64x264x64 .f32) (g : Fin 64) (r : Fin 264) (j : Fin 64) : joined p q (ix3 g r (⟨j.val, by omega⟩ : Fin 128)) = p (ix3 g r j) := by
  unfold joined
  pointwise

theorem joined_im (p q : FVec Ideal S64x264x64 .f32) (g : Fin 64) (r : Fin 264) (j : Fin 64) : joined p q (ix3 g r (⟨64 + j.val, by omega⟩ : Fin 128)) = q (ix3 g r j) := by
  unfold joined
  pointwise

theorem product_apply (w : FVec Ideal S32x64x64x16 .f32) (g : Fin 64) (r : Fin 264) (j : Fin 64) :
    product U w (ix3 g r j) = ∑ n : Fin 512, U (ix3 g r n) * w (ix4 ⟨n.val / 16, by omega⟩ g j ⟨n.val % 16, by omega⟩) := by
  unfold product
  pointwise

theorem gainReV_apply (g j : Fin 64) (d : EReal) (h : D (ix2 g 0) = Ideal.exp d) : gainReV A B D (ix2 g j) = gainRe (A (ix2 g j)) (B (ix2 g j)) d := by
  unfold gainRe
  rw [← h]
  unfold gainReV sineV cosineV normV magnitudeV
  pointwise

theorem gainImV_apply (g j : Fin 64) (d : EReal) (h : D (ix2 g 0) = Ideal.exp d) : gainImV A B D (ix2 g j) = gainIm (A (ix2 g j)) (B (ix2 g j)) d := by
  unfold gainIm
  rw [← h]
  unfold gainImV sineV cosineV normV magnitudeV
  pointwise

theorem wide_apply (w : FVec Ideal S64x64 .f32) (g j : Fin 64) (h : Fin 16) : wide w (ix3 g j h) = w (ix2 g j) := by
  unfold wide
  pointwise

theorem powers_apply (w : FVec Ideal S64x64 .f32) (t : Fin 32) (g j : Fin 64) : powers K D w (ix3 t g j) = K (ix1 t) * (w (ix2 g j) * D (ix2 g 0)) := by
  unfold powers
  pointwise

theorem decayReV_apply (t : Fin 32) (g j : Fin 64) (d : EReal) (h : D (ix2 g 0) = Ideal.exp d) : decayReV K A B D (ix4 t g j 0) = decayRe (K (ix1 t)) (A (ix2 g j)) (B (ix2 g j)) d := by
  unfold decayRe
  rw [← h, ← powers_apply, ← powers_apply]
  unfold decayReV
  pointwise

theorem decayImV_apply (t : Fin 32) (g j : Fin 64) (d : EReal) (h : D (ix2 g 0) = Ideal.exp d) : decayImV K A B D (ix4 t g j 0) = decayIm (K (ix1 t)) (A (ix2 g j)) (B (ix2 g j)) d := by
  unfold decayIm
  rw [← h, ← powers_apply, ← powers_apply]
  unfold decayImV
  pointwise

theorem driveReV_apply (g j : Fin 64) (c : Fin 16) (d : EReal) (h : D (ix2 g 0) = Ideal.exp d) :
    driveReV A B D X Y (ix3 g j c) = driveRe (A (ix2 g j)) (B (ix2 g j)) d (X (ix3 g j c)) (Y (ix3 g j c)) := by
  show wide (gainReV A B D) (ix3 g j c) * X (ix3 g j c) - wide (gainImV A B D) (ix3 g j c) * Y (ix3 g j c) = _
  rw [wide_apply, wide_apply, gainReV_apply A B D g j d h, gainImV_apply A B D g j d h]
  rfl

theorem driveImV_apply (g j : Fin 64) (c : Fin 16) (d : EReal) (h : D (ix2 g 0) = Ideal.exp d) :
    driveImV A B D X Y (ix3 g j c) = driveIm (A (ix2 g j)) (B (ix2 g j)) d (X (ix3 g j c)) (Y (ix3 g j c)) := by
  show wide (gainReV A B D) (ix3 g j c) * Y (ix3 g j c) + wide (gainImV A B D) (ix3 g j c) * X (ix3 g j c) = _
  rw [wide_apply, wide_apply, gainReV_apply A B D g j d h, gainImV_apply A B D g j d h]
  rfl

theorem ofDrive_apply (w : FVec Ideal S64x64x16 .f32) (t : Fin 32) (g j : Fin 64) (c : Fin 16) : ofDrive w (ix4 t g j c) = w (ix3 g j c) := by
  unfold ofDrive
  pointwise

theorem ofDecay_apply (w : FVec Ideal S32x64x64x1 .f32) (t : Fin 32) (g j : Fin 64) (c : Fin 16) : ofDecay w (ix4 t g j c) = w (ix4 t g j 0) := by
  unfold ofDecay
  pointwise

theorem weightReV_apply (t : Fin 32) (g j : Fin 64) (c : Fin 16) (d : EReal) (h : D (ix2 g 0) = Ideal.exp d) :
    weightReV K A B D X Y (ix4 t g j c) = weightRe (K (ix1 t)) (A (ix2 g j)) (B (ix2 g j)) d (X (ix3 g j c)) (Y (ix3 g j c)) := by
  show ofDrive (driveReV A B D X Y) (ix4 t g j c) * ofDecay (decayReV K A B D) (ix4 t g j c) - ofDrive (driveImV A B D X Y) (ix4 t g j c) * ofDecay (decayImV K A B D) (ix4 t g j c) = _
  rw [ofDrive_apply, ofDrive_apply, ofDecay_apply, ofDecay_apply, driveReV_apply A B D X Y g j c d h, driveImV_apply A B D X Y g j c d h, decayReV_apply K A B D t g j d h, decayImV_apply K A B D t g j d h]
  rfl

theorem weightImV_apply (t : Fin 32) (g j : Fin 64) (c : Fin 16) (d : EReal) (h : D (ix2 g 0) = Ideal.exp d) :
    weightImV K A B D X Y (ix4 t g j c) = weightIm (K (ix1 t)) (A (ix2 g j)) (B (ix2 g j)) d (X (ix3 g j c)) (Y (ix3 g j c)) := by
  show ofDrive (driveReV A B D X Y) (ix4 t g j c) * ofDecay (decayImV K A B D) (ix4 t g j c) + ofDrive (driveImV A B D X Y) (ix4 t g j c) * ofDecay (decayReV K A B D) (ix4 t g j c) = _
  rw [ofDrive_apply, ofDrive_apply, ofDecay_apply, ofDecay_apply, driveReV_apply A B D X Y g j c d h, driveImV_apply A B D X Y g j c d h, decayReV_apply K A B D t g j d h, decayImV_apply K A B D t g j d h]
  rfl

theorem result_re (r : Fin 264) (g j : Fin 64) (d : EReal) (h : D (ix2 g 0) = Ideal.exp d) :
    result U K A B D X Y (ix2 r ⟨g.val * 128 + (⟨j.val, by omega⟩ : Fin 128).val, by omega⟩)
      = ∑ n : Fin 512, U (ix3 g r n) * weightRe (K (ix1 ⟨n.val / 16, by omega⟩)) (A (ix2 g j)) (B (ix2 g j)) d (X (ix3 g j ⟨n.val % 16, by omega⟩)) (Y (ix3 g j ⟨n.val % 16, by omega⟩)) :=
  ((side_apply _ r g ⟨j.val, by omega⟩).trans (joined_re _ _ g r j)).trans ((product_apply U _ g r j).trans
    (Finset.sum_congr rfl fun n _ => congrArg (U (ix3 g r n) * ·) (weightReV_apply K A B D X Y _ g j _ d h)))

theorem result_im (r : Fin 264) (g j : Fin 64) (d : EReal) (h : D (ix2 g 0) = Ideal.exp d) :
    result U K A B D X Y (ix2 r ⟨g.val * 128 + (⟨64 + j.val, by omega⟩ : Fin 128).val, by omega⟩)
      = ∑ n : Fin 512, U (ix3 g r n) * weightIm (K (ix1 ⟨n.val / 16, by omega⟩)) (A (ix2 g j)) (B (ix2 g j)) d (X (ix3 g j ⟨n.val % 16, by omega⟩)) (Y (ix3 g j ⟨n.val % 16, by omega⟩)) :=
  ((side_apply _ r g ⟨64 + j.val, by omega⟩).trans (joined_im _ _ g r j)).trans ((product_apply U _ g r j).trans
    (Finset.sum_congr rfl fun n _ => congrArg (U (ix3 g r n) * ·) (weightImV_apply K A B D X Y _ g j _ d h)))

end

end Cert.S5.Reference

end
-- ==== Proof.S5.Algebraic.lean ====
/- The chunk states' call and its reference leave equal extended reals; the frames of both. -/
module

public import proofs.«01_k».proof.Defs
public import proofs.«01_k».proof.Proof.S5.Value
public import proofs.«01_k».proof.Proof.S5.Reference
public import proofs.«01_k».proof.Proof.Gen.Kernel11
public import Idealize.ShloMosaic.Lib.Quiescent
public import Idealize.ShloMosaic.Adequacy
public import Idealize.ShloMosaic.Init

@[expose] public section

set_option maxRecDepth 65536

noncomputable section

namespace Cert.S5

open Idealize.ShloMosaic Idealize.SL.Sem

namespace Reference

open Cert.Reference11Ideal Cert.Reference11Ideal.Gen

section
variable (s : S8448x1024.Idx → Elt Ideal .f32) (a b : S2x64x64.Idx → Elt Ideal .f32) (d : S2x64.Idx → Elt Ideal .f32) (x y : S2x64x64x16.Idx → Elt Ideal .f32)

/-- The two directions' states, the first weighted by the steps to the chunk's end, the second by those from its start. -/
def first : FVec Ideal S264x8192 .f32 := result (inputs s) remaining (rates0 a) (rates0 b) (width0 d) (weights0 x) (weights0 y)
def second : FVec Ideal S264x8192 .f32 := result (inputs s) counts (rates1 a) (rates1 b) (width1 d) (weights1 x) (weights1 y)

theorem first_re (r : Fin 264) (g j : Fin 64) : first s a b d x y (ix2 r ⟨g.val * 128 + (⟨j.val, by omega⟩ : Fin 128).val, by omega⟩) = stateRe s a b d x y 0 before r g j :=
  (result_re _ _ _ _ _ _ _ r g j _ (width0_apply d g)).trans (Finset.sum_congr rfl fun n _ =>
    congr (congrArg (fun u v : EReal => u * v) (inputs_apply s g r n)) (congrFun (congr (congr (congr (congr (congrArg weightRe (remaining_apply ⟨n.val / 16, by omega⟩)) (rates0_apply a g j)) (rates0_apply b g j)) rfl)
      (weights0_apply x g j ⟨n.val % 16, by omega⟩)) _ |>.trans (congrArg (weightRe _ _ _ _ _) (weights0_apply y g j ⟨n.val % 16, by omega⟩))))

theorem first_im (r : Fin 264) (g j : Fin 64) : first s a b d x y (ix2 r ⟨g.val * 128 + (⟨64 + j.val, by omega⟩ : Fin 128).val, by omega⟩) = stateIm s a b d x y 0 before r g j :=
  (result_im _ _ _ _ _ _ _ r g j _ (width0_apply d g)).trans (Finset.sum_congr rfl fun n _ =>
    congr (congrArg (fun u v : EReal => u * v) (inputs_apply s g r n)) (congrFun (congr (congr (congr (congr (congrArg weightIm (remaining_apply ⟨n.val / 16, by omega⟩)) (rates0_apply a g j)) (rates0_apply b g j)) rfl)
      (weights0_apply x g j ⟨n.val % 16, by omega⟩)) _ |>.trans (congrArg (weightIm _ _ _ _ _) (weights0_apply y g j ⟨n.val % 16, by omega⟩))))

theorem second_re (r : Fin 264) (g j : Fin 64) : second s a b d x y (ix2 r ⟨g.val * 128 + (⟨j.val, by omega⟩ : Fin 128).val, by omega⟩) = stateRe s a b d x y 1 step r g j :=
  (result_re _ _ _ _ _ _ _ r g j _ (width1_apply d g)).trans (Finset.sum_congr rfl fun n _ =>
    congr (congrArg (fun u v : EReal => u * v) (inputs_apply s g r n)) (congrFun (congr (congr (congr (congr (congrArg weightRe (counts_apply ⟨n.val / 16, by omega⟩)) (rates1_apply a g j)) (rates1_apply b g j)) rfl)
      (weights1_apply x g j ⟨n.val % 16, by omega⟩)) _ |>.trans (congrArg (weightRe _ _ _ _ _) (weights1_apply y g j ⟨n.val % 16, by omega⟩))))

theorem second_im (r : Fin 264) (g j : Fin 64) : second s a b d x y (ix2 r ⟨g.val * 128 + (⟨64 + j.val, by omega⟩ : Fin 128).val, by omega⟩) = stateIm s a b d x y 1 step r g j :=
  (result_im _ _ _ _ _ _ _ r g j _ (width1_apply d g)).trans (Finset.sum_congr rfl fun n _ =>
    congr (congrArg (fun u v : EReal => u * v) (inputs_apply s g r n)) (congrFun (congr (congr (congr (congr (congrArg weightIm (counts_apply ⟨n.val / 16, by omega⟩)) (rates1_apply a g j)) (rates1_apply b g j)) rfl)
      (weights1_apply x g j ⟨n.val % 16, by omega⟩)) _ |>.trans (congrArg (weightIm _ _ _ _ _) (weights1_apply y g j ⟨n.val % 16, by omega⟩))))

end

end Reference

section
variable (m : (ℓ : Loc Cert.Kernel11Ideal.nD Cert.Kernel11Ideal.τ Cert.Kernel11Ideal.sig) → Buf (Elt Ideal) ℓ) (c : Dev Cert.Kernel11Ideal.nD)

theorem first_value : (Cert.Kernel11Ideal.Gen.dats m 0 c).arrAt 6 Cert.Kernel11Ideal.cfg0.N = Reference.first (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) :=
  states_ext _ _ (fun r g j => (value6_re m c r g j).trans (Reference.first_re _ _ _ _ _ _ r g j).symm) (fun r g j => (value6_im m c r g j).trans (Reference.first_im _ _ _ _ _ _ r g j).symm)

theorem second_value : (Cert.Kernel11Ideal.Gen.dats m 0 c).arrAt 7 Cert.Kernel11Ideal.cfg0.N = Reference.second (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) :=
  states_ext _ _ (fun r g j => (value7_re m c r g j).trans (Reference.second_re _ _ _ _ _ _ r g j).symm) (fun r g j => (value7_im m c r g j).trans (Reference.second_im _ _ _ _ _ _ r g j).symm)

end

set_option maxHeartbeats 2000000 in
/-- `Cert.algebraic_Kernel11Ideal_Reference11Ideal`: both hold the two directions' states. -/
theorem algebraic : Cert.algebraic_Kernel11Ideal_Reference11Ideal := by
  intro m ρ m' ρ' _ hagree
  refine ⟨fun c => Reference.first (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)), fun c => Reference.second (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)), ?_, ?_⟩
  · exact (θ_run Cert.Kernel11Ideal.defs _ _).mono (fun r h c => ⟨(h c).1.trans (first_value m c), (h c).2.1.trans (second_value m c), (h c).2.2⟩) (Cert.Kernel11Ideal.Value.run_blocks (F := Ideal) m ρ)
  · refine (θ_run Cert.Reference11Ideal.defs _ _).mono (fun r h c => ?_) (Cert.Reference11Ideal.Value.run (F := Ideal) m' ρ')
    obtain ⟨e0, e1, e2, e3, e4, e5⟩ := hagree c
    have f0 : Reference.first (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) = Reference.first (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) := by rw [e0, e1, e2, e3, e4, e5]
    have f1 : Reference.second (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) = Reference.second (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) := by rw [e0, e1, e2, e3, e4, e5]
    exact ⟨(h c).1.trans f0, (h c).2.1.trans f1, (h c).2.2⟩

/-- The call's frame at the ideal instance. -/
theorem frame_ideal : Cert.quiescent_Kernel11Ideal := fun m ρ _ => Cert.Kernel11Ideal.Gen.frame (F := Ideal) m ρ

set_option maxHeartbeats 8000000 in
/-- The kernels' bodies of the two printings are one program, label by label. -/
theorem bodies {F : FTy → Type} [FloatOps F] : @Cert.Kernel11.defs₀ F _ _ = @Cert.Kernel11Ideal.defs₀ F _ _ := by
  refine congrArg (Defs.onTc (nD := Cert.Kernel11.nD) (τ := Cert.Kernel11.τ) (sig := Cert.Kernel11.sig) (Val := Elt F) (Λ := Cert.Kernel11.Λ₀)) (funext fun l => funext fun x => ?_)
  match l, x with
  | ⟨0, _⟩, (t, s) => rfl
  | ⟨_ + 1, h⟩, _ => exact absurd h (Nat.not_lt.2 (Nat.le_add_left _ _))

/-- So are the body tables with the pipelines. -/
theorem defs_eq {F : FTy → Type} [FloatOps F] : @Cert.Kernel11.defs F _ _ = @Cert.Kernel11Ideal.defs F _ _ :=
  congrArg (Pipeline.defs Cert.Kernel11.pcfgs) bodies

set_option maxHeartbeats 8000000 in
/-- The call's frame at the bit-exact instance: the same run, the two programs being one text. -/
theorem frame_bits : Cert.quiescent_Kernel11 := by
  intro m ρ _
  rw [defs_eq]
  exact Cert.Kernel11Ideal.Gen.frame (F := Bits) m ρ

/-- The reference's frame: it has no counters. -/
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

end Cert.S5

end
-- ==== Proof.lean ====
/- The certificate's claim, put together: the frames of the eleven calls and of their references, the expert calls' values
   at the rows of the tiles in use, and the values of the other nine. -/
module

public import proofs.«01_k».proof.Proof.Up.Algebraic
public import proofs.«01_k».proof.Proof.Down.Algebraic
public import proofs.«01_k».proof.Proof.In.Algebraic
public import proofs.«01_k».proof.Proof.Out.Algebraic
public import proofs.«01_k».proof.Proof.Combine.Algebraic
public import proofs.«01_k».proof.Proof.Glu.Algebraic
public import proofs.«01_k».proof.Proof.Norm.Algebraic
public import proofs.«01_k».proof.Proof.Modulation.Algebraic
public import proofs.«01_k».proof.Proof.Gmlp.Algebraic
public import proofs.«01_k».proof.Proof.Qkv.Algebraic
public import proofs.«01_k».proof.Proof.S5.Algebraic

@[expose] public section

noncomputable section

namespace Cert.Proof

/-- Everything claimed. -/
theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance,
    Frames.up_bits, Frames.up_ideal, Frames.reference_up, Frames.down_bits, Frames.down_ideal, Frames.reference_down,
    In.frame_bits, In.frame_ideal, In.frame_reference, Out.frame_bits, Out.frame_ideal, Out.frame_reference,
    Combine.frame_bits, Combine.frame_ideal, Combine.frame_reference,
    Glu.frame_bits, Glu.frame_ideal, Glu.frame_reference, Norm.frame_bits, Norm.frame_ideal, Norm.frame_reference,
    Modulation.frame_bits, Modulation.frame_ideal, Modulation.frame_reference, Gmlp.frame_bits, Gmlp.frame_ideal, Gmlp.frame_reference,
    Qkv.frame_bits, Qkv.frame_ideal, Qkv.frame_reference, S5.frame_bits, S5.frame_ideal, S5.frame_reference,
    trivial, Up.algebraic, trivial, Down.algebraic, trivial, In.algebraic, trivial, Out.algebraic, trivial, Combine.algebraic,
    trivial, Glu.algebraic, trivial, Norm.algebraic, trivial, Modulation.algebraic,
    trivial, Gmlp.algebraic, trivial, Qkv.algebraic, trivial, S5.algebraic⟩

end Cert.Proof

end
